-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidIdeal_finite_mid [hPre_finite_mid : Cert.Pre_finite_mid.Facts] (m : (ℓ : Loc Cert.FfnMidIdeal.nD Cert.FfnMidIdeal.τ Cert.FfnMidIdeal.sig) → Buf (Elt Ideal) ℓ) : Prop :=
  ∀ c : Dev Cert.FfnMidIdeal.nD,
    (Cert.Pre_finite_mid.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3))) = (fun _ => 1#1)

def Pre_FfnMidRefIdeal (m : (ℓ : Loc Cert.FfnMidRefIdeal.nD Cert.FfnMidRefIdeal.τ Cert.FfnMidRefIdeal.sig) → Buf (Elt Ideal) ℓ) : Prop :=
  True

def Pre_FfnMidRefIdeal_finite_mid [hPre_finite_mid : Cert.Pre_finite_mid.Facts] (m : (ℓ : Loc Cert.FfnMidRefIdeal.nD Cert.FfnMidRefIdeal.τ Cert.FfnMidRefIdeal.sig) → Buf (Elt Ideal) ℓ) : Prop :=
  ∀ c : Dev Cert.FfnMidRefIdeal.nD,
    (Cert.Pre_finite_mid.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3))) = (fun _ => 1#1)

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_QUpDx (m : (ℓ : Loc Cert.QUpDx.nD Cert.QUpDx.τ Cert.QUpDx.sig) → Buf (Elt Bits) ℓ) : Prop :=
  True

def Pre_QUpDxIdeal (m : (ℓ : Loc Cert.QUpDxIdeal.nD Cert.QUpDxIdeal.τ Cert.QUpDxIdeal.sig) → Buf (Elt Ideal) ℓ) : Prop :=
  True

def Pre_QUpDxRefIdeal (m : (ℓ : Loc Cert.QUpDxRefIdeal.nD Cert.QUpDxRefIdeal.τ Cert.QUpDxRefIdeal.sig) → Buf (Elt Ideal) ℓ) : Prop :=
  True

def Pre_QUpDw (m : (ℓ : Loc Cert.QUpDw.nD Cert.QUpDw.τ Cert.QUpDw.sig) → Buf (Elt Bits) ℓ) : Prop :=
  True

def Pre_QUpDwIdeal (m : (ℓ : Loc Cert.QUpDwIdeal.nD Cert.QUpDwIdeal.τ Cert.QUpDwIdeal.sig) → Buf (Elt Ideal) ℓ) : Prop :=
  True

def Pre_QUpDwRefIdeal (m : (ℓ : Loc Cert.QUpDwRefIdeal.nD Cert.QUpDwRefIdeal.τ Cert.QUpDwRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_KvUpDx (m : (ℓ : Loc Cert.KvUpDx.nD Cert.KvUpDx.τ Cert.KvUpDx.sig) → Buf (Elt Bits) ℓ) : Prop :=
  True

def Pre_KvUpDxIdeal (m : (ℓ : Loc Cert.KvUpDxIdeal.nD Cert.KvUpDxIdeal.τ Cert.KvUpDxIdeal.sig) → Buf (Elt Ideal) ℓ) : Prop :=
  True

def Pre_KvUpDxRefIdeal (m : (ℓ : Loc Cert.KvUpDxRefIdeal.nD Cert.KvUpDxRefIdeal.τ Cert.KvUpDxRefIdeal.sig) → Buf (Elt Ideal) ℓ) : Prop :=
  True

def Pre_KvUpDw (m : (ℓ : Loc Cert.KvUpDw.nD Cert.KvUpDw.τ Cert.KvUpDw.sig) → Buf (Elt Bits) ℓ) : Prop :=
  True

def Pre_KvUpDwIdeal (m : (ℓ : Loc Cert.KvUpDwIdeal.nD Cert.KvUpDwIdeal.τ Cert.KvUpDwIdeal.sig) → Buf (Elt Ideal) ℓ) : Prop :=
  True

def Pre_KvUpDwRefIdeal (m : (ℓ : Loc Cert.KvUpDwRefIdeal.nD Cert.KvUpDwRefIdeal.τ Cert.KvUpDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ r.2.sem = fun _ => 0)

def quiescent_FfnMidIdeal_pre_finite_mid [hFfnMidIdeal : Cert.FfnMidIdeal.Facts] [hPre_finite_mid : Cert.Pre_finite_mid.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal_finite_mid m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3))
      ∧ r.2.sem = fun _ => 0)

def quiescent_FfnMidRefIdeal_pre_finite_mid [hFfnMidRefIdeal : Cert.FfnMidRefIdeal.Facts] [hPre_finite_mid : Cert.Pre_finite_mid.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal_finite_mid m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1)
      ∧ r.2.mem ((c.tc : Thread Cert.FfnDw.nD Cert.FfnDw.τ).loc Cert.FfnDw.main_arg2) = m ((c.tc : Thread Cert.FfnDw.nD Cert.FfnDw.τ).loc Cert.FfnDw.main_arg2))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
      ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1)
      ∧ r.2.mem ((c.tc : Thread Cert.FfnDwRefIdeal.nD Cert.FfnDwRefIdeal.τ).loc Cert.FfnDwRefIdeal.main_arg2) = m ((c.tc : Thread Cert.FfnDwRefIdeal.nD Cert.FfnDwRefIdeal.τ).loc Cert.FfnDwRefIdeal.main_arg2))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2)
      ∧ r.2.mem ((c.tc : Thread Cert.InProjDx.nD Cert.InProjDx.τ).loc Cert.InProjDx.main_arg3) = m ((c.tc : Thread Cert.InProjDx.nD Cert.InProjDx.τ).loc Cert.InProjDx.main_arg3)
      ∧ r.2.mem ((c.tc : Thread Cert.InProjDx.nD Cert.InProjDx.τ).loc Cert.InProjDx.main_arg4) = m ((c.tc : Thread Cert.InProjDx.nD Cert.InProjDx.τ).loc Cert.InProjDx.main_arg4)
      ∧ r.2.mem ((c.tc : Thread Cert.InProjDx.nD Cert.InProjDx.τ).loc Cert.InProjDx.main_arg5) = m ((c.tc : Thread Cert.InProjDx.nD Cert.InProjDx.τ).loc Cert.InProjDx.main_arg5)
      ∧ r.2.mem ((c.tc : Thread Cert.InProjDx.nD Cert.InProjDx.τ).loc Cert.InProjDx.main_arg6) = m ((c.tc : Thread Cert.InProjDx.nD Cert.InProjDx.τ).loc Cert.InProjDx.main_arg6)
      ∧ r.2.mem ((c.tc : Thread Cert.InProjDx.nD Cert.InProjDx.τ).loc Cert.InProjDx.main_arg7) = m ((c.tc : Thread Cert.InProjDx.nD Cert.InProjDx.τ).loc Cert.InProjDx.main_arg7))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
      ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
      ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4)
      ∧ r.2.mem ((c.tc : Thread Cert.InProjDxIdeal.nD Cert.InProjDxIdeal.τ).loc Cert.InProjDxIdeal.main_arg5) = m ((c.tc : Thread Cert.InProjDxIdeal.nD Cert.InProjDxIdeal.τ).loc Cert.InProjDxIdeal.main_arg5)
      ∧ r.2.mem ((c.tc : Thread Cert.InProjDxIdeal.nD Cert.InProjDxIdeal.τ).loc Cert.InProjDxIdeal.main_arg6) = m ((c.tc : Thread Cert.InProjDxIdeal.nD Cert.InProjDxIdeal.τ).loc Cert.InProjDxIdeal.main_arg6)
      ∧ r.2.mem ((c.tc : Thread Cert.InProjDxIdeal.nD Cert.InProjDxIdeal.τ).loc Cert.InProjDxIdeal.main_arg7) = m ((c.tc : Thread Cert.InProjDxIdeal.nD Cert.InProjDxIdeal.τ).loc Cert.InProjDxIdeal.main_arg7))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2)
      ∧ r.2.mem ((c.tc : Thread Cert.InProjDxRefIdeal.nD Cert.InProjDxRefIdeal.τ).loc Cert.InProjDxRefIdeal.main_arg3) = m ((c.tc : Thread Cert.InProjDxRefIdeal.nD Cert.InProjDxRefIdeal.τ).loc Cert.InProjDxRefIdeal.main_arg3)
      ∧ r.2.mem ((c.tc : Thread Cert.InProjDxRefIdeal.nD Cert.InProjDxRefIdeal.τ).loc Cert.InProjDxRefIdeal.main_arg4) = m ((c.tc : Thread Cert.InProjDxRefIdeal.nD Cert.InProjDxRefIdeal.τ).loc Cert.InProjDxRefIdeal.main_arg4)
      ∧ r.2.mem ((c.tc : Thread Cert.InProjDxRefIdeal.nD Cert.InProjDxRefIdeal.τ).loc Cert.InProjDxRefIdeal.main_arg5) = m ((c.tc : Thread Cert.InProjDxRefIdeal.nD Cert.InProjDxRefIdeal.τ).loc Cert.InProjDxRefIdeal.main_arg5)
      ∧ r.2.mem ((c.tc : Thread Cert.InProjDxRefIdeal.nD Cert.InProjDxRefIdeal.τ).loc Cert.InProjDxRefIdeal.main_arg6) = m ((c.tc : Thread Cert.InProjDxRefIdeal.nD Cert.InProjDxRefIdeal.τ).loc Cert.InProjDxRefIdeal.main_arg6)
      ∧ r.2.mem ((c.tc : Thread Cert.InProjDxRefIdeal.nD Cert.InProjDxRefIdeal.τ).loc Cert.InProjDxRefIdeal.main_arg7) = m ((c.tc : Thread Cert.InProjDxRefIdeal.nD Cert.InProjDxRefIdeal.τ).loc Cert.InProjDxRefIdeal.main_arg7))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1)
      ∧ r.2.mem ((c.tc : Thread Cert.InProjDw.nD Cert.InProjDw.τ).loc Cert.InProjDw.main_arg2) = m ((c.tc : Thread Cert.InProjDw.nD Cert.InProjDw.τ).loc Cert.InProjDw.main_arg2)
      ∧ r.2.mem ((c.tc : Thread Cert.InProjDw.nD Cert.InProjDw.τ).loc Cert.InProjDw.main_arg3) = m ((c.tc : Thread Cert.InProjDw.nD Cert.InProjDw.τ).loc Cert.InProjDw.main_arg3)
      ∧ r.2.mem ((c.tc : Thread Cert.InProjDw.nD Cert.InProjDw.τ).loc Cert.InProjDw.main_arg4) = m ((c.tc : Thread Cert.InProjDw.nD Cert.InProjDw.τ).loc Cert.InProjDw.main_arg4)
      ∧ r.2.mem ((c.tc : Thread Cert.InProjDw.nD Cert.InProjDw.τ).loc Cert.InProjDw.main_arg5) = m ((c.tc : Thread Cert.InProjDw.nD Cert.InProjDw.τ).loc Cert.InProjDw.main_arg5)
      ∧ r.2.mem ((c.tc : Thread Cert.InProjDw.nD Cert.InProjDw.τ).loc Cert.InProjDw.main_arg6) = m ((c.tc : Thread Cert.InProjDw.nD Cert.InProjDw.τ).loc Cert.InProjDw.main_arg6)
      ∧ r.2.mem ((c.tc : Thread Cert.InProjDw.nD Cert.InProjDw.τ).loc Cert.InProjDw.main_arg7) = m ((c.tc : Thread Cert.InProjDw.nD Cert.InProjDw.τ).loc Cert.InProjDw.main_arg7))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1)
      ∧ r.2.mem ((c.tc : Thread Cert.InProjDwIdeal.nD Cert.InProjDwIdeal.τ).loc Cert.InProjDwIdeal.main_arg2) = m ((c.tc : Thread Cert.InProjDwIdeal.nD Cert.InProjDwIdeal.τ).loc Cert.InProjDwIdeal.main_arg2)
      ∧ r.2.mem ((c.tc : Thread Cert.InProjDwIdeal.nD Cert.InProjDwIdeal.τ).loc Cert.InProjDwIdeal.main_arg3) = m ((c.tc : Thread Cert.InProjDwIdeal.nD Cert.InProjDwIdeal.τ).loc Cert.InProjDwIdeal.main_arg3)
      ∧ r.2.mem ((c.tc : Thread Cert.InProjDwIdeal.nD Cert.InProjDwIdeal.τ).loc Cert.InProjDwIdeal.main_arg4) = m ((c.tc : Thread Cert.InProjDwIdeal.nD Cert.InProjDwIdeal.τ).loc Cert.InProjDwIdeal.main_arg4)
      ∧ r.2.mem ((c.tc : Thread Cert.InProjDwIdeal.nD Cert.InProjDwIdeal.τ).loc Cert.InProjDwIdeal.main_arg5) = m ((c.tc : Thread Cert.InProjDwIdeal.nD Cert.InProjDwIdeal.τ).loc Cert.InProjDwIdeal.main_arg5)
      ∧ r.2.mem ((c.tc : Thread Cert.InProjDwIdeal.nD Cert.InProjDwIdeal.τ).loc Cert.InProjDwIdeal.main_arg6) = m ((c.tc : Thread Cert.InProjDwIdeal.nD Cert.InProjDwIdeal.τ).loc Cert.InProjDwIdeal.main_arg6)
      ∧ r.2.mem ((c.tc : Thread Cert.InProjDwIdeal.nD Cert.InProjDwIdeal.τ).loc Cert.InProjDwIdeal.main_arg7) = m ((c.tc : Thread Cert.InProjDwIdeal.nD Cert.InProjDwIdeal.τ).loc Cert.InProjDwIdeal.main_arg7))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1)
      ∧ r.2.mem ((c.tc : Thread Cert.InProjDwRefIdeal.nD Cert.InProjDwRefIdeal.τ).loc Cert.InProjDwRefIdeal.main_arg2) = m ((c.tc : Thread Cert.InProjDwRefIdeal.nD Cert.InProjDwRefIdeal.τ).loc Cert.InProjDwRefIdeal.main_arg2)
      ∧ r.2.mem ((c.tc : Thread Cert.InProjDwRefIdeal.nD Cert.InProjDwRefIdeal.τ).loc Cert.InProjDwRefIdeal.main_arg3) = m ((c.tc : Thread Cert.InProjDwRefIdeal.nD Cert.InProjDwRefIdeal.τ).loc Cert.InProjDwRefIdeal.main_arg3)
      ∧ r.2.mem ((c.tc : Thread Cert.InProjDwRefIdeal.nD Cert.InProjDwRefIdeal.τ).loc Cert.InProjDwRefIdeal.main_arg4) = m ((c.tc : Thread Cert.InProjDwRefIdeal.nD Cert.InProjDwRefIdeal.τ).loc Cert.InProjDwRefIdeal.main_arg4)
      ∧ r.2.mem ((c.tc : Thread Cert.InProjDwRefIdeal.nD Cert.InProjDwRefIdeal.τ).loc Cert.InProjDwRefIdeal.main_arg5) = m ((c.tc : Thread Cert.InProjDwRefIdeal.nD Cert.InProjDwRefIdeal.τ).loc Cert.InProjDwRefIdeal.main_arg5)
      ∧ r.2.mem ((c.tc : Thread Cert.InProjDwRefIdeal.nD Cert.InProjDwRefIdeal.τ).loc Cert.InProjDwRefIdeal.main_arg6) = m ((c.tc : Thread Cert.InProjDwRefIdeal.nD Cert.InProjDwRefIdeal.τ).loc Cert.InProjDwRefIdeal.main_arg6)
      ∧ r.2.mem ((c.tc : Thread Cert.InProjDwRefIdeal.nD Cert.InProjDwRefIdeal.τ).loc Cert.InProjDwRefIdeal.main_arg7) = m ((c.tc : Thread Cert.InProjDwRefIdeal.nD Cert.InProjDwRefIdeal.τ).loc Cert.InProjDwRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1))
      ∧ r.2.sem = fun _ => 0)

def quiescent_QUpDx [hQUpDx : Cert.QUpDx.Facts] : Prop :=
  ∀ (m : (ℓ : Loc Cert.QUpDx.nD Cert.QUpDx.τ Cert.QUpDx.sig) → Buf (Elt Bits) ℓ) (g : Dev Cert.QUpDx.nD → PrngReg), Pre_QUpDx m →
    θ_run (Cert.QUpDx.defs (F := Bits)) (onTc (τ := Cert.QUpDx.τ) (Cert.QUpDx.main (F := Bits))) ⟨m, fun _ => 0, g⟩ (fun r => (∀ c : Dev Cert.QUpDx.nD,
      r.2.mem ((c.tc : Thread Cert.QUpDx.nD Cert.QUpDx.τ).loc Cert.QUpDx.main_arg0) = m ((c.tc : Thread Cert.QUpDx.nD Cert.QUpDx.τ).loc Cert.QUpDx.main_arg0)
      ∧ r.2.mem ((c.tc : Thread Cert.QUpDx.nD Cert.QUpDx.τ).loc Cert.QUpDx.main_arg1) = m ((c.tc : Thread Cert.QUpDx.nD Cert.QUpDx.τ).loc Cert.QUpDx.main_arg1))
      ∧ r.2.sem = fun _ => 0)

def quiescent_QUpDxIdeal [hQUpDxIdeal : Cert.QUpDxIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg), Pre_QUpDxIdeal m →
    θ_run (Cert.QUpDxIdeal.defs (F := Ideal)) (onTc (τ := Cert.QUpDxIdeal.τ) (Cert.QUpDxIdeal.main (F := Ideal))) ⟨m, fun _ => 0, g⟩ (fun r => (∀ c : Dev Cert.QUpDxIdeal.nD,
      r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
      ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1))
      ∧ r.2.sem = fun _ => 0)

def quiescent_QUpDxRefIdeal [hQUpDxRefIdeal : Cert.QUpDxRefIdeal.Facts] : Prop :=
  ∀ (m : (ℓ : Loc Cert.QUpDxRefIdeal.nD Cert.QUpDxRefIdeal.τ Cert.QUpDxRefIdeal.sig) → Buf (Elt Ideal) ℓ) (g : Dev Cert.QUpDxRefIdeal.nD → PrngReg), Pre_QUpDxRefIdeal m →
    θ_run (Cert.QUpDxRefIdeal.defs (F := Ideal)) (onTc (τ := Cert.QUpDxRefIdeal.τ) (Cert.QUpDxRefIdeal.main (F := Ideal))) ⟨m, fun _ => 0, g⟩ (fun r => (∀ c : Dev Cert.QUpDxRefIdeal.nD,
      r.2.mem ((c.tc : Thread Cert.QUpDxRefIdeal.nD Cert.QUpDxRefIdeal.τ).loc Cert.QUpDxRefIdeal.main_arg0) = m ((c.tc : Thread Cert.QUpDxRefIdeal.nD Cert.QUpDxRefIdeal.τ).loc Cert.QUpDxRefIdeal.main_arg0)
      ∧ r.2.mem ((c.tc : Thread Cert.QUpDxRefIdeal.nD Cert.QUpDxRefIdeal.τ).loc Cert.QUpDxRefIdeal.main_arg1) = m ((c.tc : Thread Cert.QUpDxRefIdeal.nD Cert.QUpDxRefIdeal.τ).loc Cert.QUpDxRefIdeal.main_arg1))
      ∧ r.2.sem = fun _ => 0)

def quiescent_QUpDw [hQUpDw : Cert.QUpDw.Facts] : Prop :=
  ∀ (m : (ℓ : Loc Cert.QUpDw.nD Cert.QUpDw.τ Cert.QUpDw.sig) → Buf (Elt Bits) ℓ) (g : Dev Cert.QUpDw.nD → PrngReg), Pre_QUpDw m →
    θ_run (Cert.QUpDw.defs (F := Bits)) (onTc (τ := Cert.QUpDw.τ) (Cert.QUpDw.main (F := Bits))) ⟨m, fun _ => 0, g⟩ (fun r => (∀ c : Dev Cert.QUpDw.nD,
      r.2.mem ((c.tc : Thread Cert.QUpDw.nD Cert.QUpDw.τ).loc Cert.QUpDw.main_arg0) = m ((c.tc : Thread Cert.QUpDw.nD Cert.QUpDw.τ).loc Cert.QUpDw.main_arg0)
      ∧ r.2.mem ((c.tc : Thread Cert.QUpDw.nD Cert.QUpDw.τ).loc Cert.QUpDw.main_arg1) = m ((c.tc : Thread Cert.QUpDw.nD Cert.QUpDw.τ).loc Cert.QUpDw.main_arg1))
      ∧ r.2.sem = fun _ => 0)

def quiescent_QUpDwIdeal [hQUpDwIdeal : Cert.QUpDwIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg), Pre_QUpDwIdeal m →
    θ_run (Cert.QUpDwIdeal.defs (F := Ideal)) (onTc (τ := Cert.QUpDwIdeal.τ) (Cert.QUpDwIdeal.main (F := Ideal))) ⟨m, fun _ => 0, g⟩ (fun r => (∀ c : Dev Cert.QUpDwIdeal.nD,
      r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
      ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ r.2.sem = fun _ => 0)

def quiescent_QUpDwRefIdeal [hQUpDwRefIdeal : Cert.QUpDwRefIdeal.Facts] : Prop :=
  ∀ (m : (ℓ : Loc Cert.QUpDwRefIdeal.nD Cert.QUpDwRefIdeal.τ Cert.QUpDwRefIdeal.sig) → Buf (Elt Ideal) ℓ) (g : Dev Cert.QUpDwRefIdeal.nD → PrngReg), Pre_QUpDwRefIdeal m →
    θ_run (Cert.QUpDwRefIdeal.defs (F := Ideal)) (onTc (τ := Cert.QUpDwRefIdeal.τ) (Cert.QUpDwRefIdeal.main (F := Ideal))) ⟨m, fun _ => 0, g⟩ (fun r => (∀ c : Dev Cert.QUpDwRefIdeal.nD,
      r.2.mem ((c.tc : Thread Cert.QUpDwRefIdeal.nD Cert.QUpDwRefIdeal.τ).loc Cert.QUpDwRefIdeal.main_arg0) = m ((c.tc : Thread Cert.QUpDwRefIdeal.nD Cert.QUpDwRefIdeal.τ).loc Cert.QUpDwRefIdeal.main_arg0)
      ∧ r.2.mem ((c.tc : Thread Cert.QUpDwRefIdeal.nD Cert.QUpDwRefIdeal.τ).loc Cert.QUpDwRefIdeal.main_arg1) = m ((c.tc : Thread Cert.QUpDwRefIdeal.nD Cert.QUpDwRefIdeal.τ).loc Cert.QUpDwRefIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1))
      ∧ r.2.sem = fun _ => 0)

def quiescent_KvUpDx [hKvUpDx : Cert.KvUpDx.Facts] : Prop :=
  ∀ (m : (ℓ : Loc Cert.KvUpDx.nD Cert.KvUpDx.τ Cert.KvUpDx.sig) → Buf (Elt Bits) ℓ) (g : Dev Cert.KvUpDx.nD → PrngReg), Pre_KvUpDx m →
    θ_run (Cert.KvUpDx.defs (F := Bits)) (onTc (τ := Cert.KvUpDx.τ) (Cert.KvUpDx.main (F := Bits))) ⟨m, fun _ => 0, g⟩ (fun r => (∀ c : Dev Cert.KvUpDx.nD,
      r.2.mem ((c.tc : Thread Cert.KvUpDx.nD Cert.KvUpDx.τ).loc Cert.KvUpDx.main_arg0) = m ((c.tc : Thread Cert.KvUpDx.nD Cert.KvUpDx.τ).loc Cert.KvUpDx.main_arg0)
      ∧ r.2.mem ((c.tc : Thread Cert.KvUpDx.nD Cert.KvUpDx.τ).loc Cert.KvUpDx.main_arg1) = m ((c.tc : Thread Cert.KvUpDx.nD Cert.KvUpDx.τ).loc Cert.KvUpDx.main_arg1)
      ∧ r.2.mem ((c.tc : Thread Cert.KvUpDx.nD Cert.KvUpDx.τ).loc Cert.KvUpDx.main_arg2) = m ((c.tc : Thread Cert.KvUpDx.nD Cert.KvUpDx.τ).loc Cert.KvUpDx.main_arg2))
      ∧ r.2.sem = fun _ => 0)

def quiescent_KvUpDxIdeal [hKvUpDxIdeal : Cert.KvUpDxIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg), Pre_KvUpDxIdeal m →
    θ_run (Cert.KvUpDxIdeal.defs (F := Ideal)) (onTc (τ := Cert.KvUpDxIdeal.τ) (Cert.KvUpDxIdeal.main (F := Ideal))) ⟨m, fun _ => 0, g⟩ (fun r => (∀ c : Dev Cert.KvUpDxIdeal.nD,
      r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
      ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1)
      ∧ r.2.mem ((c.tc : Thread Cert.KvUpDxIdeal.nD Cert.KvUpDxIdeal.τ).loc Cert.KvUpDxIdeal.main_arg2) = m ((c.tc : Thread Cert.KvUpDxIdeal.nD Cert.KvUpDxIdeal.τ).loc Cert.KvUpDxIdeal.main_arg2))
      ∧ r.2.sem = fun _ => 0)

def quiescent_KvUpDxRefIdeal [hKvUpDxRefIdeal : Cert.KvUpDxRefIdeal.Facts] : Prop :=
  ∀ (m : (ℓ : Loc Cert.KvUpDxRefIdeal.nD Cert.KvUpDxRefIdeal.τ Cert.KvUpDxRefIdeal.sig) → Buf (Elt Ideal) ℓ) (g : Dev Cert.KvUpDxRefIdeal.nD → PrngReg), Pre_KvUpDxRefIdeal m →
    θ_run (Cert.KvUpDxRefIdeal.defs (F := Ideal)) (onTc (τ := Cert.KvUpDxRefIdeal.τ) (Cert.KvUpDxRefIdeal.main (F := Ideal))) ⟨m, fun _ => 0, g⟩ (fun r => (∀ c : Dev Cert.KvUpDxRefIdeal.nD,
      r.2.mem ((c.tc : Thread Cert.KvUpDxRefIdeal.nD Cert.KvUpDxRefIdeal.τ).loc Cert.KvUpDxRefIdeal.main_arg0) = m ((c.tc : Thread Cert.KvUpDxRefIdeal.nD Cert.KvUpDxRefIdeal.τ).loc Cert.KvUpDxRefIdeal.main_arg0)
      ∧ r.2.mem ((c.tc : Thread Cert.KvUpDxRefIdeal.nD Cert.KvUpDxRefIdeal.τ).loc Cert.KvUpDxRefIdeal.main_arg1) = m ((c.tc : Thread Cert.KvUpDxRefIdeal.nD Cert.KvUpDxRefIdeal.τ).loc Cert.KvUpDxRefIdeal.main_arg1)
      ∧ r.2.mem ((c.tc : Thread Cert.KvUpDxRefIdeal.nD Cert.KvUpDxRefIdeal.τ).loc Cert.KvUpDxRefIdeal.main_arg2) = m ((c.tc : Thread Cert.KvUpDxRefIdeal.nD Cert.KvUpDxRefIdeal.τ).loc Cert.KvUpDxRefIdeal.main_arg2))
      ∧ r.2.sem = fun _ => 0)

def quiescent_KvUpDw [hKvUpDw : Cert.KvUpDw.Facts] : Prop :=
  ∀ (m : (ℓ : Loc Cert.KvUpDw.nD Cert.KvUpDw.τ Cert.KvUpDw.sig) → Buf (Elt Bits) ℓ) (g : Dev Cert.KvUpDw.nD → PrngReg), Pre_KvUpDw m →
    θ_run (Cert.KvUpDw.defs (F := Bits)) (onTc (τ := Cert.KvUpDw.τ) (Cert.KvUpDw.main (F := Bits))) ⟨m, fun _ => 0, g⟩ (fun r => (∀ c : Dev Cert.KvUpDw.nD,
      r.2.mem ((c.tc : Thread Cert.KvUpDw.nD Cert.KvUpDw.τ).loc Cert.KvUpDw.main_arg0) = m ((c.tc : Thread Cert.KvUpDw.nD Cert.KvUpDw.τ).loc Cert.KvUpDw.main_arg0)
      ∧ r.2.mem ((c.tc : Thread Cert.KvUpDw.nD Cert.KvUpDw.τ).loc Cert.KvUpDw.main_arg1) = m ((c.tc : Thread Cert.KvUpDw.nD Cert.KvUpDw.τ).loc Cert.KvUpDw.main_arg1)
      ∧ r.2.mem ((c.tc : Thread Cert.KvUpDw.nD Cert.KvUpDw.τ).loc Cert.KvUpDw.main_arg2) = m ((c.tc : Thread Cert.KvUpDw.nD Cert.KvUpDw.τ).loc Cert.KvUpDw.main_arg2))
      ∧ r.2.sem = fun _ => 0)

def quiescent_KvUpDwIdeal [hKvUpDwIdeal : Cert.KvUpDwIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg), Pre_KvUpDwIdeal m →
    θ_run (Cert.KvUpDwIdeal.defs (F := Ideal)) (onTc (τ := Cert.KvUpDwIdeal.τ) (Cert.KvUpDwIdeal.main (F := Ideal))) ⟨m, fun _ => 0, g⟩ (fun r => (∀ c : Dev Cert.KvUpDwIdeal.nD,
      r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
      ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1)
      ∧ r.2.mem ((c.tc : Thread Cert.KvUpDwIdeal.nD Cert.KvUpDwIdeal.τ).loc Cert.KvUpDwIdeal.main_arg2) = m ((c.tc : Thread Cert.KvUpDwIdeal.nD Cert.KvUpDwIdeal.τ).loc Cert.KvUpDwIdeal.main_arg2))
      ∧ r.2.sem = fun _ => 0)

def quiescent_KvUpDwRefIdeal [hKvUpDwRefIdeal : Cert.KvUpDwRefIdeal.Facts] : Prop :=
  ∀ (m : (ℓ : Loc Cert.KvUpDwRefIdeal.nD Cert.KvUpDwRefIdeal.τ Cert.KvUpDwRefIdeal.sig) → Buf (Elt Ideal) ℓ) (g : Dev Cert.KvUpDwRefIdeal.nD → PrngReg), Pre_KvUpDwRefIdeal m →
    θ_run (Cert.KvUpDwRefIdeal.defs (F := Ideal)) (onTc (τ := Cert.KvUpDwRefIdeal.τ) (Cert.KvUpDwRefIdeal.main (F := Ideal))) ⟨m, fun _ => 0, g⟩ (fun r => (∀ c : Dev Cert.KvUpDwRefIdeal.nD,
      r.2.mem ((c.tc : Thread Cert.KvUpDwRefIdeal.nD Cert.KvUpDwRefIdeal.τ).loc Cert.KvUpDwRefIdeal.main_arg0) = m ((c.tc : Thread Cert.KvUpDwRefIdeal.nD Cert.KvUpDwRefIdeal.τ).loc Cert.KvUpDwRefIdeal.main_arg0)
      ∧ r.2.mem ((c.tc : Thread Cert.KvUpDwRefIdeal.nD Cert.KvUpDwRefIdeal.τ).loc Cert.KvUpDwRefIdeal.main_arg1) = m ((c.tc : Thread Cert.KvUpDwRefIdeal.nD Cert.KvUpDwRefIdeal.τ).loc Cert.KvUpDwRefIdeal.main_arg1)
      ∧ r.2.mem ((c.tc : Thread Cert.KvUpDwRefIdeal.nD Cert.KvUpDwRefIdeal.τ).loc Cert.KvUpDwRefIdeal.main_arg2) = m ((c.tc : Thread Cert.KvUpDwRefIdeal.nD Cert.KvUpDwRefIdeal.τ).loc Cert.KvUpDwRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnMid_FfnMidIdeal : Prop :=
  True

def algebraic_FfnMidIdeal_FfnMidRefIdeal_pre_finite_mid [hFfnMidIdeal : Cert.FfnMidIdeal.Facts] [hFfnMidRefIdeal : Cert.FfnMidRefIdeal.Facts] [hPre_finite_mid : Cert.Pre_finite_mid.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal_finite_mid m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)) →
    ∃ (v0 : (c : Dev Cert.FfnMidIdeal.nD) → Buf (Elt Ideal) ((c.tc : Thread Cert.FfnMidIdeal.nD Cert.FfnMidIdeal.τ).loc Cert.FfnMidIdeal.main_v0_0)) (v1 : (c : Dev Cert.FfnMidIdeal.nD) → Buf (Elt Ideal) ((c.tc : Thread Cert.FfnMidIdeal.nD Cert.FfnMidIdeal.τ).loc Cert.FfnMidIdeal.main_v0_1)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v0_0) = v0 c
          ∧ r.2.mem ((c.tc : Thread Cert.FfnMidIdeal.nD Cert.FfnMidIdeal.τ).loc Cert.FfnMidIdeal.main_v0_1) = v1 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v11) = v0 c
          ∧ r.2.mem ((c.tc : Thread Cert.FfnMidRefIdeal.nD Cert.FfnMidRefIdeal.τ).loc Cert.FfnMidRefIdeal.main_v12) = v1 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)) →
    ∃ (v0 : (c : Dev Cert.FfnDhIdeal.nD) → Buf (Elt Ideal) ((c.tc : Thread Cert.FfnDhIdeal.nD Cert.FfnDhIdeal.τ).loc Cert.FfnDhIdeal.main_v0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v13) = v0 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3))

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)
      ∧ m' ((c.tc : Thread Cert.FfnDwRefIdeal.nD Cert.FfnDwRefIdeal.τ).loc Cert.FfnDwRefIdeal.main_arg2) = m ((c.tc : Thread Cert.FfnDwIdeal.nD Cert.FfnDwIdeal.τ).loc Cert.FfnDwIdeal.main_arg2)) →
    ∃ (v0 : (c : Dev Cert.FfnDwIdeal.nD) → Buf (Elt Ideal) ((c.tc : Thread Cert.FfnDwIdeal.nD Cert.FfnDwIdeal.τ).loc Cert.FfnDwIdeal.main_v0_0)) (v1 : (c : Dev Cert.FfnDwIdeal.nD) → Buf (Elt Ideal) ((c.tc : Thread Cert.FfnDwIdeal.nD Cert.FfnDwIdeal.τ).loc Cert.FfnDwIdeal.main_v0_1)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v0_0) = v0 c
          ∧ r.2.mem ((c.tc : Thread Cert.FfnDwIdeal.nD Cert.FfnDwIdeal.τ).loc Cert.FfnDwIdeal.main_v0_1) = v1 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
          ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v12) = v0 c
          ∧ r.2.mem ((c.tc : Thread Cert.FfnDwRefIdeal.nD Cert.FfnDwRefIdeal.τ).loc Cert.FfnDwRefIdeal.main_v15) = v1 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1)
          ∧ r.2.mem ((c.tc : Thread Cert.FfnDwRefIdeal.nD Cert.FfnDwRefIdeal.τ).loc Cert.FfnDwRefIdeal.main_arg2) = m' ((c.tc : Thread Cert.FfnDwRefIdeal.nD Cert.FfnDwRefIdeal.τ).loc Cert.FfnDwRefIdeal.main_arg2))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v5) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v9) = v0 c
          ∧ r.2.mem ((c.tc : Thread Cert.FfnInRefIdeal.nD Cert.FfnInRefIdeal.τ).loc Cert.FfnInRefIdeal.main_v10) = v1 c
          ∧ r.2.mem ((c.tc : Thread Cert.FfnInRefIdeal.nD Cert.FfnInRefIdeal.τ).loc Cert.FfnInRefIdeal.main_v13) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)) (v5 : (c : Dev Cert.InProjIdeal.nD) → Buf (Elt Ideal) ((c.tc : Thread Cert.InProjIdeal.nD Cert.InProjIdeal.τ).loc Cert.InProjIdeal.main_v0_5)) (v6 : (c : Dev Cert.InProjIdeal.nD) → Buf (Elt Ideal) ((c.tc : Thread Cert.InProjIdeal.nD Cert.InProjIdeal.τ).loc Cert.InProjIdeal.main_v0_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_v0_5) = v5 c
          ∧ r.2.mem ((c.tc : Thread Cert.InProjIdeal.nD Cert.InProjIdeal.τ).loc Cert.InProjIdeal.main_v0_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_v5) = v1 c
          ∧ r.2.mem ((c.tc : Thread Cert.InProjRefIdeal.nD Cert.InProjRefIdeal.τ).loc Cert.InProjRefIdeal.main_v6) = v2 c
          ∧ r.2.mem ((c.tc : Thread Cert.InProjRefIdeal.nD Cert.InProjRefIdeal.τ).loc Cert.InProjRefIdeal.main_v7) = v3 c
          ∧ r.2.mem ((c.tc : Thread Cert.InProjRefIdeal.nD Cert.InProjRefIdeal.τ).loc Cert.InProjRefIdeal.main_v8) = v4 c
          ∧ r.2.mem ((c.tc : Thread Cert.InProjRefIdeal.nD Cert.InProjRefIdeal.τ).loc Cert.InProjRefIdeal.main_v9) = v5 c
          ∧ r.2.mem ((c.tc : Thread Cert.InProjRefIdeal.nD Cert.InProjRefIdeal.τ).loc Cert.InProjRefIdeal.main_v10) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)
      ∧ m' ((c.tc : Thread Cert.InProjDxRefIdeal.nD Cert.InProjDxRefIdeal.τ).loc Cert.InProjDxRefIdeal.main_arg3) = m ((c.tc : Thread Cert.InProjDxIdeal.nD Cert.InProjDxIdeal.τ).loc Cert.InProjDxIdeal.main_arg3)
      ∧ m' ((c.tc : Thread Cert.InProjDxRefIdeal.nD Cert.InProjDxRefIdeal.τ).loc Cert.InProjDxRefIdeal.main_arg4) = m ((c.tc : Thread Cert.InProjDxIdeal.nD Cert.InProjDxIdeal.τ).loc Cert.InProjDxIdeal.main_arg4)
      ∧ m' ((c.tc : Thread Cert.InProjDxRefIdeal.nD Cert.InProjDxRefIdeal.τ).loc Cert.InProjDxRefIdeal.main_arg5) = m ((c.tc : Thread Cert.InProjDxIdeal.nD Cert.InProjDxIdeal.τ).loc Cert.InProjDxIdeal.main_arg5)
      ∧ m' ((c.tc : Thread Cert.InProjDxRefIdeal.nD Cert.InProjDxRefIdeal.τ).loc Cert.InProjDxRefIdeal.main_arg6) = m ((c.tc : Thread Cert.InProjDxIdeal.nD Cert.InProjDxIdeal.τ).loc Cert.InProjDxIdeal.main_arg6)
      ∧ m' ((c.tc : Thread Cert.InProjDxRefIdeal.nD Cert.InProjDxRefIdeal.τ).loc Cert.InProjDxRefIdeal.main_arg7) = m ((c.tc : Thread Cert.InProjDxIdeal.nD Cert.InProjDxIdeal.τ).loc Cert.InProjDxIdeal.main_arg7)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
          ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
          ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4)
          ∧ r.2.mem ((c.tc : Thread Cert.InProjDxIdeal.nD Cert.InProjDxIdeal.τ).loc Cert.InProjDxIdeal.main_arg5) = m ((c.tc : Thread Cert.InProjDxIdeal.nD Cert.InProjDxIdeal.τ).loc Cert.InProjDxIdeal.main_arg5)
          ∧ r.2.mem ((c.tc : Thread Cert.InProjDxIdeal.nD Cert.InProjDxIdeal.τ).loc Cert.InProjDxIdeal.main_arg6) = m ((c.tc : Thread Cert.InProjDxIdeal.nD Cert.InProjDxIdeal.τ).loc Cert.InProjDxIdeal.main_arg6)
          ∧ r.2.mem ((c.tc : Thread Cert.InProjDxIdeal.nD Cert.InProjDxIdeal.τ).loc Cert.InProjDxIdeal.main_arg7) = m ((c.tc : Thread Cert.InProjDxIdeal.nD Cert.InProjDxIdeal.τ).loc Cert.InProjDxIdeal.main_arg7))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v18) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2)
          ∧ r.2.mem ((c.tc : Thread Cert.InProjDxRefIdeal.nD Cert.InProjDxRefIdeal.τ).loc Cert.InProjDxRefIdeal.main_arg3) = m' ((c.tc : Thread Cert.InProjDxRefIdeal.nD Cert.InProjDxRefIdeal.τ).loc Cert.InProjDxRefIdeal.main_arg3)
          ∧ r.2.mem ((c.tc : Thread Cert.InProjDxRefIdeal.nD Cert.InProjDxRefIdeal.τ).loc Cert.InProjDxRefIdeal.main_arg4) = m' ((c.tc : Thread Cert.InProjDxRefIdeal.nD Cert.InProjDxRefIdeal.τ).loc Cert.InProjDxRefIdeal.main_arg4)
          ∧ r.2.mem ((c.tc : Thread Cert.InProjDxRefIdeal.nD Cert.InProjDxRefIdeal.τ).loc Cert.InProjDxRefIdeal.main_arg5) = m' ((c.tc : Thread Cert.InProjDxRefIdeal.nD Cert.InProjDxRefIdeal.τ).loc Cert.InProjDxRefIdeal.main_arg5)
          ∧ r.2.mem ((c.tc : Thread Cert.InProjDxRefIdeal.nD Cert.InProjDxRefIdeal.τ).loc Cert.InProjDxRefIdeal.main_arg6) = m' ((c.tc : Thread Cert.InProjDxRefIdeal.nD Cert.InProjDxRefIdeal.τ).loc Cert.InProjDxRefIdeal.main_arg6)
          ∧ r.2.mem ((c.tc : Thread Cert.InProjDxRefIdeal.nD Cert.InProjDxRefIdeal.τ).loc Cert.InProjDxRefIdeal.main_arg7) = m' ((c.tc : Thread Cert.InProjDxRefIdeal.nD Cert.InProjDxRefIdeal.τ).loc Cert.InProjDxRefIdeal.main_arg7))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)
      ∧ m' ((c.tc : Thread Cert.InProjDwRefIdeal.nD Cert.InProjDwRefIdeal.τ).loc Cert.InProjDwRefIdeal.main_arg2) = m ((c.tc : Thread Cert.InProjDwIdeal.nD Cert.InProjDwIdeal.τ).loc Cert.InProjDwIdeal.main_arg2)
      ∧ m' ((c.tc : Thread Cert.InProjDwRefIdeal.nD Cert.InProjDwRefIdeal.τ).loc Cert.InProjDwRefIdeal.main_arg3) = m ((c.tc : Thread Cert.InProjDwIdeal.nD Cert.InProjDwIdeal.τ).loc Cert.InProjDwIdeal.main_arg3)
      ∧ m' ((c.tc : Thread Cert.InProjDwRefIdeal.nD Cert.InProjDwRefIdeal.τ).loc Cert.InProjDwRefIdeal.main_arg4) = m ((c.tc : Thread Cert.InProjDwIdeal.nD Cert.InProjDwIdeal.τ).loc Cert.InProjDwIdeal.main_arg4)
      ∧ m' ((c.tc : Thread Cert.InProjDwRefIdeal.nD Cert.InProjDwRefIdeal.τ).loc Cert.InProjDwRefIdeal.main_arg5) = m ((c.tc : Thread Cert.InProjDwIdeal.nD Cert.InProjDwIdeal.τ).loc Cert.InProjDwIdeal.main_arg5)
      ∧ m' ((c.tc : Thread Cert.InProjDwRefIdeal.nD Cert.InProjDwRefIdeal.τ).loc Cert.InProjDwRefIdeal.main_arg6) = m ((c.tc : Thread Cert.InProjDwIdeal.nD Cert.InProjDwIdeal.τ).loc Cert.InProjDwIdeal.main_arg6)
      ∧ m' ((c.tc : Thread Cert.InProjDwRefIdeal.nD Cert.InProjDwRefIdeal.τ).loc Cert.InProjDwRefIdeal.main_arg7) = m ((c.tc : Thread Cert.InProjDwIdeal.nD Cert.InProjDwIdeal.τ).loc Cert.InProjDwIdeal.main_arg7)) →
    ∃ (v0 : (c : Dev Cert.InProjDwIdeal.nD) → Buf (Elt Ideal) ((c.tc : Thread Cert.InProjDwIdeal.nD Cert.InProjDwIdeal.τ).loc Cert.InProjDwIdeal.main_v1)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v1) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1)
          ∧ r.2.mem ((c.tc : Thread Cert.InProjDwIdeal.nD Cert.InProjDwIdeal.τ).loc Cert.InProjDwIdeal.main_arg2) = m ((c.tc : Thread Cert.InProjDwIdeal.nD Cert.InProjDwIdeal.τ).loc Cert.InProjDwIdeal.main_arg2)
          ∧ r.2.mem ((c.tc : Thread Cert.InProjDwIdeal.nD Cert.InProjDwIdeal.τ).loc Cert.InProjDwIdeal.main_arg3) = m ((c.tc : Thread Cert.InProjDwIdeal.nD Cert.InProjDwIdeal.τ).loc Cert.InProjDwIdeal.main_arg3)
          ∧ r.2.mem ((c.tc : Thread Cert.InProjDwIdeal.nD Cert.InProjDwIdeal.τ).loc Cert.InProjDwIdeal.main_arg4) = m ((c.tc : Thread Cert.InProjDwIdeal.nD Cert.InProjDwIdeal.τ).loc Cert.InProjDwIdeal.main_arg4)
          ∧ r.2.mem ((c.tc : Thread Cert.InProjDwIdeal.nD Cert.InProjDwIdeal.τ).loc Cert.InProjDwIdeal.main_arg5) = m ((c.tc : Thread Cert.InProjDwIdeal.nD Cert.InProjDwIdeal.τ).loc Cert.InProjDwIdeal.main_arg5)
          ∧ r.2.mem ((c.tc : Thread Cert.InProjDwIdeal.nD Cert.InProjDwIdeal.τ).loc Cert.InProjDwIdeal.main_arg6) = m ((c.tc : Thread Cert.InProjDwIdeal.nD Cert.InProjDwIdeal.τ).loc Cert.InProjDwIdeal.main_arg6)
          ∧ r.2.mem ((c.tc : Thread Cert.InProjDwIdeal.nD Cert.InProjDwIdeal.τ).loc Cert.InProjDwIdeal.main_arg7) = m ((c.tc : Thread Cert.InProjDwIdeal.nD Cert.InProjDwIdeal.τ).loc Cert.InProjDwIdeal.main_arg7))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v21) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1)
          ∧ r.2.mem ((c.tc : Thread Cert.InProjDwRefIdeal.nD Cert.InProjDwRefIdeal.τ).loc Cert.InProjDwRefIdeal.main_arg2) = m' ((c.tc : Thread Cert.InProjDwRefIdeal.nD Cert.InProjDwRefIdeal.τ).loc Cert.InProjDwRefIdeal.main_arg2)
          ∧ r.2.mem ((c.tc : Thread Cert.InProjDwRefIdeal.nD Cert.InProjDwRefIdeal.τ).loc Cert.InProjDwRefIdeal.main_arg3) = m' ((c.tc : Thread Cert.InProjDwRefIdeal.nD Cert.InProjDwRefIdeal.τ).loc Cert.InProjDwRefIdeal.main_arg3)
          ∧ r.2.mem ((c.tc : Thread Cert.InProjDwRefIdeal.nD Cert.InProjDwRefIdeal.τ).loc Cert.InProjDwRefIdeal.main_arg4) = m' ((c.tc : Thread Cert.InProjDwRefIdeal.nD Cert.InProjDwRefIdeal.τ).loc Cert.InProjDwRefIdeal.main_arg4)
          ∧ r.2.mem ((c.tc : Thread Cert.InProjDwRefIdeal.nD Cert.InProjDwRefIdeal.τ).loc Cert.InProjDwRefIdeal.main_arg5) = m' ((c.tc : Thread Cert.InProjDwRefIdeal.nD Cert.InProjDwRefIdeal.τ).loc Cert.InProjDwRefIdeal.main_arg5)
          ∧ r.2.mem ((c.tc : Thread Cert.InProjDwRefIdeal.nD Cert.InProjDwRefIdeal.τ).loc Cert.InProjDwRefIdeal.main_arg6) = m' ((c.tc : Thread Cert.InProjDwRefIdeal.nD Cert.InProjDwRefIdeal.τ).loc Cert.InProjDwRefIdeal.main_arg6)
          ∧ r.2.mem ((c.tc : Thread Cert.InProjDwRefIdeal.nD Cert.InProjDwRefIdeal.τ).loc Cert.InProjDwRefIdeal.main_arg7) = m' ((c.tc : Thread Cert.InProjDwRefIdeal.nD Cert.InProjDwRefIdeal.τ).loc Cert.InProjDwRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v4) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v5) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v2) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1))

def preserves_QUpDx_QUpDxIdeal : Prop :=
  True

def algebraic_QUpDxIdeal_QUpDxRefIdeal [hQUpDxIdeal : Cert.QUpDxIdeal.Facts] [hQUpDxRefIdeal : Cert.QUpDxRefIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg)
    (m' : (ℓ : Loc Cert.QUpDxRefIdeal.nD Cert.QUpDxRefIdeal.τ Cert.QUpDxRefIdeal.sig) → Buf (Elt Ideal) ℓ) (g' : Dev Cert.QUpDxRefIdeal.nD → PrngReg), Pre_QUpDxIdeal m →
    (∀ c : Dev Cert.QUpDxIdeal.nD,
      m' ((c.tc : Thread Cert.QUpDxRefIdeal.nD Cert.QUpDxRefIdeal.τ).loc Cert.QUpDxRefIdeal.main_arg0) = m ((c.tc : Thread Cert.QUpDxIdeal.nD Cert.QUpDxIdeal.τ).loc Cert.QUpDxIdeal.main_arg0)
      ∧ m' ((c.tc : Thread Cert.QUpDxRefIdeal.nD Cert.QUpDxRefIdeal.τ).loc Cert.QUpDxRefIdeal.main_arg1) = m ((c.tc : Thread Cert.QUpDxIdeal.nD Cert.QUpDxIdeal.τ).loc Cert.QUpDxIdeal.main_arg1)) →
    ∃ (v0 : (c : Dev Cert.QUpDxIdeal.nD) → Buf (Elt Ideal) ((c.tc : Thread Cert.QUpDxIdeal.nD Cert.QUpDxIdeal.τ).loc Cert.QUpDxIdeal.main_v0)),
      θ_run (Cert.QUpDxIdeal.defs (F := Ideal)) (onTc (τ := Cert.QUpDxIdeal.τ) (Cert.QUpDxIdeal.main (F := Ideal))) ⟨m, fun _ => 0, g⟩ (fun r => ∀ c : Dev Cert.QUpDxIdeal.nD,
          r.2.mem ((c.tc : Thread Cert.QUpDxIdeal.nD Cert.QUpDxIdeal.τ).loc Cert.QUpDxIdeal.main_v0) = v0 c
          ∧ r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
          ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1))
      ∧ θ_run (Cert.QUpDxRefIdeal.defs (F := Ideal)) (onTc (τ := Cert.QUpDxRefIdeal.τ) (Cert.QUpDxRefIdeal.main (F := Ideal))) ⟨m', fun _ => 0, g'⟩ (fun r => ∀ c : Dev Cert.QUpDxRefIdeal.nD,
          r.2.mem ((c.tc : Thread Cert.QUpDxRefIdeal.nD Cert.QUpDxRefIdeal.τ).loc Cert.QUpDxRefIdeal.main_v4) = v0 c
          ∧ r.2.mem ((c.tc : Thread Cert.QUpDxRefIdeal.nD Cert.QUpDxRefIdeal.τ).loc Cert.QUpDxRefIdeal.main_arg0) = m' ((c.tc : Thread Cert.QUpDxRefIdeal.nD Cert.QUpDxRefIdeal.τ).loc Cert.QUpDxRefIdeal.main_arg0)
          ∧ r.2.mem ((c.tc : Thread Cert.QUpDxRefIdeal.nD Cert.QUpDxRefIdeal.τ).loc Cert.QUpDxRefIdeal.main_arg1) = m' ((c.tc : Thread Cert.QUpDxRefIdeal.nD Cert.QUpDxRefIdeal.τ).loc Cert.QUpDxRefIdeal.main_arg1))

def preserves_QUpDw_QUpDwIdeal : Prop :=
  True

def algebraic_QUpDwIdeal_QUpDwRefIdeal [hQUpDwIdeal : Cert.QUpDwIdeal.Facts] [hQUpDwRefIdeal : Cert.QUpDwRefIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg)
    (m' : (ℓ : Loc Cert.QUpDwRefIdeal.nD Cert.QUpDwRefIdeal.τ Cert.QUpDwRefIdeal.sig) → Buf (Elt Ideal) ℓ) (g' : Dev Cert.QUpDwRefIdeal.nD → PrngReg), Pre_QUpDwIdeal m →
    (∀ c : Dev Cert.QUpDwIdeal.nD,
      m' ((c.tc : Thread Cert.QUpDwRefIdeal.nD Cert.QUpDwRefIdeal.τ).loc Cert.QUpDwRefIdeal.main_arg0) = m ((c.tc : Thread Cert.QUpDwIdeal.nD Cert.QUpDwIdeal.τ).loc Cert.QUpDwIdeal.main_arg0)
      ∧ m' ((c.tc : Thread Cert.QUpDwRefIdeal.nD Cert.QUpDwRefIdeal.τ).loc Cert.QUpDwRefIdeal.main_arg1) = m ((c.tc : Thread Cert.QUpDwIdeal.nD Cert.QUpDwIdeal.τ).loc Cert.QUpDwIdeal.main_arg1)) →
    ∃ (v0 : (c : Dev Cert.QUpDwIdeal.nD) → Buf (Elt Ideal) ((c.tc : Thread Cert.QUpDwIdeal.nD Cert.QUpDwIdeal.τ).loc Cert.QUpDwIdeal.main_v0)),
      θ_run (Cert.QUpDwIdeal.defs (F := Ideal)) (onTc (τ := Cert.QUpDwIdeal.τ) (Cert.QUpDwIdeal.main (F := Ideal))) ⟨m, fun _ => 0, g⟩ (fun r => ∀ c : Dev Cert.QUpDwIdeal.nD,
          r.2.mem ((c.tc : Thread Cert.QUpDwIdeal.nD Cert.QUpDwIdeal.τ).loc Cert.QUpDwIdeal.main_v0) = v0 c
          ∧ r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
          ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ θ_run (Cert.QUpDwRefIdeal.defs (F := Ideal)) (onTc (τ := Cert.QUpDwRefIdeal.τ) (Cert.QUpDwRefIdeal.main (F := Ideal))) ⟨m', fun _ => 0, g'⟩ (fun r => ∀ c : Dev Cert.QUpDwRefIdeal.nD,
          r.2.mem ((c.tc : Thread Cert.QUpDwRefIdeal.nD Cert.QUpDwRefIdeal.τ).loc Cert.QUpDwRefIdeal.main_v6) = v0 c
          ∧ r.2.mem ((c.tc : Thread Cert.QUpDwRefIdeal.nD Cert.QUpDwRefIdeal.τ).loc Cert.QUpDwRefIdeal.main_arg0) = m' ((c.tc : Thread Cert.QUpDwRefIdeal.nD Cert.QUpDwRefIdeal.τ).loc Cert.QUpDwRefIdeal.main_arg0)
          ∧ r.2.mem ((c.tc : Thread Cert.QUpDwRefIdeal.nD Cert.QUpDwRefIdeal.τ).loc Cert.QUpDwRefIdeal.main_arg1) = m' ((c.tc : Thread Cert.QUpDwRefIdeal.nD Cert.QUpDwRefIdeal.τ).loc Cert.QUpDwRefIdeal.main_arg1))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)) →
    ∃ (v0 : (c : Dev Cert.KvUpIdeal.nD) → Buf (Elt Ideal) ((c.tc : Thread Cert.KvUpIdeal.nD Cert.KvUpIdeal.τ).loc Cert.KvUpIdeal.main_v0_0)) (v1 : (c : Dev Cert.KvUpIdeal.nD) → Buf (Elt Ideal) ((c.tc : Thread Cert.KvUpIdeal.nD Cert.KvUpIdeal.τ).loc Cert.KvUpIdeal.main_v0_1)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v0_0) = v0 c
          ∧ r.2.mem ((c.tc : Thread Cert.KvUpIdeal.nD Cert.KvUpIdeal.τ).loc Cert.KvUpIdeal.main_v0_1) = v1 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v3) = v0 c
          ∧ r.2.mem ((c.tc : Thread Cert.KvUpRefIdeal.nD Cert.KvUpRefIdeal.τ).loc Cert.KvUpRefIdeal.main_v4) = v1 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1))

def preserves_KvUpDx_KvUpDxIdeal : Prop :=
  True

def algebraic_KvUpDxIdeal_KvUpDxRefIdeal [hKvUpDxIdeal : Cert.KvUpDxIdeal.Facts] [hKvUpDxRefIdeal : Cert.KvUpDxRefIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg)
    (m' : (ℓ : Loc Cert.KvUpDxRefIdeal.nD Cert.KvUpDxRefIdeal.τ Cert.KvUpDxRefIdeal.sig) → Buf (Elt Ideal) ℓ) (g' : Dev Cert.KvUpDxRefIdeal.nD → PrngReg), Pre_KvUpDxIdeal m →
    (∀ c : Dev Cert.KvUpDxIdeal.nD,
      m' ((c.tc : Thread Cert.KvUpDxRefIdeal.nD Cert.KvUpDxRefIdeal.τ).loc Cert.KvUpDxRefIdeal.main_arg0) = m ((c.tc : Thread Cert.KvUpDxIdeal.nD Cert.KvUpDxIdeal.τ).loc Cert.KvUpDxIdeal.main_arg0)
      ∧ m' ((c.tc : Thread Cert.KvUpDxRefIdeal.nD Cert.KvUpDxRefIdeal.τ).loc Cert.KvUpDxRefIdeal.main_arg1) = m ((c.tc : Thread Cert.KvUpDxIdeal.nD Cert.KvUpDxIdeal.τ).loc Cert.KvUpDxIdeal.main_arg1)
      ∧ m' ((c.tc : Thread Cert.KvUpDxRefIdeal.nD Cert.KvUpDxRefIdeal.τ).loc Cert.KvUpDxRefIdeal.main_arg2) = m ((c.tc : Thread Cert.KvUpDxIdeal.nD Cert.KvUpDxIdeal.τ).loc Cert.KvUpDxIdeal.main_arg2)) →
    ∃ (v0 : (c : Dev Cert.KvUpDxIdeal.nD) → Buf (Elt Ideal) ((c.tc : Thread Cert.KvUpDxIdeal.nD Cert.KvUpDxIdeal.τ).loc Cert.KvUpDxIdeal.main_v0)),
      θ_run (Cert.KvUpDxIdeal.defs (F := Ideal)) (onTc (τ := Cert.KvUpDxIdeal.τ) (Cert.KvUpDxIdeal.main (F := Ideal))) ⟨m, fun _ => 0, g⟩ (fun r => ∀ c : Dev Cert.KvUpDxIdeal.nD,
          r.2.mem ((c.tc : Thread Cert.KvUpDxIdeal.nD Cert.KvUpDxIdeal.τ).loc Cert.KvUpDxIdeal.main_v0) = v0 c
          ∧ r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
          ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1)
          ∧ r.2.mem ((c.tc : Thread Cert.KvUpDxIdeal.nD Cert.KvUpDxIdeal.τ).loc Cert.KvUpDxIdeal.main_arg2) = m ((c.tc : Thread Cert.KvUpDxIdeal.nD Cert.KvUpDxIdeal.τ).loc Cert.KvUpDxIdeal.main_arg2))
      ∧ θ_run (Cert.KvUpDxRefIdeal.defs (F := Ideal)) (onTc (τ := Cert.KvUpDxRefIdeal.τ) (Cert.KvUpDxRefIdeal.main (F := Ideal))) ⟨m', fun _ => 0, g'⟩ (fun r => ∀ c : Dev Cert.KvUpDxRefIdeal.nD,
          r.2.mem ((c.tc : Thread Cert.KvUpDxRefIdeal.nD Cert.KvUpDxRefIdeal.τ).loc Cert.KvUpDxRefIdeal.main_v7) = v0 c
          ∧ r.2.mem ((c.tc : Thread Cert.KvUpDxRefIdeal.nD Cert.KvUpDxRefIdeal.τ).loc Cert.KvUpDxRefIdeal.main_arg0) = m' ((c.tc : Thread Cert.KvUpDxRefIdeal.nD Cert.KvUpDxRefIdeal.τ).loc Cert.KvUpDxRefIdeal.main_arg0)
          ∧ r.2.mem ((c.tc : Thread Cert.KvUpDxRefIdeal.nD Cert.KvUpDxRefIdeal.τ).loc Cert.KvUpDxRefIdeal.main_arg1) = m' ((c.tc : Thread Cert.KvUpDxRefIdeal.nD Cert.KvUpDxRefIdeal.τ).loc Cert.KvUpDxRefIdeal.main_arg1)
          ∧ r.2.mem ((c.tc : Thread Cert.KvUpDxRefIdeal.nD Cert.KvUpDxRefIdeal.τ).loc Cert.KvUpDxRefIdeal.main_arg2) = m' ((c.tc : Thread Cert.KvUpDxRefIdeal.nD Cert.KvUpDxRefIdeal.τ).loc Cert.KvUpDxRefIdeal.main_arg2))

def preserves_KvUpDw_KvUpDwIdeal : Prop :=
  True

def algebraic_KvUpDwIdeal_KvUpDwRefIdeal [hKvUpDwIdeal : Cert.KvUpDwIdeal.Facts] [hKvUpDwRefIdeal : Cert.KvUpDwRefIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg)
    (m' : (ℓ : Loc Cert.KvUpDwRefIdeal.nD Cert.KvUpDwRefIdeal.τ Cert.KvUpDwRefIdeal.sig) → Buf (Elt Ideal) ℓ) (g' : Dev Cert.KvUpDwRefIdeal.nD → PrngReg), Pre_KvUpDwIdeal m →
    (∀ c : Dev Cert.KvUpDwIdeal.nD,
      m' ((c.tc : Thread Cert.KvUpDwRefIdeal.nD Cert.KvUpDwRefIdeal.τ).loc Cert.KvUpDwRefIdeal.main_arg0) = m ((c.tc : Thread Cert.KvUpDwIdeal.nD Cert.KvUpDwIdeal.τ).loc Cert.KvUpDwIdeal.main_arg0)
      ∧ m' ((c.tc : Thread Cert.KvUpDwRefIdeal.nD Cert.KvUpDwRefIdeal.τ).loc Cert.KvUpDwRefIdeal.main_arg1) = m ((c.tc : Thread Cert.KvUpDwIdeal.nD Cert.KvUpDwIdeal.τ).loc Cert.KvUpDwIdeal.main_arg1)
      ∧ m' ((c.tc : Thread Cert.KvUpDwRefIdeal.nD Cert.KvUpDwRefIdeal.τ).loc Cert.KvUpDwRefIdeal.main_arg2) = m ((c.tc : Thread Cert.KvUpDwIdeal.nD Cert.KvUpDwIdeal.τ).loc Cert.KvUpDwIdeal.main_arg2)) →
    ∃ (v0 : (c : Dev Cert.KvUpDwIdeal.nD) → Buf (Elt Ideal) ((c.tc : Thread Cert.KvUpDwIdeal.nD Cert.KvUpDwIdeal.τ).loc Cert.KvUpDwIdeal.main_v1)),
      θ_run (Cert.KvUpDwIdeal.defs (F := Ideal)) (onTc (τ := Cert.KvUpDwIdeal.τ) (Cert.KvUpDwIdeal.main (F := Ideal))) ⟨m, fun _ => 0, g⟩ (fun r => ∀ c : Dev Cert.KvUpDwIdeal.nD,
          r.2.mem ((c.tc : Thread Cert.KvUpDwIdeal.nD Cert.KvUpDwIdeal.τ).loc Cert.KvUpDwIdeal.main_v1) = v0 c
          ∧ r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
          ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1)
          ∧ r.2.mem ((c.tc : Thread Cert.KvUpDwIdeal.nD Cert.KvUpDwIdeal.τ).loc Cert.KvUpDwIdeal.main_arg2) = m ((c.tc : Thread Cert.KvUpDwIdeal.nD Cert.KvUpDwIdeal.τ).loc Cert.KvUpDwIdeal.main_arg2))
      ∧ θ_run (Cert.KvUpDwRefIdeal.defs (F := Ideal)) (onTc (τ := Cert.KvUpDwRefIdeal.τ) (Cert.KvUpDwRefIdeal.main (F := Ideal))) ⟨m', fun _ => 0, g'⟩ (fun r => ∀ c : Dev Cert.KvUpDwRefIdeal.nD,
          r.2.mem ((c.tc : Thread Cert.KvUpDwRefIdeal.nD Cert.KvUpDwRefIdeal.τ).loc Cert.KvUpDwRefIdeal.main_v9) = v0 c
          ∧ r.2.mem ((c.tc : Thread Cert.KvUpDwRefIdeal.nD Cert.KvUpDwRefIdeal.τ).loc Cert.KvUpDwRefIdeal.main_arg0) = m' ((c.tc : Thread Cert.KvUpDwRefIdeal.nD Cert.KvUpDwRefIdeal.τ).loc Cert.KvUpDwRefIdeal.main_arg0)
          ∧ r.2.mem ((c.tc : Thread Cert.KvUpDwRefIdeal.nD Cert.KvUpDwRefIdeal.τ).loc Cert.KvUpDwRefIdeal.main_arg1) = m' ((c.tc : Thread Cert.KvUpDwRefIdeal.nD Cert.KvUpDwRefIdeal.τ).loc Cert.KvUpDwRefIdeal.main_arg1)
          ∧ r.2.mem ((c.tc : Thread Cert.KvUpDwRefIdeal.nD Cert.KvUpDwRefIdeal.τ).loc Cert.KvUpDwRefIdeal.main_arg2) = m' ((c.tc : Thread Cert.KvUpDwRefIdeal.nD Cert.KvUpDwRefIdeal.τ).loc Cert.KvUpDwRefIdeal.main_arg2))

def Claim : Prop :=
  ∃ (hKernel : Cert.Kernel.Facts) (hKernelIdeal : Cert.KernelIdeal.Facts) (hReferenceIdeal : Cert.ReferenceIdeal.Facts) (hFfnMid : Cert.FfnMid.Facts) (hFfnMidIdeal : Cert.FfnMidIdeal.Facts) (hFfnMidRefIdeal : Cert.FfnMidRefIdeal.Facts) (hFfnDh : Cert.FfnDh.Facts) (hFfnDhIdeal : Cert.FfnDhIdeal.Facts) (hFfnDhRefIdeal : Cert.FfnDhRefIdeal.Facts) (hFfnDw : Cert.FfnDw.Facts) (hFfnDwIdeal : Cert.FfnDwIdeal.Facts) (hFfnDwRefIdeal : Cert.FfnDwRefIdeal.Facts) (hFfnDownDw : Cert.FfnDownDw.Facts) (hFfnDownDwIdeal : Cert.FfnDownDwIdeal.Facts) (hFfnDownDwRefIdeal : Cert.FfnDownDwRefIdeal.Facts) (hFfnIn : Cert.FfnIn.Facts) (hFfnInIdeal : Cert.FfnInIdeal.Facts) (hFfnInRefIdeal : Cert.FfnInRefIdeal.Facts) (hFfnDown : Cert.FfnDown.Facts) (hFfnDownIdeal : Cert.FfnDownIdeal.Facts) (hFfnDownRefIdeal : Cert.FfnDownRefIdeal.Facts) (hInProj : Cert.InProj.Facts) (hInProjIdeal : Cert.InProjIdeal.Facts) (hInProjRefIdeal : Cert.InProjRefIdeal.Facts) (hInProjDx : Cert.InProjDx.Facts) (hInProjDxIdeal : Cert.InProjDxIdeal.Facts) (hInProjDxRefIdeal : Cert.InProjDxRefIdeal.Facts) (hInProjDw : Cert.InProjDw.Facts) (hInProjDwIdeal : Cert.InProjDwIdeal.Facts) (hInProjDwRefIdeal : Cert.InProjDwRefIdeal.Facts) (hOutProj : Cert.OutProj.Facts) (hOutProjIdeal : Cert.OutProjIdeal.Facts) (hOutProjRefIdeal : Cert.OutProjRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hQUp : Cert.QUp.Facts) (hQUpIdeal : Cert.QUpIdeal.Facts) (hQUpRefIdeal : Cert.QUpRefIdeal.Facts) (hQUpDx : Cert.QUpDx.Facts) (hQUpDxIdeal : Cert.QUpDxIdeal.Facts) (hQUpDxRefIdeal : Cert.QUpDxRefIdeal.Facts) (hQUpDw : Cert.QUpDw.Facts) (hQUpDwIdeal : Cert.QUpDwIdeal.Facts) (hQUpDwRefIdeal : Cert.QUpDwRefIdeal.Facts) (hKvUp : Cert.KvUp.Facts) (hKvUpIdeal : Cert.KvUpIdeal.Facts) (hKvUpRefIdeal : Cert.KvUpRefIdeal.Facts) (hKvUpDx : Cert.KvUpDx.Facts) (hKvUpDxIdeal : Cert.KvUpDxIdeal.Facts) (hKvUpDxRefIdeal : Cert.KvUpDxRefIdeal.Facts) (hKvUpDw : Cert.KvUpDw.Facts) (hKvUpDwIdeal : Cert.KvUpDwIdeal.Facts) (hKvUpDwRefIdeal : Cert.KvUpDwRefIdeal.Facts) (hPre_finite : Cert.Pre_finite.Facts) (hPre_finite_mid : Cert.Pre_finite_mid.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnMid (hFfnMid := hFfnMid)
    ∧ quiescent_FfnMidIdeal (hFfnMidIdeal := hFfnMidIdeal)
    ∧ quiescent_FfnMidIdeal_pre_finite_mid (hFfnMidIdeal := hFfnMidIdeal) (hPre_finite_mid := hPre_finite_mid)
    ∧ quiescent_FfnMidRefIdeal (hFfnMidRefIdeal := hFfnMidRefIdeal)
    ∧ quiescent_FfnMidRefIdeal_pre_finite_mid (hFfnMidRefIdeal := hFfnMidRefIdeal) (hPre_finite_mid := hPre_finite_mid)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_QUp (hQUp := hQUp)
    ∧ quiescent_QUpIdeal (hQUpIdeal := hQUpIdeal)
    ∧ quiescent_QUpRefIdeal (hQUpRefIdeal := hQUpRefIdeal)
    ∧ quiescent_QUpDx (hQUpDx := hQUpDx)
    ∧ quiescent_QUpDxIdeal (hQUpDxIdeal := hQUpDxIdeal)
    ∧ quiescent_QUpDxRefIdeal (hQUpDxRefIdeal := hQUpDxRefIdeal)
    ∧ quiescent_QUpDw (hQUpDw := hQUpDw)
    ∧ quiescent_QUpDwIdeal (hQUpDwIdeal := hQUpDwIdeal)
    ∧ quiescent_QUpDwRefIdeal (hQUpDwRefIdeal := hQUpDwRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_KvUpDx (hKvUpDx := hKvUpDx)
    ∧ quiescent_KvUpDxIdeal (hKvUpDxIdeal := hKvUpDxIdeal)
    ∧ quiescent_KvUpDxRefIdeal (hKvUpDxRefIdeal := hKvUpDxRefIdeal)
    ∧ quiescent_KvUpDw (hKvUpDw := hKvUpDw)
    ∧ quiescent_KvUpDwIdeal (hKvUpDwIdeal := hKvUpDwIdeal)
    ∧ quiescent_KvUpDwRefIdeal (hKvUpDwRefIdeal := hKvUpDwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnMid_FfnMidIdeal
    ∧ algebraic_FfnMidIdeal_FfnMidRefIdeal_pre_finite_mid (hFfnMidIdeal := hFfnMidIdeal) (hFfnMidRefIdeal := hFfnMidRefIdeal) (hPre_finite_mid := hPre_finite_mid)
    ∧ preserves_FfnDh_FfnDhIdeal
    ∧ algebraic_FfnDhIdeal_FfnDhRefIdeal (hFfnDhIdeal := hFfnDhIdeal) (hFfnDhRefIdeal := hFfnDhRefIdeal)
    ∧ preserves_FfnDw_FfnDwIdeal
    ∧ algebraic_FfnDwIdeal_FfnDwRefIdeal (hFfnDwIdeal := hFfnDwIdeal) (hFfnDwRefIdeal := hFfnDwRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnIn_FfnInIdeal
    ∧ algebraic_FfnInIdeal_FfnInRefIdeal (hFfnInIdeal := hFfnInIdeal) (hFfnInRefIdeal := hFfnInRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InProj_InProjIdeal
    ∧ algebraic_InProjIdeal_InProjRefIdeal (hInProjIdeal := hInProjIdeal) (hInProjRefIdeal := hInProjRefIdeal)
    ∧ preserves_InProjDx_InProjDxIdeal
    ∧ algebraic_InProjDxIdeal_InProjDxRefIdeal (hInProjDxIdeal := hInProjDxIdeal) (hInProjDxRefIdeal := hInProjDxRefIdeal)
    ∧ preserves_InProjDw_InProjDwIdeal
    ∧ algebraic_InProjDwIdeal_InProjDwRefIdeal (hInProjDwIdeal := hInProjDwIdeal) (hInProjDwRefIdeal := hInProjDwRefIdeal)
    ∧ preserves_OutProj_OutProjIdeal
    ∧ algebraic_OutProjIdeal_OutProjRefIdeal (hOutProjIdeal := hOutProjIdeal) (hOutProjRefIdeal := hOutProjRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_QUp_QUpIdeal
    ∧ algebraic_QUpIdeal_QUpRefIdeal (hQUpIdeal := hQUpIdeal) (hQUpRefIdeal := hQUpRefIdeal)
    ∧ preserves_QUpDx_QUpDxIdeal
    ∧ algebraic_QUpDxIdeal_QUpDxRefIdeal (hQUpDxIdeal := hQUpDxIdeal) (hQUpDxRefIdeal := hQUpDxRefIdeal)
    ∧ preserves_QUpDw_QUpDwIdeal
    ∧ algebraic_QUpDwIdeal_QUpDwRefIdeal (hQUpDwIdeal := hQUpDwIdeal) (hQUpDwRefIdeal := hQUpDwRefIdeal)
    ∧ preserves_KvUp_KvUpIdeal
    ∧ algebraic_KvUpIdeal_KvUpRefIdeal (hKvUpIdeal := hKvUpIdeal) (hKvUpRefIdeal := hKvUpRefIdeal)
    ∧ preserves_KvUpDx_KvUpDxIdeal
    ∧ algebraic_KvUpDxIdeal_KvUpDxRefIdeal (hKvUpDxIdeal := hKvUpDxIdeal) (hKvUpDxRefIdeal := hKvUpDxRefIdeal)
    ∧ preserves_KvUpDw_KvUpDwIdeal
    ∧ algebraic_KvUpDwIdeal_KvUpDwRefIdeal (hKvUpDwIdeal := hKvUpDwIdeal) (hKvUpDwRefIdeal := hKvUpDwRefIdeal)
-- ==== Pre_finite.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn_part1 {F : FTy → Type} [FloatOps F] (main_v8 : IVec S_ 1) (main_v12 : IVec S_ 1) (main_v15 : IVec S2048x512 1) (main_c_5 : IVec S_ 1) : IVec S_ 1 :=
  let main_v16 : IVec S_ 1 := (fun x v => Host.reduce IntOp.andi x v reducesTo_S2048x512_S_d0_1 h_S_) main_v15 main_c_5
  let main_v17 : IVec S_ 1 := andi main_v12 main_v16
  let main_v18 : IVec S_ 1 := andi main_v8 main_v17
  main_v18

def fn {F : FTy → Type} [FloatOps F] (main_arg0 : FVec F S2048x512 .f32) (main_arg1 : FVec F S2048x512 .f32) (main_arg2 : FVec F S2048x512 .f32) (main_arg3 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : FVec F S2048x512 .f32 := Host.absf main_arg3
  let main_cst_4 : FVec F S_ .f32 := constant S_ .f32 0x7F800000#32
  let main_v14 : FVec F S2048x512 .f32 := broadcastInDim S2048x512 ![] bcast_S_S2048x512 main_cst_4
  let main_v15 : IVec S2048x512 1 := cmpf .olt main_v13 main_v14
  let main_c_5 : IVec S_ 1 := constantI S_ 1 1#1
  fn_part1 (F := F) main_v8 main_v12 main_v15 main_c_5
-- ==== Pre_finite_mid.lean ====
abbrev S2048x1024 : Shape := ⟨2, ![2048, 1024]⟩
abbrev S4x768x1024 : Shape := ⟨3, ![4, 768, 1024]⟩
abbrev S2048x3072 : Shape := ⟨2, ![2048, 3072]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4x768x1024 : S_.BroadcastsInDim S4x768x1024 (![] : Fin 0 → Fin S4x768x1024.rank)
  reducesTo_S4x768x1024_S_d0_1_2 : S4x768x1024.ReducesTo [0, 1, 2] S_
  bcast_S_S2048x3072 : S_.BroadcastsInDim S2048x3072 (![] : Fin 0 → Fin S2048x3072.rank)
  reducesTo_S2048x3072_S_d0_1 : S2048x3072.ReducesTo [0, 1] S_

variable [Facts]

def fn_part1 {F : FTy → Type} [FloatOps F] (main_v11 : IVec S_ 1) (main_v15 : IVec S_ 1) (main_v16 : FVec F S2048x3072 .f32) (main_cst_4 : FVec F S_ .f32) : IVec S_ 1 :=
  let main_v17 : FVec F S2048x3072 .f32 := broadcastInDim S2048x3072 ![] bcast_S_S2048x3072 main_cst_4
  let main_v18 : IVec S2048x3072 1 := cmpf .olt main_v16 main_v17
  let main_c_5 : IVec S_ 1 := constantI S_ 1 1#1
  let main_v19 : IVec S_ 1 := (fun x v => Host.reduce IntOp.andi x v reducesTo_S2048x3072_S_d0_1 h_S_) main_v18 main_c_5
  let main_v20 : IVec S_ 1 := andi main_v15 main_v19
  let main_v21 : IVec S_ 1 := andi main_v11 main_v20
  main_v21

def fn {F : FTy → Type} [FloatOps F] (main_arg0 : FVec F S2048x1024 .f32) (main_arg1 : FVec F S4x768x1024 .bf16) (main_arg2 : FVec F S2048x3072 .bf16) (main_arg3 : FVec F S2048x3072 .bf16) : IVec S_ 1 :=
  let main_v0 : FVec F S4x768x1024 .f32 := (extf .f32 · bitsLt_bf16_f32) main_arg1
  let main_v1 : FVec F S2048x3072 .f32 := (extf .f32 · bitsLt_bf16_f32) main_arg2
  let main_v2 : FVec F S2048x3072 .f32 := (extf .f32 · bitsLt_bf16_f32) main_arg3
  let main_v3 : FVec F S2048x1024 .f32 := Host.absf main_arg0
  let main_cst : FVec F S_ .f32 := constant S_ .f32 0x7F800000#32
  let main_v4 : FVec F S2048x1024 .f32 := broadcastInDim S2048x1024 ![] bcast_S_S2048x1024 main_cst
  let main_v5 : IVec S2048x1024 1 := cmpf .olt main_v3 main_v4
  let main_c : IVec S_ 1 := constantI S_ 1 1#1
  let main_v6 : IVec S_ 1 := (fun x v => Host.reduce IntOp.andi x v reducesTo_S2048x1024_S_d0_1 h_S_) main_v5 main_c
  let main_v7 : FVec F S4x768x1024 .f32 := Host.absf main_v0
  let main_cst_0 : FVec F S_ .f32 := constant S_ .f32 0x7F800000#32
  let main_v8 : FVec F S4x768x1024 .f32 := broadcastInDim S4x768x1024 ![] bcast_S_S4x768x1024 main_cst_0
  let main_v9 : IVec S4x768x1024 1 := cmpf .olt main_v7 main_v8
  let main_c_1 : IVec S_ 1 := constantI S_ 1 1#1
  let main_v10 : IVec S_ 1 := (fun x v => Host.reduce IntOp.andi x v reducesTo_S4x768x1024_S_d0_1_2 h_S_) main_v9 main_c_1
  let main_v11 : IVec S_ 1 := andi main_v6 main_v10
  let main_v12 : FVec F S2048x3072 .f32 := Host.absf main_v1
  let main_cst_2 : FVec F S_ .f32 := constant S_ .f32 0x7F800000#32
  let main_v13 : FVec F S2048x3072 .f32 := broadcastInDim S2048x3072 ![] bcast_S_S2048x3072 main_cst_2
  let main_v14 : IVec S2048x3072 1 := cmpf .olt main_v12 main_v13
  let main_c_3 : IVec S_ 1 := constantI S_ 1 1#1
  let main_v15 : IVec S_ 1 := (fun x v => Host.reduce IntOp.andi x v reducesTo_S2048x3072_S_d0_1 h_S_) main_v14 main_c_3
  let main_v16 : FVec F S2048x3072 .f32 := Host.absf main_v2
  let main_cst_4 : FVec F S_ .f32 := constant S_ .f32 0x7F800000#32
  fn_part1 (F := F) main_v11 main_v15 main_v16 main_cst_4
-- ==== Kernel.lean ====
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S2048x8 : Shape := ⟨2, ![2048, 8]⟩
abbrev S2048x8x1 : Shape := ⟨3, ![2048, 8, 1]⟩
abbrev S2048x8x128 : Shape := ⟨3, ![2048, 8, 128]⟩
abbrev S2048x1024 : Shape := ⟨2, ![2048, 1024]⟩
abbrev S256x128 : Shape := ⟨2, ![256, 128]⟩
abbrev S2048x128 : Shape := ⟨2, ![2048, 128]⟩
abbrev S256x256 : Shape := ⟨2, ![256, 256]⟩
abbrev S256x1 : Shape := ⟨2, ![256, 1]⟩
abbrev S256 : Shape := ⟨1, ![256]⟩

abbrev nBuf : Space → Nat
  | .hbm => 48
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x8x64, .f32⟩
  | .hbm, ⟨5, _⟩ => ⟨S2048x8x64, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S2048x8, .f32⟩
  | .hbm, ⟨42, _⟩ => ⟨S2048x8x1, .f32⟩
  | .hbm, ⟨43, _⟩ => ⟨S2048x8x128, .f32⟩
  | .hbm, ⟨44, _⟩ => ⟨S2048x1024, .f32⟩
  | .hbm, ⟨45, _⟩ => ⟨S2048x512, .f32⟩
  | .hbm, ⟨46, _⟩ => ⟨S2048x512, .f32⟩
  | .hbm, ⟨47, _⟩ => ⟨S2048x512, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x256, .f32⟩
  | .local _ .vmem, ⟨7, _⟩ => ⟨S256x256, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20_0 : Ref sig .tc := ⟨.hbm, 45, rfl⟩
abbrev main_v20_1 : Ref sig .tc := ⟨.hbm, 46, rfl⟩
abbrev main_v20_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_33 : BitVec 32 := 0#32
  let arg1 : BitVec 32 := BitVec.ofNat 32 (i 1).val
  let c0_i32_26 : BitVec 32 := 0#32
  let v90 : BitVec 1 := Scalar.cmpi .sgt arg1 c0_i32_26
  let v91 : BitVec 32 := Scalar.extui v90
  let c0_i32_27 : BitVec 32 := 0#32
  let v92 : BitVec 1 := Scalar.cmpi .slt arg1 c0_i32_27
  let v93 : BitVec 32 := Scalar.extui v92
  let v94 : BitVec 32 := Scalar.subi v91 v93
  let c2_i32 : BitVec 32 := 2#32
  let c0_i32_28 : BitVec 32 := 0#32
  let v95 : BitVec 1 := Scalar.cmpi .sgt c2_i32 c0_i32_28
  let v96 : BitVec 32 := Scalar.extui v95
  let c0_i32_29 : BitVec 32 := 0#32
  let v97 : BitVec 1 := Scalar.cmpi .slt c2_i32 c0_i32_29
  let v98 : BitVec 32 := Scalar.extui v97
  let v99 : BitVec 32 := Scalar.subi v96 v98
  let v100 : BitVec 1 := Scalar.cmpi .ne v94 v99
  let v101 : BitVec 32 := Scalar.remsi arg1 c2_i32
  let c0_i32_30 : BitVec 32 := 0#32
  let v102 : BitVec 1 := Scalar.cmpi .ne v101 c0_i32_30
  let v103 : BitVec 1 := Scalar.andi v100 v102
  let v89 : BitVec 32 := Scalar.divsi arg1 c2_i32
  let c1_i32_31 : BitVec 32 := 1#32
  let v104 : BitVec 32 := Scalar.subi v89 c1_i32_31
  let v105 : BitVec 32 := Scalar.select v103 v104 v89
  let v107 : BitVec 32 := Scalar.subi v105 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let c1_i32_35 : BitVec 32 := 1#32
  ⟨c0_i32_33, v111, c1_i32_35⟩
def k0_mult1 (i : grid0.Coords) (k0_t1 : Fin (k0_t1_loop i).trips) : BitVec 32 :=
  let c2_i32_48 : BitVec 32 := 2#32
  let c0_i32_33 : BitVec 32 := 0#32
  let c1_i32_35 : BitVec 32 := 1#32
  let arg10 : BitVec 32 := Scf.iv c0_i32_33 c1_i32_35 k0_t1
  let v131 : BitVec 32 := Scalar.muli c2_i32_48 arg10
  let c256_i32 : BitVec 32 := 256#32
  let v134 : BitVec 32 := Scalar.muli v131 c256_i32
  v134
def k0_mult2 (i : grid0.Coords) (k0_t1 : Fin (k0_t1_loop i).trips) : BitVec 32 :=
  let c2_i32_49 : BitVec 32 := 2#32
  let c0_i32_33 : BitVec 32 := 0#32
  let c1_i32_35 : BitVec 32 := 1#32
  let arg10 : BitVec 32 := Scf.iv c0_i32_33 c1_i32_35 k0_t1
  let v132 : BitVec 32 := Scalar.muli c2_i32_49 arg10
  let c1_i32_50 : BitVec 32 := 1#32
  let v133 : BitVec 32 := Scalar.addi v132 c1_i32_50
  let c256_i32_51 : BitVec 32 := 256#32
  let v136 : BitVec 32 := Scalar.muli v133 c256_i32_51
  v136
def k0_off1 (i : grid0.Coords) (k0_t1 : Fin (k0_t1_loop i).trips) : Fin 2 → Nat :=
  let c2_i32_48 : BitVec 32 := 2#32
  let c0_i32_33 : BitVec 32 := 0#32
  let c1_i32_35 : BitVec 32 := 1#32
  let arg10 : BitVec 32 := Scf.iv c0_i32_33 c1_i32_35 k0_t1
  let v131 : BitVec 32 := Scalar.muli c2_i32_48 arg10
  let c256_i32 : BitVec 32 := 256#32
  let v134 : BitVec 32 := Scalar.muli v131 c256_i32
  let v135 : BitVec 32 := v134
  let v138 : Index := Scalar.indexCast v135
  let c0_52 : Index := 0#32
  ![v138.toNat, 0]
def k0_off2 (i : grid0.Coords) (k0_t1 : Fin (k0_t1_loop i).trips) : Fin 2 → Nat :=
  let c2_i32_49 : BitVec 32 := 2#32
  let c0_i32_33 : BitVec 32 := 0#32
  let c1_i32_35 : BitVec 32 := 1#32
  let arg10 : BitVec 32 := Scf.iv c0_i32_33 c1_i32_35 k0_t1
  let v132 : BitVec 32 := Scalar.muli c2_i32_49 arg10
  let c1_i32_50 : BitVec 32 := 1#32
  let v133 : BitVec 32 := Scalar.addi v132 c1_i32_50
  let c256_i32_51 : BitVec 32 := 256#32
  let v136 : BitVec 32 := Scalar.muli v133 c256_i32_51
  let v137 : BitVec 32 := v136
  let v140 : Index := Scalar.indexCast v137
  let c0_53 : Index := 0#32
  ![v140.toNat, 0]
@[reducible] def k0_t2_loop (i : grid0.Coords) : Scf.Loop 32 :=
  let c0_i32_33 : BitVec 32 := 0#32
  let arg1 : BitVec 32 := BitVec.ofNat 32 (i 1).val
  let c0_i32_26 : BitVec 32 := 0#32
  let v90 : BitVec 1 := Scalar.cmpi .sgt arg1 c0_i32_26
  let v91 : BitVec 32 := Scalar.extui v90
  let c0_i32_27 : BitVec 32 := 0#32
  let v92 : BitVec 1 := Scalar.cmpi .slt arg1 c0_i32_27
  let v93 : BitVec 32 := Scalar.extui v92
  let v94 : BitVec 32 := Scalar.subi v91 v93
  let c2_i32 : BitVec 32 := 2#32
  let c0_i32_28 : BitVec 32 := 0#32
  let v95 : BitVec 1 := Scalar.cmpi .sgt c2_i32 c0_i32_28
  let v96 : BitVec 32 := Scalar.extui v95
  let c0_i32_29 : BitVec 32 := 0#32
  let v97 : BitVec 1 := Scalar.cmpi .slt c2_i32 c0_i32_29
  let v98 : BitVec 32 := Scalar.extui v97
  let v99 : BitVec 32 := Scalar.subi v96 v98
  let v100 : BitVec 1 := Scalar.cmpi .ne v94 v99
  let v101 : BitVec 32 := Scalar.remsi arg1 c2_i32
  let c0_i32_30 : BitVec 32 := 0#32
  let v102 : BitVec 1 := Scalar.cmpi .ne v101 c0_i32_30
  let v103 : BitVec 1 := Scalar.andi v100 v102
  let v89 : BitVec 32 := Scalar.divsi arg1 c2_i32
  let c1_i32_31 : BitVec 32 := 1#32
  let v104 : BitVec 32 := Scalar.subi v89 c1_i32_31
  let v105 : BitVec 32 := Scalar.select v103 v104 v89
  let v107 : BitVec 32 := Scalar.subi v105 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let v108 : BitVec 32 := Scalar.addi c0_i32_33 v107
  let c1_i32_36 : BitVec 32 := 1#32
  ⟨v111, v108, c1_i32_36⟩
def k0_mult3 (i : grid0.Coords) (k0_t2 : Fin (k0_t2_loop i).trips) : BitVec 32 :=
  let c2_i32_48 : BitVec 32 := 2#32
  let c0_i32_33 : BitVec 32 := 0#32
  let arg1 : BitVec 32 := BitVec.ofNat 32 (i 1).val
  let c0_i32_26 : BitVec 32 := 0#32
  let v90 : BitVec 1 := Scalar.cmpi .sgt arg1 c0_i32_26
  let v91 : BitVec 32 := Scalar.extui v90
  let c0_i32_27 : BitVec 32 := 0#32
  let v92 : BitVec 1 := Scalar.cmpi .slt arg1 c0_i32_27
  let v93 : BitVec 32 := Scalar.extui v92
  let v94 : BitVec 32 := Scalar.subi v91 v93
  let c2_i32 : BitVec 32 := 2#32
  let c0_i32_28 : BitVec 32 := 0#32
  let v95 : BitVec 1 := Scalar.cmpi .sgt c2_i32 c0_i32_28
  let v96 : BitVec 32 := Scalar.extui v95
  let c0_i32_29 : BitVec 32 := 0#32
  let v97 : BitVec 1 := Scalar.cmpi .slt c2_i32 c0_i32_29
  let v98 : BitVec 32 := Scalar.extui v97
  let v99 : BitVec 32 := Scalar.subi v96 v98
  let v100 : BitVec 1 := Scalar.cmpi .ne v94 v99
  let v101 : BitVec 32 := Scalar.remsi arg1 c2_i32
  let c0_i32_30 : BitVec 32 := 0#32
  let v102 : BitVec 1 := Scalar.cmpi .ne v101 c0_i32_30
  let v103 : BitVec 1 := Scalar.andi v100 v102
  let v89 : BitVec 32 := Scalar.divsi arg1 c2_i32
  let c1_i32_31 : BitVec 32 := 1#32
  let v104 : BitVec 32 := Scalar.subi v89 c1_i32_31
  let v105 : BitVec 32 := Scalar.select v103 v104 v89
  let v107 : BitVec 32 := Scalar.subi v105 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let c1_i32_36 : BitVec 32 := 1#32
  let arg10 : BitVec 32 := Scf.iv v111 c1_i32_36 k0_t2
  let v131 : BitVec 32 := Scalar.muli c2_i32_48 arg10
  let c256_i32 : BitVec 32 := 256#32
  let v134 : BitVec 32 := Scalar.muli v131 c256_i32
  v134
def k0_mult4 (i : grid0.Coords) (k0_t2 : Fin (k0_t2_loop i).trips) : BitVec 32 :=
  let c2_i32_49 : BitVec 32 := 2#32
  let c0_i32_33 : BitVec 32 := 0#32
  let arg1 : BitVec 32 := BitVec.ofNat 32 (i 1).val
  let c0_i32_26 : BitVec 32 := 0#32
  let v90 : BitVec 1 := Scalar.cmpi .sgt arg1 c0_i32_26
  let v91 : BitVec 32 := Scalar.extui v90
  let c0_i32_27 : BitVec 32 := 0#32
  let v92 : BitVec 1 := Scalar.cmpi .slt arg1 c0_i32_27
  let v93 : BitVec 32 := Scalar.extui v92
  let v94 : BitVec 32 := Scalar.subi v91 v93
  let c2_i32 : BitVec 32 := 2#32
  let c0_i32_28 : BitVec 32 := 0#32
  let v95 : BitVec 1 := Scalar.cmpi .sgt c2_i32 c0_i32_28
  let v96 : BitVec 32 := Scalar.extui v95
  let c0_i32_29 : BitVec 32 := 0#32
  let v97 : BitVec 1 := Scalar.cmpi .slt c2_i32 c0_i32_29
  let v98 : BitVec 32 := Scalar.extui v97
  let v99 : BitVec 32 := Scalar.subi v96 v98
  let v100 : BitVec 1 := Scalar.cmpi .ne v94 v99
  let v101 : BitVec 32 := Scalar.remsi arg1 c2_i32
  let c0_i32_30 : BitVec 32 := 0#32
  let v102 : BitVec 1 := Scalar.cmpi .ne v101 c0_i32_30
  let v103 : BitVec 1 := Scalar.andi v100 v102
  let v89 : BitVec 32 := Scalar.divsi arg1 c2_i32
  let c1_i32_31 : BitVec 32 := 1#32
  let v104 : BitVec 32 := Scalar.subi v89 c1_i32_31
  let v105 : BitVec 32 := Scalar.select v103 v104 v89
  let v107 : BitVec 32 := Scalar.subi v105 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let c1_i32_36 : BitVec 32 := 1#32
  let arg10 : BitVec 32 := Scf.iv v111 c1_i32_36 k0_t2
  let v132 : BitVec 32 := Scalar.muli c2_i32_49 arg10
  let c1_i32_50 : BitVec 32 := 1#32
  let v133 : BitVec 32 := Scalar.addi v132 c1_i32_50
  let c256_i32_51 : BitVec 32 := 256#32
  let v136 : BitVec 32 := Scalar.muli v133 c256_i32_51
  v136
def k0_off3 (i : grid0.Coords) (k0_t2 : Fin (k0_t2_loop i).trips) : Fin 2 → Nat :=
  let c2_i32_48 : BitVec 32 := 2#32
  let c0_i32_33 : BitVec 32 := 0#32
  let arg1 : BitVec 32 := BitVec.ofNat 32 (i 1).val
  let c0_i32_26 : BitVec 32 := 0#32
  let v90 : BitVec 1 := Scalar.cmpi .sgt arg1 c0_i32_26
  let v91 : BitVec 32 := Scalar.extui v90
  let c0_i32_27 : BitVec 32 := 0#32
  let v92 : BitVec 1 := Scalar.cmpi .slt arg1 c0_i32_27
  let v93 : BitVec 32 := Scalar.extui v92
  let v94 : BitVec 32 := Scalar.subi v91 v93
  let c2_i32 : BitVec 32 := 2#32
  let c0_i32_28 : BitVec 32 := 0#32
  let v95 : BitVec 1 := Scalar.cmpi .sgt c2_i32 c0_i32_28
  let v96 : BitVec 32 := Scalar.extui v95
  let c0_i32_29 : BitVec 32 := 0#32
  let v97 : BitVec 1 := Scalar.cmpi .slt c2_i32 c0_i32_29
  let v98 : BitVec 32 := Scalar.extui v97
  let v99 : BitVec 32 := Scalar.subi v96 v98
  let v100 : BitVec 1 := Scalar.cmpi .ne v94 v99
  let v101 : BitVec 32 := Scalar.remsi arg1 c2_i32
  let c0_i32_30 : BitVec 32 := 0#32
  let v102 : BitVec 1 := Scalar.cmpi .ne v101 c0_i32_30
  let v103 : BitVec 1 := Scalar.andi v100 v102
  let v89 : BitVec 32 := Scalar.divsi arg1 c2_i32
  let c1_i32_31 : BitVec 32 := 1#32
  let v104 : BitVec 32 := Scalar.subi v89 c1_i32_31
  let v105 : BitVec 32 := Scalar.select v103 v104 v89
  let v107 : BitVec 32 := Scalar.subi v105 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let c1_i32_36 : BitVec 32 := 1#32
  let arg10 : BitVec 32 := Scf.iv v111 c1_i32_36 k0_t2
  let v131 : BitVec 32 := Scalar.muli c2_i32_48 arg10
  let c256_i32 : BitVec 32 := 256#32
  let v134 : BitVec 32 := Scalar.muli v131 c256_i32
  let v135 : BitVec 32 := v134
  let v138 : Index := Scalar.indexCast v135
  let c0_52 : Index := 0#32
  ![v138.toNat, 0]
def k0_off4 (i : grid0.Coords) (k0_t2 : Fin (k0_t2_loop i).trips) : Fin 2 → Nat :=
  let c2_i32_49 : BitVec 32 := 2#32
  let c0_i32_33 : BitVec 32 := 0#32
  let arg1 : BitVec 32 := BitVec.ofNat 32 (i 1).val
  let c0_i32_26 : BitVec 32 := 0#32
  let v90 : BitVec 1 := Scalar.cmpi .sgt arg1 c0_i32_26
  let v91 : BitVec 32 := Scalar.extui v90
  let c0_i32_27 : BitVec 32 := 0#32
  let v92 : BitVec 1 := Scalar.cmpi .slt arg1 c0_i32_27
  let v93 : BitVec 32 := Scalar.extui v92
  let v94 : BitVec 32 := Scalar.subi v91 v93
  let c2_i32 : BitVec 32 := 2#32
  let c0_i32_28 : BitVec 32 := 0#32
  let v95 : BitVec 1 := Scalar.cmpi .sgt c2_i32 c0_i32_28
  let v96 : BitVec 32 := Scalar.extui v95
  let c0_i32_29 : BitVec 32 := 0#32
  let v97 : BitVec 1 := Scalar.cmpi .slt c2_i32 c0_i32_29
  let v98 : BitVec 32 := Scalar.extui v97
  let v99 : BitVec 32 := Scalar.subi v96 v98
  let v100 : BitVec 1 := Scalar.cmpi .ne v94 v99
  let v101 : BitVec 32 := Scalar.remsi arg1 c2_i32
  let c0_i32_30 : BitVec 32 := 0#32
  let v102 : BitVec 1 := Scalar.cmpi .ne v101 c0_i32_30
  let v103 : BitVec 1 := Scalar.andi v100 v102
  let v89 : BitVec 32 := Scalar.divsi arg1 c2_i32
  let c1_i32_31 : BitVec 32 := 1#32
  let v104 : BitVec 32 := Scalar.subi v89 c1_i32_31
  let v105 : BitVec 32 := Scalar.select v103 v104 v89
  let v107 : BitVec 32 := Scalar.subi v105 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let c1_i32_36 : BitVec 32 := 1#32
  let arg10 : BitVec 32 := Scf.iv v111 c1_i32_36 k0_t2
  let v132 : BitVec 32 := Scalar.muli c2_i32_49 arg10
  let c1_i32_50 : BitVec 32 := 1#32
  let v133 : BitVec 32 := Scalar.addi v132 c1_i32_50
  let c256_i32_51 : BitVec 32 := 256#32
  let v136 : BitVec 32 := Scalar.muli v133 c256_i32_51
  let v137 : BitVec 32 := v136
  let v140 : Index := Scalar.indexCast v137
  let c0_53 : Index := 0#32
  ![v140.toNat, 0]
def k0_cond2 (i : grid0.Coords) : BitVec 1 :=
  let arg1 : BitVec 32 := BitVec.ofNat 32 (i 1).val
  let c2_i32_37 : BitVec 32 := 2#32
  let c0_i32_38 : BitVec 32 := 0#32
  let v114 : BitVec 1 := Scalar.cmpi .eq c2_i32_37 c0_i32_38
  let c1_i32_39 : BitVec 32 := 1#32
  let v115 : BitVec 32 := Scalar.select v114 c1_i32_39 c2_i32_37
  let v116 : BitVec 32 := Scalar.remsi arg1 v115
  let c0_i32_41 : BitVec 32 := 0#32
  let v118 : BitVec 1 := Scalar.cmpi .slt v116 c0_i32_41
  let c0_i32_42 : BitVec 32 := 0#32
  let v119 : BitVec 1 := Scalar.cmpi .slt v115 c0_i32_42
  let v120 : BitVec 1 := Scalar.xori v118 v119
  let c0_i32_40 : BitVec 32 := 0#32
  let v117 : BitVec 1 := Scalar.cmpi .ne v116 c0_i32_40
  let v121 : BitVec 1 := Scalar.andi v120 v117
  let v122 : BitVec 32 := Scalar.addi v116 v115
  let v123 : BitVec 32 := Scalar.select v121 v122 v116
  let c1_i32_43 : BitVec 32 := 1#32
  let v124 : BitVec 1 := Scalar.cmpi .eq v123 c1_i32_43
  let v125 : BitVec 32 := Scalar.extui v124
  let c0_i32_44 : BitVec 32 := 0#32
  let v126 : BitVec 1 := Scalar.cmpi .ne v125 c0_i32_44
  v126

def k0_mult5 (i : grid0.Coords) : BitVec 32 :=
  let arg1 : BitVec 32 := BitVec.ofNat 32 (i 1).val
  let c1_i32_48 : BitVec 32 := 1#32
  let v131 : BitVec 32 := Scalar.subi arg1 c1_i32_48
  let c256_i32 : BitVec 32 := 256#32
  let v132 : BitVec 32 := Scalar.muli v131 c256_i32
  v132
def k0_mult6 (i : grid0.Coords) : BitVec 32 :=
  let arg1 : BitVec 32 := BitVec.ofNat 32 (i 1).val
  let c256_i32_49 : BitVec 32 := 256#32
  let v134 : BitVec 32 := Scalar.muli arg1 c256_i32_49
  v134
def k0_off5 (i : grid0.Coords) : Fin 2 → Nat :=
  let arg1 : BitVec 32 := BitVec.ofNat 32 (i 1).val
  let c1_i32_48 : BitVec 32 := 1#32
  let v131 : BitVec 32 := Scalar.subi arg1 c1_i32_48
  let c256_i32 : BitVec 32 := 256#32
  let v132 : BitVec 32 := Scalar.muli v131 c256_i32
  let v133 : BitVec 32 := v132
  let v136 : Index := Scalar.indexCast v133
  let c0_50 : Index := 0#32
  ![v136.toNat, 0]
def k0_off6 (i : grid0.Coords) : Fin 2 → Nat :=
  let arg1 : BitVec 32 := BitVec.ofNat 32 (i 1).val
  let c256_i32_49 : BitVec 32 := 256#32
  let v134 : BitVec 32 := Scalar.muli arg1 c256_i32_49
  let v135 : BitVec 32 := v134
  let v138 : Index := Scalar.indexCast v135
  let c0_51 : Index := 0#32
  ![v138.toNat, 0]
def k0_mult7 (i : grid0.Coords) : BitVec 32 :=
  let arg1 : BitVec 32 := BitVec.ofNat 32 (i 1).val
  let c256_i32 : BitVec 32 := 256#32
  let v131 : BitVec 32 := Scalar.muli arg1 c256_i32
  v131
def k0_off7 (i : grid0.Coords) : Fin 2 → Nat :=
  let arg1 : BitVec 32 := BitVec.ofNat 32 (i 1).val
  let c256_i32 : BitVec 32 := 256#32
  let v131 : BitVec 32 := Scalar.muli arg1 c256_i32
  let v132 : BitVec 32 := v131
  let v133 : Index := Scalar.indexCast v132
  let c0_48 : Index := 0#32
  ![v133.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 173
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S2048x8x64, .f32⟩
  | 5 => ⟨S2048x8x64, .f32⟩
  | 6 => ⟨S2048x8x64, .f32⟩
  | 7 => ⟨S8x2048x2048, .f32⟩
  | 8 => ⟨S_, .f32⟩
  | 9 => ⟨S8x2048x2048, .f32⟩
  | 10 => ⟨S8x2048x2048, .f32⟩
  | 11 => ⟨S2048, .i32⟩
  | 12 => ⟨S1x2048, .i32⟩
  | 13 => ⟨S2048, .i32⟩
  | 14 => ⟨S2048x1, .i32⟩
  | 15 => ⟨S2048x2048, .i32⟩
  | 16 => ⟨S2048x2048, .i32⟩
  | 17 => ⟨S2048x2048, .i1⟩
  | 18 => ⟨S8x2048x2048, .f32⟩
  | 19 => ⟨S_, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .i1⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S_, .f32⟩
  | 34 => ⟨S8x2048x2048, .f32⟩
  | 35 => ⟨S8x2048x2048, .i1⟩
  | 36 => ⟨S_, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .i1⟩
  | 42 => ⟨S_, .f32⟩
  | 43 => ⟨S8x2048x2048, .f32⟩
  | 44 => ⟨S8x2048x2048, .f32⟩
  | 45 => ⟨S8x2048x2048, .f32⟩
  | 46 => ⟨S8x2048x2048, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8x2048x2048, .f32⟩
  | 55 => ⟨S8x2048x2048, .i1⟩
  | 56 => ⟨S_, .f32⟩
  | 57 => ⟨S8x2048x2048, .f32⟩
  | 58 => ⟨S8x2048x2048, .f32⟩
  | 59 => ⟨S8x2048x2048, .f32⟩
  | 60 => ⟨S8x2048x2048, .f32⟩
  | 61 => ⟨S8x2048x2048, .f32⟩
  | 62 => ⟨S_, .f32⟩
  | 63 => ⟨S8x2048x2048, .f32⟩
  | 64 => ⟨S8x2048x2048, .f32⟩
  | 65 => ⟨S8x2048x2048, .f32⟩
  | 66 => ⟨S8x2048x2048, .f32⟩
  | 67 => ⟨S8x2048x2048, .f32⟩
  | 68 => ⟨S_, .f32⟩
  | 69 => ⟨S8x2048x2048, .f32⟩
  | 70 => ⟨S8x2048x2048, .f32⟩
  | 71 => ⟨S8x2048x2048, .f32⟩
  | 72 => ⟨S8x2048x2048, .f32⟩
  | 73 => ⟨S8x2048x2048, .i1⟩
  | 74 => ⟨S8x2048x2048, .f32⟩
  | 75 => ⟨S8x2048x2048, .f32⟩
  | 76 => ⟨S8x2048x2048, .f32⟩
  | 77 => ⟨S8x2048x2048, .f32⟩
  | 78 => ⟨S8x2048x2048, .f32⟩
  | 79 => ⟨S8x2048x2048, .f32⟩
  | 80 => ⟨S8x2048x2048, .f32⟩
  | 81 => ⟨S8x2048x2048, .f32⟩
  | 82 => ⟨S_, .f32⟩
  | 83 => ⟨S8x2048x2048, .f32⟩
  | 84 => ⟨S8x2048x2048, .i1⟩
  | 85 => ⟨S_, .f32⟩
  | 86 => ⟨S8x2048x2048, .f32⟩
  | 87 => ⟨S8x2048x2048, .f32⟩
  | 88 => ⟨S_, .f32⟩
  | 89 => ⟨S8x2048x2048, .f32⟩
  | 90 => ⟨S8x2048x2048, .i1⟩
  | 91 => ⟨S_, .f32⟩
  | 92 => ⟨S8x2048x2048, .f32⟩
  | 93 => ⟨S8x2048x2048, .f32⟩
  | 94 => ⟨S8x2048x2048, .f32⟩
  | 95 => ⟨S8x2048x2048, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S8x2048x2048, .f32⟩
  | 104 => ⟨S8x2048x2048, .i1⟩
  | 105 => ⟨S_, .f32⟩
  | 106 => ⟨S8x2048x2048, .f32⟩
  | 107 => ⟨S8x2048x2048, .f32⟩
  | 108 => ⟨S8x2048x2048, .f32⟩
  | 109 => ⟨S8x2048x2048, .f32⟩
  | 110 => ⟨S8x2048x2048, .f32⟩
  | 111 => ⟨S_, .f32⟩
  | 112 => ⟨S8x2048x2048, .f32⟩
  | 113 => ⟨S8x2048x2048, .f32⟩
  | 114 => ⟨S8x2048x2048, .f32⟩
  | 115 => ⟨S_, .f32⟩
  | 116 => ⟨S_, .f32⟩
  | 117 => ⟨S8x2048x2048, .i1⟩
  | 118 => ⟨S8x2048x2048, .f32⟩
  | 119 => ⟨S8x2048x2048, .f32⟩
  | 120 => ⟨S_, .f32⟩
  | 121 => ⟨S8x2048x2048, .f32⟩
  | 122 => ⟨S_, .f32⟩
  | 123 => ⟨S_, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x512, .f32⟩

abbrev hbmTy0_1 (i : Nat) : BufTy := match i % 128 with
  | 0 => ⟨S_, .f32⟩
  | 1 => ⟨S_, .f32⟩
  | 2 => ⟨S8x2048x2048, .i1⟩
  | 3 => ⟨S8x2048x2048, .f32⟩
  | 4 => ⟨S8x2048x2048, .f32⟩
  | 5 => ⟨S_, .f32⟩
  | 6 => ⟨S8x2048x2048, .f32⟩
  | 7 => ⟨S8x64x2048, .f32⟩
  | 8 => ⟨S2048x8x64, .f32⟩
  | 9 => ⟨S2048x512, .f32⟩
  | 10 => ⟨S2048x8x64, .f32⟩
  | 11 => ⟨S8x64x2048, .f32⟩
  | 12 => ⟨S8x2048x2048, .f32⟩
  | 13 => ⟨S8x64x2048, .f32⟩
  | 14 => ⟨S2048x8x64, .f32⟩
  | 15 => ⟨S_, .f32⟩
  | 16 => ⟨S8x2048x2048, .f32⟩
  | 17 => ⟨S8x2048x2048, .f32⟩
  | 18 => ⟨S8x2048x2048, .f32⟩
  | 19 => ⟨S8x2048x2048, .f32⟩
  | 20 => ⟨S_, .f32⟩
  | 21 => ⟨S_, .f32⟩
  | 22 => ⟨S8x2048x2048, .f32⟩
  | 23 => ⟨S8x2048x2048, .f32⟩
  | 24 => ⟨S_, .f32⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .f32⟩
  | 38 => ⟨S8x2048x64, .f32⟩
  | 39 => ⟨S2048x8x64, .f32⟩
  | 40 => ⟨S8x2048x64, .f32⟩
  | 41 => ⟨S2048x8x64, .f32⟩
  | 42 => ⟨S2048x512, .f32⟩
  | 43 => ⟨S2048x512, .f32⟩
  | 44 => ⟨S2048x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v13_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v13_2 : Ref sig .tc := ⟨.hbm, 64, rfl⟩
abbrev main_v13_0 : Ref sig .tc := ⟨.hbm, 65, rfl⟩
abbrev main_v14 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1_0 : Ref sig .tc := ⟨.hbm, 81, rfl⟩
abbrev main_call1_call0_cst_0 : Ref sig .tc := ⟨.hbm, 82, rfl⟩
abbrev main_call1_call0_v13 : Ref sig .tc := ⟨.hbm, 83, rfl⟩
abbrev main_call1_call0_v14 : Ref sig .tc := ⟨.hbm, 84, rfl⟩
abbrev main_call1_call0_cst_1 : Ref sig .tc := ⟨.hbm, 85, rfl⟩
abbrev main_call1_call0_v15 : Ref sig .tc := ⟨.hbm, 86, rfl⟩
abbrev main_call1_call0_v16 : Ref sig .tc := ⟨.hbm, 87, rfl⟩
abbrev main_call1_call0_cst_2 : Ref sig .tc := ⟨.hbm, 88, rfl⟩
abbrev main_call1_call0_v17 : Ref sig .tc := ⟨.hbm, 89, rfl⟩
abbrev main_call1_call0_v18 : Ref sig .tc := ⟨.hbm, 90, rfl⟩
abbrev main_call1_call0_cst_3 : Ref sig .tc := ⟨.hbm, 91, rfl⟩
abbrev main_call1_call0_v19 : Ref sig .tc := ⟨.hbm, 92, rfl⟩
abbrev main_call1_call0_v20 : Ref sig .tc := ⟨.hbm, 93, rfl⟩
abbrev main_call1_call0_v21 : Ref sig .tc := ⟨.hbm, 94, rfl⟩
abbrev main_v15_1 : Ref sig .tc := ⟨.hbm, 95, rfl⟩
abbrev main_call1_call0_cst_4 : Ref sig .tc := ⟨.hbm, 96, rfl⟩
abbrev main_call1_call0_cst_5 : Ref sig .tc := ⟨.hbm, 97, rfl⟩
abbrev main_call1_call0_v23 : Ref sig .tc := ⟨.hbm, 98, rfl⟩
abbrev main_call1_call0_cst_6 : Ref sig .tc := ⟨.hbm, 99, rfl⟩
abbrev main_call1_call0_cst_7 : Ref sig .tc := ⟨.hbm, 100, rfl⟩
abbrev main_call1_call0_v24 : Ref sig .tc := ⟨.hbm, 101, rfl⟩
abbrev main_call1_call0_cst_8 : Ref sig .tc := ⟨.hbm, 102, rfl⟩
abbrev main_call1_call0_v25 : Ref sig .tc := ⟨.hbm, 103, rfl⟩
abbrev main_call1_call0_v26 : Ref sig .tc := ⟨.hbm, 104, rfl⟩
abbrev main_call1_call0_cst_9 : Ref sig .tc := ⟨.hbm, 105, rfl⟩
abbrev main_call1_call0_v27 : Ref sig .tc := ⟨.hbm, 106, rfl⟩
abbrev main_call1_call0_v28 : Ref sig .tc := ⟨.hbm, 107, rfl⟩
abbrev main_call1_call0_v29 : Ref sig .tc := ⟨.hbm, 108, rfl⟩
abbrev main_call1_call0_v30 : Ref sig .tc := ⟨.hbm, 109, rfl⟩
abbrev main_call1_call0_v31 : Ref sig .tc := ⟨.hbm, 110, rfl⟩
abbrev main_call1_call0_cst_10 : Ref sig .tc := ⟨.hbm, 111, rfl⟩
abbrev main_call1_call0_v32 : Ref sig .tc := ⟨.hbm, 112, rfl⟩
abbrev main_v15_2 : Ref sig .tc := ⟨.hbm, 113, rfl⟩
abbrev main_v15_0 : Ref sig .tc := ⟨.hbm, 114, rfl⟩
abbrev main_cst_0 : Ref sig .tc := ⟨.hbm, 115, rfl⟩
abbrev main_call2_v0 : Ref sig .tc := ⟨.hbm, 116, rfl⟩
abbrev main_v16_1 : Ref sig .tc := ⟨.hbm, 117, rfl⟩
abbrev main_call2_v2 : Ref sig .tc := ⟨.hbm, 118, rfl⟩
abbrev main_v16_0 : Ref sig .tc := ⟨.hbm, 119, rfl⟩
abbrev main_call2_cst : Ref sig .tc := ⟨.hbm, 120, rfl⟩
abbrev main_v16_2 : Ref sig .tc := ⟨.hbm, 121, rfl⟩
abbrev main_call3_cst : Ref sig .tc := ⟨.hbm, 122, rfl⟩
abbrev main_call3_v0 : Ref sig .tc := ⟨.hbm, 123, rfl⟩
abbrev main_v17 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_cst_1 : Ref sig .tc := ⟨.hbm, 128, rfl⟩
abbrev main_call4_v0 : Ref sig .tc := ⟨.hbm, 129, rfl⟩
abbrev main_v21_1 : Ref sig .tc := ⟨.hbm, 130, rfl⟩
abbrev main_call4_v2 : Ref sig .tc := ⟨.hbm, 131, rfl⟩
abbrev main_v21_0 : Ref sig .tc := ⟨.hbm, 132, rfl⟩
abbrev main_call4_cst : Ref sig .tc := ⟨.hbm, 133, rfl⟩
abbrev main_v21_2 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_call5_cst : Ref sig .tc := ⟨.hbm, 143, rfl⟩
abbrev main_call5_v0 : Ref sig .tc := ⟨.hbm, 144, rfl⟩
abbrev main_v30 : Ref sig .tc := ⟨.hbm, 145, rfl⟩
abbrev main_v31 : Ref sig .tc := ⟨.hbm, 146, rfl⟩
abbrev main_v32 : Ref sig .tc := ⟨.hbm, 147, rfl⟩
abbrev main_call6_cst : Ref sig .tc := ⟨.hbm, 148, rfl⟩
abbrev main_call6_v0 : Ref sig .tc := ⟨.hbm, 149, rfl⟩
abbrev main_v33 : Ref sig .tc := ⟨.hbm, 150, rfl⟩
abbrev main_v34 : Ref sig .tc := ⟨.hbm, 151, rfl⟩
abbrev main_call7_cst : Ref sig .tc := ⟨.hbm, 152, rfl⟩
abbrev main_call7_v0 : Ref sig .tc := ⟨.hbm, 153, rfl⟩
abbrev main_v35 : Ref sig .tc := ⟨.hbm, 154, rfl⟩
abbrev main_call8_v0 : Ref sig .tc := ⟨.hbm, 155, rfl⟩
abbrev main_call8_v1 : Ref sig .tc := ⟨.hbm, 156, rfl⟩
abbrev main_v36 : Ref sig .tc := ⟨.hbm, 157, rfl⟩
abbrev main_v37 : Ref sig .tc := ⟨.hbm, 158, rfl⟩
abbrev main_call9_v0 : Ref sig .tc := ⟨.hbm, 159, rfl⟩
abbrev main_call9_v1 : Ref sig .tc := ⟨.hbm, 160, rfl⟩
abbrev main_v38 : Ref sig .tc := ⟨.hbm, 161, rfl⟩
abbrev main_v39 : Ref sig .tc := ⟨.hbm, 162, rfl⟩
abbrev main_cst_2 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩

abbrev nD : Nat := 1
abbrev τ : Topo := Topo.v7x

variable {F : FTy → Type} [FloatOps F]
-- ==== FfnMid.lean ====
abbrev S2048x1024 : Shape := ⟨2, ![2048, 1024]⟩
abbrev S4x768x1024 : Shape := ⟨3, ![4, 768, 1024]⟩
abbrev S2048x3072 : Shape := ⟨2, ![2048, 3072]⟩
abbrev S512x1024 : Shape := ⟨2, ![512, 1024]⟩
abbrev S1x768x1024 : Shape := ⟨3, ![1, 768, 1024]⟩
abbrev S512x768 : Shape := ⟨2, ![512, 768]⟩
abbrev S768x1024 : Shape := ⟨2, ![768, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S4x768x1024, .bf16⟩
  | .hbm, ⟨2, _⟩ => ⟨S2048x3072, .bf16⟩
  | .hbm, ⟨3, _⟩ => ⟨S2048x3072, .bf16⟩
  | .hbm, ⟨4, _⟩ => ⟨S2048x3072, .bf16⟩
  | .hbm, ⟨5, _⟩ => ⟨S2048x3072, .bf16⟩
  | .local _ .vmem, ⟨0, _⟩ => ⟨S512x1024, .f32⟩
  | .local _ .vmem, ⟨1, _⟩ => ⟨S512x1024, .f32⟩
  | .local _ .vmem, ⟨2, _⟩ => ⟨S1x768x1024, .bf16⟩
  | .local _ .vmem, ⟨3, _⟩ => ⟨S1x768x1024, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnMidRefIdeal.lean ====
abbrev S2048x1024 : Shape := ⟨2, ![2048, 1024]⟩
abbrev S4x768x1024 : Shape := ⟨3, ![4, 768, 1024]⟩
abbrev S2048x3072 : Shape := ⟨2, ![2048, 3072]⟩
abbrev S3072x1024 : Shape := ⟨2, ![3072, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x768x1024, .bf16⟩
  | .hbm, ⟨2, _⟩ => ⟨S2048x3072, .bf16⟩
  | .hbm, ⟨3, _⟩ => ⟨S2048x3072, .bf16⟩
  | .hbm, ⟨4, _⟩ => ⟨S2048x3072, .f32⟩
  | .hbm, ⟨5, _⟩ => ⟨S2048x3072, .f32⟩
  | .hbm, ⟨6, _⟩ => ⟨S4x768x1024, .f32⟩
  | .hbm, ⟨7, _⟩ => ⟨S3072x1024, .f32⟩
  | .hbm, ⟨8, _⟩ => ⟨S2048x3072, .f32⟩
  | .hbm, ⟨9, _⟩ => ⟨S2048x3072, .f32⟩
  | .hbm, ⟨10, _⟩ => ⟨S_, .f32⟩
  | .hbm, ⟨11, _⟩ => ⟨S2048x3072, .f32⟩
  | .hbm, ⟨12, _⟩ => ⟨S2048x3072, .f32⟩
  | .hbm, ⟨13, _⟩ => ⟨S_, .f32⟩
  | .hbm, ⟨14, _⟩ => ⟨S2048x3072, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S2048x1024, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S2048x3072, .bf16⟩
  | .hbm, ⟨31, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== FfnDh.lean ====
abbrev S2048x3072 : Shape := ⟨2, ![2048, 3072]⟩
abbrev S4x768x1024 : Shape := ⟨3, ![4, 768, 1024]⟩
abbrev S2048x1024 : Shape := ⟨2, ![2048, 1024]⟩
abbrev S512x3072 : Shape := ⟨2, ![512, 3072]⟩
abbrev S512x1024 : Shape := ⟨2, ![512, 1024]⟩
abbrev S512x768 : Shape := ⟨2, ![512, 768]⟩
abbrev S1x768x1024 : Shape := ⟨3, ![1, 768, 1024]⟩
abbrev S768x1024 : Shape := ⟨2, ![768, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S4x768x1024, .bf16⟩
  | .hbm, ⟨3, _⟩ => ⟨S4x768x1024, .bf16⟩
  | .hbm, ⟨4, _⟩ => ⟨S2048x1024, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S4x768x1024, .bf16⟩
  | .local _ .vmem, ⟨5, _⟩ => ⟨S4x768x1024, .bf16⟩
  | .local _ .vmem, ⟨6, _⟩ => ⟨S512x1024, .f32⟩
  | .local _ .vmem, ⟨7, _⟩ => ⟨S512x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnDhRefIdeal.lean ====
abbrev S2048x3072 : Shape := ⟨2, ![2048, 3072]⟩
abbrev S4x768x1024 : Shape := ⟨3, ![4, 768, 1024]⟩
abbrev S_ : Shape := ⟨0, ![]⟩
abbrev S2048x1024 : Shape := ⟨2, ![2048, 1024]⟩
abbrev S3072x1024 : Shape := ⟨2, ![3072, 1024]⟩
abbrev S1024x3072 : Shape := ⟨2, ![1024, 3072]⟩

abbrev nBuf : Space → Nat
  | .hbm => 19
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S4x768x1024, .bf16⟩
  | .hbm, ⟨3, _⟩ => ⟨S4x768x1024, .bf16⟩
  | .hbm, ⟨4, _⟩ => ⟨S_, .f32⟩
  | .hbm, ⟨5, _⟩ => ⟨S2048x1024, .f32⟩
  | .hbm, ⟨6, _⟩ => ⟨S4x768x1024, .f32⟩
  | .hbm, ⟨7, _⟩ => ⟨S3072x1024, .f32⟩
  | .hbm, ⟨8, _⟩ => ⟨S1024x3072, .f32⟩
  | .hbm, ⟨9, _⟩ => ⟨S4x768x1024, .f32⟩
  | .hbm, ⟨10, _⟩ => ⟨S3072x1024, .f32⟩
  | .hbm, ⟨11, _⟩ => ⟨S1024x3072, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S2048x3072, .f32⟩
  | .hbm, ⟨16, _⟩ => ⟨S2048x1024, .f32⟩
  | .hbm, ⟨17, _⟩ => ⟨S2048x1024, .f32⟩
  | .hbm, ⟨18, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FfnDw.lean ====
abbrev S2048x1024 : Shape := ⟨2, ![2048, 1024]⟩
abbrev S2048x3072 : Shape := ⟨2, ![2048, 3072]⟩
abbrev S4x768x1024 : Shape := ⟨3, ![4, 768, 1024]⟩
abbrev S2048x512 : Shape := ⟨2, ![2048, 512]⟩
abbrev S2048x768 : Shape := ⟨2, ![2048, 768]⟩
abbrev S1x768x512 : Shape := ⟨3, ![1, 768, 512]⟩
abbrev S768x512 : Shape := ⟨2, ![768, 512]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S2048x3072, .bf16⟩
  | .hbm, ⟨3, _⟩ => ⟨S4x768x1024, .bf16⟩
  | .hbm, ⟨4, _⟩ => ⟨S4x768x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .bf16⟩
  | .local _ .vmem, ⟨5, _⟩ => ⟨S2048x768, .bf16⟩
  | .local _ .vmem, ⟨6, _⟩ => ⟨S1x768x512, .bf16⟩
  | .local _ .vmem, ⟨7, _⟩ => ⟨S1x768x512, .bf16⟩
  | .local _ .vmem, ⟨8, _⟩ => ⟨S1x768x512, .bf16⟩
  | .local _ .vmem, ⟨9, _⟩ => ⟨S1x768x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnDwRefIdeal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩
abbrev S4x768x1024 : Shape := ⟨3, ![4, 768, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S2048x3072, .bf16⟩
  | .hbm, ⟨3, _⟩ => ⟨S_, .f32⟩
  | .hbm, ⟨4, _⟩ => ⟨S1024x3072, .f32⟩
  | .hbm, ⟨5, _⟩ => ⟨S2048x1024, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S2048x3072, .f32⟩
  | .hbm, ⟨10, _⟩ => ⟨S3072x1024, .f32⟩
  | .hbm, ⟨11, _⟩ => ⟨S1024x3072, .f32⟩
  | .hbm, ⟨12, _⟩ => ⟨S3072x1024, .f32⟩
  | .hbm, ⟨13, _⟩ => ⟨S1024x3072, .f32⟩
  | .hbm, ⟨14, _⟩ => ⟨S3072x1024, .f32⟩
  | .hbm, ⟨15, _⟩ => ⟨S4x768x1024, .f32⟩
  | .hbm, ⟨16, _⟩ => ⟨S4x768x1024, .bf16⟩
  | .hbm, ⟨17, _⟩ => ⟨S3072x1024, .f32⟩
  | .hbm, ⟨18, _⟩ => ⟨S4x768x1024, .f32⟩
  | .hbm, ⟨19, _⟩ => ⟨S4x768x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== FfnDownDw.lean ====
abbrev S2048x3072 : Shape := ⟨2, ![2048, 3072]⟩
abbrev S2048x1024 : Shape := ⟨2, ![2048, 1024]⟩
abbrev S3072x1024 : Shape := ⟨2, ![3072, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .f32⟩
  | .hbm, ⟨2, _⟩ => ⟨S3072x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S256x1024, .bf16⟩
  | .local _ .vmem, ⟨4, _⟩ => ⟨S256x1024, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownDwRefIdeal.lean ====
abbrev S2048x3072 : Shape := ⟨2, ![2048, 3072]⟩
abbrev S2048x1024 : Shape := ⟨2, ![2048, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .f32⟩
  | .hbm, ⟨2, _⟩ => ⟨S_, .f32⟩
  | .hbm, ⟨3, _⟩ => ⟨S3072x1024, .f32⟩
  | .hbm, ⟨4, _⟩ => ⟨S2048x3072, .f32⟩
  | .hbm, ⟨5, _⟩ => ⟨S2048x1024, .f32⟩
  | .hbm, ⟨6, _⟩ => ⟨S1024x3072, .f32⟩
  | .hbm, ⟨7, _⟩ => ⟨S3072x1024, .f32⟩
  | .hbm, ⟨8, _⟩ => ⟨S3072x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnIn.lean ====
abbrev S2048x1024 : Shape := ⟨2, ![2048, 1024]⟩
abbrev S4x768x1024 : Shape := ⟨3, ![4, 768, 1024]⟩
abbrev S2048x3072 : Shape := ⟨2, ![2048, 3072]⟩
abbrev S512x1024 : Shape := ⟨2, ![512, 1024]⟩
abbrev S512x3072 : Shape := ⟨2, ![512, 3072]⟩
abbrev S1x768x1024 : Shape := ⟨3, ![1, 768, 1024]⟩
abbrev S768x1024 : Shape := ⟨2, ![768, 1024]⟩
abbrev S512x768 : Shape := ⟨2, ![512, 768]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S4x768x1024, .bf16⟩
  | .hbm, ⟨2, _⟩ => ⟨S4x768x1024, .bf16⟩
  | .hbm, ⟨3, _⟩ => ⟨S2048x3072, .bf16⟩
  | .hbm, ⟨4, _⟩ => ⟨S2048x3072, .bf16⟩
  | .hbm, ⟨5, _⟩ => ⟨S2048x3072, .bf16⟩
  | .local _ .vmem, ⟨0, _⟩ => ⟨S512x1024, .bf16⟩
  | .local _ .vmem, ⟨1, _⟩ => ⟨S512x1024, .bf16⟩
  | .local _ .vmem, ⟨2, _⟩ => ⟨S4x768x1024, .bf16⟩
  | .local _ .vmem, ⟨3, _⟩ => ⟨S4x768x1024, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x3072, .bf16⟩
  | .local _ .vmem, ⟨9, _⟩ => ⟨S512x3072, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnInRefIdeal.lean ====
abbrev S2048x1024 : Shape := ⟨2, ![2048, 1024]⟩
abbrev S4x768x1024 : Shape := ⟨3, ![4, 768, 1024]⟩
abbrev S3072x1024 : Shape := ⟨2, ![3072, 1024]⟩
abbrev S1024x3072 : Shape := ⟨2, ![1024, 3072]⟩
abbrev S2048x3072 : Shape := ⟨2, ![2048, 3072]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x768x1024, .bf16⟩
  | .hbm, ⟨2, _⟩ => ⟨S4x768x1024, .bf16⟩
  | .hbm, ⟨3, _⟩ => ⟨S2048x1024, .f32⟩
  | .hbm, ⟨4, _⟩ => ⟨S4x768x1024, .f32⟩
  | .hbm, ⟨5, _⟩ => ⟨S3072x1024, .f32⟩
  | .hbm, ⟨6, _⟩ => ⟨S1024x3072, .f32⟩
  | .hbm, ⟨7, _⟩ => ⟨S4x768x1024, .f32⟩
  | .hbm, ⟨8, _⟩ => ⟨S3072x1024, .f32⟩
  | .hbm, ⟨9, _⟩ => ⟨S1024x3072, .f32⟩
  | .hbm, ⟨10, _⟩ => ⟨S2048x3072, .f32⟩
  | .hbm, ⟨11, _⟩ => ⟨S2048x3072, .f32⟩
  | .hbm, ⟨12, _⟩ => ⟨S2048x3072, .bf16⟩
  | .hbm, ⟨13, _⟩ => ⟨S2048x3072, .bf16⟩
  | .hbm, ⟨14, _⟩ => ⟨S2048x3072, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== FfnDown.lean ====
abbrev S2048x3072 : Shape := ⟨2, ![2048, 3072]⟩
abbrev S4x768x1024 : Shape := ⟨3, ![4, 768, 1024]⟩
abbrev S3072x1024 : Shape := ⟨2, ![3072, 1024]⟩
abbrev S2048x1024 : Shape := ⟨2, ![2048, 1024]⟩
abbrev S512x3072 : Shape := ⟨2, ![512, 3072]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x3072, .bf16⟩
  | .hbm, ⟨1, _⟩ => ⟨S4x768x1024, .bf16⟩
  | .hbm, ⟨2, _⟩ => ⟨S3072x1024, .bf16⟩
  | .hbm, ⟨3, _⟩ => ⟨S2048x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownRefIdeal.lean ====
abbrev S2048x3072 : Shape := ⟨2, ![2048, 3072]⟩
abbrev S4x768x1024 : Shape := ⟨3, ![4, 768, 1024]⟩
abbrev S3072x1024 : Shape := ⟨2, ![3072, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S4x768x1024, .bf16⟩
  | .hbm, ⟨2, _⟩ => ⟨S2048x3072, .f32⟩
  | .hbm, ⟨3, _⟩ => ⟨S4x768x1024, .f32⟩
  | .hbm, ⟨4, _⟩ => ⟨S3072x1024, .f32⟩
  | .hbm, ⟨5, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProj.lean ====
abbrev S2048x1024 : Shape := ⟨2, ![2048, 1024]⟩
abbrev S2560x1024 : Shape := ⟨2, ![2560, 1024]⟩
abbrev S2048x512 : Shape := ⟨2, ![2048, 512]⟩
abbrev S2048x384 : Shape := ⟨2, ![2048, 384]⟩
abbrev S2048x256 : Shape := ⟨2, ![2048, 256]⟩
abbrev S2048x128 : Shape := ⟨2, ![2048, 128]⟩
abbrev S512x1024 : Shape := ⟨2, ![512, 1024]⟩
abbrev S512x512 : Shape := ⟨2, ![512, 512]⟩
abbrev S512x384 : Shape := ⟨2, ![512, 384]⟩
abbrev S512x256 : Shape := ⟨2, ![512, 256]⟩
abbrev S512x128 : Shape := ⟨2, ![512, 128]⟩
abbrev S512x2560 : Shape := ⟨2, ![512, 2560]⟩

abbrev nBuf : Space → Nat
  | .hbm => 9
  | .vmem => 17
  | .smem => 0
  | _ => 0

abbrev bufTy : (tb : Table) → Fin (tcTables nBuf tb) → BufTy
  | .hbm, ⟨0, _⟩ => ⟨S2048x1024, .bf16⟩
  | .hbm, ⟨1, _⟩ => ⟨S2560x1024, .bf16⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x384, .f32⟩
  | .hbm, ⟨6, _⟩ => ⟨S2048x256, .f32⟩
  | .hbm, ⟨7, _⟩ => ⟨S2048x128, .f32⟩
  | .hbm, ⟨8, _⟩ => ⟨S2048x128, .f32⟩
  | .local _ .vmem, ⟨0, _⟩ => ⟨S512x1024, .bf16⟩
  | .local _ .vmem, ⟨1, _⟩ => ⟨S512x1024, .bf16⟩
  | .local _ .vmem, ⟨2, _⟩ => ⟨S2560x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x384, .f32⟩
  | .local _ .vmem, ⟨10, _⟩ => ⟨S512x384, .f32⟩
  | .local _ .vmem, ⟨11, _⟩ => ⟨S512x256, .f32⟩
  | .local _ .vmem, ⟨12, _⟩ => ⟨S512x256, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S2048x1024 : Shape := ⟨2, ![2048, 1024]⟩
abbrev S2560x1024 : Shape := ⟨2, ![2560, 1024]⟩
abbrev S1024x2560 : Shape := ⟨2, ![1024, 2560]⟩
abbrev S2048x2560 : Shape := ⟨2, ![2048, 2560]⟩
abbrev S2048x512 : Shape := ⟨2, ![2048, 512]⟩
abbrev S2048x384 : Shape := ⟨2, ![2048, 384]⟩
abbrev S2048x256 : Shape := ⟨2, ![2048, 256]⟩
abbrev S2048x128 : Shape := ⟨2, ![2048, 128]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2560x1024, .bf16⟩
  | .hbm, ⟨2, _⟩ => ⟨S2048x1024, .f32⟩
  | .hbm, ⟨3, _⟩ => ⟨S2560x1024, .f32⟩
  | .hbm, ⟨4, _⟩ => ⟨S1024x2560, .f32⟩
  | .hbm, ⟨5, _⟩ => ⟨S2048x2560, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x384, .f32⟩
  | .hbm, ⟨10, _⟩ => ⟨S2048x256, .f32⟩
  | .hbm, ⟨11, _⟩ => ⟨S2048x128, .f32⟩
  | .hbm, ⟨12, _⟩ => ⟨S2048x128, .f32⟩
  | .hbm, ⟨13, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== InProjDx.lean ====
abbrev S2048x512 : Shape := ⟨2, ![2048, 512]⟩
abbrev S2048x384 : Shape := ⟨2, ![2048, 384]⟩
abbrev S2048x256 : Shape := ⟨2, ![2048, 256]⟩
abbrev S2048x128 : Shape := ⟨2, ![2048, 128]⟩
abbrev S2560x1024 : Shape := ⟨2, ![2560, 1024]⟩
abbrev S2048x1024 : Shape := ⟨2, ![2048, 1024]⟩
abbrev S512x512 : Shape := ⟨2, ![512, 512]⟩
abbrev S512x384 : Shape := ⟨2, ![512, 384]⟩
abbrev S512x256 : Shape := ⟨2, ![512, 256]⟩
abbrev S512x128 : Shape := ⟨2, ![512, 128]⟩
abbrev S512x1024 : Shape := ⟨2, ![512, 1024]⟩
abbrev S384x1024 : Shape := ⟨2, ![384, 1024]⟩
abbrev S256x1024 : Shape := ⟨2, ![256, 1024]⟩
abbrev S128x1024 : Shape := ⟨2, ![128, 1024]⟩

abbrev nBuf : Space → Nat
  | .hbm => 9
  | .vmem => 17
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x384, .bf16⟩
  | .hbm, ⟨4, _⟩ => ⟨S2048x256, .bf16⟩
  | .hbm, ⟨5, _⟩ => ⟨S2048x128, .bf16⟩
  | .hbm, ⟨6, _⟩ => ⟨S2048x128, .bf16⟩
  | .hbm, ⟨7, _⟩ => ⟨S2560x1024, .bf16⟩
  | .hbm, ⟨8, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x384, .bf16⟩
  | .local _ .vmem, ⟨7, _⟩ => ⟨S512x384, .bf16⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S2560x1024, .bf16⟩
  | .local _ .vmem, ⟨15, _⟩ => ⟨S512x1024, .f32⟩
  | .local _ .vmem, ⟨16, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2560x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjDxRefIdeal.lean ====
abbrev S2048x512 : Shape := ⟨2, ![2048, 512]⟩
abbrev S2048x384 : Shape := ⟨2, ![2048, 384]⟩
abbrev S2048x256 : Shape := ⟨2, ![2048, 256]⟩
abbrev S2048x128 : Shape := ⟨2, ![2048, 128]⟩
abbrev S2560x1024 : Shape := ⟨2, ![2560, 1024]⟩
abbrev S_ : Shape := ⟨0, ![]⟩
abbrev S2048x1024 : Shape := ⟨2, ![2048, 1024]⟩
abbrev S1024x2560 : Shape := ⟨2, ![1024, 2560]⟩
abbrev S2048x2560 : Shape := ⟨2, ![2048, 2560]⟩

abbrev nBuf : Space → Nat
  | .hbm => 29
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x384, .bf16⟩
  | .hbm, ⟨4, _⟩ => ⟨S2048x256, .bf16⟩
  | .hbm, ⟨5, _⟩ => ⟨S2048x128, .bf16⟩
  | .hbm, ⟨6, _⟩ => ⟨S2048x128, .bf16⟩
  | .hbm, ⟨7, _⟩ => ⟨S2560x1024, .bf16⟩
  | .hbm, ⟨8, _⟩ => ⟨S2048x384, .f32⟩
  | .hbm, ⟨9, _⟩ => ⟨S2048x256, .f32⟩
  | .hbm, ⟨10, _⟩ => ⟨S2048x128, .f32⟩
  | .hbm, ⟨11, _⟩ => ⟨S2048x128, .f32⟩
  | .hbm, ⟨12, _⟩ => ⟨S2560x1024, .f32⟩
  | .hbm, ⟨13, _⟩ => ⟨S_, .f32⟩
  | .hbm, ⟨14, _⟩ => ⟨S2048x1024, .f32⟩
  | .hbm, ⟨15, _⟩ => ⟨S1024x2560, .f32⟩
  | .hbm, ⟨16, _⟩ => ⟨S2048x2560, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x384, .f32⟩
  | .hbm, ⟨21, _⟩ => ⟨S2048x256, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S_, .f32⟩
  | .hbm, ⟨26, _⟩ => ⟨S2048x128, .f32⟩
  | .hbm, ⟨27, _⟩ => ⟨S2048x2560, .f32⟩
  | .hbm, ⟨28, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== InProjDw.lean ====
abbrev S2048x1024 : Shape := ⟨2, ![2048, 1024]⟩
abbrev S2048x512 : Shape := ⟨2, ![2048, 512]⟩
abbrev S2048x384 : Shape := ⟨2, ![2048, 384]⟩
abbrev S2048x256 : Shape := ⟨2, ![2048, 256]⟩
abbrev S2048x128 : Shape := ⟨2, ![2048, 128]⟩
abbrev S_ : Shape := ⟨0, ![]⟩
abbrev S2560x1024 : Shape := ⟨2, ![2560, 1024]⟩
abbrev S2560x512 : Shape := ⟨2, ![2560, 512]⟩
abbrev S512x512 : Shape := ⟨2, ![512, 512]⟩
abbrev S384x512 : Shape := ⟨2, ![384, 512]⟩
abbrev S256x512 : Shape := ⟨2, ![256, 512]⟩
abbrev S128x512 : Shape := ⟨2, ![128, 512]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x384, .bf16⟩
  | .hbm, ⟨5, _⟩ => ⟨S2048x256, .bf16⟩
  | .hbm, ⟨6, _⟩ => ⟨S2048x128, .bf16⟩
  | .hbm, ⟨7, _⟩ => ⟨S2048x128, .bf16⟩
  | .hbm, ⟨8, _⟩ => ⟨S_, .bf16⟩
  | .hbm, ⟨9, _⟩ => ⟨S2560x1024, .bf16⟩
  | .hbm, ⟨10, _⟩ => ⟨S2560x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x384, .bf16⟩
  | .local _ .vmem, ⟨6, _⟩ => ⟨S2048x256, .bf16⟩
  | .local _ .vmem, ⟨7, _⟩ => ⟨S2048x128, .bf16⟩
  | .local _ .vmem, ⟨8, _⟩ => ⟨S2048x128, .bf16⟩
  | .local _ .vmem, ⟨9, _⟩ => ⟨S2560x512, .bf16⟩
  | .local _ .vmem, ⟨10, _⟩ => ⟨S2560x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2560x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjDwRefIdeal.lean ====
abbrev S2048x1024 : Shape := ⟨2, ![2048, 1024]⟩
abbrev S2048x512 : Shape := ⟨2, ![2048, 512]⟩
abbrev S2048x384 : Shape := ⟨2, ![2048, 384]⟩
abbrev S2048x256 : Shape := ⟨2, ![2048, 256]⟩
abbrev S2048x128 : Shape := ⟨2, ![2048, 128]⟩
abbrev S_ : Shape := ⟨0, ![]⟩
abbrev S2560x1024 : Shape := ⟨2, ![2560, 1024]⟩
abbrev S1024x2560 : Shape := ⟨2, ![1024, 2560]⟩
abbrev S2048x2560 : Shape := ⟨2, ![2048, 2560]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x384, .bf16⟩
  | .hbm, ⟨5, _⟩ => ⟨S2048x256, .bf16⟩
  | .hbm, ⟨6, _⟩ => ⟨S2048x128, .bf16⟩
  | .hbm, ⟨7, _⟩ => ⟨S2048x128, .bf16⟩
  | .hbm, ⟨8, _⟩ => ⟨S2048x1024, .f32⟩
  | .hbm, ⟨9, _⟩ => ⟨S2048x384, .f32⟩
  | .hbm, ⟨10, _⟩ => ⟨S2048x256, .f32⟩
  | .hbm, ⟨11, _⟩ => ⟨S2048x128, .f32⟩
  | .hbm, ⟨12, _⟩ => ⟨S2048x128, .f32⟩
  | .hbm, ⟨13, _⟩ => ⟨S_, .f32⟩
  | .hbm, ⟨14, _⟩ => ⟨S2560x1024, .f32⟩
  | .hbm, ⟨15, _⟩ => ⟨S1024x2560, .f32⟩
  | .hbm, ⟨16, _⟩ => ⟨S2048x2560, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x384, .f32⟩
  | .hbm, ⟨21, _⟩ => ⟨S2048x256, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S_, .f32⟩
  | .hbm, ⟨26, _⟩ => ⟨S2048x128, .f32⟩
  | .hbm, ⟨27, _⟩ => ⟨S2048x2560, .f32⟩
  | .hbm, ⟨28, _⟩ => ⟨S2560x1024, .f32⟩
  | .hbm, ⟨29, _⟩ => ⟨S1024x2560, .f32⟩
  | .hbm, ⟨30, _⟩ => ⟨S2560x1024, .f32⟩
  | .hbm, ⟨31, _⟩ => ⟨S2560x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== OutProj.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProjDx.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProjDw.lean ====
abbrev S2048x1024 : Shape := ⟨2, ![2048, 1024]⟩
abbrev S1024x1024 : Shape := ⟨2, ![1024, 1024]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QUp.lean ====
abbrev S2048x384 : Shape := ⟨2, ![2048, 384]⟩
abbrev S384x1536 : Shape := ⟨2, ![384, 1536]⟩
abbrev S2048x1536 : Shape := ⟨2, ![2048, 1536]⟩
abbrev S512x384 : Shape := ⟨2, ![512, 384]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S2048x384, .bf16⟩
  | .hbm, ⟨1, _⟩ => ⟨S384x1536, .bf16⟩
  | .hbm, ⟨2, _⟩ => ⟨S2048x1536, .f32⟩
  | .local _ .vmem, ⟨0, _⟩ => ⟨S512x384, .bf16⟩
  | .local _ .vmem, ⟨1, _⟩ => ⟨S512x384, .bf16⟩
  | .local _ .vmem, ⟨2, _⟩ => ⟨S384x1536, .bf16⟩
  | .local _ .vmem, ⟨3, _⟩ => ⟨S512x1536, .f32⟩
  | .local _ .vmem, ⟨4, _⟩ => ⟨S512x1536, .f32⟩
  | _, _ => ⟨S2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S384x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QUpRefIdeal.lean ====
abbrev S2048x384 : Shape := ⟨2, ![2048, 384]⟩
abbrev S384x1536 : Shape := ⟨2, ![384, 1536]⟩
abbrev S2048x1536 : Shape := ⟨2, ![2048, 1536]⟩

abbrev nBuf : Space → Nat
  | .hbm => 5
  | .vmem => 0
  | .smem => 0
  | _ => 0

abbrev bufTy : (tb : Table) → Fin (tcTables nBuf tb) → BufTy
  | .hbm, ⟨0, _⟩ => ⟨S2048x384, .bf16⟩
  | .hbm, ⟨1, _⟩ => ⟨S384x1536, .bf16⟩
  | .hbm, ⟨2, _⟩ => ⟨S2048x384, .f32⟩
  | .hbm, ⟨3, _⟩ => ⟨S384x1536, .f32⟩
  | .hbm, ⟨4, _⟩ => ⟨S2048x1536, .f32⟩
  | _, _ => ⟨S2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QUpDx.lean ====
abbrev S2048x1536 : Shape := ⟨2, ![2048, 1536]⟩
abbrev S384x1536 : Shape := ⟨2, ![384, 1536]⟩
abbrev S2048x384 : Shape := ⟨2, ![2048, 384]⟩
abbrev S512x1536 : Shape := ⟨2, ![512, 1536]⟩
abbrev S512x384 : Shape := ⟨2, ![512, 384]⟩

abbrev nBuf : Space → Nat
  | .hbm => 3
  | .vmem => 5
  | .smem => 0
  | _ => 0

abbrev bufTy : (tb : Table) → Fin (tcTables nBuf tb) → BufTy
  | .hbm, ⟨0, _⟩ => ⟨S2048x1536, .bf16⟩
  | .hbm, ⟨1, _⟩ => ⟨S384x1536, .bf16⟩
  | .hbm, ⟨2, _⟩ => ⟨S2048x384, .f32⟩
  | .local _ .vmem, ⟨0, _⟩ => ⟨S512x1536, .bf16⟩
  | .local _ .vmem, ⟨1, _⟩ => ⟨S512x1536, .bf16⟩
  | .local _ .vmem, ⟨2, _⟩ => ⟨S384x1536, .bf16⟩
  | .local _ .vmem, ⟨3, _⟩ => ⟨S512x384, .f32⟩
  | .local _ .vmem, ⟨4, _⟩ => ⟨S512x384, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S384x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QUpDxRefIdeal.lean ====
abbrev S2048x1536 : Shape := ⟨2, ![2048, 1536]⟩
abbrev S384x1536 : Shape := ⟨2, ![384, 1536]⟩
abbrev S_ : Shape := ⟨0, ![]⟩
abbrev S2048x384 : Shape := ⟨2, ![2048, 384]⟩

abbrev nBuf : Space → Nat
  | .hbm => 8
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S384x1536, .bf16⟩
  | .hbm, ⟨2, _⟩ => ⟨S2048x1536, .f32⟩
  | .hbm, ⟨3, _⟩ => ⟨S384x1536, .f32⟩
  | .hbm, ⟨4, _⟩ => ⟨S_, .f32⟩
  | .hbm, ⟨5, _⟩ => ⟨S2048x384, .f32⟩
  | .hbm, ⟨6, _⟩ => ⟨S2048x1536, .f32⟩
  | .hbm, ⟨7, _⟩ => ⟨S2048x384, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QUpDw.lean ====
abbrev S2048x384 : Shape := ⟨2, ![2048, 384]⟩
abbrev S2048x1536 : Shape := ⟨2, ![2048, 1536]⟩
abbrev S384x1536 : Shape := ⟨2, ![384, 1536]⟩
abbrev S2048x768 : Shape := ⟨2, ![2048, 768]⟩
abbrev S384x768 : Shape := ⟨2, ![384, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x384, .bf16⟩
  | .hbm, ⟨1, _⟩ => ⟨S2048x1536, .bf16⟩
  | .hbm, ⟨2, _⟩ => ⟨S384x1536, .bf16⟩
  | .local _ .vmem, ⟨0, _⟩ => ⟨S2048x384, .bf16⟩
  | .local _ .vmem, ⟨1, _⟩ => ⟨S2048x768, .bf16⟩
  | .local _ .vmem, ⟨2, _⟩ => ⟨S2048x768, .bf16⟩
  | .local _ .vmem, ⟨3, _⟩ => ⟨S384x768, .bf16⟩
  | .local _ .vmem, ⟨4, _⟩ => ⟨S384x768, .bf16⟩
  | _, _ => ⟨S2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QUpDwRefIdeal.lean ====
abbrev S2048x384 : Shape := ⟨2, ![2048, 384]⟩
abbrev S2048x1536 : Shape := ⟨2, ![2048, 1536]⟩
abbrev S_ : Shape := ⟨0, ![]⟩
abbrev S384x1536 : Shape := ⟨2, ![384, 1536]⟩
abbrev S1536x384 : Shape := ⟨2, ![1536, 384]⟩

abbrev nBuf : Space → Nat
  | .hbm => 10
  | .vmem => 0
  | .smem => 0
  | _ => 0

abbrev bufTy : (tb : Table) → Fin (tcTables nBuf tb) → BufTy
  | .hbm, ⟨0, _⟩ => ⟨S2048x384, .bf16⟩
  | .hbm, ⟨1, _⟩ => ⟨S2048x1536, .bf16⟩
  | .hbm, ⟨2, _⟩ => ⟨S2048x384, .f32⟩
  | .hbm, ⟨3, _⟩ => ⟨S2048x1536, .f32⟩
  | .hbm, ⟨4, _⟩ => ⟨S_, .f32⟩
  | .hbm, ⟨5, _⟩ => ⟨S384x1536, .f32⟩
  | .hbm, ⟨6, _⟩ => ⟨S2048x1536, .f32⟩
  | .hbm, ⟨7, _⟩ => ⟨S1536x384, .f32⟩
  | .hbm, ⟨8, _⟩ => ⟨S384x1536, .f32⟩
  | .hbm, ⟨9, _⟩ => ⟨S384x1536, .bf16⟩
  | _, _ => ⟨S2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvUp.lean ====
abbrev S2048x256 : Shape := ⟨2, ![2048, 256]⟩
abbrev S256x1024 : Shape := ⟨2, ![256, 1024]⟩
abbrev S2048x512 : Shape := ⟨2, ![2048, 512]⟩
abbrev S512x256 : Shape := ⟨2, ![512, 256]⟩
abbrev S512x512 : Shape := ⟨2, ![512, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x256, .bf16⟩
  | .hbm, ⟨1, _⟩ => ⟨S256x1024, .bf16⟩
  | .hbm, ⟨2, _⟩ => ⟨S2048x512, .f32⟩
  | .hbm, ⟨3, _⟩ => ⟨S2048x512, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KvUpRefIdeal.lean ====
abbrev S2048x256 : Shape := ⟨2, ![2048, 256]⟩
abbrev S256x1024 : Shape := ⟨2, ![256, 1024]⟩
abbrev S2048x1024 : Shape := ⟨2, ![2048, 1024]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x1024, .bf16⟩
  | .hbm, ⟨2, _⟩ => ⟨S2048x256, .f32⟩
  | .hbm, ⟨3, _⟩ => ⟨S256x1024, .f32⟩
  | .hbm, ⟨4, _⟩ => ⟨S2048x1024, .f32⟩
  | .hbm, ⟨5, _⟩ => ⟨S2048x512, .f32⟩
  | .hbm, ⟨6, _⟩ => ⟨S2048x512, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KvUpDx.lean ====
abbrev S2048x512 : Shape := ⟨2, ![2048, 512]⟩
abbrev S256x1024 : Shape := ⟨2, ![256, 1024]⟩
abbrev S2048x256 : Shape := ⟨2, ![2048, 256]⟩
abbrev S512x512 : Shape := ⟨2, ![512, 512]⟩
abbrev S512x256 : Shape := ⟨2, ![512, 256]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S2048x512, .f32⟩
  | .hbm, ⟨2, _⟩ => ⟨S256x1024, .bf16⟩
  | .hbm, ⟨3, _⟩ => ⟨S2048x256, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S256x1024, .bf16⟩
  | .local _ .vmem, ⟨5, _⟩ => ⟨S512x256, .f32⟩
  | .local _ .vmem, ⟨6, _⟩ => ⟨S512x256, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KvUpDxRefIdeal.lean ====
abbrev S2048x512 : Shape := ⟨2, ![2048, 512]⟩
abbrev S256x1024 : Shape := ⟨2, ![256, 1024]⟩
abbrev S_ : Shape := ⟨0, ![]⟩
abbrev S2048x256 : Shape := ⟨2, ![2048, 256]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .f32⟩
  | .hbm, ⟨2, _⟩ => ⟨S256x1024, .bf16⟩
  | .hbm, ⟨3, _⟩ => ⟨S2048x512, .f32⟩
  | .hbm, ⟨4, _⟩ => ⟨S256x1024, .f32⟩
  | .hbm, ⟨5, _⟩ => ⟨S_, .f32⟩
  | .hbm, ⟨6, _⟩ => ⟨S2048x256, .f32⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x1024, .f32⟩
  | .hbm, ⟨11, _⟩ => ⟨S2048x256, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KvUpDw.lean ====
abbrev S2048x256 : Shape := ⟨2, ![2048, 256]⟩
abbrev S2048x512 : Shape := ⟨2, ![2048, 512]⟩
abbrev S_ : Shape := ⟨0, ![]⟩
abbrev S256x1024 : Shape := ⟨2, ![256, 1024]⟩
abbrev S256x512 : Shape := ⟨2, ![256, 512]⟩

abbrev nBuf : Space → Nat
  | .hbm => 6
  | .vmem => 4
  | .smem => 0
  | _ => 0

abbrev bufTy : (tb : Table) → Fin (tcTables nBuf tb) → BufTy
  | .hbm, ⟨0, _⟩ => ⟨S2048x256, .bf16⟩
  | .hbm, ⟨1, _⟩ => ⟨S2048x512, .bf16⟩
  | .hbm, ⟨2, _⟩ => ⟨S2048x512, .f32⟩
  | .hbm, ⟨3, _⟩ => ⟨S_, .bf16⟩
  | .hbm, ⟨4, _⟩ => ⟨S256x1024, .bf16⟩
  | .hbm, ⟨5, _⟩ => ⟨S256x1024, .bf16⟩
  | .local _ .vmem, ⟨0, _⟩ => ⟨S2048x256, .bf16⟩
  | .local _ .vmem, ⟨1, _⟩ => ⟨S2048x512, .bf16⟩
  | .local _ .vmem, ⟨2, _⟩ => ⟨S2048x512, .f32⟩
  | .local _ .vmem, ⟨3, _⟩ => ⟨S256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== KvUpDwRefIdeal.lean ====
abbrev S2048x256 : Shape := ⟨2, ![2048, 256]⟩
abbrev S2048x512 : Shape := ⟨2, ![2048, 512]⟩
abbrev S_ : Shape := ⟨0, ![]⟩
abbrev S256x1024 : Shape := ⟨2, ![256, 1024]⟩
abbrev S2048x1024 : Shape := ⟨2, ![2048, 1024]⟩
abbrev S1024x256 : Shape := ⟨2, ![1024, 256]⟩

abbrev nBuf : Space → Nat
  | .hbm => 14
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x512, .bf16⟩
  | .hbm, ⟨2, _⟩ => ⟨S2048x512, .f32⟩
  | .hbm, ⟨3, _⟩ => ⟨S2048x256, .f32⟩
  | .hbm, ⟨4, _⟩ => ⟨S2048x512, .f32⟩
  | .hbm, ⟨5, _⟩ => ⟨S_, .f32⟩
  | .hbm, ⟨6, _⟩ => ⟨S256x1024, .f32⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x1024, .f32⟩
  | .hbm, ⟨11, _⟩ => ⟨S1024x256, .f32⟩
  | .hbm, ⟨12, _⟩ => ⟨S256x1024, .f32⟩
  | .hbm, ⟨13, _⟩ => ⟨S256x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Trip.lean ====
/-
  One trip of the kernel's loop over pairs of key blocks: where it reads and writes, and what it leaves.
-/
module

public import proofs.«01_k».proof.Proof.Gen.KernelIdeal.Frame
public import proofs.«01_k».proof.Proof.Gen.KernelIdeal.Loops

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The offsets in closed form -/

/-- The first key block of trip `k` starts at row `512 k`; -/
theorem off1_eq : ∀ (i : grid0.Coords) (k : Fin (k0_t1_loop i).trips), k0_off1 i k = ![512 * k.val, 0] := by decide +kernel
/-- the second one 256 rows further. -/
theorem off2_eq : ∀ (i : grid0.Coords) (k : Fin (k0_t1_loop i).trips), k0_off2 i k = ![512 * k.val + 256, 0] := by decide +kernel
/-- The block before the diagonal one, at an odd query block. -/
theorem off5_eq : ∀ (i : grid0.Coords), k0_cond2 i = 1#1 → k0_off5 i = ![256 * (i 1).val - 256, 0] := by decide +kernel
theorem cond2_iff : ∀ i : grid0.Coords, k0_cond2 i = 1#1 ↔ (i 1).val % 2 = 1 := by decide +kernel
theorem trips1_eq : ∀ i : grid0.Coords, (k0_t1_loop i).trips = (i 1).val / 2 := by decide +kernel
theorem trips2_eq (i : grid0.Coords) : (k0_t2_loop i).trips = 0 := Nat.le_zero.mp (k0_t2_abs i).2.1

instance (i : grid0.Coords) (k : Fin (k0_t1_loop i).trips) : ClosedOff (k0_off1 i k) := ⟨_, off1_eq i k⟩
instance (i : grid0.Coords) (k : Fin (k0_t1_loop i).trips) : ClosedOff (k0_off2 i k) := ⟨_, off2_eq i k⟩

/-! ## One trip -/

section Trip

variable (c : Dev nD) (i : grid0.Coords)
  (arg2 : Memref sig .tc .vmem S256x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S256x256 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S2048x128 .f32) (harg8 : arg8.IsWhole) (arg9 : Memref sig .tc .vmem S2048x128 .f32) (harg9 : arg9.IsWhole)
  (X3 : Buf (Elt F) (arg3.view.loc (c : Thread nD τ))) (X4 : Buf (Elt F) (arg4.view.loc (c : Thread nD τ)))
  (arg1 : BitVec 32) (v9 v15 : FVec F S256x256 .bf16) (v45 v71 : IVec S256x128 1)
  (v74 v77 v80 v83 : FVec F S256x128 .bf16) (v85 : FVec F S256x1 .f32) (v86 : Vec F S256x1 .f32)

/-- What a trip carries: the sum for `dq`, and per head the two running row sums. -/
abbrev Carry (F : FTy → Type) [FloatOps F] : Type :=
  FVec F S256x128 .f32 × FVec F S256x1 .f32 × FVec F S256x1 .f32 × FVec F S256x1 .f32 × FVec F S256x1 .f32

/-- The resources of a trip: the keys and the values whole, and the two blocks it adds to. -/
abbrev TripRes (f8 : Buf (Elt F) (arg8.view.loc (c : Thread nD τ))) (f9 : Buf (Elt F) (arg9.view.loc (c : Thread nD τ))) : sProp 𝕄 :=
  iprop((arg3.view.loc (c : Thread nD τ) ↦[arg3.view.set]{fullShare} X3)
    ∗ (arg4.view.loc (c : Thread nD τ) ↦[arg4.view.set]{fullShare} X4)
    ∗ (arg8.view.loc (c : Thread nD τ) ↦[arg8.view.set]{fullShare} f8)
    ∗ (arg9.view.loc (c : Thread nD τ) ↦[arg9.view.set]{fullShare} f9))

set_option maxHeartbeats 4000000 in
/-- One trip at any `k`, from the carried values `acc` and the blocks `f8`, `f9`: what it yields and what it stores. -/
def tripRun (k : Fin (k0_t1_loop i).trips) (acc : Carry F)
    (f8 : Buf (Elt F) (arg8.view.loc (c : Thread nD τ))) (f9 : Buf (Elt F) (arg9.view.loc (c : Thread nD τ))) :
    Σ' (Y : Carry F) (L8 : List (View.Piece (Elt F) S2048x128 .f32)), { L9 : List (View.Piece (Elt F) S2048x128 .f32) //
      TripRes c arg3 arg4 arg8 arg9 X3 X4 f8 f9 ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg1 v9 v15 v45 v71 v74 v77 v80 v83 v85 v86 k acc)
        (fun y => iprop(⌜y = Y⌝ ∗ TripRes c arg3 arg4 arg8 arg9 X3 X4 (arg8.view.writes (Elt F) f8 L8) (arg9.view.writes (Elt F) f9 L9))) } := by
  obtain ⟨a0, a1, a2, a3, a4⟩ := acc
  refine ⟨?_, ?_, ?_, ?run⟩
  case run =>
    iintro ⟨H3, H4, H8, H9⟩
    sl_unfold [k0_t1_body]
    sl_exec
    sl_step
    isplitr
    · ipureintro; rfl
    isplitl [H3]; · iexact H3
    isplitl [H4]; · iexact H4
    isplitl [H8]; · iexact H8
    iexact H9

/-- The carried values and the two blocks before trip `k`, from what the loop is entered with. -/
def st (init : Carry F) (f8 : Buf (Elt F) (arg8.view.loc (c : Thread nD τ))) (f9 : Buf (Elt F) (arg9.view.loc (c : Thread nD τ))) :
    ℕ → Carry F × Buf (Elt F) (arg8.view.loc (c : Thread nD τ)) × Buf (Elt F) (arg9.view.loc (c : Thread nD τ))
  | 0 => (init, f8, f9)
  | k + 1 =>
    if h : k < (k0_t1_loop i).trips then
      ((tripRun c i arg2 harg2 arg3 harg3 arg4 harg4 arg5 harg5 arg6 harg6 arg7 harg7 arg8 harg8 arg9 harg9 X3 X4 arg1 v9 v15 v45 v71 v74 v77 v80 v83 v85 v86
          ⟨k, h⟩ (st init f8 f9 k).1 (st init f8 f9 k).2.1 (st init f8 f9 k).2.2).1,
        arg8.view.writes (Elt F) (st init f8 f9 k).2.1 (tripRun c i arg2 harg2 arg3 harg3 arg4 harg4 arg5 harg5 arg6 harg6 arg7 harg7 arg8 harg8 arg9 harg9 X3 X4 arg1 v9 v15 v45 v71 v74 v77 v80 v83 v85 v86
          ⟨k, h⟩ (st init f8 f9 k).1 (st init f8 f9 k).2.1 (st init f8 f9 k).2.2).2.1,
        arg9.view.writes (Elt F) (st init f8 f9 k).2.2 (tripRun c i arg2 harg2 arg3 harg3 arg4 harg4 arg5 harg5 arg6 harg6 arg7 harg7 arg8 harg8 arg9 harg9 X3 X4 arg1 v9 v15 v45 v71 v74 v77 v80 v83 v85 v86
          ⟨k, h⟩ (st init f8 f9 k).1 (st init f8 f9 k).2.1 (st init f8 f9 k).2.2).2.2.1)
    else st init f8 f9 k

set_option warn.classDefReducibility false in
/-- The loop's invariant: the resources at the state before trip `k`. -/
@[sl_loop] def loopInv1 (init : Carry F) (f8 : Buf (Elt F) (arg8.view.loc (c : Thread nD τ))) (f9 : Buf (Elt F) (arg9.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg1 v9 v15 v45 v71 v74 v77 v80 v83 v85 v86 init where
  inv k acc := iprop(⌜acc = (st c i arg2 harg2 arg3 harg3 arg4 harg4 arg5 harg5 arg6 harg6 arg7 harg7 arg8 harg8 arg9 harg9 X3 X4 arg1 v9 v15 v45 v71 v74 v77 v80 v83 v85 v86 init f8 f9 k).1⌝ ∗
    TripRes c arg3 arg4 arg8 arg9 X3 X4
      (st c i arg2 harg2 arg3 harg3 arg4 harg4 arg5 harg5 arg6 harg6 arg7 harg7 arg8 harg8 arg9 harg9 X3 X4 arg1 v9 v15 v45 v71 v74 v77 v80 v83 v85 v86 init f8 f9 k).2.1
      (st c i arg2 harg2 arg3 harg3 arg4 harg4 arg5 harg5 arg6 harg6 arg7 harg7 arg8 harg8 arg9 harg9 X3 X4 arg1 v9 v15 v45 v71 v74 v77 v80 v83 v85 v86 init f8 f9 k).2.2)
  step k acc := by
    rw [st, dif_pos k.isLt]
    iintro ⟨%e, H⟩
    subst e
    iapply (wp_wand_r Idealize.ShloMosaic.frame (wpE (defs₀ (F := F)) Variants.none (c : Thread nD τ) none) Set.univ)
    isplitl [H]
    · iapply (tripRun c i arg2 harg2 arg3 harg3 arg4 harg4 arg5 harg5 arg6 harg6 arg7 harg7 arg8 harg8 arg9 harg9 X3 X4 arg1 v9 v15 v45 v71 v74 v77 v80 v83 v85 v86 k _ _ _).2.2.2
      iexact H
    · iintro %y H'
      iexact H'

set_option warn.classDefReducibility false in
/-- The loop over what is left of the pairs makes no trip. -/
@[sl_loop] def loopInv2 (v111 : BitVec 32) (init : Carry F) (f8 : Buf (Elt F) (arg8.view.loc (c : Thread nD τ))) (f9 : Buf (Elt F) (arg9.view.loc (c : Thread nD τ))) :
    LoopInvTy_k0_t2 (F := F) Unit ℕ (UR sig nD τ) ℕ Variants.none c none Set.univ i arg2 harg2 arg3 harg3 arg4 harg4 arg5 harg5 arg6 harg6 arg7 harg7 arg8 harg8 arg9 harg9 arg1 v9 v15 v45 v71 v74 v77 v80 v83 v85 v86 v111 init where
  inv k acc := iprop(⌜acc = init⌝ ∗ TripRes c arg3 arg4 arg8 arg9 X3 X4 f8 f9)
  step k acc := absurd (Nat.lt_of_lt_of_eq k.isLt (trips2_eq i)) (Nat.not_lt_zero _)

end Trip

end Cert.Proof.Sb

end
-- ==== Proof.Body.lean ====
/-
  The kernel's body at a grid point: what it leaves in its three result blocks, for the first query block, for the later
  even ones and for the odd ones.
-/
module

public import proofs.«01_k».proof.Proof.Trip

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The printed condition of the zero fill: the query block is the first one. -/
abbrev cond1 (i : grid0.Coords) : BitVec 1 :=
  Scalar.cmpi .ne (Scalar.extui (Scalar.cmpi .eq (BitVec.ofNat 32 (i 1).val) 0#32) : BitVec 32) 0#32
theorem cond1_iff : ∀ i : grid0.Coords, cond1 i = 1#1 ↔ (i 1).val = 0 := by decide +kernel

theorem off5_form : ∀ i : grid0.Coords, k0_off5 i = ![(256 * (i 1).val + 4294967040) % 4294967296, 0] := by decide +kernel
instance (i : grid0.Coords) : ClosedOff (k0_off5 i) := ⟨_, off5_form i⟩

section Body

variable (c : Dev nD) (i : grid0.Coords)
  (arg2 : Memref sig .tc .vmem S256x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S256x256 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S2048x128 .f32) (harg8 : arg8.IsWhole) (arg9 : Memref sig .tc .vmem S2048x128 .f32) (harg9 : arg9.IsWhole)
  (X2 : Buf (Elt F) (arg2.view.loc (c : Thread nD τ))) (X3 : Buf (Elt F) (arg3.view.loc (c : Thread nD τ)))
  (X4 : Buf (Elt F) (arg4.view.loc (c : Thread nD τ))) (X5 : Buf (Elt F) (arg5.view.loc (c : Thread nD τ)))
  (X6 : Buf (Elt F) (arg6.view.loc (c : Thread nD τ)))

/-- The resources of the body: the five operands' blocks and the three results'. -/
abbrev BodyRes (f7 : Buf (Elt F) (arg7.view.loc (c : Thread nD τ))) (f8 : Buf (Elt F) (arg8.view.loc (c : Thread nD τ)))
    (f9 : Buf (Elt F) (arg9.view.loc (c : Thread nD τ))) : sProp 𝕄 :=
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9))

abbrev bodyProg : Prog (TpuEff nD τ sig (Elt F) Λ₀ .tc) PUnit :=
  cc0_sb_attn_bwd (F := F) i arg2 harg2 arg3 harg3 arg4 harg4 arg5 harg5 arg6 harg6 arg7 harg7 arg8 harg8 arg9 harg9

set_option maxHeartbeats 8000000 in
/-- The first query block: the results for `dk` and `dv` are zeroed, there is no pair of key blocks, and the diagonal block is last. -/
def runFirst (h1 : cond1 i = 1#1) (h2 : ¬(k0_cond2 i = 1#1))
    (f7 : Buf (Elt F) (arg7.view.loc (c : Thread nD τ))) (f8 : Buf (Elt F) (arg8.view.loc (c : Thread nD τ))) (f9 : Buf (Elt F) (arg9.view.loc (c : Thread nD τ))) :
    Σ' (G7 : Buf (Elt F) (arg7.view.loc (c : Thread nD τ))) (G8 : Buf (Elt F) (arg8.view.loc (c : Thread nD τ))), { G9 : Buf (Elt F) (arg9.view.loc (c : Thread nD τ)) //
      BodyRes c arg2 arg3 arg4 arg5 arg6 arg7 arg8 arg9 X2 X3 X4 X5 X6 f7 f8 f9 ⊢ wp frame (wpE (defs₀ (F := F)) Variants.none (c : Thread nD τ) none) Set.univ
        (bodyProg i arg2 harg2 arg3 harg3 arg4 harg4 arg5 harg5 arg6 harg6 arg7 harg7 arg8 harg8 arg9 harg9)
        (fun _ => BodyRes c arg2 arg3 arg4 arg5 arg6 arg7 arg8 arg9 X2 X3 X4 X5 X6 G7 G8 G9) } := by
  refine ⟨?_, ?_, ?_, ?run⟩
  case run =>
    iintro ⟨H2, H3, H4, H5, H6, H7, H8, H9⟩
    have h0 : (k0_t1_loop i).trips = 0 := by rw [trips1_eq, (cond1_iff i).1 h1]
    sl_unfold [bodyProg, cc0_sb_attn_bwd]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

set_option maxHeartbeats 8000000 in
/-- A later even query block: the pairs of key blocks, then the diagonal block. -/
def runEven (h1 : ¬(cond1 i = 1#1)) (h2 : ¬(k0_cond2 i = 1#1))
    (f7 : Buf (Elt F) (arg7.view.loc (c : Thread nD τ))) (f8 : Buf (Elt F) (arg8.view.loc (c : Thread nD τ))) (f9 : Buf (Elt F) (arg9.view.loc (c : Thread nD τ))) :
    Σ' (G7 : Buf (Elt F) (arg7.view.loc (c : Thread nD τ))) (G8 : Buf (Elt F) (arg8.view.loc (c : Thread nD τ))), { G9 : Buf (Elt F) (arg9.view.loc (c : Thread nD τ)) //
      BodyRes c arg2 arg3 arg4 arg5 arg6 arg7 arg8 arg9 X2 X3 X4 X5 X6 f7 f8 f9 ⊢ wp frame (wpE (defs₀ (F := F)) Variants.none (c : Thread nD τ) none) Set.univ
        (bodyProg i arg2 harg2 arg3 harg3 arg4 harg4 arg5 harg5 arg6 harg6 arg7 harg7 arg8 harg8 arg9 harg9)
        (fun _ => BodyRes c arg2 arg3 arg4 arg5 arg6 arg7 arg8 arg9 X2 X3 X4 X5 X6 G7 G8 G9) } := by
  refine ⟨?_, ?_, ?_, ?run⟩
  case run =>
    iintro ⟨H2, H3, H4, H5, H6, H7, H8, H9⟩
    sl_unfold [bodyProg, cc0_sb_attn_bwd]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

set_option maxHeartbeats 8000000 in
/-- An odd query block: the pairs of key blocks, then the block before the diagonal one together with the diagonal one. -/
def runOdd (h1 : ¬(cond1 i = 1#1)) (h2 : k0_cond2 i = 1#1)
    (f7 : Buf (Elt F) (arg7.view.loc (c : Thread nD τ))) (f8 : Buf (Elt F) (arg8.view.loc (c : Thread nD τ))) (f9 : Buf (Elt F) (arg9.view.loc (c : Thread nD τ))) :
    Σ' (G7 : Buf (Elt F) (arg7.view.loc (c : Thread nD τ))) (G8 : Buf (Elt F) (arg8.view.loc (c : Thread nD τ))), { G9 : Buf (Elt F) (arg9.view.loc (c : Thread nD τ)) //
      BodyRes c arg2 arg3 arg4 arg5 arg6 arg7 arg8 arg9 X2 X3 X4 X5 X6 f7 f8 f9 ⊢ wp frame (wpE (defs₀ (F := F)) Variants.none (c : Thread nD τ) none) Set.univ
        (bodyProg i arg2 harg2 arg3 harg3 arg4 harg4 arg5 harg5 arg6 harg6 arg7 harg7 arg8 harg8 arg9 harg9)
        (fun _ => BodyRes c arg2 arg3 arg4 arg5 arg6 arg7 arg8 arg9 X2 X3 X4 X5 X6 G7 G8 G9) } := by
  refine ⟨?_, ?_, ?_, ?run⟩
  case run =>
    iintro ⟨H2, H3, H4, H5, H6, H7, H8, H9⟩
    sl_unfold [bodyProg, cc0_sb_attn_bwd]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body stores the whole of `dq`'s block, so that what it leaves there does not depend on what was there. -/
theorem runFirst_dq (h1 : cond1 i = 1#1) (h2 : ¬(k0_cond2 i = 1#1)) (f7 f7' : Buf (Elt F) (arg7.view.loc (c : Thread nD τ))) (f8 f8' : Buf (Elt F) (arg8.view.loc (c : Thread nD τ))) (f9 f9' : Buf (Elt F) (arg9.view.loc (c : Thread nD τ))) :
    arg7.view.read (Elt F) (runFirst c i arg2 harg2 arg3 harg3 arg4 harg4 arg5 harg5 arg6 harg6 arg7 harg7 arg8 harg8 arg9 harg9 X2 X3 X4 X5 X6 h1 h2 f7 f8 f9).1 = arg7.view.read (Elt F) (runFirst c i arg2 harg2 arg3 harg3 arg4 harg4 arg5 harg5 arg6 harg6 arg7 harg7 arg8 harg8 arg9 harg9 X2 X3 X4 X5 X6 h1 h2 f7' f8' f9').1 := by
  unfold runFirst
  dsimp only
  exact View.read_writes_of_cover _ _ _ _ _ (View.cover_of_tiledL _ S256x128.size (by sl_kernel_rfl))

theorem runFirst_dk (h1 : cond1 i = 1#1) (h2 : ¬(k0_cond2 i = 1#1)) (f7 f7' : Buf (Elt F) (arg7.view.loc (c : Thread nD τ))) (f8 f8' : Buf (Elt F) (arg8.view.loc (c : Thread nD τ))) (f9 f9' : Buf (Elt F) (arg9.view.loc (c : Thread nD τ))) :
    (runFirst c i arg2 harg2 arg3 harg3 arg4 harg4 arg5 harg5 arg6 harg6 arg7 harg7 arg8 harg8 arg9 harg9 X2 X3 X4 X5 X6 h1 h2 f7 f8 f9).2.1 = (runFirst c i arg2 harg2 arg3 harg3 arg4 harg4 arg5 harg5 arg6 harg6 arg7 harg7 arg8 harg8 arg9 harg9 X2 X3 X4 X5 X6 h1 h2 f7' f8' f9').2.1 := by
  unfold runFirst
  dsimp only

theorem runFirst_dv (h1 : cond1 i = 1#1) (h2 : ¬(k0_cond2 i = 1#1)) (f7 f7' : Buf (Elt F) (arg7.view.loc (c : Thread nD τ))) (f8 f8' : Buf (Elt F) (arg8.view.loc (c : Thread nD τ))) (f9 f9' : Buf (Elt F) (arg9.view.loc (c : Thread nD τ))) :
    (runFirst c i arg2 harg2 arg3 harg3 arg4 harg4 arg5 harg5 arg6 harg6 arg7 harg7 arg8 harg8 arg9 harg9 X2 X3 X4 X5 X6 h1 h2 f7 f8 f9).2.2.1 = (runFirst c i arg2 harg2 arg3 harg3 arg4 harg4 arg5 harg5 arg6 harg6 arg7 harg7 arg8 harg8 arg9 harg9 X2 X3 X4 X5 X6 h1 h2 f7' f8' f9').2.2.1 := by
  unfold runFirst
  dsimp only

/-- The body stores the whole of `dq`'s block, so that what it leaves there does not depend on what was there. -/
theorem runEven_dq (h1 : ¬(cond1 i = 1#1)) (h2 : ¬(k0_cond2 i = 1#1)) (f7 f7' : Buf (Elt F) (arg7.view.loc (c : Thread nD τ))) (f8 : Buf (Elt F) (arg8.view.loc (c : Thread nD τ))) (f9 : Buf (Elt F) (arg9.view.loc (c : Thread nD τ))) :
    arg7.view.read (Elt F) (runEven c i arg2 harg2 arg3 harg3 arg4 harg4 arg5 harg5 arg6 harg6 arg7 harg7 arg8 harg8 arg9 harg9 X2 X3 X4 X5 X6 h1 h2 f7 f8 f9).1 = arg7.view.read (Elt F) (runEven c i arg2 harg2 arg3 harg3 arg4 harg4 arg5 harg5 arg6 harg6 arg7 harg7 arg8 harg8 arg9 harg9 X2 X3 X4 X5 X6 h1 h2 f7' f8 f9).1 := by
  unfold runEven
  dsimp only
  exact View.read_writes_of_cover _ _ _ _ _ (View.cover_of_tiledL _ S256x128.size (by sl_kernel_rfl))

theorem runEven_dk (h1 : ¬(cond1 i = 1#1)) (h2 : ¬(k0_cond2 i = 1#1)) (f7 f7' : Buf (Elt F) (arg7.view.loc (c : Thread nD τ))) (f8 : Buf (Elt F) (arg8.view.loc (c : Thread nD τ))) (f9 : Buf (Elt F) (arg9.view.loc (c : Thread nD τ))) :
    (runEven c i arg2 harg2 arg3 harg3 arg4 harg4 arg5 harg5 arg6 harg6 arg7 harg7 arg8 harg8 arg9 harg9 X2 X3 X4 X5 X6 h1 h2 f7 f8 f9).2.1 = (runEven c i arg2 harg2 arg3 harg3 arg4 harg4 arg5 harg5 arg6 harg6 arg7 harg7 arg8 harg8 arg9 harg9 X2 X3 X4 X5 X6 h1 h2 f7' f8 f9).2.1 := by
  unfold runEven
  dsimp only

theorem runEven_dv (h1 : ¬(cond1 i = 1#1)) (h2 : ¬(k0_cond2 i = 1#1)) (f7 f7' : Buf (Elt F) (arg7.view.loc (c : Thread nD τ))) (f8 : Buf (Elt F) (arg8.view.loc (c : Thread nD τ))) (f9 : Buf (Elt F) (arg9.view.loc (c : Thread nD τ))) :
    (runEven c i arg2 harg2 arg3 harg3 arg4 harg4 arg5 harg5 arg6 harg6 arg7 harg7 arg8 harg8 arg9 harg9 X2 X3 X4 X5 X6 h1 h2 f7 f8 f9).2.2.1 = (runEven c i arg2 harg2 arg3 harg3 arg4 harg4 arg5 harg5 arg6 harg6 arg7 harg7 arg8 harg8 arg9 harg9 X2 X3 X4 X5 X6 h1 h2 f7' f8 f9).2.2.1 := by
  unfold runEven
  dsimp only

/-- The body stores the whole of `dq`'s block, so that what it leaves there does not depend on what was there. -/
theorem runOdd_dq (h1 : ¬(cond1 i = 1#1)) (h2 : k0_cond2 i = 1#1) (f7 f7' : Buf (Elt F) (arg7.view.loc (c : Thread nD τ))) (f8 : Buf (Elt F) (arg8.view.loc (c : Thread nD τ))) (f9 : Buf (Elt F) (arg9.view.loc (c : Thread nD τ))) :
    arg7.view.read (Elt F) (runOdd c i arg2 harg2 arg3 harg3 arg4 harg4 arg5 harg5 arg6 harg6 arg7 harg7 arg8 harg8 arg9 harg9 X2 X3 X4 X5 X6 h1 h2 f7 f8 f9).1 = arg7.view.read (Elt F) (runOdd c i arg2 harg2 arg3 harg3 arg4 harg4 arg5 harg5 arg6 harg6 arg7 harg7 arg8 harg8 arg9 harg9 X2 X3 X4 X5 X6 h1 h2 f7' f8 f9).1 := by
  unfold runOdd
  dsimp only
  exact View.read_writes_of_cover _ _ _ _ _ (View.cover_of_tiledL _ S256x128.size (by sl_kernel_rfl))

theorem runOdd_dk (h1 : ¬(cond1 i = 1#1)) (h2 : k0_cond2 i = 1#1) (f7 f7' : Buf (Elt F) (arg7.view.loc (c : Thread nD τ))) (f8 : Buf (Elt F) (arg8.view.loc (c : Thread nD τ))) (f9 : Buf (Elt F) (arg9.view.loc (c : Thread nD τ))) :
    (runOdd c i arg2 harg2 arg3 harg3 arg4 harg4 arg5 harg5 arg6 harg6 arg7 harg7 arg8 harg8 arg9 harg9 X2 X3 X4 X5 X6 h1 h2 f7 f8 f9).2.1 = (runOdd c i arg2 harg2 arg3 harg3 arg4 harg4 arg5 harg5 arg6 harg6 arg7 harg7 arg8 harg8 arg9 harg9 X2 X3 X4 X5 X6 h1 h2 f7' f8 f9).2.1 := by
  unfold runOdd
  dsimp only

theorem runOdd_dv (h1 : ¬(cond1 i = 1#1)) (h2 : k0_cond2 i = 1#1) (f7 f7' : Buf (Elt F) (arg7.view.loc (c : Thread nD τ))) (f8 : Buf (Elt F) (arg8.view.loc (c : Thread nD τ))) (f9 : Buf (Elt F) (arg9.view.loc (c : Thread nD τ))) :
    (runOdd c i arg2 harg2 arg3 harg3 arg4 harg4 arg5 harg5 arg6 harg6 arg7 harg7 arg8 harg8 arg9 harg9 X2 X3 X4 X5 X6 h1 h2 f7 f8 f9).2.2.1 = (runOdd c i arg2 harg2 arg3 harg3 arg4 harg4 arg5 harg5 arg6 harg6 arg7 harg7 arg8 harg8 arg9 harg9 X2 X3 X4 X5 X6 h1 h2 f7' f8 f9).2.2.1 := by
  unfold runOdd
  dsimp only

end Body

end Cert.Proof.Sb

end
-- ==== Proof.Frame.lean ====
/-
  The kernel's one region: what its three results hold after each grid point, the body's obligation and the launch.
-/
module

public import proofs.«01_k».proof.Proof.Body
public import Idealize.ShloMosaic.Lib.Claim

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging memrefs at point `t` are whole buffers. -/
abbrev w0 (t : Fin cfg0.N) : (st0_0 t).IsWhole := hstage0_0 ((cfg0.slots t 0).cast nbuf0_0)
abbrev w1 (t : Fin cfg0.N) : (st0_1 t).IsWhole := hstage0_1 ((cfg0.slots t 1).cast nbuf0_1)
abbrev w2 (t : Fin cfg0.N) : (st0_2 t).IsWhole := hstage0_2 ((cfg0.slots t 2).cast nbuf0_2)
abbrev w3 (t : Fin cfg0.N) : (st0_3 t).IsWhole := hstage0_3 ((cfg0.slots t 3).cast nbuf0_3)
abbrev w4 (t : Fin cfg0.N) : (st0_4 t).IsWhole := hstage0_4 ((cfg0.slots t 4).cast nbuf0_4)
abbrev w5 (t : Fin cfg0.N) : (st0_5 t).IsWhole := hstage0_5 ((cfg0.slots t 5).cast nbuf0_5)
abbrev w6 (t : Fin cfg0.N) : (st0_6 t).IsWhole := hstage0_6 ((cfg0.slots t 6).cast nbuf0_6)
abbrev w7 (t : Fin cfg0.N) : (st0_7 t).IsWhole := hstage0_7 ((cfg0.slots t 7).cast nbuf0_7)

/-- The three cases of the body at point `t`, on the staging memrefs, the operands at their blocks. -/
abbrev firstAt (c : Dev nD) (t : Fin cfg0.N) (h1 : cond1 (grid0.coords t) = 1#1) (h2 : ¬(k0_cond2 (grid0.coords t) = 1#1)) :=
  runFirst (F := F) c (grid0.coords t) (st0_0 t) (w0 t) (st0_1 t) (w1 t) (st0_2 t) (w2 t) (st0_3 t) (w3 t) (st0_4 t) (w4 t) (st0_5 t) (w5 t) (st0_6 t) (w6 t) (st0_7 t) (w7 t)
    ((w0 t).unread (iblk m c 0 t)) ((w1 t).unread (iblk m c 1 t)) ((w2 t).unread (iblk m c 2 t)) ((w3 t).unread (iblk m c 3 t)) ((w4 t).unread (iblk m c 4 t)) h1 h2
abbrev evenAt (c : Dev nD) (t : Fin cfg0.N) (h1 : ¬(cond1 (grid0.coords t) = 1#1)) (h2 : ¬(k0_cond2 (grid0.coords t) = 1#1)) :=
  runEven (F := F) c (grid0.coords t) (st0_0 t) (w0 t) (st0_1 t) (w1 t) (st0_2 t) (w2 t) (st0_3 t) (w3 t) (st0_4 t) (w4 t) (st0_5 t) (w5 t) (st0_6 t) (w6 t) (st0_7 t) (w7 t)
    ((w0 t).unread (iblk m c 0 t)) ((w1 t).unread (iblk m c 1 t)) ((w2 t).unread (iblk m c 2 t)) ((w3 t).unread (iblk m c 3 t)) ((w4 t).unread (iblk m c 4 t)) h1 h2
abbrev oddAt (c : Dev nD) (t : Fin cfg0.N) (h1 : ¬(cond1 (grid0.coords t) = 1#1)) (h2 : k0_cond2 (grid0.coords t) = 1#1) :=
  runOdd (F := F) c (grid0.coords t) (st0_0 t) (w0 t) (st0_1 t) (w1 t) (st0_2 t) (w2 t) (st0_3 t) (w3 t) (st0_4 t) (w4 t) (st0_5 t) (w5 t) (st0_6 t) (w6 t) (st0_7 t) (w7 t)
    ((w0 t).unread (iblk m c 0 t)) ((w1 t).unread (iblk m c 1 t)) ((w2 t).unread (iblk m c 2 t)) ((w3 t).unread (iblk m c 3 t)) ((w4 t).unread (iblk m c 4 t)) h1 h2

/-- The results' blocks: `dq`'s, `dk`'s, `dv`'s. -/
abbrev Outs (F : FTy → Type) [FloatOps F] := Vec F S256x128 .f32 × Vec F S2048x128 .f32 × Vec F S2048x128 .f32

/-- The first query block is even. -/
theorem cond2_of_first {i : grid0.Coords} (h1 : cond1 i = 1#1) : ¬(k0_cond2 i = 1#1) := by
  rw [cond2_iff, (cond1_iff i).1 h1]; decide

/-- The results' blocks as the staging buffers' contents read. -/
def rd {c : Dev nD} (t : Fin cfg0.N) (G7 : Buf (Elt F) ((st0_5 t).view.loc (c : Thread nD τ))) (G8 : Buf (Elt F) ((st0_6 t).view.loc (c : Thread nD τ)))
    (G9 : Buf (Elt F) ((st0_7 t).view.loc (c : Thread nD τ))) : Outs F :=
  ((st0_5 t).view.read (Elt F) G7, (st0_6 t).view.read (Elt F) G8, (st0_7 t).view.read (Elt F) G9)

theorem rd_congr {c : Dev nD} (t : Fin cfg0.N) {G7 G7' : Buf (Elt F) ((st0_5 t).view.loc (c : Thread nD τ))} {G8 G8' : Buf (Elt F) ((st0_6 t).view.loc (c : Thread nD τ))}
    {G9 G9' : Buf (Elt F) ((st0_7 t).view.loc (c : Thread nD τ))} (h7 : (st0_5 t).view.read (Elt F) G7 = (st0_5 t).view.read (Elt F) G7')
    (h8 : G8 = G8') (h9 : G9 = G9') : rd t G7 G8 G9 = rd t G7' G8' G9' := by
  unfold rd; rw [h7, h8, h9]

/-- What the body leaves in the three results at point `t`, the result blocks holding `p` before. -/
def outAt (c : Dev nD) (t : Fin cfg0.N) (p : Outs F) : Outs F :=
  if h1 : cond1 (grid0.coords t) = 1#1 then
    rd t (firstAt m c t h1 (cond2_of_first h1) ((w5 t).unread p.1) ((w6 t).unread p.2.1) ((w7 t).unread p.2.2)).1 (firstAt m c t h1 (cond2_of_first h1) ((w5 t).unread p.1) ((w6 t).unread p.2.1) ((w7 t).unread p.2.2)).2.1 (firstAt m c t h1 (cond2_of_first h1) ((w5 t).unread p.1) ((w6 t).unread p.2.1) ((w7 t).unread p.2.2)).2.2.1
  else if h2 : k0_cond2 (grid0.coords t) = 1#1 then
    rd t (oddAt m c t h1 h2 ((w5 t).unread p.1) ((w6 t).unread p.2.1) ((w7 t).unread p.2.2)).1 (oddAt m c t h1 h2 ((w5 t).unread p.1) ((w6 t).unread p.2.1) ((w7 t).unread p.2.2)).2.1 (oddAt m c t h1 h2 ((w5 t).unread p.1) ((w6 t).unread p.2.1) ((w7 t).unread p.2.2)).2.2.1
  else
    rd t (evenAt m c t h1 h2 ((w5 t).unread p.1) ((w6 t).unread p.2.1) ((w7 t).unread p.2.2)).1 (evenAt m c t h1 h2 ((w5 t).unread p.1) ((w6 t).unread p.2.1) ((w7 t).unread p.2.2)).2.1 (evenAt m c t h1 h2 ((w5 t).unread p.1) ((w6 t).unread p.2.1) ((w7 t).unread p.2.2)).2.2.1

/-- The results' blocks after the first `n` points, from contents that the first point replaces. -/
def outs (c : Dev nD) : ℕ → Outs F
  | 0 => (k0_pay204, k0_pay187, k0_pay188)
  | n + 1 => if h : n < cfg0.N then outAt m c ⟨n, h⟩ (outs c n) else outs c n

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c (t.val + 1)).1
    | ⟨6, _⟩ => (outs m c (t.val + 1)).2.1
    | ⟨7, _⟩ => (outs m c (t.val + 1)).2.2
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outs m c (t.val + 1)).1 := by dsimp only [dats]
theorem after6 (c : Dev nD) (t : Fin cfg0.N) : (dats m 0 c).after 6 t = (outs m c (t.val + 1)).2.1 := by dsimp only [dats]
theorem after7 (c : Dev nD) (t : Fin cfg0.N) : (dats m 0 c).after 7 t = (outs m c (t.val + 1)).2.2 := by dsimp only [dats]

theorem coord1 : ∀ t : Fin cfg0.N, (grid0.coords t 1).val = t.val % 8 := by decide +kernel

theorem outs_succ (c : Dev nD) (t : Fin cfg0.N) : outs m c (t.val + 1) = outAt m c t (outs m c t.val) := by
  rw [outs, dif_pos t.isLt]

/-- Past the first query block of a head pair, `dk`'s and `dv`'s buffers hold what the point before left. -/
theorem before6 (c : Dev nD) (t : Fin cfg0.N) (h : t.val % 8 ≠ 0) (d) : (dats m 0 c).before 6 t d = (outs m c t.val).2.1 := by
  have h0 : t.val ≠ 0 := fun h0 => h (by rw [h0])
  rw [Dat.before_out_kept (dats m 0 c) 6 rfl t h0 (by rw [Bool.eq_false_iff]; intro hf; have := (flush0_6 _).1 hf; dsimp only at this; omega) (fun _ => rfl) (fun _ _ => rfl) d,
    after6]
  dsimp only
  rw [Nat.sub_add_cancel (Nat.pos_of_ne_zero h0)]
theorem before7 (c : Dev nD) (t : Fin cfg0.N) (h : t.val % 8 ≠ 0) (d) : (dats m 0 c).before 7 t d = (outs m c t.val).2.2 := by
  have h0 : t.val ≠ 0 := fun h0 => h (by rw [h0])
  rw [Dat.before_out_kept (dats m 0 c) 7 rfl t h0 (by rw [Bool.eq_false_iff]; intro hf; have := (flush0_7 _).1 hf; dsimp only at this; omega) (fun _ => rfl) (fun _ _ => rfl) d,
    after7]
  dsimp only
  rw [Nat.sub_add_cancel (Nat.pos_of_ne_zero h0)]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The contents of a whole memref are their reading, put back. -/
theorem owns_unread {sp : Space} {s : Shape} {e : EltTy} (c : Dev nD) (M : Memref sig .tc sp s e) (hM : M.IsWhole) (x : s.Idx → Elt F e) :
    (owns (c : Thread nD τ) M fullShare x : sProp 𝕄) ⊢ iprop(M.view.loc (c : Thread nD τ) ↦[M.view.set]{fullShare} hM.unread x) := by
  unfold owns
  iintro ⟨%f, %hf, H⟩
  rw [← hM.eq_unread hf]
  iexact H
theorem owns_read {sp : Space} {s : Shape} {e : EltTy} (c : Dev nD) (M : Memref sig .tc sp s e) (f : Buf (Elt F) (M.view.loc (c : Thread nD τ)))
    (x : s.Idx → Elt F e) (h : M.view.read (Elt F) f = x) :
    (iprop(M.view.loc (c : Thread nD τ) ↦[M.view.set]{fullShare} f) : sProp 𝕄) ⊢ owns (c : Thread nD τ) M fullShare x := by
  unfold owns
  iintro H
  iexists _
  isplitr; swap; · iexact H
  ipureintro; exact h

/-- What a run leaves, whatever the result blocks held, as the next block contents: the run's triple carried to the staging buffers. -/
theorem sound_of (c : Dev nD) (t : Fin cfg0.N) (d5 : Vec F S256x128 .f32) (d6 d7 : Vec F S2048x128 .f32)
    (G7 : Buf (Elt F) ((st0_5 t).view.loc (c : Thread nD τ))) (G8 : Buf (Elt F) ((st0_6 t).view.loc (c : Thread nD τ))) (G9 : Buf (Elt F) ((st0_7 t).view.loc (c : Thread nD τ)))
    (run : BodyRes c (st0_0 t) (st0_1 t) (st0_2 t) (st0_3 t) (st0_4 t) (st0_5 t) (st0_6 t) (st0_7 t)
        ((w0 t).unread (iblk m c 0 t)) ((w1 t).unread (iblk m c 1 t)) ((w2 t).unread (iblk m c 2 t)) ((w3 t).unread (iblk m c 3 t)) ((w4 t).unread (iblk m c 4 t))
        ((w5 t).unread d5) ((w6 t).unread d6) ((w7 t).unread d7)
      ⊢ wp frame (wpE (defs₀ (F := F)) Variants.none (c : Thread nD τ) none) Set.univ (bodyAt0 t)
        (fun _ => BodyRes c (st0_0 t) (st0_1 t) (st0_2 t) (st0_3 t) (st0_4 t) (st0_5 t) (st0_6 t) (st0_7 t)
          ((w0 t).unread (iblk m c 0 t)) ((w1 t).unread (iblk m c 1 t)) ((w2 t).unread (iblk m c 2 t)) ((w3 t).unread (iblk m c 3 t)) ((w4 t).unread (iblk m c 4 t))
          G7 G8 G9))
    (e : rd t G7 G8 G9 = outs m c (t.val + 1)) :
    iprop((dats m 0 c).Φ t.castSucc ∗ (dats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t)
      ∗ owns (c : Thread nD τ) (st0_5 t) fullShare d5 ∗ owns (c : Thread nD τ) (st0_6 t) fullShare d6 ∗ owns (c : Thread nD τ) (st0_7 t) fullShare d7)
      ⊢ wp frame (wpE (defs₀ (F := F)) Variants.none (c : Thread nD τ) none) Set.univ (bodyAt0 t) (fun _ => bodyPost m c t) := by
  unfold bodyPost
  rw [show (dats m 0 c).Φ t.succ = (dats m 0 c).Φ t.castSucc from rfl, show (dats m 0 c).owesAt () t.succ = (dats m 0 c).owesAt () t.castSucc from rfl,
    after0, after1, after2, after3, after4, after5, after6, after7, ← e]
  unfold rd
  iintro ⟨HΦ, HO, H0, H1, H2, H3, H4, H5, H6, H7⟩
  iapply (wp_wand_r Idealize.ShloMosaic.frame (wpE (defs₀ (F := F)) Variants.none (c : Thread nD τ) none) Set.univ)
  isplitl [H0 H1 H2 H3 H4 H5 H6 H7]
  · iapply run
    isplitl [H0]; · iapply (owns_unread c (st0_0 t) (w0 t) (iblk m c 0 t)); iexact H0
    isplitl [H1]; · iapply (owns_unread c (st0_1 t) (w1 t) (iblk m c 1 t)); iexact H1
    isplitl [H2]; · iapply (owns_unread c (st0_2 t) (w2 t) (iblk m c 2 t)); iexact H2
    isplitl [H3]; · iapply (owns_unread c (st0_3 t) (w3 t) (iblk m c 3 t)); iexact H3
    isplitl [H4]; · iapply (owns_unread c (st0_4 t) (w4 t) (iblk m c 4 t)); iexact H4
    isplitl [H5]; · iapply (owns_unread c (st0_5 t) (w5 t) d5); iexact H5
    isplitl [H6]; · iapply (owns_unread c (st0_6 t) (w6 t) d6); iexact H6
    iapply (owns_unread c (st0_7 t) (w7 t) d7); iexact H7
  · iintro %_ ⟨H0, H1, H2, H3, H4, H5, H6, H7⟩
    isplitl [HΦ]; · iexact HΦ
    isplitl [HO]; · iexact HO
    isplitl [H0]; · iapply (owns_read c (st0_0 t) _ _ ((w0 t).read_unread _)); iexact H0
    isplitl [H1]; · iapply (owns_read c (st0_1 t) _ _ ((w1 t).read_unread _)); iexact H1
    isplitl [H2]; · iapply (owns_read c (st0_2 t) _ _ ((w2 t).read_unread _)); iexact H2
    isplitl [H3]; · iapply (owns_read c (st0_3 t) _ _ ((w3 t).read_unread _)); iexact H3
    isplitl [H4]; · iapply (owns_read c (st0_4 t) _ _ ((w4 t).read_unread _)); iexact H4
    isplitl [H5]; · iapply (owns_read c (st0_5 t) G7 _ rfl); iexact H5
    isplitl [H6]; · iapply (owns_read c (st0_6 t) G8 _ rfl); iexact H6
    iapply (owns_read c (st0_7 t) G9 _ rfl); iexact H7

/-- The three cases of `outAt`. -/
theorem outAt_A (c : Dev nD) (t : Fin cfg0.N) (p : Outs F) (h1 : cond1 (grid0.coords t) = 1#1) :
    outAt m c t p = rd t (firstAt m c t h1 (cond2_of_first h1) ((w5 t).unread p.1) ((w6 t).unread p.2.1) ((w7 t).unread p.2.2)).1 (firstAt m c t h1 (cond2_of_first h1) ((w5 t).unread p.1) ((w6 t).unread p.2.1) ((w7 t).unread p.2.2)).2.1 (firstAt m c t h1 (cond2_of_first h1) ((w5 t).unread p.1) ((w6 t).unread p.2.1) ((w7 t).unread p.2.2)).2.2.1 := dif_pos h1
theorem outAt_B (c : Dev nD) (t : Fin cfg0.N) (p : Outs F) (h1 : ¬(cond1 (grid0.coords t) = 1#1)) (h2 : k0_cond2 (grid0.coords t) = 1#1) :
    outAt m c t p = rd t (oddAt m c t h1 h2 ((w5 t).unread p.1) ((w6 t).unread p.2.1) ((w7 t).unread p.2.2)).1 (oddAt m c t h1 h2 ((w5 t).unread p.1) ((w6 t).unread p.2.1) ((w7 t).unread p.2.2)).2.1 (oddAt m c t h1 h2 ((w5 t).unread p.1) ((w6 t).unread p.2.1) ((w7 t).unread p.2.2)).2.2.1 := (dif_neg h1).trans (dif_pos h2)
theorem outAt_C (c : Dev nD) (t : Fin cfg0.N) (p : Outs F) (h1 : ¬(cond1 (grid0.coords t) = 1#1)) (h2 : ¬(k0_cond2 (grid0.coords t) = 1#1)) :
    outAt m c t p = rd t (evenAt m c t h1 h2 ((w5 t).unread p.1) ((w6 t).unread p.2.1) ((w7 t).unread p.2.2)).1 (evenAt m c t h1 h2 ((w5 t).unread p.1) ((w6 t).unread p.2.1) ((w7 t).unread p.2.2)).2.1 (evenAt m c t h1 h2 ((w5 t).unread p.1) ((w6 t).unread p.2.1) ((w7 t).unread p.2.2)).2.2.1 := (dif_neg h1).trans (dif_neg h2)

/-- What the body leaves does not depend on what `dq`'s block held, and at the first query block of a head pair on no result block. -/
theorem outAt_A_dq (c : Dev nD) (t : Fin cfg0.N) (p p' : Outs F) (h1 : cond1 (grid0.coords t) = 1#1) : outAt m c t p = outAt m c t p' := by
  rw [outAt_A m c t p h1, outAt_A m c t p' h1]
  exact (rd_congr t
    (runFirst_dq c (grid0.coords t) (st0_0 t) (w0 t) (st0_1 t) (w1 t) (st0_2 t) (w2 t) (st0_3 t) (w3 t) (st0_4 t) (w4 t) (st0_5 t) (w5 t) (st0_6 t) (w6 t) (st0_7 t) (w7 t)
      ((w0 t).unread (iblk m c 0 t)) ((w1 t).unread (iblk m c 1 t)) ((w2 t).unread (iblk m c 2 t)) ((w3 t).unread (iblk m c 3 t)) ((w4 t).unread (iblk m c 4 t)) h1 (cond2_of_first h1) ((w5 t).unread p.1) ((w5 t).unread p'.1) ((w6 t).unread p.2.1) ((w6 t).unread p'.2.1) ((w7 t).unread p.2.2) ((w7 t).unread p'.2.2))
    (runFirst_dk c (grid0.coords t) (st0_0 t) (w0 t) (st0_1 t) (w1 t) (st0_2 t) (w2 t) (st0_3 t) (w3 t) (st0_4 t) (w4 t) (st0_5 t) (w5 t) (st0_6 t) (w6 t) (st0_7 t) (w7 t)
      ((w0 t).unread (iblk m c 0 t)) ((w1 t).unread (iblk m c 1 t)) ((w2 t).unread (iblk m c 2 t)) ((w3 t).unread (iblk m c 3 t)) ((w4 t).unread (iblk m c 4 t)) h1 (cond2_of_first h1) ((w5 t).unread p.1) ((w5 t).unread p'.1) ((w6 t).unread p.2.1) ((w6 t).unread p'.2.1) ((w7 t).unread p.2.2) ((w7 t).unread p'.2.2))
    (runFirst_dv c (grid0.coords t) (st0_0 t) (w0 t) (st0_1 t) (w1 t) (st0_2 t) (w2 t) (st0_3 t) (w3 t) (st0_4 t) (w4 t) (st0_5 t) (w5 t) (st0_6 t) (w6 t) (st0_7 t) (w7 t)
      ((w0 t).unread (iblk m c 0 t)) ((w1 t).unread (iblk m c 1 t)) ((w2 t).unread (iblk m c 2 t)) ((w3 t).unread (iblk m c 3 t)) ((w4 t).unread (iblk m c 4 t)) h1 (cond2_of_first h1) ((w5 t).unread p.1) ((w5 t).unread p'.1) ((w6 t).unread p.2.1) ((w6 t).unread p'.2.1) ((w7 t).unread p.2.2) ((w7 t).unread p'.2.2)))

theorem outAt_B_dq (c : Dev nD) (t : Fin cfg0.N) (p p' : Outs F) (e : p'.2 = p.2) (h1 : ¬(cond1 (grid0.coords t) = 1#1)) (h2 : k0_cond2 (grid0.coords t) = 1#1) : outAt m c t p = outAt m c t p' := by
  obtain ⟨p5, p67⟩ := p
  obtain ⟨q5, q67⟩ := p'
  obtain rfl : q67 = p67 := e
  rw [outAt_B m c t (p5, q67) h1 h2, outAt_B m c t (q5, q67) h1 h2]
  exact (rd_congr t
    (runOdd_dq c (grid0.coords t) (st0_0 t) (w0 t) (st0_1 t) (w1 t) (st0_2 t) (w2 t) (st0_3 t) (w3 t) (st0_4 t) (w4 t) (st0_5 t) (w5 t) (st0_6 t) (w6 t) (st0_7 t) (w7 t)
      ((w0 t).unread (iblk m c 0 t)) ((w1 t).unread (iblk m c 1 t)) ((w2 t).unread (iblk m c 2 t)) ((w3 t).unread (iblk m c 3 t)) ((w4 t).unread (iblk m c 4 t)) h1 h2 ((w5 t).unread p5) ((w5 t).unread q5) ((w6 t).unread q67.1) ((w7 t).unread q67.2))
    (runOdd_dk c (grid0.coords t) (st0_0 t) (w0 t) (st0_1 t) (w1 t) (st0_2 t) (w2 t) (st0_3 t) (w3 t) (st0_4 t) (w4 t) (st0_5 t) (w5 t) (st0_6 t) (w6 t) (st0_7 t) (w7 t)
      ((w0 t).unread (iblk m c 0 t)) ((w1 t).unread (iblk m c 1 t)) ((w2 t).unread (iblk m c 2 t)) ((w3 t).unread (iblk m c 3 t)) ((w4 t).unread (iblk m c 4 t)) h1 h2 ((w5 t).unread p5) ((w5 t).unread q5) ((w6 t).unread q67.1) ((w7 t).unread q67.2))
    (runOdd_dv c (grid0.coords t) (st0_0 t) (w0 t) (st0_1 t) (w1 t) (st0_2 t) (w2 t) (st0_3 t) (w3 t) (st0_4 t) (w4 t) (st0_5 t) (w5 t) (st0_6 t) (w6 t) (st0_7 t) (w7 t)
      ((w0 t).unread (iblk m c 0 t)) ((w1 t).unread (iblk m c 1 t)) ((w2 t).unread (iblk m c 2 t)) ((w3 t).unread (iblk m c 3 t)) ((w4 t).unread (iblk m c 4 t)) h1 h2 ((w5 t).unread p5) ((w5 t).unread q5) ((w6 t).unread q67.1) ((w7 t).unread q67.2)))

theorem outAt_C_dq (c : Dev nD) (t : Fin cfg0.N) (p p' : Outs F) (e : p'.2 = p.2) (h1 : ¬(cond1 (grid0.coords t) = 1#1)) (h2 : ¬(k0_cond2 (grid0.coords t) = 1#1)) : outAt m c t p = outAt m c t p' := by
  obtain ⟨p5, p67⟩ := p
  obtain ⟨q5, q67⟩ := p'
  obtain rfl : q67 = p67 := e
  rw [outAt_C m c t (p5, q67) h1 h2, outAt_C m c t (q5, q67) h1 h2]
  exact (rd_congr t
    (runEven_dq c (grid0.coords t) (st0_0 t) (w0 t) (st0_1 t) (w1 t) (st0_2 t) (w2 t) (st0_3 t) (w3 t) (st0_4 t) (w4 t) (st0_5 t) (w5 t) (st0_6 t) (w6 t) (st0_7 t) (w7 t)
      ((w0 t).unread (iblk m c 0 t)) ((w1 t).unread (iblk m c 1 t)) ((w2 t).unread (iblk m c 2 t)) ((w3 t).unread (iblk m c 3 t)) ((w4 t).unread (iblk m c 4 t)) h1 h2 ((w5 t).unread p5) ((w5 t).unread q5) ((w6 t).unread q67.1) ((w7 t).unread q67.2))
    (runEven_dk c (grid0.coords t) (st0_0 t) (w0 t) (st0_1 t) (w1 t) (st0_2 t) (w2 t) (st0_3 t) (w3 t) (st0_4 t) (w4 t) (st0_5 t) (w5 t) (st0_6 t) (w6 t) (st0_7 t) (w7 t)
      ((w0 t).unread (iblk m c 0 t)) ((w1 t).unread (iblk m c 1 t)) ((w2 t).unread (iblk m c 2 t)) ((w3 t).unread (iblk m c 3 t)) ((w4 t).unread (iblk m c 4 t)) h1 h2 ((w5 t).unread p5) ((w5 t).unread q5) ((w6 t).unread q67.1) ((w7 t).unread q67.2))
    (runEven_dv c (grid0.coords t) (st0_0 t) (w0 t) (st0_1 t) (w1 t) (st0_2 t) (w2 t) (st0_3 t) (w3 t) (st0_4 t) (w4 t) (st0_5 t) (w5 t) (st0_6 t) (w6 t) (st0_7 t) (w7 t)
      ((w0 t).unread (iblk m c 0 t)) ((w1 t).unread (iblk m c 1 t)) ((w2 t).unread (iblk m c 2 t)) ((w3 t).unread (iblk m c 3 t)) ((w4 t).unread (iblk m c 4 t)) h1 h2 ((w5 t).unread p5) ((w5 t).unread q5) ((w6 t).unread q67.1) ((w7 t).unread q67.2)))

theorem cond1_at (t : Fin cfg0.N) : cond1 (grid0.coords t) = 1#1 ↔ t.val % 8 = 0 := by rw [cond1_iff, coord1]

/-- The body at point `t`, from any contents of the result blocks whose result is the next state. -/
theorem sound_at (c : Dev nD) (t : Fin cfg0.N) (p : Outs F) (e : outAt m c t p = outs m c (t.val + 1)) :
    iprop((dats m 0 c).Φ t.castSucc ∗ (dats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t)
      ∗ owns (c : Thread nD τ) (st0_5 t) fullShare p.1 ∗ owns (c : Thread nD τ) (st0_6 t) fullShare p.2.1 ∗ owns (c : Thread nD τ) (st0_7 t) fullShare p.2.2)
      ⊢ wp frame (wpE (defs₀ (F := F)) Variants.none (c : Thread nD τ) none) Set.univ (bodyAt0 t) (fun _ => bodyPost m c t) := by
  by_cases h1 : cond1 (grid0.coords t) = 1#1
  · exact sound_of m c t p.1 p.2.1 p.2.2 (firstAt m c t h1 (cond2_of_first h1) ((w5 t).unread p.1) ((w6 t).unread p.2.1) ((w7 t).unread p.2.2)).1 (firstAt m c t h1 (cond2_of_first h1) ((w5 t).unread p.1) ((w6 t).unread p.2.1) ((w7 t).unread p.2.2)).2.1 (firstAt m c t h1 (cond2_of_first h1) ((w5 t).unread p.1) ((w6 t).unread p.2.1) ((w7 t).unread p.2.2)).2.2.1 (firstAt m c t h1 (cond2_of_first h1) ((w5 t).unread p.1) ((w6 t).unread p.2.1) ((w7 t).unread p.2.2)).2.2.2 ((outAt_A m c t p h1).symm.trans e)
  · by_cases h2 : k0_cond2 (grid0.coords t) = 1#1
    · exact sound_of m c t p.1 p.2.1 p.2.2 (oddAt m c t h1 h2 ((w5 t).unread p.1) ((w6 t).unread p.2.1) ((w7 t).unread p.2.2)).1 (oddAt m c t h1 h2 ((w5 t).unread p.1) ((w6 t).unread p.2.1) ((w7 t).unread p.2.2)).2.1 (oddAt m c t h1 h2 ((w5 t).unread p.1) ((w6 t).unread p.2.1) ((w7 t).unread p.2.2)).2.2.1 (oddAt m c t h1 h2 ((w5 t).unread p.1) ((w6 t).unread p.2.1) ((w7 t).unread p.2.2)).2.2.2 ((outAt_B m c t p h1 h2).symm.trans e)
    · exact sound_of m c t p.1 p.2.1 p.2.2 (evenAt m c t h1 h2 ((w5 t).unread p.1) ((w6 t).unread p.2.1) ((w7 t).unread p.2.2)).1 (evenAt m c t h1 h2 ((w5 t).unread p.1) ((w6 t).unread p.2.1) ((w7 t).unread p.2.2)).2.1 (evenAt m c t h1 h2 ((w5 t).unread p.1) ((w6 t).unread p.2.1) ((w7 t).unread p.2.2)).2.2.1 (evenAt m c t h1 h2 ((w5 t).unread p.1) ((w6 t).unread p.2.1) ((w7 t).unread p.2.2)).2.2.2 ((outAt_C m c t p h1 h2).symm.trans e)

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (dats m 0 c) (A_eq m c 0) (after0 m c) t d0, before0_1_of m (dats m 0 c) (A_eq m c 1) (after1 m c) t d1,
    before0_2_of m (dats m 0 c) (A_eq m c 2) (after2 m c) t d2, before0_3_of m (dats m 0 c) (A_eq m c 3) (after3 m c) t d3,
    before0_4_of m (dats m 0 c) (A_eq m c 4) (after4 m c) t d4]
  iapply (sound_at m c t ((dats m 0 c).before 5 t d5, (dats m 0 c).before 6 t d6, (dats m 0 c).before 7 t d7) (by
    rw [outs_succ]
    by_cases h : t.val % 8 = 0
    · exact outAt_A_dq m c t _ _ ((cond1_at t).2 h)
    · rw [before6 m c t h, before7 m c t h]
      by_cases h2 : k0_cond2 (grid0.coords t) = 1#1
      · exact outAt_B_dq m c t _ (outs m c t.val) rfl (fun h' => h ((cond1_at t).1 h')) h2
      · exact outAt_C_dq m c t _ (outs m c t.val) rfl (fun h' => h ((cond1_at t).1 h')) h2))
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every fair run of the program ends with the arrays at what the proof data says and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched, and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Idealize.ShloMosaic.θ_run_and (frame_of m ρ (dats m) (A_eq m) ((θ_run defs _ _).mono (fun _ h => h.1) (run_main m ρ)))
    ((θ_run defs _ _).mono (fun _ h => h.2) (run_main m ρ))

end Cert.Proof.Sb

end
-- ==== Proof.Grid.lean ====
/-
  Arrays of real numbers, named by a function of two coordinates, and the operations of the body on them.
-/
module

public import proofs.«01_k».proof.Proof.Body
public import Idealize.ShloMosaic.Lib.ValueIdx
public import Idealize.ShloMosaic.Lib.MatmulPlain
public import Idealize.ShloMosaic.Lib.Pointwise.Contract
public import Idealize.ShloMosaic.Lib.Pointwise.Reduce
public import Idealize.ShloMosaic.Lib.Pipeline.Value
public import Idealize.ShloMosaic.Lib.IdealHost

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.ShloMosaic.ValueIdx

/-- The coordinate along axis `a` of an index, `0` past the rank. -/
def co {s : Shape} (i : s.Idx) (a : ℕ) : ℕ := if h : a < s.rank then (i ⟨a, h⟩).val else 0

/-- The array that holds `f r c` at the index whose first two coordinates are `r` and `c`. -/
def up (s : Shape) (φ : FTy) (f : ℕ → ℕ → ℝ) : FVec Ideal s φ := fun i => ((f (co i 0) (co i 1) : ℝ) : EReal)

/-- The mask that holds at the indices whose first two coordinates satisfy `P`. -/
def mk (s : Shape) (P : ℕ → ℕ → Bool) : IVec s 1 := fun i => BitVec.ofBool (P (co i 0) (co i 1))

theorem up_apply (s : Shape) (φ : FTy) (f : ℕ → ℕ → ℝ) (i : s.Idx) : up s φ f i = ((f (co i 0) (co i 1) : ℝ) : EReal) := rfl

section Pointwise
variable {s : Shape} {φ ψ : FTy} (f g : ℕ → ℕ → ℝ)

theorem up_mul : mulf (up s φ f) (up s φ g) = up s φ (fun r c => f r c * g r c) := by
  funext i; exact (EReal.coe_mul _ _).symm
theorem up_add : addf (up s φ f) (up s φ g) = up s φ (fun r c => f r c + g r c) := by
  funext i; exact (EReal.coe_add _ _).symm
theorem up_sub : subf (up s φ f) (up s φ g) = up s φ (fun r c => f r c - g r c) := by
  funext i; exact (EReal.coe_sub _ _).symm
theorem up_min : minimumf (up s φ f) (up s φ g) = up s φ (fun r c => min (f r c) (g r c)) := by
  funext i; exact (EReal.coe_strictMono.monotone.map_min (a := f _ _) (b := g _ _)).symm
theorem up_abs : absf (up s φ f) = up s φ (fun r c => |f r c|) := by
  funext i
  have h : max ((f (co i 0) (co i 1) : ℝ) : EReal) (-((f (co i 0) (co i 1) : ℝ) : EReal)) = ((|f (co i 0) (co i 1)| : ℝ) : EReal) := by
    rw [← EReal.coe_neg, abs_eq_max_neg]; exact (EReal.coe_strictMono.monotone.map_max).symm
  exact h
theorem up_exp : exp (up s φ f) = up s φ (fun r c => Real.exp (f r c)) := by
  funext i; rfl
theorem up_log1p : log (up s φ (fun r c => 1 + Real.exp (f r c))) = up s φ (fun r c => Real.log (1 + Real.exp (f r c))) := by
  funext i
  have h : Ideal.log ((1 + Real.exp (f (co i 0) (co i 1)) : ℝ) : EReal) = ((Real.log (1 + Real.exp (f (co i 0) (co i 1))) : ℝ) : EReal) :=
    if_neg (not_le.2 (by positivity))
  exact h
theorem up_truncf (h : ψ.bits < φ.bits) : truncf ψ (up s φ f) h = up s ψ f := rfl
theorem up_extf (h : φ.bits < ψ.bits) : extf ψ (up s φ f) h = up s ψ f := rfl
theorem up_select (P : ℕ → ℕ → Bool) : select (mk s P) (up s φ f) (up s φ g) = up s φ (fun r c => if P r c then f r c else g r c) := by
  funext i
  rw [select_apply]
  simp only [mk, up_apply]
  cases P (co i 0) (co i 1) <;> simp [Scalar.select]
end Pointwise

theorem bc0 (s : Shape) : broadcast s (Scalar.ofBits .f32 0x00000000#32 : Ideal .f32) = up s .f32 (fun _ _ => 0) := by
  funext i
  have h : Ideal.ofBits .f32 0x00000000#32 = ((0 : ℝ) : EReal) := by simp [Ideal.ofBits, Ideal.ieee]
  exact h
theorem bc1 (s : Shape) : broadcast s (Scalar.ofBits .f32 0x3F800000#32 : Ideal .f32) = up s .f32 (fun _ _ => 1) := by
  funext i
  have h : Ideal.ofBits .f32 0x3F800000#32 = ((1 : ℝ) : EReal) := by simp
  exact h
theorem bc8 (s : Shape) : broadcast s (Scalar.ofBits .f32 0x3E000000#32 : Ideal .f32) = up s .f32 (fun _ _ => 1 / 8) := by
  funext i
  have h : Ideal.ofBits .f32 0x3E000000#32 = ((1 / 8 : ℝ) : EReal) := by
    simp [Ideal.ofBits, Ideal.ieee]
    rw [← EReal.coe_mul]
    norm_num
  exact h

theorem const0 (s : Shape) : (constant s .f32 0x00000000#32 : FVec Ideal s .f32) = up s .f32 (fun _ _ => 0) := bc0 s

theorem coe_sum {ι : Type} (A : Finset ι) (f : ι → ℝ) : ((∑ x ∈ A, f x : ℝ) : EReal) = ∑ x ∈ A, ((f x : ℝ) : EReal) :=
  map_sum (⟨⟨Real.toEReal, rfl⟩, EReal.coe_add⟩ : ℝ →+ EReal) f A

theorem up_congr (s : Shape) (φ : FTy) (n0 n1 : ℕ) (hs : ∀ i : s.Idx, co i 0 < n0 ∧ co i 1 < n1) {f g : ℕ → ℕ → ℝ}
    (h : ∀ r c, r < n0 → c < n1 → f r c = g r c) : up s φ f = up s φ g := by
  funext i
  rw [up_apply, up_apply, h _ _ (hs i).1 (hs i).2]

theorem co_lt {n0 n1 : ℕ} (i : (⟨2, ![n0, n1]⟩ : Shape).Idx) : co i 0 < n0 ∧ co i 1 < n1 := ⟨(i 0).isLt, (i 1).isLt⟩

theorem up_congr2 {n0 n1 : ℕ} (φ : FTy) {f g : ℕ → ℕ → ℝ} (h : ∀ r c, r < n0 → c < n1 → f r c = g r c) :
    up ⟨2, ![n0, n1]⟩ φ f = up ⟨2, ![n0, n1]⟩ φ g := up_congr _ _ n0 n1 co_lt h

/-- A product contracting the second coordinate of both sides. -/
theorem up_nt {M K N : ℕ} {φ ψ : FTy} (f g : ℕ → ℕ → ℝ) :
    matmul (DotDims.transposedRhs M K N) none (up ⟨2, ![M, K]⟩ φ f) (up ⟨2, ![N, K]⟩ ψ g) (up ⟨2, ![M, N]⟩ .f32 fun _ _ => 0)
      = up ⟨2, ![M, N]⟩ .f32 (fun r c => ∑ k ∈ Finset.range K, f r k * g c k) := by
  funext j
  obtain ⟨r, c, rfl⟩ : ∃ a b, j = ValueIdx.ix2 a b := ⟨j 0, j 1, by funext a; match a with | ⟨0, _⟩ => rfl | ⟨1, _⟩ => rfl⟩
  refine (Ideal.matmul_transposedRhs_apply none _ _ _ r c).trans ?_
  rw [up_apply, up_apply, EReal.coe_zero, zero_add, ← Fin.sum_univ_eq_sum_range, coe_sum]
  refine Finset.sum_congr rfl fun k _ => ?_
  exact (EReal.coe_mul _ _).symm

/-- A plain product. -/
theorem up_nn {M K N : ℕ} {φ ψ : FTy} (f g : ℕ → ℕ → ℝ) :
    matmul (DotDims.plain M K N) none (up ⟨2, ![M, K]⟩ φ f) (up ⟨2, ![K, N]⟩ ψ g) (up ⟨2, ![M, N]⟩ .f32 fun _ _ => 0)
      = up ⟨2, ![M, N]⟩ .f32 (fun r c => ∑ k ∈ Finset.range K, f r k * g k c) := by
  funext j
  obtain ⟨r, c, rfl⟩ : ∃ a b, j = ValueIdx.ix2 a b := ⟨j 0, j 1, by funext a; match a with | ⟨0, _⟩ => rfl | ⟨1, _⟩ => rfl⟩
  refine (Ideal.matmul_plain_apply none _ _ _ r c).trans ?_
  rw [up_apply, up_apply, EReal.coe_zero, zero_add, ← Fin.sum_univ_eq_sum_range, coe_sum]
  refine Finset.sum_congr rfl fun k _ => ?_
  exact (EReal.coe_mul _ _).symm

/-- A product contracting the first coordinate of both sides. -/
theorem up_tn {φ ψ : FTy} (f g : ℕ → ℕ → ℝ) :
    matmul dot_S256x256_S256x128_S256x128_0_0_1_1_n_n none (up S256x256 φ f) (up S256x128 ψ g) (up S256x128 .f32 fun _ _ => 0)
      = up S256x128 .f32 (fun r c => ∑ k ∈ Finset.range 256, f k r * g k c) := by
  funext j
  refine (Ideal.matmul_apply₁ dot_S256x256_S256x128_S256x128_0_0_1_1_n_n (a := 0) rfl (K := 256) rfl _ _ _ j).trans ?_
  rw [up_apply, up_apply, EReal.coe_zero, zero_add, ← Fin.sum_univ_eq_sum_range, coe_sum]
  refine Finset.sum_congr rfl fun k _ => ?_
  exact (EReal.coe_mul _ _).symm

/-- The sum along a row, kept as a column. -/
theorem up_rowsum_of (f : ℕ → ℕ → ℝ) (h) (h' : FKind.Formats .f32) (h'') :
    shapeCast S256x1 (multiReduction .add [1] S256 (up S256x256 .f32 f) 0x00000000#32 h h' h'') shapeCasts_S256_S256x1
      = up S256x1 .f32 (fun r _ => ∑ k ∈ Finset.range 256, f r k) := by
  funext j
  have hj : (j 1).val = 0 := by have := (j 1).isLt; change (j 1).val < 1 at this; omega
  rw [shapeCast_apply _ _ j (ValueIdx.ix1 (n := 256) (j 0)) (by
    refine (Shape.rowMajor_val_one _).trans ((Shape.rowMajor_val_two _).trans ?_).symm
    change (j 0).val * 1 + (j 1).val = (j 0).val
    omega)]
  refine (Ideal.reduceAdd_r2_a1 (n0 := 256) (n1 := 256) _ _ _).trans ?_
  rw [up_apply, ← Fin.sum_univ_eq_sum_range, coe_sum]
  rfl

theorem up_rowsum (f : ℕ → ℕ → ℝ) :
    shapeCast S256x1 (multiReduction .add ([(1 : Fin S256x256.rank)] : List (Fin 2)) S256 (up S256x256 .f32 f) 0x00000000#32 reduces_S256x256_S256 (.inl rfl) rfl) shapeCasts_S256_S256x1
      = up S256x1 .f32 (fun r _ => ∑ k ∈ Finset.range 256, f r k) := up_rowsum_of f _ _ _

theorem up_row (f : ℕ → ℕ → ℝ) : broadcastTo S256x256 (up S256x1 .f32 f) broadcasts_S256x1_S256x256 = up S256x256 .f32 (fun r _ => f r 0) := by
  funext j
  rw [broadcastTo_apply _ _ j (ValueIdx.ix2 (n0 := 256) (n1 := 1) (j 0) 0) (by intro a; match a with | ⟨0, _⟩ => rfl | ⟨1, _⟩ => rfl)]
  rfl

theorem up_cast (f : ℕ → ℕ → ℝ) (s : Shape) (h : s.ShapeCasts s) : shapeCast s (up s .f32 f) h = up s .f32 f := by
  funext j
  rw [shapeCast_apply _ h j j rfl]

end Cert.Proof.Sb
-- ==== Proof.Sem.lean ====
/-
  The gradient of stick-breaking attention over the real numbers, and the sums the kernel's blocks compute of it.
-/
module

public import proofs.«01_k».proof.Proof.Grid

@[expose] public section

noncomputable section

namespace Cert.Proof.Sb

open Cert.KernelIdeal Cert.KernelIdeal.Gen
open Idealize.ShloMosaic Idealize.ShloMosaic.TcCoe Idealize.ShloMosaic.Tactic

/-- The four arguments, by token and column. -/
structure In where
  q : ℕ → ℕ → ℝ
  k : ℕ → ℕ → ℝ
  v : ℕ → ℕ → ℝ
  d : ℕ → ℕ → ℝ

variable (x : In)

/-- The score of query `t` and key `s` under head `h`. -/
def Z (h t s : ℕ) : ℝ := ∑ j ∈ Finset.range 64, (x.q t (64 * h + j) * (1 / 8)) * x.k s (64 * h + j)
/-- The logarithm of the score's logistic. -/
def LB (h t s : ℕ) : ℝ := min (Z x h t s) 0 - Real.log (1 + Real.exp (0 - |Z x h t s|))
/-- The logarithm of one minus the score's logistic. -/
def L1 (h t s : ℕ) : ℝ := LB x h t s - Z x h t s
/-- The same, zero unless the key comes before the query. -/
def L1m (h t s : ℕ) : ℝ := if s < t then L1 x h t s else 0
/-- Its sum over the first `n` keys. -/
def PRE (h t n : ℕ) : ℝ := ∑ j ∈ Finset.range n, L1m x h t j
/-- Its sum over all keys before the query. -/
def TOT (h t : ℕ) : ℝ := PRE x h t t
/-- The weight of key `s` for query `t`. -/
def W (h t s : ℕ) : ℝ := if s < t then Real.exp (LB x h t s + (TOT x h t - PRE x h t (s + 1))) else 0
/-- The weight's cotangent. -/
def DW (h t s : ℕ) : ℝ := ∑ j ∈ Finset.range 64, x.d t (64 * h + j) * x.v s (64 * h + j)
/-- The cotangent of the weight's logarithm. -/
def E (h t s : ℕ) : ℝ := W x h t s * DW x h t s
/-- Its sum over the first `n` keys. -/
def CDE (h t n : ℕ) : ℝ := ∑ j ∈ Finset.range n, E x h t j
/-- The score's cotangent. -/
def DZ (h t s : ℕ) : ℝ := if s < t then E x h t s * Real.exp (L1 x h t s) - CDE x h t s * Real.exp (LB x h t s) else 0
/-- The query's gradient at column `l` of the head pair `p`, from the first `n` keys, before the scale. -/
def DQ (p t n l : ℕ) : ℝ := ∑ s ∈ Finset.range n, DZ x (2 * p + l / 64) t s * x.k s (128 * p + l)

/-! ## The blocks: rows from `t0` on, columns from `s0` on -/

variable (h t0 s0 : ℕ)

def zB (r c : ℕ) : ℝ := Z x h (t0 + r) (s0 + c)
def lbB (r c : ℕ) : ℝ := LB x h (t0 + r) (s0 + c)
def l1B (r c : ℕ) : ℝ := L1 x h (t0 + r) (s0 + c)
def mnB (r c : ℕ) : ℝ := min (zB x h t0 s0 r c) 0
def l1mB (r c : ℕ) : ℝ := L1m x h (t0 + r) (s0 + c)
def preB (r _c : ℕ) : ℝ := PRE x h (t0 + r) s0
def totB (r _c : ℕ) : ℝ := TOT x h (t0 + r)
def pfB (r c : ℕ) : ℝ := ∑ j ∈ Finset.range (c + 1), L1m x h (t0 + r) (s0 + j)
def exB (r c : ℕ) : ℝ := lbB x h t0 s0 r c + (totB x h t0 r 0 - (pfB x h t0 s0 r c + preB x h t0 s0 r 0))
def wB (r c : ℕ) : ℝ := W x h (t0 + r) (s0 + c)
def dwB (r c : ℕ) : ℝ := DW x h (t0 + r) (s0 + c)
def eB (r c : ℕ) : ℝ := E x h (t0 + r) (s0 + c)
def cdeB (r _c : ℕ) : ℝ := CDE x h (t0 + r) s0
def dlB (r c : ℕ) : ℝ := CDE x h (t0 + r) (s0 + c)
def xl1B (r c : ℕ) : ℝ := Real.exp (l1B x h t0 s0 r c)
def exl1B (r c : ℕ) : ℝ := eB x h t0 s0 r c * xl1B x h t0 s0 r c
def dzB (r c : ℕ) : ℝ := DZ x h (t0 + r) (s0 + c)

variable (p a : ℕ)

def qB (r l : ℕ) : ℝ := x.q (t0 + r) (128 * p + l)
def qsB (r l : ℕ) : ℝ := qB x t0 p r l * (1 / 8)
def dB (r l : ℕ) : ℝ := x.d (t0 + r) (128 * p + l)
def kB (r l : ℕ) : ℝ := x.k (s0 + r) (128 * p + l)
def vB (r l : ℕ) : ℝ := x.v (s0 + r) (128 * p + l)
def qmB (r l : ℕ) : ℝ := if decide (l / 64 = a) then qsB x t0 p r l else 0
def dmB (r l : ℕ) : ℝ := if decide (l / 64 = a) then dB x t0 p r l else 0
def kmB (r l : ℕ) : ℝ := if decide (l / 64 = a) then kB x s0 p r l else 0
def dqB (r l : ℕ) : ℝ := DQ x p (t0 + r) s0 l
def dvB (s l : ℕ) : ℝ := ∑ r ∈ Finset.range 256, W x (2 * p + l / 64) (t0 + r) (s0 + s) * dB x t0 p r l
def dkB (s l : ℕ) : ℝ := ∑ r ∈ Finset.range 256, DZ x (2 * p + l / 64) (t0 + r) (s0 + s) * qsB x t0 p r l
/-- The two triangles. -/
def leB (r c : ℕ) : ℝ := if decide (r ≤ c) then 1 else 0
def ltB (r c : ℕ) : ℝ := if decide (r < c) then 1 else 0

/-! ## The sums -/

theorem sum_head (f : ℕ → ℝ) (ha : a = 0 ∨ a = 1) :
    (∑ l ∈ Finset.range 128, if l / 64 = a then f (128 * p + l) else 0) = ∑ j ∈ Finset.range 64, f (64 * (2 * p + a) + j) := by
  rw [show (128 : ℕ) = 64 + 64 from rfl, Finset.sum_range_add]
  have e1 : ∀ l ∈ Finset.range 64, l / 64 = 0 := fun l hl => by have := Finset.mem_range.1 hl; omega
  have e2 : ∀ l ∈ Finset.range 64, (64 + l) / 64 = 1 := fun l hl => by have := Finset.mem_range.1 hl; omega
  rcases ha with rfl | rfl
  · rw [Finset.sum_congr rfl (fun l hl => if_pos (e1 l hl)), Finset.sum_congr rfl (fun l hl => if_neg (by rw [e2 l hl]; decide)), Finset.sum_const_zero, add_zero]
    refine Finset.sum_congr rfl fun l _ => ?_
    congr 1; ring
  · rw [Finset.sum_congr rfl (fun l hl => if_neg (by rw [e1 l hl]; decide)), Finset.sum_congr rfl (fun l hl => if_pos (e2 l hl)), Finset.sum_const_zero, zero_add]
    refine Finset.sum_congr rfl fun l _ => ?_
    congr 1; ring

theorem z_eq (ha : a = 0 ∨ a = 1) (r c : ℕ) : ∑ l ∈ Finset.range 128, qmB x t0 p a r l * kmB x s0 p a c l = zB x (2 * p + a) t0 s0 r c := by
  unfold zB Z
  rw [← sum_head p a (fun j => (x.q (t0 + r) j * (1 / 8)) * x.k (s0 + c) j) ha]
  refine Finset.sum_congr rfl fun l _ => ?_
  unfold qmB kmB qsB qB kB
  by_cases h : l / 64 = a <;> simp [h]

theorem dw_eq (ha : a = 0 ∨ a = 1) (r c : ℕ) : ∑ l ∈ Finset.range 128, dmB x t0 p a r l * vB x s0 p c l = dwB x (2 * p + a) t0 s0 r c := by
  unfold dwB DW
  rw [← sum_head p a (fun j => x.d (t0 + r) j * x.v (s0 + c) j) ha]
  refine Finset.sum_congr rfl fun l _ => ?_
  unfold dmB dB vB
  by_cases h : l / 64 = a <;> simp [h]

theorem l1m_off (hs : s0 + 256 ≤ t0) (r c : ℕ) (hc : c < 256) : l1B x h t0 s0 r c = l1mB x h t0 s0 r c := by
  unfold l1B l1mB L1m; rw [if_pos (by omega)]
theorem l1m_diag (r c : ℕ) : (if decide (c < r) then l1B x h t0 t0 r c else 0) = l1mB x h t0 t0 r c := by
  unfold l1B l1mB L1m
  by_cases e : c < r <;> simp [e]

/-- A row of a triangle's product is a prefix sum. -/
theorem sum_le (f : ℕ → ℝ) (c : ℕ) (hc : c < 256) : ∑ k ∈ Finset.range 256, f k * leB k c = ∑ j ∈ Finset.range (c + 1), f j := by
  unfold leB
  simp only [decide_eq_true_eq, mul_ite, mul_one, mul_zero]
  rw [← Finset.sum_filter]
  refine Finset.sum_congr ?_ fun _ _ => rfl
  ext j; simp only [Finset.mem_filter, Finset.mem_range]; omega
theorem sum_lt (f : ℕ → ℝ) (c : ℕ) (hc : c < 256) : ∑ k ∈ Finset.range 256, f k * ltB k c = ∑ j ∈ Finset.range c, f j := by
  unfold ltB
  simp only [decide_eq_true_eq, mul_ite, mul_one, mul_zero]
  rw [← Finset.sum_filter]
  refine Finset.sum_congr ?_ fun _ _ => rfl
  ext j; simp only [Finset.mem_filter, Finset.mem_range]; omega

/-- The prefix sum from a high and a low part. -/
theorem pf_eq (r c : ℕ) (hc : c < 256) :
    (∑ k ∈ Finset.range 256, l1mB x h t0 s0 r k * leB k c + ∑ k ∈ Finset.range 256, (l1mB x h t0 s0 r k - l1mB x h t0 s0 r k) * leB k c)
      = pfB x h t0 s0 r c := by
  simp only [sub_self, zero_mul, Finset.sum_const_zero, add_zero]
  exact sum_le _ c hc
theorem pf_off (hs : s0 + 256 ≤ t0) (r c : ℕ) (hc : c < 256) :
    (∑ k ∈ Finset.range 256, l1B x h t0 s0 r k * leB k c + ∑ k ∈ Finset.range 256, (l1B x h t0 s0 r k - l1B x h t0 s0 r k) * leB k c)
      = pfB x h t0 s0 r c := by
  rw [← pf_eq x h t0 s0 r c hc]
  simp only [sub_self, zero_mul, Finset.sum_const_zero, add_zero]
  refine Finset.sum_congr rfl fun k hk => ?_
  rw [l1m_off x h t0 s0 hs r k (Finset.mem_range.1 hk)]

theorem pre_add (r c : ℕ) (n : ℕ) : preB x h t0 s0 r c + ∑ k ∈ Finset.range n, l1mB x h t0 s0 r k = preB x h t0 (s0 + n) r c := by
  unfold preB PRE l1mB; rw [Finset.sum_range_add]
theorem pre_off (hs : s0 + 256 ≤ t0) (r c : ℕ) : preB x h t0 s0 r c + ∑ k ∈ Finset.range 256, l1B x h t0 s0 r k = preB x h t0 (s0 + 256) r c := by
  rw [← pre_add]
  congr 1
  refine Finset.sum_congr rfl fun k hk => ?_
  rw [l1m_off x h t0 s0 hs r k (Finset.mem_range.1 hk)]

theorem w_of_ex (r c : ℕ) (hlt : s0 + c < t0 + r) : Real.exp (exB x h t0 s0 r c) = wB x h t0 s0 r c := by
  unfold wB W exB
  rw [if_pos hlt]
  have e := pre_add x h t0 s0 r 0 (c + 1)
  unfold preB at e
  unfold lbB totB pfB preB
  congr 3
  rw [show s0 + c + 1 = s0 + (c + 1) by ring, ← e, add_comm]
  rfl
theorem w_off (hs : s0 + 256 ≤ t0) (r c : ℕ) (hc : c < 256) : Real.exp (exB x h t0 s0 r c) = wB x h t0 s0 r c := w_of_ex _ _ _ _ _ _ (by omega)
theorem w_diag (r c : ℕ) : (if decide (c < r) then Real.exp (exB x h t0 t0 r c) else 0) = wB x h t0 t0 r c := by
  by_cases e : c < r
  · rw [if_pos (by simpa using e), w_of_ex x h t0 t0 r c (by omega)]
  · rw [if_neg (by simpa using e)]; unfold wB W; rw [if_neg (by omega)]

theorem cde_add (r c : ℕ) : cdeB x h t0 s0 r c + ∑ k ∈ Finset.range 256, eB x h t0 s0 r k = cdeB x h t0 (s0 + 256) r c := by
  unfold cdeB CDE eB; rw [Finset.sum_range_add]
theorem dl_eq (r c : ℕ) (hc : c < 256) : ∑ k ∈ Finset.range 256, eB x h t0 s0 r k * ltB k c + cdeB x h t0 s0 r 0 = dlB x h t0 s0 r c := by
  rw [sum_lt _ c hc, add_comm]
  unfold cdeB dlB CDE eB; rw [Finset.sum_range_add]

theorem dz_off (hs : s0 + 256 ≤ t0) (r c : ℕ) (hc : c < 256) :
    eB x h t0 s0 r c * Real.exp (l1B x h t0 s0 r c) - dlB x h t0 s0 r c * Real.exp (lbB x h t0 s0 r c) = dzB x h t0 s0 r c := by
  unfold dzB DZ; rw [if_pos (by omega)]; rfl
theorem dz_diag (r c : ℕ) :
    (if decide (c < r) then eB x h t0 t0 r c * Real.exp (l1B x h t0 t0 r c) - dlB x h t0 t0 r c * Real.exp (lbB x h t0 t0 r c) else 0) = dzB x h t0 t0 r c := by
  unfold dzB DZ
  by_cases e : c < r
  · rw [if_pos (by simpa using e), if_pos (by omega)]; rfl
  · rw [if_neg (by simpa using e), if_neg (by omega)]

/-- A lane belongs to one of the two heads. -/
theorem two_heads (f g : ℕ → ℝ) (n l : ℕ) (hl : l < 128) (u : ℕ → ℝ) (F : ℕ → ℕ → ℝ) (h0 : f = F 0) (h1 : g = F 1) :
    (∑ r ∈ Finset.range n, f r * (if decide (l / 64 = 0) then u r else 0) + ∑ r ∈ Finset.range n, g r * (if decide (l / 64 = 1) then u r else 0))
      = ∑ r ∈ Finset.range n, F (l / 64) r * u r := by
  rcases (show l / 64 = 0 ∨ l / 64 = 1 by omega) with e | e <;> simp [e, h0, h1]

theorem dv_eq (s l : ℕ) (hl : l < 128) :
    (∑ r ∈ Finset.range 256, wB x (2 * p) t0 s0 r s * dmB x t0 p 0 r l + ∑ r ∈ Finset.range 256, wB x (2 * p + 1) t0 s0 r s * dmB x t0 p 1 r l)
      = dvB x t0 s0 p s l :=
  two_heads _ _ 256 l hl _ (fun a r => W x (2 * p + a) (t0 + r) (s0 + s)) rfl rfl
theorem dk_eq (s l : ℕ) (hl : l < 128) :
    (∑ r ∈ Finset.range 256, dzB x (2 * p) t0 s0 r s * qmB x t0 p 0 r l + ∑ r ∈ Finset.range 256, dzB x (2 * p + 1) t0 s0 r s * qmB x t0 p 1 r l)
      = dkB x t0 s0 p s l :=
  two_heads _ _ 256 l hl _ (fun a r => DZ x (2 * p + a) (t0 + r) (s0 + s)) rfl rfl
theorem dq_eq (r l : ℕ) (hl : l < 128) :
    (dqB x t0 s0 p r l + ∑ k ∈ Finset.range 256, dzB x (2 * p) t0 s0 r k * kmB x s0 p 0 k l + ∑ k ∈ Finset.range 256, dzB x (2 * p + 1) t0 s0 r k * kmB x s0 p 1 k l)
      = dqB x t0 (s0 + 256) p r l := by
  rw [add_assoc]
  refine (congrArg (dqB x t0 s0 p r l + ·) (two_heads _ _ 256 l hl (fun k => kB x s0 p k l) (fun a k => DZ x (2 * p + a) (t0 + r) (s0 + k)) rfl rfl)).trans ?_
  unfold dqB DQ; rw [Finset.sum_range_add]; rfl

/-! ## The products at the printed shapes, and the masks -/

theorem up_nn2 {φ ψ : FTy} (f g : ℕ → ℕ → ℝ) :
    matmul dot_S256x256_S256x256_S256x256_1_0_0_1_n_n none (up S256x256 φ f) (up S256x256 ψ g) (up S256x256 .f32 fun _ _ => 0)
      = up S256x256 .f32 (fun r c => ∑ k ∈ Finset.range 256, f r k * g k c) := up_nn (M := 256) (K := 256) (N := 256) f g
theorem up_nnl {φ ψ : FTy} (f g : ℕ → ℕ → ℝ) :
    matmul dot_S256x256_S256x128_S256x128_1_0_0_1_n_n none (up S256x256 φ f) (up S256x128 ψ g) (up S256x128 .f32 fun _ _ => 0)
      = up S256x128 .f32 (fun r c => ∑ k ∈ Finset.range 256, f r k * g k c) := up_nn (M := 256) (K := 256) (N := 128) f g
theorem up_ntl {φ ψ : FTy} (f g : ℕ → ℕ → ℝ) :
    matmul dot_S256x128_S256x128_S256x256_1_1_0_0_n_n none (up S256x128 φ f) (up S256x128 ψ g) (up S256x256 .f32 fun _ _ => 0)
      = up S256x256 .f32 (fun r c => ∑ k ∈ Finset.range 128, f r k * g c k) := up_nt (M := 256) (K := 128) (N := 256) f g

theorem slt_val (m n : ℕ) (hm : m < 256) (hn : n < 256) : (BitVec.ofNat 32 m).slt (BitVec.ofNat 32 n) = decide (m < n) := by
  rw [BitVec.slt_eq_decide, BitVec.toInt_eq_toNat_of_lt (by simp; omega), BitVec.toInt_eq_toNat_of_lt (by simp; omega)]
  simp [Nat.mod_eq_of_lt (show m < 4294967296 by omega), Nat.mod_eq_of_lt (show n < 4294967296 by omega)]

theorem pay167_eq : k0_pay167 = mk S256x256 (fun r c => decide (c < r)) := by
  funext i
  have h := slt_val (i 1).val (i 0).val (i 1).isLt (i 0).isLt
  rw [← iota_single_apply .tc S256x256 32 1 iota_S256x256_d1_w32 i, ← iota_single_apply .tc S256x256 32 0 iota_S256x256_d0_w32 i] at h
  exact congrArg BitVec.ofBool h
theorem pay117_eq : k0_pay117 = mk S256x256 (fun r c => decide (c < r)) := pay167_eq

theorem extui_bool (b : Bool) : (((BitVec.ofBool b).setWidth 32).toInt : ℝ) = if b then 1 else 0 := by
  cases b <;> simp

theorem sle_val (m n : ℕ) (hm : m < 256) (hn : n < 256) : (BitVec.ofNat 32 m).sle (BitVec.ofNat 32 n) = decide (m ≤ n) := by
  rw [BitVec.sle_eq_decide, BitVec.toInt_eq_toNat_of_lt (by simp; omega), BitVec.toInt_eq_toNat_of_lt (by simp; omega)]
  simp [Nat.mod_eq_of_lt (show m < 4294967296 by omega), Nat.mod_eq_of_lt (show n < 4294967296 by omega)]

theorem pay189_eq : k0_pay189 (F := Ideal) = up S256x256 .bf16 leB := by
  funext i
  have h := sle_val (i 0).val (i 1).val (i 0).isLt (i 1).isLt
  rw [← iota_single_apply .tc S256x256 32 0 iota_S256x256_d0_w32 i, ← iota_single_apply .tc S256x256 32 1 iota_S256x256_d1_w32 i] at h
  have e := extui_bool (decide ((i 0).val ≤ (i 1).val))
  rw [← h] at e
  have e' : leB (co i 0) (co i 1) = if decide ((i 0).val ≤ (i 1).val) then 1 else 0 := rfl
  rw [up_apply, e', ← h, ← e]
  rfl
theorem pay190_eq : k0_pay190 (F := Ideal) = up S256x256 .bf16 ltB := by
  funext i
  have h := slt_val (i 0).val (i 1).val (i 0).isLt (i 1).isLt
  rw [← iota_single_apply .tc S256x256 32 0 iota_S256x256_d0_w32 i, ← iota_single_apply .tc S256x256 32 1 iota_S256x256_d1_w32 i] at h
  have e := extui_bool (decide ((i 0).val < (i 1).val))
  rw [← h] at e
  have e' : ltB (co i 0) (co i 1) = if decide ((i 0).val < (i 1).val) then 1 else 0 := rfl
  rw [up_apply, e', ← h, ← e]
  rfl

end Cert.Proof.Sb
-- ==== Proof.LoopOps.lean ====
/-
  What each step of the loop computes: two key blocks that lie before the query block.
-/
module

public import proofs.«01_k».proof.Proof.Sem

@[expose] public section

set_option maxRecDepth 16384

noncomputable section

namespace Cert.Proof.Sb

open Cert.KernelIdeal Cert.KernelIdeal.Gen
open Idealize.ShloMosaic Idealize.ShloMosaic.TcCoe Idealize.ShloMosaic.Tactic

theorem lp9 (x : In) (t0 s0 p : ℕ) (g : ℕ → ℕ → ℝ) (hs : s0 + 256 + 256 ≤ t0) :
    k0_pay9 (up S256x128 .f32 (vB x s0 p)) = (up S256x128 .bf16 (vB x s0 p)) := by
  simp only [k0_pay9, up_mul, up_add, up_sub, up_min, up_abs, up_exp, up_log1p, up_truncf, up_extf, up_select, up_nn2, up_nnl, up_ntl, up_tn, up_rowsum, up_row, up_cast, bc0, bc1, bc8, const0]
  all_goals rfl

theorem lp10 (x : In) (t0 s0 p : ℕ) (g : ℕ → ℕ → ℝ) (hs : s0 + 256 + 256 ≤ t0) :
    k0_pay10 (up S256x128 .f32 (vB x (s0 + 256) p)) = (up S256x128 .bf16 (vB x (s0 + 256) p)) := by
  simp only [k0_pay10, up_mul, up_add, up_sub, up_min, up_abs, up_exp, up_log1p, up_truncf, up_extf, up_select, up_nn2, up_nnl, up_ntl, up_tn, up_rowsum, up_row, up_cast, bc0, bc1, bc8, const0]
  all_goals rfl

theorem lp11 (x : In) (t0 s0 p : ℕ) (g : ℕ → ℕ → ℝ) (hs : s0 + 256 + 256 ≤ t0) :
    k0_pay11 (mk S256x128 (fun _ l => decide (l / 64 = 0))) (up S256x128 .f32 (kB x s0 p)) = (up S256x128 .bf16 (kmB x s0 p 0)) := by
  simp only [k0_pay11, up_mul, up_add, up_sub, up_min, up_abs, up_exp, up_log1p, up_truncf, up_extf, up_select, up_nn2, up_nnl, up_ntl, up_tn, up_rowsum, up_row, up_cast, bc0, bc1, bc8, const0]
  all_goals rfl

theorem lp12 (x : In) (t0 s0 p : ℕ) (g : ℕ → ℕ → ℝ) (hs : s0 + 256 + 256 ≤ t0) :
    k0_pay12 (mk S256x128 (fun _ l => decide (l / 64 = 1))) (up S256x128 .f32 (kB x s0 p)) = (up S256x128 .bf16 (kmB x s0 p 1)) := by
  simp only [k0_pay12, up_mul, up_add, up_sub, up_min, up_abs, up_exp, up_log1p, up_truncf, up_extf, up_select, up_nn2, up_nnl, up_ntl, up_tn, up_rowsum, up_row, up_cast, bc0, bc1, bc8, const0]
  all_goals rfl

theorem lp13 (x : In) (t0 s0 p : ℕ) (g : ℕ → ℕ → ℝ) (hs : s0 + 256 + 256 ≤ t0) :
    k0_pay13 (mk S256x128 (fun _ l => decide (l / 64 = 0))) (up S256x128 .f32 (kB x (s0 + 256) p)) = (up S256x128 .bf16 (kmB x (s0 + 256) p 0)) := by
  simp only [k0_pay13, up_mul, up_add, up_sub, up_min, up_abs, up_exp, up_log1p, up_truncf, up_extf, up_select, up_nn2, up_nnl, up_ntl, up_tn, up_rowsum, up_row, up_cast, bc0, bc1, bc8, const0]
  all_goals rfl

theorem lp14 (x : In) (t0 s0 p : ℕ) (g : ℕ → ℕ → ℝ) (hs : s0 + 256 + 256 ≤ t0) :
    k0_pay14 (mk S256x128 (fun _ l => decide (l / 64 = 1))) (up S256x128 .f32 (kB x (s0 + 256) p)) = (up S256x128 .bf16 (kmB x (s0 + 256) p 1)) := by
  simp only [k0_pay14, up_mul, up_add, up_sub, up_min, up_abs, up_exp, up_log1p, up_truncf, up_extf, up_select, up_nn2, up_nnl, up_ntl, up_tn, up_rowsum, up_row, up_cast, bc0, bc1, bc8, const0]
  all_goals rfl

theorem lp15 (x : In) (t0 s0 p : ℕ) (g : ℕ → ℕ → ℝ) (hs : s0 + 256 + 256 ≤ t0) :
    k0_pay15 (mk S256x128 (fun _ l => decide (l / 64 = 0))) (up S256x128 .bf16 (qmB x t0 p 0)) (up S256x128 .f32 (kB x s0 p)) = (up S256x256 .f32 (zB x (2 * p) t0 s0)) := by
  simp only [k0_pay15, lp11 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => z_eq x t0 s0 p 0 (by decide) r c)

theorem lp16 (x : In) (t0 s0 p : ℕ) (g : ℕ → ℕ → ℝ) (hs : s0 + 256 + 256 ≤ t0) :
    k0_pay16 (mk S256x128 (fun _ l => decide (l / 64 = 1))) (up S256x128 .bf16 (qmB x t0 p 1)) (up S256x128 .f32 (kB x s0 p)) = (up S256x256 .f32 (zB x (2 * p + 1) t0 s0)) := by
  simp only [k0_pay16, lp12 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => z_eq x t0 s0 p 1 (by decide) r c)

theorem lp17 (x : In) (t0 s0 p : ℕ) (g : ℕ → ℕ → ℝ) (hs : s0 + 256 + 256 ≤ t0) :
    k0_pay17 (mk S256x128 (fun _ l => decide (l / 64 = 0))) (up S256x128 .bf16 (qmB x t0 p 0)) (up S256x128 .f32 (kB x (s0 + 256) p)) = (up S256x256 .f32 (zB x (2 * p) t0 (s0 + 256))) := by
  simp only [k0_pay17, lp13 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => z_eq x t0 (s0 + 256) p 0 (by decide) r c)

theorem lp18 (x : In) (t0 s0 p : ℕ) (g : ℕ → ℕ → ℝ) (hs : s0 + 256 + 256 ≤ t0) :
    k0_pay18 (mk S256x128 (fun _ l => decide (l / 64 = 1))) (up S256x128 .bf16 (qmB x t0 p 1)) (up S256x128 .f32 (kB x (s0 + 256) p)) = (up S256x256 .f32 (zB x (2 * p + 1) t0 (s0 + 256))) := by
  simp only [k0_pay18, lp14 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => z_eq x t0 (s0 + 256) p 1 (by decide) r c)

theorem lp19 (x : In) (t0 s0 p : ℕ) (g : ℕ → ℕ → ℝ) (hs : s0 + 256 + 256 ≤ t0) :
    k0_pay19 (up S256x128 .bf16 (dmB x t0 p 0)) (up S256x128 .f32 (vB x s0 p)) = (up S256x256 .f32 (dwB x (2 * p) t0 s0)) := by
  simp only [k0_pay19, lp9 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dw_eq x t0 s0 p 0 (by decide) r c)

theorem lp20 (x : In) (t0 s0 p : ℕ) (g : ℕ → ℕ → ℝ) (hs : s0 + 256 + 256 ≤ t0) :
    k0_pay20 (up S256x128 .bf16 (dmB x t0 p 1)) (up S256x128 .f32 (vB x s0 p)) = (up S256x256 .f32 (dwB x (2 * p + 1) t0 s0)) := by
  simp only [k0_pay20, lp9 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dw_eq x t0 s0 p 1 (by decide) r c)

theorem lp21 (x : In) (t0 s0 p : ℕ) (g : ℕ → ℕ → ℝ) (hs : s0 + 256 + 256 ≤ t0) :
    k0_pay21 (up S256x128 .bf16 (dmB x t0 p 0)) (up S256x128 .f32 (vB x (s0 + 256) p)) = (up S256x256 .f32 (dwB x (2 * p) t0 (s0 + 256))) := by
  simp only [k0_pay21, lp10 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dw_eq x t0 (s0 + 256) p 0 (by decide) r c)

theorem lp22 (x : In) (t0 s0 p : ℕ) (g : ℕ → ℕ → ℝ) (hs : s0 + 256 + 256 ≤ t0) :
    k0_pay22 (up S256x128 .bf16 (dmB x t0 p 1)) (up S256x128 .f32 (vB x (s0 + 256) p)) = (up S256x256 .f32 (dwB x (2 * p + 1) t0 (s0 + 256))) := by
  simp only [k0_pay22, lp10 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dw_eq x t0 (s0 + 256) p 1 (by decide) r c)

theorem lp23 (x : In) (t0 s0 p : ℕ) (g : ℕ → ℕ → ℝ) (hs : s0 + 256 + 256 ≤ t0) :
    k0_pay23 (up S256x256 .f32 (zB x (2 * p) t0 s0)) (Scalar.ofBits .f32 0x00000000#32 : Ideal .f32) = (up S256x256 .f32 (lbB x (2 * p) t0 s0)) := by
  simp only [k0_pay23, up_mul, up_add, up_sub, up_min, up_abs, up_exp, up_log1p, up_truncf, up_extf, up_select, up_nn2, up_nnl, up_ntl, up_tn, up_rowsum, up_row, up_cast, bc0, bc1, bc8, const0]
  all_goals rfl

theorem lp24 (x : In) (t0 s0 p : ℕ) (g : ℕ → ℕ → ℝ) (hs : s0 + 256 + 256 ≤ t0) :
    k0_pay24 (up S256x256 .f32 (zB x (2 * p) t0 s0)) (Scalar.ofBits .f32 0x00000000#32 : Ideal .f32) = (up S256x256 .f32 (l1B x (2 * p) t0 s0)) := by
  simp only [k0_pay24, lp23 x t0 s0 p g hs, up_mul, up_add, up_sub, up_min, up_abs, up_exp, up_log1p, up_truncf, up_extf, up_select, up_nn2, up_nnl, up_ntl, up_tn, up_rowsum, up_row, up_cast, bc0, bc1, bc8, const0]
  all_goals rfl

theorem lp25 (x : In) (t0 s0 p : ℕ) (g : ℕ → ℕ → ℝ) (hs : s0 + 256 + 256 ≤ t0) :
    k0_pay25 (up S256x256 .f32 (zB x (2 * p + 1) t0 s0)) = (up S256x256 .f32 (lbB x (2 * p + 1) t0 s0)) := by
  simp only [k0_pay25, up_mul, up_add, up_sub, up_min, up_abs, up_exp, up_log1p, up_truncf, up_extf, up_select, up_nn2, up_nnl, up_ntl, up_tn, up_rowsum, up_row, up_cast, bc0, bc1, bc8, const0]
  all_goals rfl

theorem lp26 (x : In) (t0 s0 p : ℕ) (g : ℕ → ℕ → ℝ) (hs : s0 + 256 + 256 ≤ t0) :
    k0_pay26 (up S256x256 .f32 (zB x (2 * p + 1) t0 s0)) = (up S256x256 .f32 (l1B x (2 * p + 1) t0 s0)) := by
  simp only [k0_pay26, lp25 x t0 s0 p g hs, up_mul, up_add, up_sub, up_min, up_abs, up_exp, up_log1p, up_truncf, up_extf, up_select, up_nn2, up_nnl, up_ntl, up_tn, up_rowsum, up_row, up_cast, bc0, bc1, bc8, const0]
  all_goals rfl

theorem lp27 (x : In) (t0 s0 p : ℕ) (g : ℕ → ℕ → ℝ) (hs : s0 + 256 + 256 ≤ t0) :
    k0_pay27 (up S256x256 .f32 (zB x (2 * p) t0 (s0 + 256))) = (up S256x256 .f32 (lbB x (2 * p) t0 (s0 + 256))) := by
  simp only [k0_pay27, up_mul, up_add, up_sub, up_min, up_abs, up_exp, up_log1p, up_truncf, up_extf, up_select, up_nn2, up_nnl, up_ntl, up_tn, up_rowsum, up_row, up_cast, bc0, bc1, bc8, const0]
  all_goals rfl

theorem lp28 (x : In) (t0 s0 p : ℕ) (g : ℕ → ℕ → ℝ) (hs : s0 + 256 + 256 ≤ t0) :
    k0_pay28 (up S256x256 .f32 (zB x (2 * p) t0 (s0 + 256))) = (up S256x256 .f32 (l1B x (2 * p) t0 (s0 + 256))) := by
  simp only [k0_pay28, lp27 x t0 s0 p g hs, up_mul, up_add, up_sub, up_min, up_abs, up_exp, up_log1p, up_truncf, up_extf, up_select, up_nn2, up_nnl, up_ntl, up_tn, up_rowsum, up_row, up_cast, bc0, bc1, bc8, const0]
  all_goals rfl

theorem lp29 (x : In) (t0 s0 p : ℕ) (g : ℕ → ℕ → ℝ) (hs : s0 + 256 + 256 ≤ t0) :
    k0_pay29 (up S256x256 .f32 (zB x (2 * p + 1) t0 (s0 + 256))) = (up S256x256 .f32 (lbB x (2 * p + 1) t0 (s0 + 256))) := by
  simp only [k0_pay29, up_mul, up_add, up_sub, up_min, up_abs, up_exp, up_log1p, up_truncf, up_extf, up_select, up_nn2, up_nnl, up_ntl, up_tn, up_rowsum, up_row, up_cast, bc0, bc1, bc8, const0]
  all_goals rfl

theorem lp30 (x : In) (t0 s0 p : ℕ) (g : ℕ → ℕ → ℝ) (hs : s0 + 256 + 256 ≤ t0) :
    k0_pay30 (up S256x256 .f32 (zB x (2 * p + 1) t0 (s0 + 256))) = (up S256x256 .f32 (l1B x (2 * p + 1) t0 (s0 + 256))) := by
  simp only [k0_pay30, lp29 x t0 s0 p g hs, up_mul, up_add, up_sub, up_min, up_abs, up_exp, up_log1p, up_truncf, up_extf, up_select, up_nn2, up_nnl, up_ntl, up_tn, up_rowsum, up_row, up_cast, bc0, bc1, bc8, const0]
  all_goals rfl

theorem lp31 (x : In) (t0 s0 p : ℕ) (g : ℕ → ℕ → ℝ) (hs : s0 + 256 + 256 ≤ t0) :
    k0_pay31 (up S256x1 .f32 (preB x (2 * p) t0 s0)) (up S256x256 .f32 (zB x (2 * p) t0 s0)) (Scalar.ofBits .f32 0x00000000#32 : Ideal .f32) = (up S256x1 .f32 (preB x (2 * p) t0 (s0 + 256))) := by
  simp only [k0_pay31, lp24 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => pre_off x (2 * p) t0 s0 (by omega) r c)

theorem lp32 (x : In) (t0 s0 p : ℕ) (g : ℕ → ℕ → ℝ) (hs : s0 + 256 + 256 ≤ t0) :
    k0_pay32 (up S256x1 .f32 (preB x (2 * p + 1) t0 s0)) (up S256x256 .f32 (l1B x (2 * p + 1) t0 s0)) = (up S256x1 .f32 (preB x (2 * p + 1) t0 (s0 + 256))) := by
  simp only [k0_pay32, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => pre_off x (2 * p + 1) t0 s0 (by omega) r c)

theorem lp33 (x : In) (t0 s0 p : ℕ) (g : ℕ → ℕ → ℝ) (hs : s0 + 256 + 256 ≤ t0) :
    k0_pay33 (up S256x256 .f32 (l1B x (2 * p) t0 (s0 + 256))) (up S256x1 .f32 (preB x (2 * p) t0 (s0 + 256))) = (up S256x1 .f32 (preB x (2 * p) t0 (s0 + 256 + 256))) := by
  simp only [k0_pay33, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => pre_off x (2 * p) t0 (s0 + 256) (by omega) r c)

theorem lp34 (x : In) (t0 s0 p : ℕ) (g : ℕ → ℕ → ℝ) (hs : s0 + 256 + 256 ≤ t0) :
    k0_pay34 (up S256x1 .f32 (preB x (2 * p + 1) t0 s0)) (up S256x256 .f32 (l1B x (2 * p + 1) t0 s0)) (up S256x256 .f32 (l1B x (2 * p + 1) t0 (s0 + 256))) = (up S256x1 .f32 (preB x (2 * p + 1) t0 (s0 + 256 + 256))) := by
  simp only [k0_pay34, lp32 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => pre_off x (2 * p + 1) t0 (s0 + 256) (by omega) r c)

theorem lp35 (x : In) (t0 s0 p : ℕ) (g : ℕ → ℕ → ℝ) (hs : s0 + 256 + 256 ≤ t0) :
    k0_pay35 (up S256x256 .bf16 (leB)) (up S256x256 .f32 (l1B x (2 * p) t0 (s0 + 256))) = (up S256x256 .f32 (pfB x (2 * p) t0 (s0 + 256))) := by
  simp only [k0_pay35, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => pf_off x (2 * p) t0 (s0 + 256) (by omega) r c hc)

theorem lp36 (x : In) (t0 s0 p : ℕ) (g : ℕ → ℕ → ℝ) (hs : s0 + 256 + 256 ≤ t0) :
    k0_pay36 (up S256x256 .bf16 (leB)) (up S256x256 .f32 (l1B x (2 * p + 1) t0 (s0 + 256))) = (up S256x256 .f32 (pfB x (2 * p + 1) t0 (s0 + 256))) := by
  simp only [k0_pay36, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => pf_off x (2 * p + 1) t0 (s0 + 256) (by omega) r c hc)

theorem lp37 (x : In) (t0 s0 p : ℕ) (g : ℕ → ℕ → ℝ) (hs : s0 + 256 + 256 ≤ t0) :
    k0_pay37 (up S256x256 .bf16 (leB)) (up S256x1 .f32 (totB x (2 * p) t0)) (up S256x1 .f32 (preB x (2 * p) t0 s0)) (up S256x256 .f32 (lbB x (2 * p) t0 s0)) (up S256x256 .f32 (l1B x (2 * p) t0 s0)) = (up S256x256 .f32 (wB x (2 * p) t0 s0)) := by
  simp only [k0_pay37, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => (congrArg (fun y => Real.exp (lbB x (2 * p) t0 s0 r c + (totB x (2 * p) t0 r 0 - (y + preB x (2 * p) t0 s0 r 0)))) (pf_off x (2 * p) t0 s0 (by omega) r c hc)).trans (w_off x (2 * p) t0 s0 (by omega) r c hc))

theorem lp38 (x : In) (t0 s0 p : ℕ) (g : ℕ → ℕ → ℝ) (hs : s0 + 256 + 256 ≤ t0) :
    k0_pay38 (up S256x256 .bf16 (leB)) (up S256x1 .f32 (totB x (2 * p + 1) t0)) (up S256x1 .f32 (preB x (2 * p + 1) t0 s0)) (up S256x256 .f32 (lbB x (2 * p + 1) t0 s0)) (up S256x256 .f32 (l1B x (2 * p + 1) t0 s0)) = (up S256x256 .f32 (wB x (2 * p + 1) t0 s0)) := by
  simp only [k0_pay38, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => (congrArg (fun y => Real.exp (lbB x (2 * p + 1) t0 s0 r c + (totB x (2 * p + 1) t0 r 0 - (y + preB x (2 * p + 1) t0 s0 r 0)))) (pf_off x (2 * p + 1) t0 s0 (by omega) r c hc)).trans (w_off x (2 * p + 1) t0 s0 (by omega) r c hc))

theorem lp39 (x : In) (t0 s0 p : ℕ) (g : ℕ → ℕ → ℝ) (hs : s0 + 256 + 256 ≤ t0) :
    k0_pay39 (up S256x1 .f32 (preB x (2 * p) t0 (s0 + 256))) = (up S256x256 .f32 (preB x (2 * p) t0 (s0 + 256))) := by
  simp only [k0_pay39, up_mul, up_add, up_sub, up_min, up_abs, up_exp, up_log1p, up_truncf, up_extf, up_select, up_nn2, up_nnl, up_ntl, up_tn, up_rowsum, up_row, up_cast, bc0, bc1, bc8, const0]
  all_goals rfl

theorem lp40 (x : In) (t0 s0 p : ℕ) (g : ℕ → ℕ → ℝ) (hs : s0 + 256 + 256 ≤ t0) :
    k0_pay40 (up S256x1 .f32 (totB x (2 * p) t0)) (up S256x256 .f32 (lbB x (2 * p) t0 (s0 + 256))) (up S256x256 .f32 (pfB x (2 * p) t0 (s0 + 256))) (up S256x256 .f32 (preB x (2 * p) t0 (s0 + 256))) = (up S256x256 .f32 (wB x (2 * p) t0 (s0 + 256))) := by
  simp only [k0_pay40, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => w_off x (2 * p) t0 (s0 + 256) (by omega) r c hc)

theorem lp41 (x : In) (t0 s0 p : ℕ) (g : ℕ → ℕ → ℝ) (hs : s0 + 256 + 256 ≤ t0) :
    k0_pay41 (up S256x1 .f32 (totB x (2 * p + 1) t0)) (up S256x256 .f32 (lbB x (2 * p + 1) t0 (s0 + 256))) (up S256x1 .f32 (preB x (2 * p + 1) t0 (s0 + 256))) (up S256x256 .f32 (pfB x (2 * p + 1) t0 (s0 + 256))) = (up S256x256 .f32 (wB x (2 * p + 1) t0 (s0 + 256))) := by
  simp only [k0_pay41, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => w_off x (2 * p + 1) t0 (s0 + 256) (by omega) r c hc)

theorem lp42 (x : In) (t0 s0 p : ℕ) (g : ℕ → ℕ → ℝ) (hs : s0 + 256 + 256 ≤ t0) :
    k0_pay42 (up S256x256 .f32 (dwB x (2 * p) t0 s0)) (up S256x256 .f32 (wB x (2 * p) t0 s0)) = (up S256x256 .f32 (eB x (2 * p) t0 s0)) := by
  simp only [k0_pay42, up_mul, up_add, up_sub, up_min, up_abs, up_exp, up_log1p, up_truncf, up_extf, up_select, up_nn2, up_nnl, up_ntl, up_tn, up_rowsum, up_row, up_cast, bc0, bc1, bc8, const0]
  all_goals rfl

theorem lp43 (x : In) (t0 s0 p : ℕ) (g : ℕ → ℕ → ℝ) (hs : s0 + 256 + 256 ≤ t0) :
    k0_pay43 (up S256x256 .f32 (dwB x (2 * p + 1) t0 s0)) (up S256x256 .f32 (wB x (2 * p + 1) t0 s0)) = (up S256x256 .f32 (eB x (2 * p + 1) t0 s0)) := by
  simp only [k0_pay43, up_mul, up_add, up_sub, up_min, up_abs, up_exp, up_log1p, up_truncf, up_extf, up_select, up_nn2, up_nnl, up_ntl, up_tn, up_rowsum, up_row, up_cast, bc0, bc1, bc8, const0]
  all_goals rfl

theorem lp44 (x : In) (t0 s0 p : ℕ) (g : ℕ → ℕ → ℝ) (hs : s0 + 256 + 256 ≤ t0) :
    k0_pay44 (up S256x1 .f32 (totB x (2 * p) t0)) (up S256x256 .f32 (dwB x (2 * p) t0 (s0 + 256))) (up S256x256 .f32 (lbB x (2 * p) t0 (s0 + 256))) (up S256x256 .f32 (pfB x (2 * p) t0 (s0 + 256))) (up S256x256 .f32 (preB x (2 * p) t0 (s0 + 256))) = (up S256x256 .f32 (eB x (2 * p) t0 (s0 + 256))) := by
  simp only [k0_pay44, lp40 x t0 s0 p g hs, up_mul, up_add, up_sub, up_min, up_abs, up_exp, up_log1p, up_truncf, up_extf, up_select, up_nn2, up_nnl, up_ntl, up_tn, up_rowsum, up_row, up_cast, bc0, bc1, bc8, const0]
  all_goals rfl

theorem lp45 (x : In) (t0 s0 p : ℕ) (g : ℕ → ℕ → ℝ) (hs : s0 + 256 + 256 ≤ t0) :
    k0_pay45 (up S256x1 .f32 (totB x (2 * p + 1) t0)) (up S256x256 .f32 (dwB x (2 * p + 1) t0 (s0 + 256))) (up S256x256 .f32 (lbB x (2 * p + 1) t0 (s0 + 256))) (up S256x1 .f32 (preB x (2 * p + 1) t0 (s0 + 256))) (up S256x256 .f32 (pfB x (2 * p + 1) t0 (s0 + 256))) = (up S256x256 .f32 (eB x (2 * p + 1) t0 (s0 + 256))) := by
  simp only [k0_pay45, lp41 x t0 s0 p g hs, up_mul, up_add, up_sub, up_min, up_abs, up_exp, up_log1p, up_truncf, up_extf, up_select, up_nn2, up_nnl, up_ntl, up_tn, up_rowsum, up_row, up_cast, bc0, bc1, bc8, const0]
  all_goals rfl

theorem lp46 (x : In) (t0 s0 p : ℕ) (g : ℕ → ℕ → ℝ) (hs : s0 + 256 + 256 ≤ t0) :
    k0_pay46 (up S256x1 .f32 (cdeB x (2 * p) t0 s0)) (up S256x256 .f32 (dwB x (2 * p) t0 s0)) (up S256x256 .f32 (wB x (2 * p) t0 s0)) = (up S256x1 .f32 (cdeB x (2 * p) t0 (s0 + 256))) := by
  simp only [k0_pay46, lp42 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => cde_add x (2 * p) t0 s0 r c)

theorem lp47 (x : In) (t0 s0 p : ℕ) (g : ℕ → ℕ → ℝ) (hs : s0 + 256 + 256 ≤ t0) :
    k0_pay47 (up S256x1 .f32 (cdeB x (2 * p + 1) t0 s0)) (up S256x256 .f32 (dwB x (2 * p + 1) t0 s0)) (up S256x256 .f32 (wB x (2 * p + 1) t0 s0)) = (up S256x1 .f32 (cdeB x (2 * p + 1) t0 (s0 + 256))) := by
  simp only [k0_pay47, lp43 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => cde_add x (2 * p + 1) t0 s0 r c)

theorem lp48 (x : In) (t0 s0 p : ℕ) (g : ℕ → ℕ → ℝ) (hs : s0 + 256 + 256 ≤ t0) :
    k0_pay48 (up S256x1 .f32 (totB x (2 * p) t0)) (up S256x1 .f32 (cdeB x (2 * p) t0 s0)) (up S256x256 .f32 (dwB x (2 * p) t0 s0)) (up S256x256 .f32 (dwB x (2 * p) t0 (s0 + 256))) (up S256x256 .f32 (lbB x (2 * p) t0 (s0 + 256))) (up S256x256 .f32 (pfB x (2 * p) t0 (s0 + 256))) (up S256x256 .f32 (wB x (2 * p) t0 s0)) (up S256x256 .f32 (preB x (2 * p) t0 (s0 + 256))) = (up S256x1 .f32 (cdeB x (2 * p) t0 (s0 + 256 + 256))) := by
  simp only [k0_pay48, lp44 x t0 s0 p g hs, lp46 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => cde_add x (2 * p) t0 (s0 + 256) r c)

theorem lp49 (x : In) (t0 s0 p : ℕ) (g : ℕ → ℕ → ℝ) (hs : s0 + 256 + 256 ≤ t0) :
    k0_pay49 (up S256x1 .f32 (totB x (2 * p + 1) t0)) (up S256x1 .f32 (cdeB x (2 * p + 1) t0 s0)) (up S256x256 .f32 (dwB x (2 * p + 1) t0 s0)) (up S256x256 .f32 (dwB x (2 * p + 1) t0 (s0 + 256))) (up S256x256 .f32 (lbB x (2 * p + 1) t0 (s0 + 256))) (up S256x1 .f32 (preB x (2 * p + 1) t0 (s0 + 256))) (up S256x256 .f32 (pfB x (2 * p + 1) t0 (s0 + 256))) (up S256x256 .f32 (wB x (2 * p + 1) t0 s0)) = (up S256x1 .f32 (cdeB x (2 * p + 1) t0 (s0 + 256 + 256))) := by
  simp only [k0_pay49, lp45 x t0 s0 p g hs, lp47 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => cde_add x (2 * p + 1) t0 (s0 + 256) r c)

theorem lp50 (x : In) (t0 s0 p : ℕ) (g : ℕ → ℕ → ℝ) (hs : s0 + 256 + 256 ≤ t0) :
    k0_pay50 (up S256x128 .bf16 (dmB x t0 p 0)) (up S256x128 .bf16 (dmB x t0 p 1)) (up S256x256 .f32 (wB x (2 * p) t0 s0)) (up S256x256 .f32 (wB x (2 * p + 1) t0 s0)) = (up S256x128 .f32 (dvB x t0 s0 p)) := by
  simp only [k0_pay50, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dv_eq x t0 s0 p r c hc)

theorem lp51 (x : In) (t0 s0 p : ℕ) (g : ℕ → ℕ → ℝ) (hs : s0 + 256 + 256 ≤ t0) :
    k0_pay51 (up S256x128 .bf16 (dmB x t0 p 0)) (up S256x128 .bf16 (dmB x t0 p 1)) (up S256x1 .f32 (totB x (2 * p) t0)) (up S256x1 .f32 (totB x (2 * p + 1) t0)) (up S256x256 .f32 (lbB x (2 * p) t0 (s0 + 256))) (up S256x256 .f32 (lbB x (2 * p + 1) t0 (s0 + 256))) (up S256x1 .f32 (preB x (2 * p + 1) t0 (s0 + 256))) (up S256x256 .f32 (pfB x (2 * p) t0 (s0 + 256))) (up S256x256 .f32 (pfB x (2 * p + 1) t0 (s0 + 256))) (up S256x256 .f32 (preB x (2 * p) t0 (s0 + 256))) = (up S256x128 .f32 (dvB x t0 (s0 + 256) p)) := by
  simp only [k0_pay51, lp40 x t0 s0 p g hs, lp41 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dv_eq x t0 (s0 + 256) p r c hc)

theorem lp52 (x : In) (t0 s0 p : ℕ) (g : ℕ → ℕ → ℝ) (hs : s0 + 256 + 256 ≤ t0) :
    k0_pay52 (up S256x256 .bf16 (ltB)) (up S256x1 .f32 (cdeB x (2 * p) t0 s0)) (up S256x256 .f32 (dwB x (2 * p) t0 s0)) (up S256x256 .f32 (wB x (2 * p) t0 s0)) = (up S256x256 .f32 (dlB x (2 * p) t0 s0)) := by
  simp only [k0_pay52, lp42 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dl_eq x (2 * p) t0 s0 r c hc)

theorem lp53 (x : In) (t0 s0 p : ℕ) (g : ℕ → ℕ → ℝ) (hs : s0 + 256 + 256 ≤ t0) :
    k0_pay53 (up S256x256 .bf16 (ltB)) (up S256x1 .f32 (cdeB x (2 * p + 1) t0 s0)) (up S256x256 .f32 (dwB x (2 * p + 1) t0 s0)) (up S256x256 .f32 (wB x (2 * p + 1) t0 s0)) = (up S256x256 .f32 (dlB x (2 * p + 1) t0 s0)) := by
  simp only [k0_pay53, lp43 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dl_eq x (2 * p + 1) t0 s0 r c hc)

theorem lp54 (x : In) (t0 s0 p : ℕ) (g : ℕ → ℕ → ℝ) (hs : s0 + 256 + 256 ≤ t0) :
    k0_pay54 (up S256x256 .bf16 (ltB)) (up S256x1 .f32 (totB x (2 * p) t0)) (up S256x1 .f32 (cdeB x (2 * p) t0 s0)) (up S256x256 .f32 (dwB x (2 * p) t0 s0)) (up S256x256 .f32 (dwB x (2 * p) t0 (s0 + 256))) (up S256x256 .f32 (lbB x (2 * p) t0 (s0 + 256))) (up S256x256 .f32 (pfB x (2 * p) t0 (s0 + 256))) (up S256x256 .f32 (wB x (2 * p) t0 s0)) (up S256x256 .f32 (preB x (2 * p) t0 (s0 + 256))) = (up S256x256 .f32 (dlB x (2 * p) t0 (s0 + 256))) := by
  simp only [k0_pay54, lp44 x t0 s0 p g hs, lp46 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dl_eq x (2 * p) t0 (s0 + 256) r c hc)

theorem lp55 (x : In) (t0 s0 p : ℕ) (g : ℕ → ℕ → ℝ) (hs : s0 + 256 + 256 ≤ t0) :
    k0_pay55 (up S256x256 .f32 (lbB x (2 * p) t0 s0)) (up S256x256 .f32 (l1B x (2 * p) t0 s0)) (up S256x256 .f32 (eB x (2 * p) t0 s0)) (up S256x256 .f32 (dlB x (2 * p) t0 s0)) = (up S256x256 .bf16 (dzB x (2 * p) t0 s0)) := by
  simp only [k0_pay55, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dz_off x (2 * p) t0 s0 (by omega) r c hc)

theorem lp56 (x : In) (t0 s0 p : ℕ) (g : ℕ → ℕ → ℝ) (hs : s0 + 256 + 256 ≤ t0) :
    k0_pay56 (up S256x256 .f32 (lbB x (2 * p + 1) t0 s0)) (up S256x256 .f32 (l1B x (2 * p + 1) t0 s0)) (up S256x256 .f32 (eB x (2 * p + 1) t0 s0)) (up S256x256 .f32 (dlB x (2 * p + 1) t0 s0)) = (up S256x256 .bf16 (dzB x (2 * p + 1) t0 s0)) := by
  simp only [k0_pay56, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dz_off x (2 * p + 1) t0 s0 (by omega) r c hc)

theorem lp57 (x : In) (t0 s0 p : ℕ) (g : ℕ → ℕ → ℝ) (hs : s0 + 256 + 256 ≤ t0) :
    k0_pay57 (up S256x256 .f32 (lbB x (2 * p) t0 (s0 + 256))) (up S256x256 .f32 (l1B x (2 * p) t0 (s0 + 256))) (up S256x256 .f32 (eB x (2 * p) t0 (s0 + 256))) (up S256x256 .f32 (dlB x (2 * p) t0 (s0 + 256))) = (up S256x256 .bf16 (dzB x (2 * p) t0 (s0 + 256))) := by
  simp only [k0_pay57, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => dz_off x (2 * p) t0 (s0 + 256) (by omega) r c hc)

theorem lp58 (x : In) (t0 s0 p : ℕ) (g : ℕ → ℕ → ℝ) (hs : s0 + 256 + 256 ≤ t0) :
    k0_pay58 (up S256x256 .bf16 (ltB)) (up S256x256 .f32 (lbB x (2 * p + 1) t0 (s0 + 256))) (up S256x256 .f32 (l1B x (2 * p + 1) t0 (s0 + 256))) (up S256x256 .f32 (eB x (2 * p + 1) t0 (s0 + 256))) (up S256x1 .f32 (cdeB x (2 * p + 1) t0 (s0 + 256))) = (up S256x256 .bf16 (dzB x (2 * p + 1) t0 (s0 + 256))) := by
  simp only [k0_pay58, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => (congrArg (fun y => eB x (2 * p + 1) t0 (s0 + 256) r c * Real.exp (l1B x (2 * p + 1) t0 (s0 + 256) r c) - y * Real.exp (lbB x (2 * p + 1) t0 (s0 + 256) r c)) (dl_eq x (2 * p + 1) t0 (s0 + 256) r c hc)).trans (dz_off x (2 * p + 1) t0 (s0 + 256) (by omega) r c hc))

theorem lp59 (x : In) (t0 s0 p : ℕ) (g : ℕ → ℕ → ℝ) (hs : s0 + 256 + 256 ≤ t0) :
    k0_pay59 (up S256x256 .bf16 (ltB)) (up S256x128 .f32 (dqB x t0 s0 p)) (up S256x128 .bf16 (kmB x s0 p 0)) (up S256x128 .bf16 (kmB x s0 p 1)) (up S256x128 .bf16 (kmB x (s0 + 256) p 0)) (up S256x128 .bf16 (kmB x (s0 + 256) p 1)) (up S256x256 .f32 (lbB x (2 * p) t0 s0)) (up S256x256 .f32 (l1B x (2 * p) t0 s0)) (up S256x256 .f32 (lbB x (2 * p + 1) t0 s0)) (up S256x256 .f32 (l1B x (2 * p + 1) t0 s0)) (up S256x256 .f32 (lbB x (2 * p) t0 (s0 + 256))) (up S256x256 .f32 (l1B x (2 * p) t0 (s0 + 256))) (up S256x256 .f32 (lbB x (2 * p + 1) t0 (s0 + 256))) (up S256x256 .f32 (l1B x (2 * p + 1) t0 (s0 + 256))) (up S256x256 .f32 (eB x (2 * p) t0 s0)) (up S256x256 .f32 (eB x (2 * p + 1) t0 s0)) (up S256x256 .f32 (eB x (2 * p) t0 (s0 + 256))) (up S256x256 .f32 (eB x (2 * p + 1) t0 (s0 + 256))) (up S256x1 .f32 (cdeB x (2 * p + 1) t0 (s0 + 256))) (up S256x256 .f32 (dlB x (2 * p) t0 s0)) (up S256x256 .f32 (dlB x (2 * p + 1) t0 s0)) (up S256x256 .f32 (dlB x (2 * p) t0 (s0 + 256))) = (up S256x128 .f32 (dqB x t0 (s0 + 256 + 256) p)) := by
  simp only [k0_pay59, lp55 x t0 s0 p g hs, lp56 x t0 s0 p g hs, lp57 x t0 s0 p g hs, lp58 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => (congrArg (fun y => y + (∑ k ∈ Finset.range 256, dzB x (2 * p) t0 (s0 + 256) r k * kmB x (s0 + 256) p 0 k c) + (∑ k ∈ Finset.range 256, dzB x (2 * p + 1) t0 (s0 + 256) r k * kmB x (s0 + 256) p 1 k c)) (dq_eq x t0 s0 p r c hc)).trans (dq_eq x t0 (s0 + 256) p r c hc))

theorem lp60 (x : In) (t0 s0 p : ℕ) (g : ℕ → ℕ → ℝ) (hs : s0 + 256 + 256 ≤ t0) :
    k0_pay60 (up S256x128 .bf16 (qmB x t0 p 0)) (up S256x128 .bf16 (qmB x t0 p 1)) (up S256x256 .f32 (lbB x (2 * p) t0 s0)) (up S256x256 .f32 (l1B x (2 * p) t0 s0)) (up S256x256 .f32 (lbB x (2 * p + 1) t0 s0)) (up S256x256 .f32 (l1B x (2 * p + 1) t0 s0)) (up S256x256 .f32 (eB x (2 * p) t0 s0)) (up S256x256 .f32 (eB x (2 * p + 1) t0 s0)) (up S256x256 .f32 (dlB x (2 * p) t0 s0)) (up S256x256 .f32 (dlB x (2 * p + 1) t0 s0)) (up S256x128 .f32 (g)) = (up S256x128 .f32 (fun r l => g r l + dkB x t0 s0 p r l)) := by
  simp only [k0_pay60, lp55 x t0 s0 p g hs, lp56 x t0 s0 p g hs, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => congrArg (g r c + ·) (dk_eq x t0 s0 p r c hc))

theorem lp61 (x : In) (t0 s0 p : ℕ) (g : ℕ → ℕ → ℝ) (hs : s0 + 256 + 256 ≤ t0) :
    k0_pay61 (up S256x128 .f32 (dvB x t0 s0 p)) (up S256x128 .f32 (g)) = (up S256x128 .f32 (fun r l => g r l + dvB x t0 s0 p r l)) := by
  simp only [k0_pay61, up_mul, up_add, up_sub, up_min, up_abs, up_exp, up_log1p, up_truncf, up_extf, up_select, up_nn2, up_nnl, up_ntl, up_tn, up_rowsum, up_row, up_cast, bc0, bc1, bc8, const0]
  all_goals rfl

theorem lp205 (x : In) (t0 s0 p : ℕ) (g : ℕ → ℕ → ℝ) (hs : s0 + 256 + 256 ≤ t0) :
    k0_pay205 (up S256x128 .bf16 (qmB x t0 p 0)) (up S256x128 .bf16 (qmB x t0 p 1)) (up S256x256 .bf16 (dzB x (2 * p) t0 (s0 + 256))) (up S256x256 .bf16 (dzB x (2 * p + 1) t0 (s0 + 256))) (up S256x128 .f32 (g)) = (up S256x128 .f32 (fun r l => g r l + dkB x t0 (s0 + 256) p r l)) := by
  simp only [k0_pay205, up_mul, up_add, up_sub, up_min, up_abs, up_exp, up_log1p, up_truncf, up_extf, up_select, up_nn2, up_nnl, up_ntl, up_tn, up_rowsum, up_row, up_cast, bc0, bc1, bc8, const0]
  all_goals exact up_congr2 _ (fun r c hr hc => congrArg (g r c + ·) (dk_eq x t0 (s0 + 256) p r c hc))

theorem lp206 (x : In) (t0 s0 p : ℕ) (g : ℕ → ℕ → ℝ) (hs : s0 + 256 + 256 ≤ t0) :
    k0_pay206 (up S256x128 .f32 (dvB x t0 (s0 + 256) p)) (up S256x128 .f32 (g)) = (up S256x128 .f32 (fun r l => g r l + dvB x t0 (s0 + 256) p r l)) := by
  simp only [k0_pay206, up_mul, up_add, up_sub, up_min, up_abs, up_exp, up_log1p, up_truncf, up_extf, up_select, up_nn2, up_nnl, up_ntl, up_tn, up_rowsum, up_row, up_cast, bc0, bc1, bc8, const0]
  all_goals rfl

end Cert.Proof.Sb
-- ==== Proof.Pro.lean ====
/-
  What the body computes before its loop: the masks, the triangles and the masked operands.
-/
module

public import proofs.«01_k».proof.Proof.Sem

@[expose] public section

set_option maxRecDepth 16384

noncomputable section

namespace Cert.Proof.Sb

open Cert.KernelIdeal Cert.KernelIdeal.Gen
open Idealize.ShloMosaic Idealize.ShloMosaic.TcCoe Idealize.ShloMosaic.Tactic

/-- The head of the lane `w`, as the body computes it: the quotient by 64, rounded down. -/
def headWord (w : BitVec 32) : BitVec 32 :=
  Scalar.select (IntOp.andi (IntOp.cmpi .ne (IntOp.subi ((IntOp.cmpi .sgt w 0#32).setWidth 32) ((IntOp.cmpi .slt w 0#32).setWidth 32))
    (Scalar.subi (Scalar.extui (Scalar.cmpi .sgt 64#32 0#32)) (Scalar.extui (Scalar.cmpi .slt 64#32 0#32)))) (IntOp.cmpi .ne (IntOp.remsi .vector w 64#32) 0#32))
    (IntOp.subi (IntOp.divsi .vector w 64#32) 1#32) (IntOp.divsi .vector w 64#32)

theorem headWord_eq0 : ∀ l : Fin 128, IntOp.cmpi .eq (headWord (BitVec.ofNat 32 l.val)) 0#32 = BitVec.ofBool (decide (l.val / 64 = 0)) := by decide +kernel
theorem headWord_eq1 : ∀ l : Fin 128, IntOp.cmpi .eq (headWord (BitVec.ofNat 32 l.val)) 1#32 = BitVec.ofBool (decide (l.val / 64 = 1)) := by decide +kernel

abbrev lane : IVec S256x128 32 := iota .tc S256x128 32 [1] iota_S256x128_d1_w32

theorem pay195_eq : k0_pay195 k0_pay192 k0_pay193 k0_pay194 = mk S256x128 (fun _ l => decide (l / 64 = 0)) := by
  funext i
  have h := headWord_eq0 (i 1)
  rw [← iota_single_apply .tc S256x128 32 1 iota_S256x128_d1_w32 i] at h
  exact h
theorem pay196_eq : k0_pay196 lane = mk S256x128 (fun _ l => decide (l / 64 = 1)) := by
  funext i
  have h := headWord_eq1 (i 1)
  rw [← iota_single_apply .tc S256x128 32 1 iota_S256x128_d1_w32 i] at h
  exact h

variable (x : In) (t0 s0 p : ℕ)

theorem pay191_eq : k0_pay191 (up S256x128 .f32 (qB x t0 p)) = up S256x128 .f32 (qsB x t0 p) := by
  simp only [k0_pay191, bc8, up_mul]
  rfl
theorem pay197_eq : k0_pay197 (up S256x128 .f32 (qsB x t0 p)) k0_pay192 k0_pay193 k0_pay194 = up S256x128 .bf16 (qmB x t0 p 0) := by
  simp only [k0_pay197, pay195_eq, bc0, up_select, up_truncf]
  rfl
theorem pay198_eq : k0_pay198 lane (up S256x128 .f32 (qsB x t0 p)) = up S256x128 .bf16 (qmB x t0 p 1) := by
  simp only [k0_pay198, pay196_eq, bc0, up_select, up_truncf]
  rfl
theorem pay199_eq : k0_pay199 (up S256x128 .f32 (dB x t0 p)) k0_pay192 k0_pay193 k0_pay194 = up S256x128 .bf16 (dmB x t0 p 0) := by
  simp only [k0_pay199, pay195_eq, bc0, up_select, up_truncf]
  rfl
theorem pay200_eq : k0_pay200 lane (up S256x128 .f32 (dB x t0 p)) = up S256x128 .bf16 (dmB x t0 p 1) := by
  simp only [k0_pay200, pay196_eq, bc0, up_select, up_truncf]
  rfl
theorem pay201_eq (f : ℕ → ℕ → ℝ) : k0_pay201 (up S256x1 .f32 f) = up S256x1 .f32 f := by
  simp only [k0_pay201, up_cast]
theorem pay202_eq (f : ℕ → ℕ → ℝ) : k0_pay202 (up S256x1 .f32 f) = up S256x1 .f32 f := by
  simp only [k0_pay202, up_cast]
theorem pay203_eq : k0_pay203 (F := Ideal) = up S256x1 .f32 (fun _ _ => 0) := bc0 _
theorem pay204_eq : k0_pay204 (F := Ideal) = up S256x128 .f32 (fun _ _ => 0) := bc0 _
theorem pay187_eq : k0_pay187 (F := Ideal) = up S2048x128 .f32 (fun _ _ => 0) := bc0 _
theorem pay188_eq : k0_pay188 (F := Ideal) = up S2048x128 .f32 (fun _ _ => 0) := bc0 _
theorem pay8_eq (f : ℕ → ℕ → ℝ) : k0_pay8 (up S256x128 .f32 f) = up S256x128 .f32 (fun r l => f r l * (1 / 8)) := by
  simp only [k0_pay8, bc8, up_mul]

end Cert.Proof.Sb
-- ==== Proof.TripVal.lean ====
/-
  What a trip yields and stores, over the real numbers.
-/
module

public import proofs.«01_k».proof.Proof.LoopOps
public import proofs.«01_k».proof.Proof.Pro
public import Idealize.ShloMosaic.Lib.VecWindow
public import Idealize.ShloMosaic.Lib.WritesUnit

@[expose] public section

set_option maxRecDepth 16384

noncomputable section

namespace Cert.Proof.Sb

open Cert.KernelIdeal Cert.KernelIdeal.Gen
open Idealize.ShloMosaic Idealize.ShloMosaic.TcCoe Idealize.ShloMosaic.Tactic

/-- A load of 256 whole rows, from row `o` on. -/
theorem rows_read {κ : Kind} {sp : Space} (v : View sig κ sp S2048x128 .f32) (f : v.ty.Contents (Elt Ideal)) (G : ℕ → ℕ → ℝ)
    (hf : v.read (Elt Ideal) f = up S2048x128 .f32 G) {off : Fin 2 → ℕ} {o : ℕ} (inb : ∀ a : Fin 2, off a + S256x128.size a ≤ S2048x128.size a) (h : off = ![o, 0]) :
    (v.readAt (Elt Ideal) (Rect.unit (s := S2048x128) off S256x128.size inb).toLoadRect f : Vec Ideal S256x128 .f32) = up S256x128 .f32 (fun r l => G (o + r) l) := by
  subst h
  funext y
  have e : v.readAt (Elt Ideal) (Rect.unit (s := S2048x128) ![o, 0] S256x128.size inb).toLoadRect f y
      = v.read (Elt Ideal) f ((Rect.unit (s := S2048x128) ![o, 0] S256x128.size inb).emb y) := rfl
  refine e.trans ?_
  rw [hf, up_apply, up_apply]
  have e0 : co ((Rect.unit (s := S2048x128) ![o, 0] S256x128.size inb).emb y) 0 = o + 1 * co (s := S256x128) y 0 := rfl
  have e1 : co ((Rect.unit (s := S2048x128) ![o, 0] S256x128.size inb).emb y) 1 = 0 + 1 * co (s := S256x128) y 1 := rfl
  rw [e0, e1, one_mul, one_mul, zero_add]

/-- A store of 256 whole rows, from row `o` on. -/
theorem rows_write {κ : Kind} {sp : Space} (v : View sig κ sp S2048x128 .f32) (f : v.ty.Contents (Elt Ideal)) (G g : ℕ → ℕ → ℝ)
    (L : List (View.Piece (Elt Ideal) S2048x128 .f32)) (hf : v.read (Elt Ideal) (v.writes (Elt Ideal) f L) = up S2048x128 .f32 G)
    {off : Fin 2 → ℕ} {o : ℕ} (inb : ∀ a : Fin 2, off a + S256x128.size a ≤ S2048x128.size a) (h : off = ![o, 0])
    (w : Vec Ideal S256x128 .f32) (hw : w = up S256x128 .f32 g) :
    v.read (Elt Ideal) (v.writes (Elt Ideal) f (⟨Rect.unit (s := S2048x128) off S256x128.size inb, w⟩ :: L))
      = up S2048x128 .f32 (fun s l => if o ≤ s ∧ s < o + 256 then g (s - o) l else G s l) := by
  funext y
  refine (View.read_writes_cons_rows (W := 256) v f inb w L y h rfl rfl).trans ?_
  rw [up_apply]
  by_cases e : o ≤ (y (0 : Fin 2)).val ∧ (y (0 : Fin 2)).val < o + 256
  · rw [dif_pos e, if_pos (show o ≤ co y 0 ∧ co y 0 < o + 256 from e), hw]
    rfl
  · rw [dif_neg e, if_neg (show ¬(o ≤ co y 0 ∧ co y 0 < o + 256) from e), hf]
    rfl

/-- What a query block adds to `dk` and to `dv` at key `s`. -/
def DKt (x : In) (t0 p s l : ℕ) : ℝ := ∑ r ∈ Finset.range 256, DZ x (2 * p + l / 64) (t0 + r) s * qsB x t0 p r l
def DVt (x : In) (t0 p s l : ℕ) : ℝ := ∑ r ∈ Finset.range 256, W x (2 * p + l / 64) (t0 + r) s * dB x t0 p r l

variable (c : Dev nD) (i : grid0.Coords)
  (arg2 : Memref sig .tc .vmem S256x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S256x256 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S2048x128 .f32) (harg8 : arg8.IsWhole) (arg9 : Memref sig .tc .vmem S2048x128 .f32) (harg9 : arg9.IsWhole)
  (X3 : Buf (Elt Ideal) (arg3.view.loc (c : Thread nD τ))) (X4 : Buf (Elt Ideal) (arg4.view.loc (c : Thread nD τ)))
  (arg1 : BitVec 32) (x : In) (t0 p : ℕ)

/-- The carried values once the first `n` keys are done. -/
def carryAt (x : In) (t0 p n : ℕ) : Carry Ideal :=
  (up S256x128 .f32 (dqB x t0 n p), up S256x1 .f32 (preB x (2 * p) t0 n), up S256x1 .f32 (cdeB x (2 * p) t0 n),
    up S256x1 .f32 (preB x (2 * p + 1) t0 n), up S256x1 .f32 (cdeB x (2 * p + 1) t0 n))

section
variable (k : Fin (k0_t1_loop i).trips) (s0 : ℕ) (e0 : 512 * k.val = s0) (hs : s0 + 256 + 256 ≤ t0)
  (h3 : arg3.view.read (Elt Ideal) X3 = up S2048x128 .f32 (fun s l => x.k s (128 * p + l)))
  (h4 : arg4.view.read (Elt Ideal) X4 = up S2048x128 .f32 (fun s l => x.v s (128 * p + l)))
  (f8 : Buf (Elt Ideal) (arg8.view.loc (c : Thread nD τ))) (f9 : Buf (Elt Ideal) (arg9.view.loc (c : Thread nD τ)))
  (G8 G9 : ℕ → ℕ → ℝ) (h8 : arg8.view.read (Elt Ideal) f8 = up S2048x128 .f32 G8) (h9 : arg9.view.read (Elt Ideal) f9 = up S2048x128 .f32 G9)
include e0 hs h3 h4

theorem k_rows1 (inb) : (View.readAt (Elt Ideal) arg3.view (Rect.unit (k0_off1 i k) ![256, 128] inb).toLoadRect X3) = up S256x128 .f32 (kB x s0 p) :=
  rows_read arg3.view X3 _ h3 inb (e0 ▸ off1_eq i k)
theorem k_rows2 (inb) : (View.readAt (Elt Ideal) arg3.view (Rect.unit (k0_off2 i k) ![256, 128] inb).toLoadRect X3) = up S256x128 .f32 (kB x (s0 + 256) p) :=
  rows_read arg3.view X3 _ h3 inb (e0 ▸ off2_eq i k)
theorem v_rows1 (inb) : (View.readAt (Elt Ideal) arg4.view (Rect.unit (k0_off1 i k) ![256, 128] inb).toLoadRect X4) = up S256x128 .f32 (vB x s0 p) :=
  rows_read arg4.view X4 _ h4 inb (e0 ▸ off1_eq i k)
theorem v_rows2 (inb) : (View.readAt (Elt Ideal) arg4.view (Rect.unit (k0_off2 i k) ![256, 128] inb).toLoadRect X4) = up S256x128 .f32 (vB x (s0 + 256) p) :=
  rows_read arg4.view X4 _ h4 inb (e0 ▸ off2_eq i k)

theorem trip_carry : (tripRun c i arg2 harg2 arg3 harg3 arg4 harg4 arg5 harg5 arg6 harg6 arg7 harg7 arg8 harg8 arg9 harg9 X3 X4 arg1 (up S256x256 .bf16 leB) (up S256x256 .bf16 ltB) (mk S256x128 (fun _ l => decide (l / 64 = 0))) (mk S256x128 (fun _ l => decide (l / 64 = 1))) (up S256x128 .bf16 (qmB x t0 p 0)) (up S256x128 .bf16 (qmB x t0 p 1)) (up S256x128 .bf16 (dmB x t0 p 0)) (up S256x128 .bf16 (dmB x t0 p 1)) (up S256x1 .f32 (totB x (2 * p) t0)) (up S256x1 .f32 (totB x (2 * p + 1) t0)) k (carryAt x t0 p s0) f8 f9).1 = carryAt x t0 p (s0 + 256 + 256) := by
  unfold tripRun carryAt
  dsimp only
  simp only [tripRun.sl.cst_68, tripRun.sl.r, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.r_43, tripRun.sl.r_44, k_rows1 c i arg3 arg4 X3 X4 x t0 p k s0 e0 hs h3 h4, k_rows2 c i arg3 arg4 X3 X4 x t0 p k s0 e0 hs h3 h4, v_rows1 c i arg3 arg4 X3 X4 x t0 p k s0 e0 hs h3 h4, v_rows2 c i arg3 arg4 X3 X4 x t0 p k s0 e0 hs h3 h4, pay202_eq, lp9 x t0 s0 p (fun _ _ => 0) hs, lp10 x t0 s0 p (fun _ _ => 0) hs, lp11 x t0 s0 p (fun _ _ => 0) hs, lp12 x t0 s0 p (fun _ _ => 0) hs, lp13 x t0 s0 p (fun _ _ => 0) hs, lp14 x t0 s0 p (fun _ _ => 0) hs, lp15 x t0 s0 p (fun _ _ => 0) hs, lp16 x t0 s0 p (fun _ _ => 0) hs, lp17 x t0 s0 p (fun _ _ => 0) hs, lp18 x t0 s0 p (fun _ _ => 0) hs, lp19 x t0 s0 p (fun _ _ => 0) hs, lp20 x t0 s0 p (fun _ _ => 0) hs, lp21 x t0 s0 p (fun _ _ => 0) hs, lp22 x t0 s0 p (fun _ _ => 0) hs, lp23 x t0 s0 p (fun _ _ => 0) hs, lp24 x t0 s0 p (fun _ _ => 0) hs, lp25 x t0 s0 p (fun _ _ => 0) hs, lp26 x t0 s0 p (fun _ _ => 0) hs, lp27 x t0 s0 p (fun _ _ => 0) hs, lp28 x t0 s0 p (fun _ _ => 0) hs, lp29 x t0 s0 p (fun _ _ => 0) hs, lp30 x t0 s0 p (fun _ _ => 0) hs, lp31 x t0 s0 p (fun _ _ => 0) hs, lp32 x t0 s0 p (fun _ _ => 0) hs, lp33 x t0 s0 p (fun _ _ => 0) hs, lp34 x t0 s0 p (fun _ _ => 0) hs, lp35 x t0 s0 p (fun _ _ => 0) hs, lp36 x t0 s0 p (fun _ _ => 0) hs, lp37 x t0 s0 p (fun _ _ => 0) hs, lp38 x t0 s0 p (fun _ _ => 0) hs, lp39 x t0 s0 p (fun _ _ => 0) hs, lp40 x t0 s0 p (fun _ _ => 0) hs, lp41 x t0 s0 p (fun _ _ => 0) hs, lp42 x t0 s0 p (fun _ _ => 0) hs, lp43 x t0 s0 p (fun _ _ => 0) hs, lp44 x t0 s0 p (fun _ _ => 0) hs, lp45 x t0 s0 p (fun _ _ => 0) hs, lp46 x t0 s0 p (fun _ _ => 0) hs, lp47 x t0 s0 p (fun _ _ => 0) hs, lp48 x t0 s0 p (fun _ _ => 0) hs, lp49 x t0 s0 p (fun _ _ => 0) hs, lp50 x t0 s0 p (fun _ _ => 0) hs, lp51 x t0 s0 p (fun _ _ => 0) hs, lp52 x t0 s0 p (fun _ _ => 0) hs, lp53 x t0 s0 p (fun _ _ => 0) hs, lp54 x t0 s0 p (fun _ _ => 0) hs, lp55 x t0 s0 p (fun _ _ => 0) hs, lp56 x t0 s0 p (fun _ _ => 0) hs, lp57 x t0 s0 p (fun _ _ => 0) hs, lp58 x t0 s0 p (fun _ _ => 0) hs, lp59 x t0 s0 p (fun _ _ => 0) hs]

include h8 h9
theorem trip_dk : arg8.view.read (Elt Ideal) (arg8.view.writes (Elt Ideal) f8 (tripRun c i arg2 harg2 arg3 harg3 arg4 harg4 arg5 harg5 arg6 harg6 arg7 harg7 arg8 harg8 arg9 harg9 X3 X4 arg1 (up S256x256 .bf16 leB) (up S256x256 .bf16 ltB) (mk S256x128 (fun _ l => decide (l / 64 = 0))) (mk S256x128 (fun _ l => decide (l / 64 = 1))) (up S256x128 .bf16 (qmB x t0 p 0)) (up S256x128 .bf16 (qmB x t0 p 1)) (up S256x128 .bf16 (dmB x t0 p 0)) (up S256x128 .bf16 (dmB x t0 p 1)) (up S256x1 .f32 (totB x (2 * p) t0)) (up S256x1 .f32 (totB x (2 * p + 1) t0)) k (carryAt x t0 p s0) f8 f9).2.1)
    = up S2048x128 .f32 (fun s l => G8 s l + if s0 ≤ s ∧ s < s0 + 256 + 256 then DKt x t0 p s l else 0) := by
  have w1 := rows_write arg8.view f8 G8 (fun r l => G8 (s0 + r) l + dkB x t0 s0 p r l) [] h8 (k0_off1_inb i k) (e0 ▸ off1_eq i k) _ rfl
  have w2 := rows_write arg8.view f8 _ (fun r l => G8 (s0 + 256 + r) l + dkB x t0 (s0 + 256) p r l) _ w1 (k0_off2_inb i k) (e0 ▸ off2_eq i k) _ rfl
  unfold tripRun carryAt
  dsimp only
  simp only [tripRun.sl.v366, tripRun.sl.v375, rows_read arg8.view f8 G8 h8 (k0_off1_inb i k) (e0 ▸ off1_eq i k), rows_read arg8.view f8 G8 h8 (k0_off2_inb i k) (e0 ▸ off2_eq i k), tripRun.sl.cst_68, tripRun.sl.r, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.r_43, tripRun.sl.r_44, k_rows1 c i arg3 arg4 X3 X4 x t0 p k s0 e0 hs h3 h4, k_rows2 c i arg3 arg4 X3 X4 x t0 p k s0 e0 hs h3 h4, v_rows1 c i arg3 arg4 X3 X4 x t0 p k s0 e0 hs h3 h4, v_rows2 c i arg3 arg4 X3 X4 x t0 p k s0 e0 hs h3 h4, pay202_eq, lp9 x t0 s0 p (fun _ _ => 0) hs, lp10 x t0 s0 p (fun _ _ => 0) hs, lp11 x t0 s0 p (fun _ _ => 0) hs, lp12 x t0 s0 p (fun _ _ => 0) hs, lp13 x t0 s0 p (fun _ _ => 0) hs, lp14 x t0 s0 p (fun _ _ => 0) hs, lp15 x t0 s0 p (fun _ _ => 0) hs, lp16 x t0 s0 p (fun _ _ => 0) hs, lp17 x t0 s0 p (fun _ _ => 0) hs, lp18 x t0 s0 p (fun _ _ => 0) hs, lp19 x t0 s0 p (fun _ _ => 0) hs, lp20 x t0 s0 p (fun _ _ => 0) hs, lp21 x t0 s0 p (fun _ _ => 0) hs, lp22 x t0 s0 p (fun _ _ => 0) hs, lp23 x t0 s0 p (fun _ _ => 0) hs, lp24 x t0 s0 p (fun _ _ => 0) hs, lp25 x t0 s0 p (fun _ _ => 0) hs, lp26 x t0 s0 p (fun _ _ => 0) hs, lp27 x t0 s0 p (fun _ _ => 0) hs, lp28 x t0 s0 p (fun _ _ => 0) hs, lp29 x t0 s0 p (fun _ _ => 0) hs, lp30 x t0 s0 p (fun _ _ => 0) hs, lp31 x t0 s0 p (fun _ _ => 0) hs, lp32 x t0 s0 p (fun _ _ => 0) hs, lp33 x t0 s0 p (fun _ _ => 0) hs, lp34 x t0 s0 p (fun _ _ => 0) hs, lp35 x t0 s0 p (fun _ _ => 0) hs, lp36 x t0 s0 p (fun _ _ => 0) hs, lp37 x t0 s0 p (fun _ _ => 0) hs, lp38 x t0 s0 p (fun _ _ => 0) hs, lp39 x t0 s0 p (fun _ _ => 0) hs, lp40 x t0 s0 p (fun _ _ => 0) hs, lp41 x t0 s0 p (fun _ _ => 0) hs, lp42 x t0 s0 p (fun _ _ => 0) hs, lp43 x t0 s0 p (fun _ _ => 0) hs, lp44 x t0 s0 p (fun _ _ => 0) hs, lp45 x t0 s0 p (fun _ _ => 0) hs, lp46 x t0 s0 p (fun _ _ => 0) hs, lp47 x t0 s0 p (fun _ _ => 0) hs, lp48 x t0 s0 p (fun _ _ => 0) hs, lp49 x t0 s0 p (fun _ _ => 0) hs, lp50 x t0 s0 p (fun _ _ => 0) hs, lp51 x t0 s0 p (fun _ _ => 0) hs, lp52 x t0 s0 p (fun _ _ => 0) hs, lp53 x t0 s0 p (fun _ _ => 0) hs, lp54 x t0 s0 p (fun _ _ => 0) hs, lp55 x t0 s0 p (fun _ _ => 0) hs, lp56 x t0 s0 p (fun _ _ => 0) hs, lp57 x t0 s0 p (fun _ _ => 0) hs, lp58 x t0 s0 p (fun _ _ => 0) hs, lp59 x t0 s0 p (fun _ _ => 0) hs, lp60 x t0 s0 p (fun r l => G8 (s0 + r) l) hs, lp205 x t0 s0 p (fun r l => G8 (s0 + 256 + r) l) hs]
  refine w2.trans (up_congr2 _ fun s l hs' hl => ?_)
  by_cases c2 : s0 + 256 ≤ s ∧ s < s0 + 256 + 256
  · obtain ⟨u, rfl⟩ := Nat.exists_eq_add_of_le c2.1
    rw [if_pos c2, if_pos ⟨by omega, c2.2⟩, Nat.add_sub_cancel_left]; rfl
  · rw [if_neg c2]
    by_cases c1 : s0 ≤ s ∧ s < s0 + 256
    · obtain ⟨u, rfl⟩ := Nat.exists_eq_add_of_le c1.1
      rw [if_pos c1, if_pos ⟨c1.1, by omega⟩, Nat.add_sub_cancel_left]; rfl
    · rw [if_neg c1, if_neg (by omega), add_zero]

theorem trip_dv : arg9.view.read (Elt Ideal) (arg9.view.writes (Elt Ideal) f9 (tripRun c i arg2 harg2 arg3 harg3 arg4 harg4 arg5 harg5 arg6 harg6 arg7 harg7 arg8 harg8 arg9 harg9 X3 X4 arg1 (up S256x256 .bf16 leB) (up S256x256 .bf16 ltB) (mk S256x128 (fun _ l => decide (l / 64 = 0))) (mk S256x128 (fun _ l => decide (l / 64 = 1))) (up S256x128 .bf16 (qmB x t0 p 0)) (up S256x128 .bf16 (qmB x t0 p 1)) (up S256x128 .bf16 (dmB x t0 p 0)) (up S256x128 .bf16 (dmB x t0 p 1)) (up S256x1 .f32 (totB x (2 * p) t0)) (up S256x1 .f32 (totB x (2 * p + 1) t0)) k (carryAt x t0 p s0) f8 f9).2.2.1)
    = up S2048x128 .f32 (fun s l => G9 s l + if s0 ≤ s ∧ s < s0 + 256 + 256 then DVt x t0 p s l else 0) := by
  have w1 := rows_write arg9.view f9 G9 (fun r l => G9 (s0 + r) l + dvB x t0 s0 p r l) [] h9 (k0_off1_inb i k) (e0 ▸ off1_eq i k) _ rfl
  have w2 := rows_write arg9.view f9 _ (fun r l => G9 (s0 + 256 + r) l + dvB x t0 (s0 + 256) p r l) _ w1 (k0_off2_inb i k) (e0 ▸ off2_eq i k) _ rfl
  unfold tripRun carryAt
  dsimp only
  simp only [tripRun.sl.v366, tripRun.sl.v375, rows_read arg9.view f9 G9 h9 (k0_off1_inb i k) (e0 ▸ off1_eq i k), rows_read arg9.view f9 G9 h9 (k0_off2_inb i k) (e0 ▸ off2_eq i k), tripRun.sl.cst_68, tripRun.sl.r, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.r_43, tripRun.sl.r_44, k_rows1 c i arg3 arg4 X3 X4 x t0 p k s0 e0 hs h3 h4, k_rows2 c i arg3 arg4 X3 X4 x t0 p k s0 e0 hs h3 h4, v_rows1 c i arg3 arg4 X3 X4 x t0 p k s0 e0 hs h3 h4, v_rows2 c i arg3 arg4 X3 X4 x t0 p k s0 e0 hs h3 h4, pay202_eq, lp9 x t0 s0 p (fun _ _ => 0) hs, lp10 x t0 s0 p (fun _ _ => 0) hs, lp11 x t0 s0 p (fun _ _ => 0) hs, lp12 x t0 s0 p (fun _ _ => 0) hs, lp13 x t0 s0 p (fun _ _ => 0) hs, lp14 x t0 s0 p (fun _ _ => 0) hs, lp15 x t0 s0 p (fun _ _ => 0) hs, lp16 x t0 s0 p (fun _ _ => 0) hs, lp17 x t0 s0 p (fun _ _ => 0) hs, lp18 x t0 s0 p (fun _ _ => 0) hs, lp19 x t0 s0 p (fun _ _ => 0) hs, lp20 x t0 s0 p (fun _ _ => 0) hs, lp21 x t0 s0 p (fun _ _ => 0) hs, lp22 x t0 s0 p (fun _ _ => 0) hs, lp23 x t0 s0 p (fun _ _ => 0) hs, lp24 x t0 s0 p (fun _ _ => 0) hs, lp25 x t0 s0 p (fun _ _ => 0) hs, lp26 x t0 s0 p (fun _ _ => 0) hs, lp27 x t0 s0 p (fun _ _ => 0) hs, lp28 x t0 s0 p (fun _ _ => 0) hs, lp29 x t0 s0 p (fun _ _ => 0) hs, lp30 x t0 s0 p (fun _ _ => 0) hs, lp31 x t0 s0 p (fun _ _ => 0) hs, lp32 x t0 s0 p (fun _ _ => 0) hs, lp33 x t0 s0 p (fun _ _ => 0) hs, lp34 x t0 s0 p (fun _ _ => 0) hs, lp35 x t0 s0 p (fun _ _ => 0) hs, lp36 x t0 s0 p (fun _ _ => 0) hs, lp37 x t0 s0 p (fun _ _ => 0) hs, lp38 x t0 s0 p (fun _ _ => 0) hs, lp39 x t0 s0 p (fun _ _ => 0) hs, lp40 x t0 s0 p (fun _ _ => 0) hs, lp41 x t0 s0 p (fun _ _ => 0) hs, lp42 x t0 s0 p (fun _ _ => 0) hs, lp43 x t0 s0 p (fun _ _ => 0) hs, lp44 x t0 s0 p (fun _ _ => 0) hs, lp45 x t0 s0 p (fun _ _ => 0) hs, lp46 x t0 s0 p (fun _ _ => 0) hs, lp47 x t0 s0 p (fun _ _ => 0) hs, lp48 x t0 s0 p (fun _ _ => 0) hs, lp49 x t0 s0 p (fun _ _ => 0) hs, lp50 x t0 s0 p (fun _ _ => 0) hs, lp51 x t0 s0 p (fun _ _ => 0) hs, lp52 x t0 s0 p (fun _ _ => 0) hs, lp53 x t0 s0 p (fun _ _ => 0) hs, lp54 x t0 s0 p (fun _ _ => 0) hs, lp55 x t0 s0 p (fun _ _ => 0) hs, lp56 x t0 s0 p (fun _ _ => 0) hs, lp57 x t0 s0 p (fun _ _ => 0) hs, lp58 x t0 s0 p (fun _ _ => 0) hs, lp59 x t0 s0 p (fun _ _ => 0) hs, lp61 x t0 s0 p (fun r l => G9 (s0 + r) l) hs, lp206 x t0 s0 p (fun r l => G9 (s0 + 256 + r) l) hs]
  refine w2.trans (up_congr2 _ fun s l hs' hl => ?_)
  by_cases c2 : s0 + 256 ≤ s ∧ s < s0 + 256 + 256
  · obtain ⟨u, rfl⟩ := Nat.exists_eq_add_of_le c2.1
    rw [if_pos c2, if_pos ⟨by omega, c2.2⟩, Nat.add_sub_cancel_left]; rfl
  · rw [if_neg c2]
    by_cases c1 : s0 ≤ s ∧ s < s0 + 256
    · obtain ⟨u, rfl⟩ := Nat.exists_eq_add_of_le c1.1
      rw [if_pos c1, if_pos ⟨c1.1, by omega⟩, Nat.add_sub_cancel_left]; rfl
    · rw [if_neg c1, if_neg (by omega), add_zero]
end
end Cert.Proof.Sb
-- ==== Proof.LoopVal.lean ====
/-
  What the loop over the pairs of key blocks yields and stores, over the real numbers.
-/
module

public import proofs.«01_k».proof.Proof.TripVal
public import Idealize.ShloMosaic.Lib.VecWindow
public import Idealize.ShloMosaic.Lib.WritesUnit

@[expose] public section

set_option maxRecDepth 16384

noncomputable section

namespace Cert.Proof.Sb

open Cert.KernelIdeal Cert.KernelIdeal.Gen
open Idealize.ShloMosaic Idealize.ShloMosaic.TcCoe Idealize.ShloMosaic.Tactic

variable (c : Dev nD) (i : grid0.Coords)
  (arg2 : Memref sig .tc .vmem S256x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S256x256 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S2048x128 .f32) (harg8 : arg8.IsWhole) (arg9 : Memref sig .tc .vmem S2048x128 .f32) (harg9 : arg9.IsWhole)
  (X3 : Buf (Elt Ideal) (arg3.view.loc (c : Thread nD τ))) (X4 : Buf (Elt Ideal) (arg4.view.loc (c : Thread nD τ)))
  (arg1 : BitVec 32) (x : In) (t0 p : ℕ)

variable (h3 : arg3.view.read (Elt Ideal) X3 = up S2048x128 .f32 (fun s l => x.k s (128 * p + l)))
  (h4 : arg4.view.read (Elt Ideal) X4 = up S2048x128 .f32 (fun s l => x.v s (128 * p + l)))
  (f8 : Buf (Elt Ideal) (arg8.view.loc (c : Thread nD τ))) (f9 : Buf (Elt Ideal) (arg9.view.loc (c : Thread nD τ)))
  (G8 G9 : ℕ → ℕ → ℝ) (h8 : arg8.view.read (Elt Ideal) f8 = up S2048x128 .f32 G8) (h9 : arg9.view.read (Elt Ideal) f9 = up S2048x128 .f32 G9)

include h3 h4 h8 h9
/-- The loop's carried values and results for the keys before `n`. -/
theorem st_at (n : ℕ) (hn : n ≤ (k0_t1_loop i).trips) (ht : 512 * n ≤ t0) :
    (st c i arg2 harg2 arg3 harg3 arg4 harg4 arg5 harg5 arg6 harg6 arg7 harg7 arg8 harg8 arg9 harg9 X3 X4 arg1 (up S256x256 .bf16 leB) (up S256x256 .bf16 ltB) (mk S256x128 (fun _ l => decide (l / 64 = 0))) (mk S256x128 (fun _ l => decide (l / 64 = 1))) (up S256x128 .bf16 (qmB x t0 p 0)) (up S256x128 .bf16 (qmB x t0 p 1)) (up S256x128 .bf16 (dmB x t0 p 0)) (up S256x128 .bf16 (dmB x t0 p 1)) (up S256x1 .f32 (totB x (2 * p) t0)) (up S256x1 .f32 (totB x (2 * p + 1) t0)) (carryAt x t0 p 0) f8 f9 n).1 = carryAt x t0 p (512 * n)
    ∧ arg8.view.read (Elt Ideal) (st c i arg2 harg2 arg3 harg3 arg4 harg4 arg5 harg5 arg6 harg6 arg7 harg7 arg8 harg8 arg9 harg9 X3 X4 arg1 (up S256x256 .bf16 leB) (up S256x256 .bf16 ltB) (mk S256x128 (fun _ l => decide (l / 64 = 0))) (mk S256x128 (fun _ l => decide (l / 64 = 1))) (up S256x128 .bf16 (qmB x t0 p 0)) (up S256x128 .bf16 (qmB x t0 p 1)) (up S256x128 .bf16 (dmB x t0 p 0)) (up S256x128 .bf16 (dmB x t0 p 1)) (up S256x1 .f32 (totB x (2 * p) t0)) (up S256x1 .f32 (totB x (2 * p + 1) t0)) (carryAt x t0 p 0) f8 f9 n).2.1 = up S2048x128 .f32 (fun s l => G8 s l + if s < 512 * n then DKt x t0 p s l else 0)
    ∧ arg9.view.read (Elt Ideal) (st c i arg2 harg2 arg3 harg3 arg4 harg4 arg5 harg5 arg6 harg6 arg7 harg7 arg8 harg8 arg9 harg9 X3 X4 arg1 (up S256x256 .bf16 leB) (up S256x256 .bf16 ltB) (mk S256x128 (fun _ l => decide (l / 64 = 0))) (mk S256x128 (fun _ l => decide (l / 64 = 1))) (up S256x128 .bf16 (qmB x t0 p 0)) (up S256x128 .bf16 (qmB x t0 p 1)) (up S256x128 .bf16 (dmB x t0 p 0)) (up S256x128 .bf16 (dmB x t0 p 1)) (up S256x1 .f32 (totB x (2 * p) t0)) (up S256x1 .f32 (totB x (2 * p + 1) t0)) (carryAt x t0 p 0) f8 f9 n).2.2 = up S2048x128 .f32 (fun s l => G9 s l + if s < 512 * n then DVt x t0 p s l else 0) := by
  induction n with
  | zero =>
    refine ⟨rfl, h8.trans (up_congr2 _ fun s l _ _ => ?_), h9.trans (up_congr2 _ fun s l _ _ => ?_)⟩
    · rw [if_neg (by omega), add_zero]
    · rw [if_neg (by omega), add_zero]
  | succ n ih =>
    obtain ⟨i1, i2, i3⟩ := ih (by omega) (by omega)
    have hk : n < (k0_t1_loop i).trips := by omega
    have hs : 512 * n + 256 + 256 ≤ t0 := by omega
    have e : 512 * (n + 1) = 512 * n + 256 + 256 := by omega
    rw [st, dif_pos hk]
    refine ⟨?_, ?_, ?_⟩
    · dsimp only
      rw [i1, e]
      exact trip_carry c i arg2 harg2 arg3 harg3 arg4 harg4 arg5 harg5 arg6 harg6 arg7 harg7 arg8 harg8 arg9 harg9 X3 X4 arg1 x t0 p ⟨n, hk⟩ (512 * n) rfl hs h3 h4 _ _
    · dsimp only
      rw [i1, e]
      refine (trip_dk c i arg2 harg2 arg3 harg3 arg4 harg4 arg5 harg5 arg6 harg6 arg7 harg7 arg8 harg8 arg9 harg9 X3 X4 arg1 x t0 p ⟨n, hk⟩ (512 * n) rfl hs h3 h4 _ _ _ _ i2 i3).trans (up_congr2 _ fun s l _ _ => ?_)
      by_cases a : s < 512 * n
      · rw [if_pos a, if_neg (by omega), if_pos (by omega), add_zero]
      · by_cases b : s < 512 * n + 256 + 256
        · rw [if_neg a, if_pos ⟨by omega, b⟩, if_pos b, add_zero]
        · rw [if_neg a, if_neg (by omega), if_neg b, add_zero]
    · dsimp only
      rw [i1, e]
      refine (trip_dv c i arg2 harg2 arg3 harg3 arg4 harg4 arg5 harg5 arg6 harg6 arg7 harg7 arg8 harg8 arg9 harg9 X3 X4 arg1 x t0 p ⟨n, hk⟩ (512 * n) rfl hs h3 h4 _ _ _ _ i2 i3).trans (up_congr2 _ fun s l _ _ => ?_)
      by_cases a : s < 512 * n
      · rw [if_pos a, if_neg (by omega), if_pos (by omega), add_zero]
      · by_cases b : s < 512 * n + 256 + 256
        · rw [if_neg a, if_pos ⟨by omega, b⟩, if_pos b, add_zero]
        · rw [if_neg a, if_neg (by omega), if_neg b, add_zero]

end Cert.Proof.Sb
-- ==== Proof.Reads.lean ====
/-
  Reading the operand blocks and the stored result blocks.
-/
module

public import proofs.«01_k».proof.Proof.LoopVal
public import proofs.«01_k».proof.Proof.Body

@[expose] public section

set_option maxRecDepth 16384

noncomputable section

namespace Cert.Proof.Sb

open Cert.KernelIdeal Cert.KernelIdeal.Gen
open Idealize.ShloMosaic Idealize.ShloMosaic.TcCoe Idealize.ShloMosaic.Tactic

/-- The two lemmas on whole rows, with the block's size as the body prints it. -/
theorem rows_read' {κ : Kind} {sp : Space} (v : View sig κ sp S2048x128 .f32) (f : v.ty.Contents (Elt Ideal)) (G : ℕ → ℕ → ℝ)
    (hf : v.read (Elt Ideal) f = up S2048x128 .f32 G) {off : Fin 2 → ℕ} {o : ℕ} (inb : ∀ a : Fin 2, off a + S256x128.size a ≤ S2048x128.size a) (h : off = ![o, 0]) :
    (v.readAt (Elt Ideal) (Rect.unit (s := S2048x128) off ![256, 128] inb).toLoadRect f : Vec Ideal S256x128 .f32) = up S256x128 .f32 (fun r l => G (o + r) l) :=
  rows_read v f G hf inb h
theorem rows_write' {κ : Kind} {sp : Space} (v : View sig κ sp S2048x128 .f32) (f : v.ty.Contents (Elt Ideal)) (G g : ℕ → ℕ → ℝ)
    (L : List (View.Piece (Elt Ideal) S2048x128 .f32)) (hf : v.read (Elt Ideal) (v.writes (Elt Ideal) f L) = up S2048x128 .f32 G)
    {off : Fin 2 → ℕ} {o : ℕ} (inb : ∀ a : Fin 2, off a + S256x128.size a ≤ S2048x128.size a) (h : off = ![o, 0])
    (w : Vec Ideal S256x128 .f32) (hw : w = up S256x128 .f32 g) :
    v.read (Elt Ideal) (v.writes (Elt Ideal) f (⟨Rect.unit (s := S2048x128) off ![256, 128] inb, w⟩ :: L))
      = up S2048x128 .f32 (fun s l => if o ≤ s ∧ s < o + 256 then g (s - o) l else G s l) :=
  rows_write v f G g L hf inb h w hw

/-- A load of a whole block of 256 rows. -/
theorem all_read {κ : Kind} {sp : Space} (v : View sig κ sp S256x128 .f32) (f : v.ty.Contents (Elt Ideal)) (g : ℕ → ℕ → ℝ)
    (hf : v.read (Elt Ideal) f = up S256x128 .f32 g) (inb : ∀ a : Fin 2, (![0, 0] : Fin 2 → ℕ) a + (![256, 128] : Fin 2 → ℕ) a ≤ S256x128.size a) :
    (v.readAt (Elt Ideal) (Rect.unit (s := S256x128) ![0, 0] ![256, 128] inb).toLoadRect f : Vec Ideal S256x128 .f32) = up S256x128 .f32 g := by
  funext y
  have e : v.readAt (Elt Ideal) (Rect.unit (s := S256x128) ![0, 0] ![256, 128] inb).toLoadRect f y
      = v.read (Elt Ideal) f ((Rect.unit (s := S256x128) ![0, 0] ![256, 128] inb).emb y) := rfl
  refine e.trans ?_
  rw [hf, up_apply, up_apply]
  have e0 : co ((Rect.unit (s := S256x128) ![0, 0] ![256, 128] inb).emb y) 0 = 0 + 1 * co (s := S256x128) y 0 := rfl
  have e1 : co ((Rect.unit (s := S256x128) ![0, 0] ![256, 128] inb).emb y) 1 = 0 + 1 * co (s := S256x128) y 1 := rfl
  rw [e0, e1, one_mul, one_mul, zero_add, zero_add]

/-- A load of a column. -/
theorem col_read {κ : Kind} {sp : Space} (v : View sig κ sp S256x256 .f32) (f : v.ty.Contents (Elt Ideal)) (g : ℕ → ℕ → ℝ)
    (hf : v.read (Elt Ideal) f = up S256x256 .f32 g) (o : ℕ) (inb : ∀ a : Fin 2, (![0, o] : Fin 2 → ℕ) a + (![256, 1] : Fin 2 → ℕ) a ≤ S256x256.size a) :
    (v.readAt (Elt Ideal) (Rect.unit (s := S256x256) ![0, o] ![256, 1] inb).toLoadRect f : Vec Ideal S256x1 .f32) = up S256x1 .f32 (fun r _ => g r o) := by
  funext y
  have e : v.readAt (Elt Ideal) (Rect.unit (s := S256x256) ![0, o] ![256, 1] inb).toLoadRect f y
      = v.read (Elt Ideal) f ((Rect.unit (s := S256x256) ![0, o] ![256, 1] inb).emb y) := rfl
  refine e.trans ?_
  rw [hf, up_apply, up_apply]
  have e0 : co ((Rect.unit (s := S256x256) ![0, o] ![256, 1] inb).emb y) 0 = 0 + 1 * co (s := S256x1) y 0 := rfl
  have e1 : co ((Rect.unit (s := S256x256) ![0, o] ![256, 1] inb).emb y) 1 = o + 1 * co (s := S256x1) y 1 := rfl
  have e2 : co (s := S256x1) y 1 = 0 := Nat.lt_one_iff.1 (y 1).isLt
  rw [e0, e1, e2, one_mul, mul_zero, zero_add, add_zero]

/-- A store of a whole block of 256 rows. -/
theorem all_write {κ : Kind} {sp : Space} (v : View sig κ sp S256x128 .f32) (f : v.ty.Contents (Elt Ideal))
    (inb : ∀ a : Fin 2, (![0, 0] : Fin 2 → ℕ) a + (![256, 128] : Fin 2 → ℕ) a ≤ S256x128.size a) (w : Vec Ideal S256x128 .f32) (g : ℕ → ℕ → ℝ) (hw : w = up S256x128 .f32 g) :
    v.read (Elt Ideal) (v.writes (Elt Ideal) f [⟨Rect.unit (s := S256x128) ![0, 0] ![256, 128] inb, w⟩]) = up S256x128 .f32 g := by
  funext y
  refine (View.read_writes_cons_rows (W := 256) v f inb w [] y rfl rfl rfl).trans ?_
  have hy : (y (0 : Fin 2)).val < 256 := (y (0 : Fin 2)).isLt
  rw [dif_pos ⟨Nat.zero_le _, by omega⟩, hw]
  rfl

/-- A store of a whole block of 2048 rows. -/
theorem zero_write {κ : Kind} {sp : Space} (v : View sig κ sp S2048x128 .f32) (f : v.ty.Contents (Elt Ideal))
    (inb : ∀ a : Fin 2, (![0, 0] : Fin 2 → ℕ) a + (![2048, 128] : Fin 2 → ℕ) a ≤ S2048x128.size a) (w : Vec Ideal S2048x128 .f32) (g : ℕ → ℕ → ℝ) (hw : w = up S2048x128 .f32 g) :
    v.read (Elt Ideal) (v.writes (Elt Ideal) f [⟨Rect.unit (s := S2048x128) ![0, 0] ![2048, 128] inb, w⟩]) = up S2048x128 .f32 g := by
  funext y
  refine (View.read_writes_cons_rows (W := 2048) v f inb w [] y rfl rfl rfl).trans ?_
  have hy : (y (0 : Fin 2)).val < 2048 := (y (0 : Fin 2)).isLt
  rw [dif_pos ⟨Nat.zero_le _, by omega⟩, hw]
  rfl

/-- Adding a stored contribution of 256 rows to a row's contents. -/
theorem add_rows (x : ℕ → ℕ → ℝ) (D : ℕ → ℕ → ℝ) (G : ℕ → ℕ → ℝ) (a n s l : ℕ) (ha : a = n) (hG : ∀ s, G s l = x s l + if s < n then D s l else 0) :
    (if a ≤ s ∧ s < a + 256 then G (a + (s - a)) l + D (a + (s - a)) l else G s l) = x s l + if s < n + 256 then D s l else 0 := by
  subst ha
  by_cases h : a ≤ s ∧ s < a + 256
  · rw [if_pos h, Nat.add_sub_cancel' h.1, hG, if_neg (by omega), if_pos h.2, add_zero]
  · rw [if_neg h, hG]
    by_cases h' : s < a
    · rw [if_pos h', if_pos (by omega)]
    · rw [if_neg h', if_neg (by omega)]

theorem off7_eq : ∀ i : grid0.Coords, k0_off7 i = ![256 * (i 1).val, 0] := by decide +kernel
theorem off6_eq : ∀ i : grid0.Coords, k0_off6 i = ![256 * (i 1).val, 0] := by decide +kernel

/-- The rows of the two operands, by key. -/
theorem rows_k {κ : Kind} {sp : Space} (v : View sig κ sp S2048x128 .f32) (f : v.ty.Contents (Elt Ideal)) (x : In) (p : ℕ)
    (hf : v.read (Elt Ideal) f = up S2048x128 .f32 (fun s l => x.k s (128 * p + l))) {off : Fin 2 → ℕ} {o : ℕ} (inb : ∀ a : Fin 2, off a + S256x128.size a ≤ S2048x128.size a) (h : off = ![o, 0]) :
    (v.readAt (Elt Ideal) (Rect.unit (s := S2048x128) off ![256, 128] inb).toLoadRect f : Vec Ideal S256x128 .f32) = up S256x128 .f32 (kB x o p) :=
  rows_read v f _ hf inb h
theorem rows_v {κ : Kind} {sp : Space} (v : View sig κ sp S2048x128 .f32) (f : v.ty.Contents (Elt Ideal)) (x : In) (p : ℕ)
    (hf : v.read (Elt Ideal) f = up S2048x128 .f32 (fun s l => x.v s (128 * p + l))) {off : Fin 2 → ℕ} {o : ℕ} (inb : ∀ a : Fin 2, off a + S256x128.size a ≤ S2048x128.size a) (h : off = ![o, 0]) :
    (v.readAt (Elt Ideal) (Rect.unit (s := S2048x128) off ![256, 128] inb).toLoadRect f : Vec Ideal S256x128 .f32) = up S256x128 .f32 (vB x o p) :=
  rows_read v f _ hf inb h
/-- What the loop is entered with. -/
theorem init_eq (x : In) (t0 p : ℕ) : ((k0_pay204, k0_pay203, k0_pay203, k0_pay203, k0_pay203) : Carry Ideal) = carryAt x t0 p 0 := by
  rw [pay203_eq, pay204_eq]; rfl
theorem pre_zero (x : In) (h t0 : ℕ) : preB x h t0 0 = fun _ _ => 0 := rfl
theorem cde_zero (x : In) (h t0 : ℕ) : cdeB x h t0 0 = fun _ _ => 0 := rfl

/-- The two columns of the totals' block, by query and lane. -/
def totF (x : In) (t0 p : ℕ) (r l : ℕ) : ℝ := TOT x (2 * p + l / 128) (t0 + r)
theorem totF0 (x : In) (t0 p : ℕ) : (fun r (_ : ℕ) => totF x t0 p r 0) = totB x (2 * p) t0 := rfl
theorem totF128 (x : In) (t0 p : ℕ) : (fun r (_ : ℕ) => totF x t0 p r 128) = totB x (2 * p + 1) t0 := rfl
theorem carry_1 (x : In) (t0 p n : ℕ) : (carryAt x t0 p n).1 = up S256x128 .f32 (dqB x t0 n p) := rfl
theorem carry_2 (x : In) (t0 p n : ℕ) : (carryAt x t0 p n).2.1 = up S256x1 .f32 (preB x (2 * p) t0 n) := rfl
theorem carry_3 (x : In) (t0 p n : ℕ) : (carryAt x t0 p n).2.2.1 = up S256x1 .f32 (cdeB x (2 * p) t0 n) := rfl
theorem carry_4 (x : In) (t0 p n : ℕ) : (carryAt x t0 p n).2.2.2.1 = up S256x1 .f32 (preB x (2 * p + 1) t0 n) := rfl
theorem carry_5 (x : In) (t0 p n : ℕ) : (carryAt x t0 p n).2.2.2.2 = up S256x1 .f32 (cdeB x (2 * p + 1) t0 n) := rfl
end Cert.Proof.Sb
-- ==== Proof.EvenOps.lean ====
/-
  What each step after the loop computes when the query block is even: its own key block.
-/
module

public import proofs.«01_k».proof.Proof.Sem

@[expose] public section

set_option maxRecDepth 16384

noncomputable section

namespace Cert.Proof.Sb

open Cert.KernelIdeal Cert.KernelIdeal.Gen
open Idealize.ShloMosaic Idealize.ShloMosaic.TcCoe Idealize.ShloMosaic.Tactic

theorem ev166 (x : In) (t0 s0 p : ℕ) (g : ℕ → ℕ → ℝ) (hs : True) :
    k0_pay166 (up S256x128 .f32 (vB x t0 p)) = (up S256x128 .bf16 (vB x t0 p)) := by
  simp only [k0_pay166, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

theorem ev168 (x : In) (t0 s0 p : ℕ) (g : ℕ → ℕ → ℝ) (hs : True) :
    k0_pay168 (mk S256x128 (fun _ l => decide (l / 64 = 0))) (up S256x128 .f32 (kB x t0 p)) = (up S256x128 .bf16 (kmB x t0 p 0)) := by
  simp only [k0_pay168, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

theorem ev169 (x : In) (t0 s0 p : ℕ) (g : ℕ → ℕ → ℝ) (hs : True) :
    k0_pay169 (mk S256x128 (fun _ l => decide (l / 64 = 1))) (up S256x128 .f32 (kB x t0 p)) = (up S256x128 .bf16 (kmB x t0 p 1)) := by
  simp only [k0_pay169, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

theorem ev170 (x : In) (t0 s0 p : ℕ) (g : ℕ → ℕ → ℝ) (hs : True) :
    k0_pay170 (mk S256x128 (fun _ l => decide (l / 64 = 0))) (up S256x128 .bf16 (qmB x t0 p 0)) (up S256x128 .f32 (kB x t0 p)) = (up S256x256 .f32 (zB x (2 * p) t0 t0)) := by
  simp only [k0_pay170, ev168 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => z_eq x t0 t0 p 0 (by decide) r c)

theorem ev171 (x : In) (t0 s0 p : ℕ) (g : ℕ → ℕ → ℝ) (hs : True) :
    k0_pay171 (mk S256x128 (fun _ l => decide (l / 64 = 1))) (up S256x128 .bf16 (qmB x t0 p 1)) (up S256x128 .f32 (kB x t0 p)) = (up S256x256 .f32 (zB x (2 * p + 1) t0 t0)) := by
  simp only [k0_pay171, ev169 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => z_eq x t0 t0 p 1 (by decide) r c)

theorem ev172 (x : In) (t0 s0 p : ℕ) (g : ℕ → ℕ → ℝ) (hs : True) :
    k0_pay172 (up S256x128 .bf16 (dmB x t0 p 0)) (up S256x128 .f32 (vB x t0 p)) = (up S256x256 .f32 (dwB x (2 * p) t0 t0)) := by
  simp only [k0_pay172, ev166 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => dw_eq x t0 t0 p 0 (by decide) r c)

theorem ev173 (x : In) (t0 s0 p : ℕ) (g : ℕ → ℕ → ℝ) (hs : True) :
    k0_pay173 (up S256x128 .bf16 (dmB x t0 p 1)) (up S256x128 .f32 (vB x t0 p)) = (up S256x256 .f32 (dwB x (2 * p + 1) t0 t0)) := by
  simp only [k0_pay173, ev166 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => dw_eq x t0 t0 p 1 (by decide) r c)

theorem ev174 (x : In) (t0 s0 p : ℕ) (g : ℕ → ℕ → ℝ) (hs : True) :
    k0_pay174 (mk S256x128 (fun _ l => decide (l / 64 = 0))) (up S256x128 .bf16 (qmB x t0 p 0)) (up S256x128 .f32 (kB x t0 p)) = (up S256x256 .f32 (lbB x (2 * p) t0 t0)) := by
  simp only [k0_pay174, ev170 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

theorem ev175 (x : In) (t0 s0 p : ℕ) (g : ℕ → ℕ → ℝ) (hs : True) :
    k0_pay175 (mk S256x128 (fun _ l => decide (l / 64 = 0))) (up S256x128 .bf16 (qmB x t0 p 0)) (up S256x128 .f32 (kB x t0 p)) = (up S256x256 .f32 (l1B x (2 * p) t0 t0)) := by
  simp only [k0_pay175, ev174 x t0 s0 p g hs, ev170 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

theorem ev176 (x : In) (t0 s0 p : ℕ) (g : ℕ → ℕ → ℝ) (hs : True) :
    k0_pay176 (mk S256x128 (fun _ l => decide (l / 64 = 1))) (up S256x128 .bf16 (qmB x t0 p 1)) (up S256x128 .f32 (kB x t0 p)) = (up S256x256 .f32 (lbB x (2 * p + 1) t0 t0)) := by
  simp only [k0_pay176, ev171 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

theorem ev177 (x : In) (t0 s0 p : ℕ) (g : ℕ → ℕ → ℝ) (hs : True) :
    k0_pay177 (mk S256x128 (fun _ l => decide (l / 64 = 1))) (up S256x128 .bf16 (qmB x t0 p 1)) (up S256x128 .f32 (kB x t0 p)) = (up S256x256 .f32 (l1B x (2 * p + 1) t0 t0)) := by
  simp only [k0_pay177, ev176 x t0 s0 p g hs, ev171 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

theorem ev178 (x : In) (t0 s0 p : ℕ) (g : ℕ → ℕ → ℝ) (hs : True) :
    k0_pay178 (mk S256x128 (fun _ l => decide (l / 64 = 0))) (up S256x128 .bf16 (qmB x t0 p 0)) (up S256x128 .f32 (kB x t0 p)) = (up S256x256 .f32 (l1mB x (2 * p) t0 t0)) := by
  simp only [k0_pay178, ev175 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

theorem ev179 (x : In) (t0 s0 p : ℕ) (g : ℕ → ℕ → ℝ) (hs : True) :
    k0_pay179 (up S256x256 .bf16 (leB)) (up S256x1 .f32 (totB x (2 * p) t0)) (up S256x1 .f32 (preB x (2 * p) t0 t0)) (mk S256x256 (fun r c => decide (c < r))) (up S256x256 .f32 (lbB x (2 * p) t0 t0)) (up S256x256 .f32 (l1mB x (2 * p) t0 t0)) = (up S256x256 .f32 (wB x (2 * p) t0 t0)) := by
  simp only [k0_pay179, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => by have e1 := pf_eq x (2 * p) t0 t0 r c hc; have e2 := w_diag x (2 * p) t0 r c; unfold exB at e2; rw [← e1] at e2; exact e2)

theorem ev180 (x : In) (t0 s0 p : ℕ) (g : ℕ → ℕ → ℝ) (hs : True) :
    k0_pay180 (up S256x256 .bf16 (leB)) (up S256x1 .f32 (totB x (2 * p + 1) t0)) (up S256x1 .f32 (preB x (2 * p + 1) t0 t0)) (mk S256x256 (fun r c => decide (c < r))) (up S256x256 .f32 (lbB x (2 * p + 1) t0 t0)) (up S256x256 .f32 (l1B x (2 * p + 1) t0 t0)) = (up S256x256 .f32 (wB x (2 * p + 1) t0 t0)) := by
  simp only [k0_pay180, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => by have e1 := pf_eq x (2 * p + 1) t0 t0 r c hc; have e2 := w_diag x (2 * p + 1) t0 r c; unfold exB at e2; rw [← e1] at e2; exact e2)

theorem ev181 (x : In) (t0 s0 p : ℕ) (g : ℕ → ℕ → ℝ) (hs : True) :
    k0_pay181 (up S256x256 .bf16 (leB)) (up S256x1 .f32 (totB x (2 * p) t0)) (up S256x1 .f32 (preB x (2 * p) t0 t0)) (mk S256x256 (fun r c => decide (c < r))) (up S256x256 .f32 (dwB x (2 * p) t0 t0)) (up S256x256 .f32 (lbB x (2 * p) t0 t0)) (up S256x256 .f32 (l1mB x (2 * p) t0 t0)) = (up S256x256 .f32 (eB x (2 * p) t0 t0)) := by
  simp only [k0_pay181, ev179 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

theorem ev182 (x : In) (t0 s0 p : ℕ) (g : ℕ → ℕ → ℝ) (hs : True) :
    k0_pay182 (up S256x256 .bf16 (leB)) (up S256x1 .f32 (totB x (2 * p + 1) t0)) (up S256x1 .f32 (preB x (2 * p + 1) t0 t0)) (mk S256x256 (fun r c => decide (c < r))) (up S256x256 .f32 (dwB x (2 * p + 1) t0 t0)) (up S256x256 .f32 (lbB x (2 * p + 1) t0 t0)) (up S256x256 .f32 (l1B x (2 * p + 1) t0 t0)) = (up S256x256 .f32 (eB x (2 * p + 1) t0 t0)) := by
  simp only [k0_pay182, ev180 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

theorem ev183 (x : In) (t0 s0 p : ℕ) (g : ℕ → ℕ → ℝ) (hs : True) :
    k0_pay183 (up S256x256 .bf16 (leB)) (up S256x128 .bf16 (dmB x t0 p 0)) (up S256x128 .bf16 (dmB x t0 p 1)) (up S256x1 .f32 (totB x (2 * p) t0)) (up S256x1 .f32 (totB x (2 * p + 1) t0)) (up S256x1 .f32 (preB x (2 * p) t0 t0)) (up S256x1 .f32 (preB x (2 * p + 1) t0 t0)) (mk S256x256 (fun r c => decide (c < r))) (up S256x256 .f32 (lbB x (2 * p) t0 t0)) (up S256x256 .f32 (lbB x (2 * p + 1) t0 t0)) (up S256x256 .f32 (l1B x (2 * p + 1) t0 t0)) (up S256x256 .f32 (l1mB x (2 * p) t0 t0)) = (up S256x128 .f32 (dvB x t0 t0 p)) := by
  simp only [k0_pay183, ev179 x t0 s0 p g hs, ev180 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => dv_eq x t0 t0 p r c hc)

theorem ev184 (x : In) (t0 s0 p : ℕ) (g : ℕ → ℕ → ℝ) (hs : True) :
    k0_pay184 (up S256x256 .bf16 (leB)) (up S256x256 .bf16 (ltB)) (up S256x1 .f32 (totB x (2 * p) t0)) (up S256x1 .f32 (preB x (2 * p) t0 t0)) (up S256x1 .f32 (cdeB x (2 * p) t0 t0)) (mk S256x256 (fun r c => decide (c < r))) (up S256x256 .f32 (dwB x (2 * p) t0 t0)) (up S256x256 .f32 (lbB x (2 * p) t0 t0)) (up S256x256 .f32 (l1mB x (2 * p) t0 t0)) = (up S256x256 .f32 (dlB x (2 * p) t0 t0)) := by
  simp only [k0_pay184, ev181 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => dl_eq x (2 * p) t0 t0 r c hc)

theorem ev185 (x : In) (t0 s0 p : ℕ) (g : ℕ → ℕ → ℝ) (hs : True) :
    k0_pay185 (up S256x256 .bf16 (leB)) (up S256x256 .bf16 (ltB)) (up S256x1 .f32 (totB x (2 * p + 1) t0)) (up S256x1 .f32 (preB x (2 * p + 1) t0 t0)) (up S256x1 .f32 (cdeB x (2 * p + 1) t0 t0)) (mk S256x256 (fun r c => decide (c < r))) (up S256x256 .f32 (dwB x (2 * p + 1) t0 t0)) (up S256x256 .f32 (lbB x (2 * p + 1) t0 t0)) (up S256x256 .f32 (l1B x (2 * p + 1) t0 t0)) = (up S256x256 .f32 (dlB x (2 * p + 1) t0 t0)) := by
  simp only [k0_pay185, ev182 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => dl_eq x (2 * p + 1) t0 t0 r c hc)

theorem ev186 (x : In) (t0 s0 p : ℕ) (g : ℕ → ℕ → ℝ) (hs : True) :
    k0_pay186 (up S256x256 .bf16 (leB)) (up S256x1 .f32 (totB x (2 * p) t0)) (up S256x1 .f32 (preB x (2 * p) t0 t0)) (mk S256x256 (fun r c => decide (c < r))) (up S256x256 .f32 (dwB x (2 * p) t0 t0)) (up S256x256 .f32 (lbB x (2 * p) t0 t0)) (up S256x256 .f32 (l1B x (2 * p) t0 t0)) (up S256x256 .f32 (l1mB x (2 * p) t0 t0)) = (up S256x256 .f32 (exl1B x (2 * p) t0 t0)) := by
  simp only [k0_pay186, ev181 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

theorem ev3 (x : In) (t0 s0 p : ℕ) (g : ℕ → ℕ → ℝ) (hs : True) :
    k0_pay3 (mk S256x256 (fun r c => decide (c < r))) (up S256x256 .f32 (lbB x (2 * p) t0 t0)) (up S256x256 .f32 (dlB x (2 * p) t0 t0)) (up S256x256 .f32 (exl1B x (2 * p) t0 t0)) = (up S256x256 .bf16 (dzB x (2 * p) t0 t0)) := by
  simp only [k0_pay3, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => dz_diag x (2 * p) t0 r c)

theorem ev4 (x : In) (t0 s0 p : ℕ) (g : ℕ → ℕ → ℝ) (hs : True) :
    k0_pay4 (mk S256x256 (fun r c => decide (c < r))) (up S256x256 .f32 (lbB x (2 * p + 1) t0 t0)) (up S256x256 .f32 (l1B x (2 * p + 1) t0 t0)) (up S256x256 .f32 (eB x (2 * p + 1) t0 t0)) (up S256x256 .f32 (dlB x (2 * p + 1) t0 t0)) = (up S256x256 .bf16 (dzB x (2 * p + 1) t0 t0)) := by
  simp only [k0_pay4, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => dz_diag x (2 * p + 1) t0 r c)

theorem ev5 (x : In) (t0 s0 p : ℕ) (g : ℕ → ℕ → ℝ) (hs : True) :
    k0_pay5 (up S256x128 .f32 (dqB x t0 t0 p)) (mk S256x256 (fun r c => decide (c < r))) (up S256x128 .bf16 (kmB x t0 p 0)) (up S256x128 .bf16 (kmB x t0 p 1)) (up S256x256 .f32 (lbB x (2 * p) t0 t0)) (up S256x256 .f32 (lbB x (2 * p + 1) t0 t0)) (up S256x256 .f32 (l1B x (2 * p + 1) t0 t0)) (up S256x256 .f32 (eB x (2 * p + 1) t0 t0)) (up S256x256 .f32 (dlB x (2 * p) t0 t0)) (up S256x256 .f32 (dlB x (2 * p + 1) t0 t0)) (up S256x256 .f32 (exl1B x (2 * p) t0 t0)) = (up S256x128 .f32 (dqB x t0 (t0 + 256) p)) := by
  simp only [k0_pay5, ev3 x t0 s0 p g hs, ev4 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => dq_eq x t0 t0 p r c hc)

theorem ev6 (x : In) (t0 s0 p : ℕ) (g : ℕ → ℕ → ℝ) (hs : True) :
    k0_pay6 (up S256x128 .bf16 (qmB x t0 p 0)) (up S256x128 .bf16 (qmB x t0 p 1)) (mk S256x256 (fun r c => decide (c < r))) (up S256x256 .f32 (lbB x (2 * p) t0 t0)) (up S256x256 .f32 (lbB x (2 * p + 1) t0 t0)) (up S256x256 .f32 (l1B x (2 * p + 1) t0 t0)) (up S256x256 .f32 (eB x (2 * p + 1) t0 t0)) (up S256x256 .f32 (dlB x (2 * p) t0 t0)) (up S256x256 .f32 (dlB x (2 * p + 1) t0 t0)) (up S256x256 .f32 (exl1B x (2 * p) t0 t0)) (up S256x128 .f32 (g)) = (up S256x128 .f32 (fun r l => g r l + dkB x t0 t0 p r l)) := by
  simp only [k0_pay6, ev3 x t0 s0 p g hs, ev4 x t0 s0 p g hs, up_mul, up_add, up_sub, up_min, up_abs, up_exp, up_log1p, up_truncf, up_extf, up_select, up_nn2, up_nnl, up_ntl, up_tn, up_rowsum, up_row, up_cast, bc0, bc1, bc8, const0, pay167_eq, l1m_diag]
  all_goals exact up_congr2 _ (fun r c hr hc => congrArg (g r c + ·) (dk_eq x t0 t0 p r c hc))

theorem ev7 (x : In) (t0 s0 p : ℕ) (g : ℕ → ℕ → ℝ) (hs : True) :
    k0_pay7 (up S256x128 .f32 (dvB x t0 t0 p)) (up S256x128 .f32 (g)) = (up S256x128 .f32 (fun r l => g r l + dvB x t0 t0 p r l)) := by
  simp only [k0_pay7, up_mul, up_add, up_sub, up_min, up_abs, up_exp, up_log1p, up_truncf, up_extf, up_select, up_nn2, up_nnl, up_ntl, up_tn, up_rowsum, up_row, up_cast, bc0, bc1, bc8, const0, pay167_eq, l1m_diag]
  all_goals rfl

end Cert.Proof.Sb
-- ==== Proof.EvenVal.lean ====
/-
  What an even query block leaves in the results, over the real numbers.
-/
module

public import proofs.«01_k».proof.Proof.Reads
public import proofs.«01_k».proof.Proof.EvenOps

@[expose] public section

set_option maxRecDepth 16384

noncomputable section

namespace Cert.Proof.Sb

open Cert.KernelIdeal Cert.KernelIdeal.Gen
open Idealize.ShloMosaic Idealize.ShloMosaic.TcCoe Idealize.ShloMosaic.Tactic

variable (c : Dev nD) (i : grid0.Coords)
  (arg2 : Memref sig .tc .vmem S256x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S256x256 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S2048x128 .f32) (harg8 : arg8.IsWhole) (arg9 : Memref sig .tc .vmem S2048x128 .f32) (harg9 : arg9.IsWhole)
  (X3 : Buf (Elt Ideal) (arg3.view.loc (c : Thread nD τ))) (X4 : Buf (Elt Ideal) (arg4.view.loc (c : Thread nD τ)))
  (arg1 : BitVec 32) (x : In) (p : ℕ)

variable (t0 : ℕ) (X2 : Buf (Elt Ideal) (arg2.view.loc (c : Thread nD τ))) (X5 : Buf (Elt Ideal) (arg5.view.loc (c : Thread nD τ)))
  (X6 : Buf (Elt Ideal) (arg6.view.loc (c : Thread nD τ))) (f7 : Buf (Elt Ideal) (arg7.view.loc (c : Thread nD τ)))
  (f8 : Buf (Elt Ideal) (arg8.view.loc (c : Thread nD τ))) (f9 : Buf (Elt Ideal) (arg9.view.loc (c : Thread nD τ)))
  (hq : arg2.view.read (Elt Ideal) X2 = up S256x128 .f32 (qB x t0 p))
  (h3 : arg3.view.read (Elt Ideal) X3 = up S2048x128 .f32 (fun s l => x.k s (128 * p + l)))
  (h4 : arg4.view.read (Elt Ideal) X4 = up S2048x128 .f32 (fun s l => x.v s (128 * p + l)))
  (h5 : arg5.view.read (Elt Ideal) X5 = up S256x256 .f32 (totF x t0 p))
  (h6 : arg6.view.read (Elt Ideal) X6 = up S256x128 .f32 (dB x t0 p))
  (G8 G9 : ℕ → ℕ → ℝ) (h8 : arg8.view.read (Elt Ideal) f8 = up S2048x128 .f32 G8) (h9 : arg9.view.read (Elt Ideal) f9 = up S2048x128 .f32 G9)

theorem foldEven_dq (h2 : ¬(k0_cond2 i = 1#1)) : runEven.sl.v129 c i arg2 harg2 arg3 harg3 arg4 harg4 arg5 harg5 arg6 harg6 arg7 harg7 arg8 harg8 arg9 harg9 X2 X3 X4 X5 X6 h2 f8 f9 = k0_pay8 (k0_pay5 (runEven.sl.r_8 c i arg2 harg2 arg3 harg3 arg4 harg4 arg5 harg5 arg6 harg6 arg7 harg7 arg8 harg8 arg9 harg9 X2 X3 X4 X5 X6 f8 f9) k0_pay167 (runEven.sl.r_13 c i arg3 X3 h2) (runEven.sl.r_14 c i arg3 X3 h2) (runEven.sl.r_17 c i arg2 arg3 X2 X3 h2) (runEven.sl.r_19 c i arg2 arg3 X2 X3 h2) (runEven.sl.r_20 c i arg2 arg3 X2 X3 h2) (runEven.sl.r_22 c i arg2 harg2 arg3 harg3 arg4 harg4 arg5 harg5 arg6 harg6 arg7 harg7 arg8 harg8 arg9 harg9 X2 X3 X4 X5 X6 h2 f8 f9) (runEven.sl.r_24 c i arg2 harg2 arg3 harg3 arg4 harg4 arg5 harg5 arg6 harg6 arg7 harg7 arg8 harg8 arg9 harg9 X2 X3 X4 X5 X6 h2 f8 f9) (runEven.sl.r_25 c i arg2 harg2 arg3 harg3 arg4 harg4 arg5 harg5 arg6 harg6 arg7 harg7 arg8 harg8 arg9 harg9 X2 X3 X4 X5 X6 h2 f8 f9) (runEven.sl.r_26 c i arg2 harg2 arg3 harg3 arg4 harg4 arg5 harg5 arg6 harg6 arg7 harg7 arg8 harg8 arg9 harg9 X2 X3 X4 X5 X6 h2 f8 f9)) := rfl
theorem foldEven_dk (h2 : ¬(k0_cond2 i = 1#1)) : runEven.sl.v248 c i arg2 harg2 arg3 harg3 arg4 harg4 arg5 harg5 arg6 harg6 arg7 harg7 arg8 harg8 arg9 harg9 X2 X3 X4 X5 X6 h2 f8 f9 = k0_pay6 (runEven.sl.r_2 c arg2 X2) (runEven.sl.r_3 c arg2 X2) k0_pay167 (runEven.sl.r_17 c i arg2 arg3 X2 X3 h2) (runEven.sl.r_19 c i arg2 arg3 X2 X3 h2) (runEven.sl.r_20 c i arg2 arg3 X2 X3 h2) (runEven.sl.r_22 c i arg2 harg2 arg3 harg3 arg4 harg4 arg5 harg5 arg6 harg6 arg7 harg7 arg8 harg8 arg9 harg9 X2 X3 X4 X5 X6 h2 f8 f9) (runEven.sl.r_24 c i arg2 harg2 arg3 harg3 arg4 harg4 arg5 harg5 arg6 harg6 arg7 harg7 arg8 harg8 arg9 harg9 X2 X3 X4 X5 X6 h2 f8 f9) (runEven.sl.r_25 c i arg2 harg2 arg3 harg3 arg4 harg4 arg5 harg5 arg6 harg6 arg7 harg7 arg8 harg8 arg9 harg9 X2 X3 X4 X5 X6 h2 f8 f9) (runEven.sl.r_26 c i arg2 harg2 arg3 harg3 arg4 harg4 arg5 harg5 arg6 harg6 arg7 harg7 arg8 harg8 arg9 harg9 X2 X3 X4 X5 X6 h2 f8 f9) (runEven.sl.v243 c i arg2 harg2 arg3 harg3 arg4 harg4 arg5 harg5 arg6 harg6 arg7 harg7 arg8 harg8 arg9 harg9 X2 X3 X4 X5 X6 h2 f8 f9) := rfl
theorem foldEven_dv (h2 : ¬(k0_cond2 i = 1#1)) : runEven.sl.v254 c i arg2 harg2 arg3 harg3 arg4 harg4 arg5 harg5 arg6 harg6 arg7 harg7 arg8 harg8 arg9 harg9 X2 X3 X4 X5 X6 h2 f8 f9 = k0_pay7 (runEven.sl.r_23 c i arg2 harg2 arg3 harg3 arg4 harg4 arg5 harg5 arg6 harg6 arg7 harg7 arg8 harg8 arg9 harg9 X2 X3 X4 X5 X6 h2 f8 f9) (runEven.sl.v252 c i arg2 harg2 arg3 harg3 arg4 harg4 arg5 harg5 arg6 harg6 arg7 harg7 arg8 harg8 arg9 harg9 X2 X3 X4 X5 X6 h2 f8 f9) := rfl
variable (e0 : 256 * (i 1).val = t0)
include e0 hq h3 h4 h5 h6 h8 h9

theorem even_dq (h1 : ¬(cond1 i = 1#1)) (h2 : ¬(k0_cond2 i = 1#1)) : arg7.view.read (Elt Ideal) (runEven c i arg2 harg2 arg3 harg3 arg4 harg4 arg5 harg5 arg6 harg6 arg7 harg7 arg8 harg8 arg9 harg9 X2 X3 X4 X5 X6 h1 h2 f7 f8 f9).1 = up S256x128 .f32 (fun r l => dqB x t0 (t0 + 256) p r l * (1 / 8)) := by
  have e1 : 512 * (k0_t1_loop i).trips = t0 := by
    have a := trips1_eq i
    have b := (cond2_iff i).not.1 h2
    omega
  have S := st_at c i arg2 harg2 arg3 harg3 arg4 harg4 arg5 harg5 arg6 harg6 arg7 harg7 arg8 harg8 arg9 harg9 X3 X4 (BitVec.ofNat 32 (i 1).val) x t0 p h3 h4 f8 f9 G8 G9 h8 h9 (k0_t1_loop i).trips le_rfl (by omega)
  rw [e1] at S
  obtain ⟨S1, S2, S3⟩ := S
  simp only [Scf.Loop.trips] at S1 S2 S3
  have L3 : runEven.sl.v3 = lane := rfl
  unfold runEven
  dsimp only
  rw [foldEven_dq]
  simp only [L3, runEven.sl.r_14, runEven.sl.r_7, runEven.sl.r_6, runEven.sl.r_10, runEven.sl.r_21, runEven.sl.r_17, runEven.sl.r_13, runEven.sl.r_24, runEven.sl.r_3, runEven.sl.r_18, runEven.sl.r_19, runEven.sl.r_5, runEven.sl.r_12, runEven.sl.r_20, runEven.sl.r_8, runEven.sl.r_15, runEven.sl.r, runEven.sl.r_25, runEven.sl.r_9, runEven.sl.r_4, runEven.sl.r_26, runEven.sl.r_11, runEven.sl.r_16, runEven.sl.r_2, runEven.sl.r_23, runEven.sl.r_22, runEven.sl.r_1, all_read arg2.view X2 _ hq, all_read arg6.view X6 _ h6, col_read arg5.view X5 _ h5 0, col_read arg5.view X5 _ h5 128, totF0 x, totF128 x, rows_k arg3.view X3 x p h3 (k0_off7_inb i h2) (e0 ▸ off7_eq i), rows_v arg4.view X4 x p h4 (k0_off7_inb i h2) (e0 ▸ off7_eq i), pay189_eq, pay190_eq, pay195_eq, pay196_eq, pay191_eq x (t0) p, pay197_eq x (t0) p, pay198_eq x (t0) p, pay199_eq x (t0) p, pay200_eq x (t0) p, pay201_eq, pay202_eq, init_eq x t0 p, S1, carry_1, carry_2, carry_3, carry_4, carry_5, pay167_eq, ev166 x t0 0 p (fun _ _ => 0) trivial, ev168 x t0 0 p (fun _ _ => 0) trivial, ev169 x t0 0 p (fun _ _ => 0) trivial, ev170 x t0 0 p (fun _ _ => 0) trivial, ev171 x t0 0 p (fun _ _ => 0) trivial, ev172 x t0 0 p (fun _ _ => 0) trivial, ev173 x t0 0 p (fun _ _ => 0) trivial, ev174 x t0 0 p (fun _ _ => 0) trivial, ev175 x t0 0 p (fun _ _ => 0) trivial, ev176 x t0 0 p (fun _ _ => 0) trivial, ev177 x t0 0 p (fun _ _ => 0) trivial, ev178 x t0 0 p (fun _ _ => 0) trivial, ev179 x t0 0 p (fun _ _ => 0) trivial, ev180 x t0 0 p (fun _ _ => 0) trivial, ev181 x t0 0 p (fun _ _ => 0) trivial, ev182 x t0 0 p (fun _ _ => 0) trivial, ev183 x t0 0 p (fun _ _ => 0) trivial, ev184 x t0 0 p (fun _ _ => 0) trivial, ev185 x t0 0 p (fun _ _ => 0) trivial, ev186 x t0 0 p (fun _ _ => 0) trivial, ev5 x t0 0 p (fun _ _ => 0) trivial, ev6 x t0 0 p (fun _ _ => 0) trivial, ev7 x t0 0 p (fun _ _ => 0) trivial, pay8_eq]
  exact all_write arg7.view _ _ _ _ rfl

theorem even_dk (h1 : ¬(cond1 i = 1#1)) (h2 : ¬(k0_cond2 i = 1#1)) : arg8.view.read (Elt Ideal) (runEven c i arg2 harg2 arg3 harg3 arg4 harg4 arg5 harg5 arg6 harg6 arg7 harg7 arg8 harg8 arg9 harg9 X2 X3 X4 X5 X6 h1 h2 f7 f8 f9).2.1 = up S2048x128 .f32 (fun s l => G8 s l + if s < t0 + 256 then DKt x t0 p s l else 0) := by
  have e1 : 512 * (k0_t1_loop i).trips = t0 := by
    have a := trips1_eq i
    have b := (cond2_iff i).not.1 h2
    omega
  have S := st_at c i arg2 harg2 arg3 harg3 arg4 harg4 arg5 harg5 arg6 harg6 arg7 harg7 arg8 harg8 arg9 harg9 X3 X4 (BitVec.ofNat 32 (i 1).val) x t0 p h3 h4 f8 f9 G8 G9 h8 h9 (k0_t1_loop i).trips le_rfl (by omega)
  rw [e1] at S
  obtain ⟨S1, S2, S3⟩ := S
  simp only [Scf.Loop.trips] at S1 S2 S3
  have L3 : runEven.sl.v3 = lane := rfl
  unfold runEven
  dsimp only
  rw [foldEven_dk]
  simp only [L3, runEven.sl.r_14, runEven.sl.r_7, runEven.sl.r_6, runEven.sl.r_10, runEven.sl.r_21, runEven.sl.r_17, runEven.sl.r_13, runEven.sl.r_24, runEven.sl.r_3, runEven.sl.r_18, runEven.sl.r_19, runEven.sl.r_5, runEven.sl.r_12, runEven.sl.r_20, runEven.sl.r_8, runEven.sl.r_15, runEven.sl.r, runEven.sl.r_25, runEven.sl.r_9, runEven.sl.r_4, runEven.sl.r_26, runEven.sl.r_11, runEven.sl.r_16, runEven.sl.r_2, runEven.sl.r_23, runEven.sl.r_22, runEven.sl.r_1, all_read arg2.view X2 _ hq, all_read arg6.view X6 _ h6, col_read arg5.view X5 _ h5 0, col_read arg5.view X5 _ h5 128, totF0 x, totF128 x, rows_k arg3.view X3 x p h3 (k0_off7_inb i h2) (e0 ▸ off7_eq i), rows_v arg4.view X4 x p h4 (k0_off7_inb i h2) (e0 ▸ off7_eq i), pay189_eq, pay190_eq, pay195_eq, pay196_eq, pay191_eq x (t0) p, pay197_eq x (t0) p, pay198_eq x (t0) p, pay199_eq x (t0) p, pay200_eq x (t0) p, pay201_eq, pay202_eq, init_eq x t0 p, S1, carry_1, carry_2, carry_3, carry_4, carry_5, pay167_eq, runEven.sl.v243, rows_read arg8.view _ _ S2 (k0_off7_inb i h2) (e0 ▸ off7_eq i), ev166 x t0 0 p (fun r l => (fun s l => G8 s l + if s < t0 then DKt x t0 p s l else 0) (t0 + r) l) trivial, ev168 x t0 0 p (fun r l => (fun s l => G8 s l + if s < t0 then DKt x t0 p s l else 0) (t0 + r) l) trivial, ev169 x t0 0 p (fun r l => (fun s l => G8 s l + if s < t0 then DKt x t0 p s l else 0) (t0 + r) l) trivial, ev170 x t0 0 p (fun r l => (fun s l => G8 s l + if s < t0 then DKt x t0 p s l else 0) (t0 + r) l) trivial, ev171 x t0 0 p (fun r l => (fun s l => G8 s l + if s < t0 then DKt x t0 p s l else 0) (t0 + r) l) trivial, ev172 x t0 0 p (fun r l => (fun s l => G8 s l + if s < t0 then DKt x t0 p s l else 0) (t0 + r) l) trivial, ev173 x t0 0 p (fun r l => (fun s l => G8 s l + if s < t0 then DKt x t0 p s l else 0) (t0 + r) l) trivial, ev174 x t0 0 p (fun r l => (fun s l => G8 s l + if s < t0 then DKt x t0 p s l else 0) (t0 + r) l) trivial, ev175 x t0 0 p (fun r l => (fun s l => G8 s l + if s < t0 then DKt x t0 p s l else 0) (t0 + r) l) trivial, ev176 x t0 0 p (fun r l => (fun s l => G8 s l + if s < t0 then DKt x t0 p s l else 0) (t0 + r) l) trivial, ev177 x t0 0 p (fun r l => (fun s l => G8 s l + if s < t0 then DKt x t0 p s l else 0) (t0 + r) l) trivial, ev178 x t0 0 p (fun r l => (fun s l => G8 s l + if s < t0 then DKt x t0 p s l else 0) (t0 + r) l) trivial, ev179 x t0 0 p (fun r l => (fun s l => G8 s l + if s < t0 then DKt x t0 p s l else 0) (t0 + r) l) trivial, ev180 x t0 0 p (fun r l => (fun s l => G8 s l + if s < t0 then DKt x t0 p s l else 0) (t0 + r) l) trivial, ev181 x t0 0 p (fun r l => (fun s l => G8 s l + if s < t0 then DKt x t0 p s l else 0) (t0 + r) l) trivial, ev182 x t0 0 p (fun r l => (fun s l => G8 s l + if s < t0 then DKt x t0 p s l else 0) (t0 + r) l) trivial, ev183 x t0 0 p (fun r l => (fun s l => G8 s l + if s < t0 then DKt x t0 p s l else 0) (t0 + r) l) trivial, ev184 x t0 0 p (fun r l => (fun s l => G8 s l + if s < t0 then DKt x t0 p s l else 0) (t0 + r) l) trivial, ev185 x t0 0 p (fun r l => (fun s l => G8 s l + if s < t0 then DKt x t0 p s l else 0) (t0 + r) l) trivial, ev186 x t0 0 p (fun r l => (fun s l => G8 s l + if s < t0 then DKt x t0 p s l else 0) (t0 + r) l) trivial, ev5 x t0 0 p (fun r l => (fun s l => G8 s l + if s < t0 then DKt x t0 p s l else 0) (t0 + r) l) trivial, ev6 x t0 0 p (fun r l => (fun s l => G8 s l + if s < t0 then DKt x t0 p s l else 0) (t0 + r) l) trivial, ev7 x t0 0 p (fun r l => (fun s l => G8 s l + if s < t0 then DKt x t0 p s l else 0) (t0 + r) l) trivial]
  refine (rows_write arg8.view _ _ _ [] S2 (k0_off7_inb i h2) (e0 ▸ off7_eq i) _ rfl).trans (up_congr2 _ fun s l _ _ => ?_)
  exact add_rows G8 (DKt x t0 p) (fun s l => G8 s l + if s < t0 then DKt x t0 p s l else 0) t0 t0 s l rfl (fun _ => rfl)

theorem even_dv (h1 : ¬(cond1 i = 1#1)) (h2 : ¬(k0_cond2 i = 1#1)) : arg9.view.read (Elt Ideal) (runEven c i arg2 harg2 arg3 harg3 arg4 harg4 arg5 harg5 arg6 harg6 arg7 harg7 arg8 harg8 arg9 harg9 X2 X3 X4 X5 X6 h1 h2 f7 f8 f9).2.2.1 = up S2048x128 .f32 (fun s l => G9 s l + if s < t0 + 256 then DVt x t0 p s l else 0) := by
  have e1 : 512 * (k0_t1_loop i).trips = t0 := by
    have a := trips1_eq i
    have b := (cond2_iff i).not.1 h2
    omega
  have S := st_at c i arg2 harg2 arg3 harg3 arg4 harg4 arg5 harg5 arg6 harg6 arg7 harg7 arg8 harg8 arg9 harg9 X3 X4 (BitVec.ofNat 32 (i 1).val) x t0 p h3 h4 f8 f9 G8 G9 h8 h9 (k0_t1_loop i).trips le_rfl (by omega)
  rw [e1] at S
  obtain ⟨S1, S2, S3⟩ := S
  simp only [Scf.Loop.trips] at S1 S2 S3
  have L3 : runEven.sl.v3 = lane := rfl
  unfold runEven
  dsimp only
  rw [foldEven_dv]
  simp only [L3, runEven.sl.r_14, runEven.sl.r_7, runEven.sl.r_6, runEven.sl.r_10, runEven.sl.r_21, runEven.sl.r_17, runEven.sl.r_13, runEven.sl.r_24, runEven.sl.r_3, runEven.sl.r_18, runEven.sl.r_19, runEven.sl.r_5, runEven.sl.r_12, runEven.sl.r_20, runEven.sl.r_8, runEven.sl.r_15, runEven.sl.r, runEven.sl.r_25, runEven.sl.r_9, runEven.sl.r_4, runEven.sl.r_26, runEven.sl.r_11, runEven.sl.r_16, runEven.sl.r_2, runEven.sl.r_23, runEven.sl.r_22, runEven.sl.r_1, all_read arg2.view X2 _ hq, all_read arg6.view X6 _ h6, col_read arg5.view X5 _ h5 0, col_read arg5.view X5 _ h5 128, totF0 x, totF128 x, rows_k arg3.view X3 x p h3 (k0_off7_inb i h2) (e0 ▸ off7_eq i), rows_v arg4.view X4 x p h4 (k0_off7_inb i h2) (e0 ▸ off7_eq i), pay189_eq, pay190_eq, pay195_eq, pay196_eq, pay191_eq x (t0) p, pay197_eq x (t0) p, pay198_eq x (t0) p, pay199_eq x (t0) p, pay200_eq x (t0) p, pay201_eq, pay202_eq, init_eq x t0 p, S1, carry_1, carry_2, carry_3, carry_4, carry_5, pay167_eq, runEven.sl.v252, rows_read arg9.view _ _ S3 (k0_off7_inb i h2) (e0 ▸ off7_eq i), ev166 x t0 0 p (fun r l => (fun s l => G9 s l + if s < t0 then DVt x t0 p s l else 0) (t0 + r) l) trivial, ev168 x t0 0 p (fun r l => (fun s l => G9 s l + if s < t0 then DVt x t0 p s l else 0) (t0 + r) l) trivial, ev169 x t0 0 p (fun r l => (fun s l => G9 s l + if s < t0 then DVt x t0 p s l else 0) (t0 + r) l) trivial, ev170 x t0 0 p (fun r l => (fun s l => G9 s l + if s < t0 then DVt x t0 p s l else 0) (t0 + r) l) trivial, ev171 x t0 0 p (fun r l => (fun s l => G9 s l + if s < t0 then DVt x t0 p s l else 0) (t0 + r) l) trivial, ev172 x t0 0 p (fun r l => (fun s l => G9 s l + if s < t0 then DVt x t0 p s l else 0) (t0 + r) l) trivial, ev173 x t0 0 p (fun r l => (fun s l => G9 s l + if s < t0 then DVt x t0 p s l else 0) (t0 + r) l) trivial, ev174 x t0 0 p (fun r l => (fun s l => G9 s l + if s < t0 then DVt x t0 p s l else 0) (t0 + r) l) trivial, ev175 x t0 0 p (fun r l => (fun s l => G9 s l + if s < t0 then DVt x t0 p s l else 0) (t0 + r) l) trivial, ev176 x t0 0 p (fun r l => (fun s l => G9 s l + if s < t0 then DVt x t0 p s l else 0) (t0 + r) l) trivial, ev177 x t0 0 p (fun r l => (fun s l => G9 s l + if s < t0 then DVt x t0 p s l else 0) (t0 + r) l) trivial, ev178 x t0 0 p (fun r l => (fun s l => G9 s l + if s < t0 then DVt x t0 p s l else 0) (t0 + r) l) trivial, ev179 x t0 0 p (fun r l => (fun s l => G9 s l + if s < t0 then DVt x t0 p s l else 0) (t0 + r) l) trivial, ev180 x t0 0 p (fun r l => (fun s l => G9 s l + if s < t0 then DVt x t0 p s l else 0) (t0 + r) l) trivial, ev181 x t0 0 p (fun r l => (fun s l => G9 s l + if s < t0 then DVt x t0 p s l else 0) (t0 + r) l) trivial, ev182 x t0 0 p (fun r l => (fun s l => G9 s l + if s < t0 then DVt x t0 p s l else 0) (t0 + r) l) trivial, ev183 x t0 0 p (fun r l => (fun s l => G9 s l + if s < t0 then DVt x t0 p s l else 0) (t0 + r) l) trivial, ev184 x t0 0 p (fun r l => (fun s l => G9 s l + if s < t0 then DVt x t0 p s l else 0) (t0 + r) l) trivial, ev185 x t0 0 p (fun r l => (fun s l => G9 s l + if s < t0 then DVt x t0 p s l else 0) (t0 + r) l) trivial, ev186 x t0 0 p (fun r l => (fun s l => G9 s l + if s < t0 then DVt x t0 p s l else 0) (t0 + r) l) trivial, ev5 x t0 0 p (fun r l => (fun s l => G9 s l + if s < t0 then DVt x t0 p s l else 0) (t0 + r) l) trivial, ev6 x t0 0 p (fun r l => (fun s l => G9 s l + if s < t0 then DVt x t0 p s l else 0) (t0 + r) l) trivial, ev7 x t0 0 p (fun r l => (fun s l => G9 s l + if s < t0 then DVt x t0 p s l else 0) (t0 + r) l) trivial]
  refine (rows_write arg9.view _ _ _ [] S3 (k0_off7_inb i h2) (e0 ▸ off7_eq i) _ rfl).trans (up_congr2 _ fun s l _ _ => ?_)
  exact add_rows G9 (DVt x t0 p) (fun s l => G9 s l + if s < t0 then DVt x t0 p s l else 0) t0 t0 s l rfl (fun _ => rfl)
end Cert.Proof.Sb
-- ==== Proof.FirstVal.lean ====
/-
  What the first query block leaves in the results, over the real numbers.
-/
module

public import proofs.«01_k».proof.Proof.Reads
public import proofs.«01_k».proof.Proof.EvenOps

@[expose] public section

set_option maxRecDepth 16384

noncomputable section

namespace Cert.Proof.Sb

open Cert.KernelIdeal Cert.KernelIdeal.Gen
open Idealize.ShloMosaic Idealize.ShloMosaic.TcCoe Idealize.ShloMosaic.Tactic

variable (c : Dev nD) (i : grid0.Coords)
  (arg2 : Memref sig .tc .vmem S256x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S256x256 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S2048x128 .f32) (harg8 : arg8.IsWhole) (arg9 : Memref sig .tc .vmem S2048x128 .f32) (harg9 : arg9.IsWhole)
  (X3 : Buf (Elt Ideal) (arg3.view.loc (c : Thread nD τ))) (X4 : Buf (Elt Ideal) (arg4.view.loc (c : Thread nD τ)))
  (arg1 : BitVec 32) (x : In) (p : ℕ)

variable (X2 : Buf (Elt Ideal) (arg2.view.loc (c : Thread nD τ))) (X5 : Buf (Elt Ideal) (arg5.view.loc (c : Thread nD τ)))
  (X6 : Buf (Elt Ideal) (arg6.view.loc (c : Thread nD τ))) (f7 : Buf (Elt Ideal) (arg7.view.loc (c : Thread nD τ)))
  (f8 : Buf (Elt Ideal) (arg8.view.loc (c : Thread nD τ))) (f9 : Buf (Elt Ideal) (arg9.view.loc (c : Thread nD τ)))
  (hq : arg2.view.read (Elt Ideal) X2 = up S256x128 .f32 (qB x 0 p))
  (h3 : arg3.view.read (Elt Ideal) X3 = up S2048x128 .f32 (fun s l => x.k s (128 * p + l)))
  (h4 : arg4.view.read (Elt Ideal) X4 = up S2048x128 .f32 (fun s l => x.v s (128 * p + l)))
  (h5 : arg5.view.read (Elt Ideal) X5 = up S256x256 .f32 (totF x 0 p))
  (h6 : arg6.view.read (Elt Ideal) X6 = up S256x128 .f32 (dB x 0 p))

theorem foldFirst_dq (h2 : ¬(k0_cond2 i = 1#1)) : runFirst.sl.v129 c i arg2 arg3 arg4 arg5 arg6 X2 X3 X4 X5 X6 h2 = k0_pay8 (k0_pay5 k0_pay204 k0_pay167 (runFirst.sl.r_8 c i arg3 X3 h2) (runFirst.sl.r_9 c i arg3 X3 h2) (runFirst.sl.r_12 c i arg2 arg3 X2 X3 h2) (runFirst.sl.r_14 c i arg2 arg3 X2 X3 h2) (runFirst.sl.r_15 c i arg2 arg3 X2 X3 h2) (runFirst.sl.r_17 c i arg2 arg3 arg4 arg5 arg6 X2 X3 X4 X5 X6 h2) (runFirst.sl.r_19 c i arg2 arg3 arg4 arg5 arg6 X2 X3 X4 X5 X6 h2) (runFirst.sl.r_20 c i arg2 arg3 arg4 arg5 arg6 X2 X3 X4 X5 X6 h2) (runFirst.sl.r_21 c i arg2 arg3 arg4 arg5 arg6 X2 X3 X4 X5 X6 h2)) := rfl
theorem foldFirst_dk (h2 : ¬(k0_cond2 i = 1#1)) : runFirst.sl.v248 c i arg2 arg3 arg4 arg5 arg6 arg8 X2 X3 X4 X5 X6 h2 = k0_pay6 (runFirst.sl.r_2 c arg2 X2) (runFirst.sl.r_3 c arg2 X2) k0_pay167 (runFirst.sl.r_12 c i arg2 arg3 X2 X3 h2) (runFirst.sl.r_14 c i arg2 arg3 X2 X3 h2) (runFirst.sl.r_15 c i arg2 arg3 X2 X3 h2) (runFirst.sl.r_17 c i arg2 arg3 arg4 arg5 arg6 X2 X3 X4 X5 X6 h2) (runFirst.sl.r_19 c i arg2 arg3 arg4 arg5 arg6 X2 X3 X4 X5 X6 h2) (runFirst.sl.r_20 c i arg2 arg3 arg4 arg5 arg6 X2 X3 X4 X5 X6 h2) (runFirst.sl.r_21 c i arg2 arg3 arg4 arg5 arg6 X2 X3 X4 X5 X6 h2) (View.readAt (Elt Ideal) arg8.view (Rect.unit (s := S2048x128) (k0_off7 i) S256x128.size (k0_off7_inb i h2)).toLoadRect (arg8.view.writes (Elt Ideal) arg8.view.junk runFirst.sl.H8_1) : Vec Ideal S256x128 .f32) := rfl
theorem foldFirst_dv (h2 : ¬(k0_cond2 i = 1#1)) : runFirst.sl.v254 c i arg2 arg3 arg5 arg6 arg9 X2 X3 X5 X6 h2 = k0_pay7 (runFirst.sl.r_18 c i arg2 arg3 arg5 arg6 X2 X3 X5 X6 h2) (View.readAt (Elt Ideal) arg9.view (Rect.unit (s := S2048x128) (k0_off7 i) S256x128.size (k0_off7_inb i h2)).toLoadRect (arg9.view.writes (Elt Ideal) arg9.view.junk runFirst.sl.H9_1) : Vec Ideal S256x128 .f32) := rfl
include hq h3 h4 h5 h6

theorem first_dq (h1 : cond1 i = 1#1) (h2 : ¬(k0_cond2 i = 1#1)) : arg7.view.read (Elt Ideal) (runFirst c i arg2 harg2 arg3 harg3 arg4 harg4 arg5 harg5 arg6 harg6 arg7 harg7 arg8 harg8 arg9 harg9 X2 X3 X4 X5 X6 h1 h2 f7 f8 f9).1 = up S256x128 .f32 (fun r l => dqB x 0 (0 + 256) p r l * (1 / 8)) := by
  have e0 : 256 * (i 1).val = 0 := by rw [(cond1_iff i).1 h1]
  have L3 : runFirst.sl.v3 = lane := rfl
  have E179 := ev179 x 0 0 p (fun _ _ => 0) trivial
  simp only [pre_zero, cde_zero] at E179
  have E180 := ev180 x 0 0 p (fun _ _ => 0) trivial
  simp only [pre_zero, cde_zero] at E180
  have E181 := ev181 x 0 0 p (fun _ _ => 0) trivial
  simp only [pre_zero, cde_zero] at E181
  have E182 := ev182 x 0 0 p (fun _ _ => 0) trivial
  simp only [pre_zero, cde_zero] at E182
  have E183 := ev183 x 0 0 p (fun _ _ => 0) trivial
  simp only [pre_zero, cde_zero] at E183
  have E184 := ev184 x 0 0 p (fun _ _ => 0) trivial
  simp only [pre_zero, cde_zero] at E184
  have E185 := ev185 x 0 0 p (fun _ _ => 0) trivial
  simp only [pre_zero, cde_zero] at E185
  have E186 := ev186 x 0 0 p (fun _ _ => 0) trivial
  simp only [pre_zero, cde_zero] at E186
  have C1 : k0_pay204 (F := Ideal) = up S256x128 .f32 (dqB x 0 0 p) := pay204_eq
  unfold runFirst
  dsimp only
  rw [foldFirst_dq]
  simp only [L3, runFirst.sl.r_10, runFirst.sl.r_5, runFirst.sl.r_4, runFirst.sl.r_6, runFirst.sl.r_20, runFirst.sl.r_21, runFirst.sl.r_11, runFirst.sl.r_3, runFirst.sl.r, runFirst.sl.r_16, runFirst.sl.r_19, runFirst.sl.r_9, runFirst.sl.r_1, runFirst.sl.r_15, runFirst.sl.r_17, runFirst.sl.r_7, runFirst.sl.r_2, runFirst.sl.r_18, runFirst.sl.r_8, runFirst.sl.r_13, runFirst.sl.r_14, runFirst.sl.r_12, all_read arg2.view X2 _ hq, all_read arg6.view X6 _ h6, col_read arg5.view X5 _ h5 0, col_read arg5.view X5 _ h5 128, totF0 x, totF128 x, rows_k arg3.view X3 x p h3 (k0_off7_inb i h2) (e0 ▸ off7_eq i), rows_v arg4.view X4 x p h4 (k0_off7_inb i h2) (e0 ▸ off7_eq i), pay189_eq, pay190_eq, pay195_eq, pay196_eq, pay191_eq x (0) p, pay197_eq x (0) p, pay198_eq x (0) p, pay199_eq x (0) p, pay200_eq x (0) p, pay201_eq, pay202_eq, C1, pay167_eq, pay203_eq, ev166 x 0 0 p (fun _ _ => 0) trivial, ev168 x 0 0 p (fun _ _ => 0) trivial, ev169 x 0 0 p (fun _ _ => 0) trivial, ev170 x 0 0 p (fun _ _ => 0) trivial, ev171 x 0 0 p (fun _ _ => 0) trivial, ev172 x 0 0 p (fun _ _ => 0) trivial, ev173 x 0 0 p (fun _ _ => 0) trivial, ev174 x 0 0 p (fun _ _ => 0) trivial, ev175 x 0 0 p (fun _ _ => 0) trivial, ev176 x 0 0 p (fun _ _ => 0) trivial, ev177 x 0 0 p (fun _ _ => 0) trivial, ev178 x 0 0 p (fun _ _ => 0) trivial, E179, E180, E181, E182, E183, E184, E185, E186, ev5 x 0 0 p (fun _ _ => 0) trivial, ev6 x 0 0 p (fun _ _ => 0) trivial, ev7 x 0 0 p (fun _ _ => 0) trivial, pay8_eq]
  exact all_write arg7.view _ _ _ _ rfl

theorem first_dk (h1 : cond1 i = 1#1) (h2 : ¬(k0_cond2 i = 1#1)) : arg8.view.read (Elt Ideal) (runFirst c i arg2 harg2 arg3 harg3 arg4 harg4 arg5 harg5 arg6 harg6 arg7 harg7 arg8 harg8 arg9 harg9 X2 X3 X4 X5 X6 h1 h2 f7 f8 f9).2.1 = up S2048x128 .f32 (fun s l => 0 + if s < 0 + 256 then DKt x 0 p s l else 0) := by
  have e0 : 256 * (i 1).val = 0 := by rw [(cond1_iff i).1 h1]
  have S2 : arg8.view.read (Elt Ideal) (arg8.view.writes (Elt Ideal) arg8.view.junk runFirst.sl.H8_1) = up S2048x128 .f32 (fun _ _ => 0) :=
    zero_write arg8.view _ _ _ _ pay187_eq
  have L3 : runFirst.sl.v3 = lane := rfl
  have E179 := ev179 x 0 0 p (fun _ _ => 0) trivial
  simp only [pre_zero, cde_zero] at E179
  have E180 := ev180 x 0 0 p (fun _ _ => 0) trivial
  simp only [pre_zero, cde_zero] at E180
  have E181 := ev181 x 0 0 p (fun _ _ => 0) trivial
  simp only [pre_zero, cde_zero] at E181
  have E182 := ev182 x 0 0 p (fun _ _ => 0) trivial
  simp only [pre_zero, cde_zero] at E182
  have E183 := ev183 x 0 0 p (fun _ _ => 0) trivial
  simp only [pre_zero, cde_zero] at E183
  have E184 := ev184 x 0 0 p (fun _ _ => 0) trivial
  simp only [pre_zero, cde_zero] at E184
  have E185 := ev185 x 0 0 p (fun _ _ => 0) trivial
  simp only [pre_zero, cde_zero] at E185
  have E186 := ev186 x 0 0 p (fun _ _ => 0) trivial
  simp only [pre_zero, cde_zero] at E186
  have C1 : k0_pay204 (F := Ideal) = up S256x128 .f32 (dqB x 0 0 p) := pay204_eq
  unfold runFirst
  dsimp only
  rw [foldFirst_dk]
  simp only [L3, runFirst.sl.r_10, runFirst.sl.r_5, runFirst.sl.r_4, runFirst.sl.r_6, runFirst.sl.r_20, runFirst.sl.r_21, runFirst.sl.r_11, runFirst.sl.r_3, runFirst.sl.r, runFirst.sl.r_16, runFirst.sl.r_19, runFirst.sl.r_9, runFirst.sl.r_1, runFirst.sl.r_15, runFirst.sl.r_17, runFirst.sl.r_7, runFirst.sl.r_2, runFirst.sl.r_18, runFirst.sl.r_8, runFirst.sl.r_13, runFirst.sl.r_14, runFirst.sl.r_12, all_read arg2.view X2 _ hq, all_read arg6.view X6 _ h6, col_read arg5.view X5 _ h5 0, col_read arg5.view X5 _ h5 128, totF0 x, totF128 x, rows_k arg3.view X3 x p h3 (k0_off7_inb i h2) (e0 ▸ off7_eq i), rows_v arg4.view X4 x p h4 (k0_off7_inb i h2) (e0 ▸ off7_eq i), pay189_eq, pay190_eq, pay195_eq, pay196_eq, pay191_eq x (0) p, pay197_eq x (0) p, pay198_eq x (0) p, pay199_eq x (0) p, pay200_eq x (0) p, pay201_eq, pay202_eq, C1, pay167_eq, pay203_eq, rows_read arg8.view _ _ S2 (k0_off7_inb i h2) (e0 ▸ off7_eq i), ev166 x 0 0 p (fun _ _ => 0) trivial, ev168 x 0 0 p (fun _ _ => 0) trivial, ev169 x 0 0 p (fun _ _ => 0) trivial, ev170 x 0 0 p (fun _ _ => 0) trivial, ev171 x 0 0 p (fun _ _ => 0) trivial, ev172 x 0 0 p (fun _ _ => 0) trivial, ev173 x 0 0 p (fun _ _ => 0) trivial, ev174 x 0 0 p (fun _ _ => 0) trivial, ev175 x 0 0 p (fun _ _ => 0) trivial, ev176 x 0 0 p (fun _ _ => 0) trivial, ev177 x 0 0 p (fun _ _ => 0) trivial, ev178 x 0 0 p (fun _ _ => 0) trivial, E179, E180, E181, E182, E183, E184, E185, E186, ev5 x 0 0 p (fun _ _ => 0) trivial, ev6 x 0 0 p (fun _ _ => 0) trivial, ev7 x 0 0 p (fun _ _ => 0) trivial]
  refine (rows_write arg8.view _ _ _ [] S2 (k0_off7_inb i h2) (e0 ▸ off7_eq i) _ rfl).trans (up_congr2 _ fun s l _ _ => ?_)
  exact add_rows (fun _ _ => 0) (DKt x 0 p) (fun _ _ => 0) 0 0 s l rfl (fun s => by rw [if_neg (Nat.not_lt_zero s), add_zero])

theorem first_dv (h1 : cond1 i = 1#1) (h2 : ¬(k0_cond2 i = 1#1)) : arg9.view.read (Elt Ideal) (runFirst c i arg2 harg2 arg3 harg3 arg4 harg4 arg5 harg5 arg6 harg6 arg7 harg7 arg8 harg8 arg9 harg9 X2 X3 X4 X5 X6 h1 h2 f7 f8 f9).2.2.1 = up S2048x128 .f32 (fun s l => 0 + if s < 0 + 256 then DVt x 0 p s l else 0) := by
  have e0 : 256 * (i 1).val = 0 := by rw [(cond1_iff i).1 h1]
  have S3 : arg9.view.read (Elt Ideal) (arg9.view.writes (Elt Ideal) arg9.view.junk runFirst.sl.H9_1) = up S2048x128 .f32 (fun _ _ => 0) :=
    zero_write arg9.view _ _ _ _ pay188_eq
  have L3 : runFirst.sl.v3 = lane := rfl
  have E179 := ev179 x 0 0 p (fun _ _ => 0) trivial
  simp only [pre_zero, cde_zero] at E179
  have E180 := ev180 x 0 0 p (fun _ _ => 0) trivial
  simp only [pre_zero, cde_zero] at E180
  have E181 := ev181 x 0 0 p (fun _ _ => 0) trivial
  simp only [pre_zero, cde_zero] at E181
  have E182 := ev182 x 0 0 p (fun _ _ => 0) trivial
  simp only [pre_zero, cde_zero] at E182
  have E183 := ev183 x 0 0 p (fun _ _ => 0) trivial
  simp only [pre_zero, cde_zero] at E183
  have E184 := ev184 x 0 0 p (fun _ _ => 0) trivial
  simp only [pre_zero, cde_zero] at E184
  have E185 := ev185 x 0 0 p (fun _ _ => 0) trivial
  simp only [pre_zero, cde_zero] at E185
  have E186 := ev186 x 0 0 p (fun _ _ => 0) trivial
  simp only [pre_zero, cde_zero] at E186
  have C1 : k0_pay204 (F := Ideal) = up S256x128 .f32 (dqB x 0 0 p) := pay204_eq
  unfold runFirst
  dsimp only
  rw [foldFirst_dv]
  simp only [L3, runFirst.sl.r_10, runFirst.sl.r_5, runFirst.sl.r_4, runFirst.sl.r_6, runFirst.sl.r_20, runFirst.sl.r_21, runFirst.sl.r_11, runFirst.sl.r_3, runFirst.sl.r, runFirst.sl.r_16, runFirst.sl.r_19, runFirst.sl.r_9, runFirst.sl.r_1, runFirst.sl.r_15, runFirst.sl.r_17, runFirst.sl.r_7, runFirst.sl.r_2, runFirst.sl.r_18, runFirst.sl.r_8, runFirst.sl.r_13, runFirst.sl.r_14, runFirst.sl.r_12, all_read arg2.view X2 _ hq, all_read arg6.view X6 _ h6, col_read arg5.view X5 _ h5 0, col_read arg5.view X5 _ h5 128, totF0 x, totF128 x, rows_k arg3.view X3 x p h3 (k0_off7_inb i h2) (e0 ▸ off7_eq i), rows_v arg4.view X4 x p h4 (k0_off7_inb i h2) (e0 ▸ off7_eq i), pay189_eq, pay190_eq, pay195_eq, pay196_eq, pay191_eq x (0) p, pay197_eq x (0) p, pay198_eq x (0) p, pay199_eq x (0) p, pay200_eq x (0) p, pay201_eq, pay202_eq, C1, pay167_eq, pay203_eq, rows_read arg9.view _ _ S3 (k0_off7_inb i h2) (e0 ▸ off7_eq i), ev166 x 0 0 p (fun _ _ => 0) trivial, ev168 x 0 0 p (fun _ _ => 0) trivial, ev169 x 0 0 p (fun _ _ => 0) trivial, ev170 x 0 0 p (fun _ _ => 0) trivial, ev171 x 0 0 p (fun _ _ => 0) trivial, ev172 x 0 0 p (fun _ _ => 0) trivial, ev173 x 0 0 p (fun _ _ => 0) trivial, ev174 x 0 0 p (fun _ _ => 0) trivial, ev175 x 0 0 p (fun _ _ => 0) trivial, ev176 x 0 0 p (fun _ _ => 0) trivial, ev177 x 0 0 p (fun _ _ => 0) trivial, ev178 x 0 0 p (fun _ _ => 0) trivial, E179, E180, E181, E182, E183, E184, E185, E186, ev5 x 0 0 p (fun _ _ => 0) trivial, ev6 x 0 0 p (fun _ _ => 0) trivial, ev7 x 0 0 p (fun _ _ => 0) trivial]
  refine (rows_write arg9.view _ _ _ [] S3 (k0_off7_inb i h2) (e0 ▸ off7_eq i) _ rfl).trans (up_congr2 _ fun s l _ _ => ?_)
  exact add_rows (fun _ _ => 0) (DVt x 0 p) (fun _ _ => 0) 0 0 s l rfl (fun s => by rw [if_neg (Nat.not_lt_zero s), add_zero])
end Cert.Proof.Sb
-- ==== Proof.OddOps.lean ====
/-
  What each step after the loop computes when the query block is odd: the key block before it, then its own.
-/
module

public import proofs.«01_k».proof.Proof.Sem

@[expose] public section

set_option maxRecDepth 16384

noncomputable section

namespace Cert.Proof.Sb

open Cert.KernelIdeal Cert.KernelIdeal.Gen
open Idealize.ShloMosaic Idealize.ShloMosaic.TcCoe Idealize.ShloMosaic.Tactic

theorem od115 (x : In) (s0 p : ℕ) (g : ℕ → ℕ → ℝ) (hs : True) :
    k0_pay115 (up S256x128 .f32 (vB x s0 p)) = (up S256x128 .bf16 (vB x s0 p)) := by
  simp only [k0_pay115, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od116 (x : In) (s0 p : ℕ) (g : ℕ → ℕ → ℝ) (hs : True) :
    k0_pay116 (up S256x128 .f32 (vB x (s0 + 256) p)) = (up S256x128 .bf16 (vB x (s0 + 256) p)) := by
  simp only [k0_pay116, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od118 (x : In) (s0 p : ℕ) (g : ℕ → ℕ → ℝ) (hs : True) :
    k0_pay118 (mk S256x128 (fun _ l => decide (l / 64 = 0))) (up S256x128 .f32 (kB x s0 p)) = (up S256x128 .bf16 (kmB x s0 p 0)) := by
  simp only [k0_pay118, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od119 (x : In) (s0 p : ℕ) (g : ℕ → ℕ → ℝ) (hs : True) :
    k0_pay119 (mk S256x128 (fun _ l => decide (l / 64 = 1))) (up S256x128 .f32 (kB x s0 p)) = (up S256x128 .bf16 (kmB x s0 p 1)) := by
  simp only [k0_pay119, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od120 (x : In) (s0 p : ℕ) (g : ℕ → ℕ → ℝ) (hs : True) :
    k0_pay120 (mk S256x128 (fun _ l => decide (l / 64 = 0))) (up S256x128 .f32 (kB x (s0 + 256) p)) = (up S256x128 .bf16 (kmB x (s0 + 256) p 0)) := by
  simp only [k0_pay120, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od121 (x : In) (s0 p : ℕ) (g : ℕ → ℕ → ℝ) (hs : True) :
    k0_pay121 (mk S256x128 (fun _ l => decide (l / 64 = 1))) (up S256x128 .f32 (kB x (s0 + 256) p)) = (up S256x128 .bf16 (kmB x (s0 + 256) p 1)) := by
  simp only [k0_pay121, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od122 (x : In) (s0 p : ℕ) (g : ℕ → ℕ → ℝ) (hs : True) :
    k0_pay122 (mk S256x128 (fun _ l => decide (l / 64 = 0))) (up S256x128 .bf16 (qmB x (s0 + 256) p 0)) (up S256x128 .f32 (kB x s0 p)) = (up S256x256 .f32 (zB x (2 * p) (s0 + 256) s0)) := by
  simp only [k0_pay122, od118 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => z_eq x (s0 + 256) s0 p 0 (by decide) r c)

theorem od123 (x : In) (s0 p : ℕ) (g : ℕ → ℕ → ℝ) (hs : True) :
    k0_pay123 (mk S256x128 (fun _ l => decide (l / 64 = 1))) (up S256x128 .bf16 (qmB x (s0 + 256) p 1)) (up S256x128 .f32 (kB x s0 p)) = (up S256x256 .f32 (zB x (2 * p + 1) (s0 + 256) s0)) := by
  simp only [k0_pay123, od119 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => z_eq x (s0 + 256) s0 p 1 (by decide) r c)

theorem od124 (x : In) (s0 p : ℕ) (g : ℕ → ℕ → ℝ) (hs : True) :
    k0_pay124 (mk S256x128 (fun _ l => decide (l / 64 = 0))) (up S256x128 .bf16 (qmB x (s0 + 256) p 0)) (up S256x128 .f32 (kB x (s0 + 256) p)) = (up S256x256 .f32 (zB x (2 * p) (s0 + 256) (s0 + 256))) := by
  simp only [k0_pay124, od120 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => z_eq x (s0 + 256) (s0 + 256) p 0 (by decide) r c)

theorem od125 (x : In) (s0 p : ℕ) (g : ℕ → ℕ → ℝ) (hs : True) :
    k0_pay125 (mk S256x128 (fun _ l => decide (l / 64 = 1))) (up S256x128 .bf16 (qmB x (s0 + 256) p 1)) (up S256x128 .f32 (kB x (s0 + 256) p)) = (up S256x256 .f32 (zB x (2 * p + 1) (s0 + 256) (s0 + 256))) := by
  simp only [k0_pay125, od121 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => z_eq x (s0 + 256) (s0 + 256) p 1 (by decide) r c)

theorem od126 (x : In) (s0 p : ℕ) (g : ℕ → ℕ → ℝ) (hs : True) :
    k0_pay126 (up S256x128 .bf16 (dmB x (s0 + 256) p 0)) (up S256x128 .f32 (vB x s0 p)) = (up S256x256 .f32 (dwB x (2 * p) (s0 + 256) s0)) := by
  simp only [k0_pay126, od115 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dw_eq x (s0 + 256) s0 p 0 (by decide) r c)

theorem od127 (x : In) (s0 p : ℕ) (g : ℕ → ℕ → ℝ) (hs : True) :
    k0_pay127 (up S256x128 .bf16 (dmB x (s0 + 256) p 1)) (up S256x128 .f32 (vB x s0 p)) = (up S256x256 .f32 (dwB x (2 * p + 1) (s0 + 256) s0)) := by
  simp only [k0_pay127, od115 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dw_eq x (s0 + 256) s0 p 1 (by decide) r c)

theorem od128 (x : In) (s0 p : ℕ) (g : ℕ → ℕ → ℝ) (hs : True) :
    k0_pay128 (up S256x128 .bf16 (dmB x (s0 + 256) p 0)) (up S256x128 .f32 (vB x (s0 + 256) p)) = (up S256x256 .f32 (dwB x (2 * p) (s0 + 256) (s0 + 256))) := by
  simp only [k0_pay128, od116 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dw_eq x (s0 + 256) (s0 + 256) p 0 (by decide) r c)

theorem od129 (x : In) (s0 p : ℕ) (g : ℕ → ℕ → ℝ) (hs : True) :
    k0_pay129 (up S256x128 .bf16 (dmB x (s0 + 256) p 1)) (up S256x128 .f32 (vB x (s0 + 256) p)) = (up S256x256 .f32 (dwB x (2 * p + 1) (s0 + 256) (s0 + 256))) := by
  simp only [k0_pay129, od116 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dw_eq x (s0 + 256) (s0 + 256) p 1 (by decide) r c)

theorem od130 (x : In) (s0 p : ℕ) (g : ℕ → ℕ → ℝ) (hs : True) :
    k0_pay130 (mk S256x128 (fun _ l => decide (l / 64 = 0))) (up S256x128 .bf16 (qmB x (s0 + 256) p 0)) (up S256x128 .f32 (kB x s0 p)) = (up S256x256 .f32 (mnB x (2 * p) (s0 + 256) s0)) := by
  simp only [k0_pay130, od122 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od131 (x : In) (s0 p : ℕ) (g : ℕ → ℕ → ℝ) (hs : True) :
    k0_pay131 (up S256x256 .f32 (zB x (2 * p) (s0 + 256) s0)) (up S256x256 .f32 (mnB x (2 * p) (s0 + 256) s0)) = (up S256x256 .f32 (lbB x (2 * p) (s0 + 256) s0)) := by
  simp only [k0_pay131, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od132 (x : In) (s0 p : ℕ) (g : ℕ → ℕ → ℝ) (hs : True) :
    k0_pay132 (up S256x256 .f32 (zB x (2 * p) (s0 + 256) s0)) (up S256x256 .f32 (mnB x (2 * p) (s0 + 256) s0)) = (up S256x256 .f32 (l1B x (2 * p) (s0 + 256) s0)) := by
  simp only [k0_pay132, od131 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od133 (x : In) (s0 p : ℕ) (g : ℕ → ℕ → ℝ) (hs : True) :
    k0_pay133 (up S256x256 .f32 (zB x (2 * p + 1) (s0 + 256) s0)) = (up S256x256 .f32 (lbB x (2 * p + 1) (s0 + 256) s0)) := by
  simp only [k0_pay133, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od134 (x : In) (s0 p : ℕ) (g : ℕ → ℕ → ℝ) (hs : True) :
    k0_pay134 (up S256x256 .f32 (zB x (2 * p + 1) (s0 + 256) s0)) = (up S256x256 .f32 (l1B x (2 * p + 1) (s0 + 256) s0)) := by
  simp only [k0_pay134, od133 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od135 (x : In) (s0 p : ℕ) (g : ℕ → ℕ → ℝ) (hs : True) :
    k0_pay135 (up S256x256 .f32 (zB x (2 * p) (s0 + 256) (s0 + 256))) = (up S256x256 .f32 (lbB x (2 * p) (s0 + 256) (s0 + 256))) := by
  simp only [k0_pay135, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od136 (x : In) (s0 p : ℕ) (g : ℕ → ℕ → ℝ) (hs : True) :
    k0_pay136 (up S256x256 .f32 (zB x (2 * p) (s0 + 256) (s0 + 256))) = (up S256x256 .f32 (l1B x (2 * p) (s0 + 256) (s0 + 256))) := by
  simp only [k0_pay136, od135 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od137 (x : In) (s0 p : ℕ) (g : ℕ → ℕ → ℝ) (hs : True) :
    k0_pay137 (up S256x256 .f32 (zB x (2 * p + 1) (s0 + 256) (s0 + 256))) = (up S256x256 .f32 (lbB x (2 * p + 1) (s0 + 256) (s0 + 256))) := by
  simp only [k0_pay137, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od138 (x : In) (s0 p : ℕ) (g : ℕ → ℕ → ℝ) (hs : True) :
    k0_pay138 (up S256x256 .f32 (zB x (2 * p + 1) (s0 + 256) (s0 + 256))) = (up S256x256 .f32 (l1B x (2 * p + 1) (s0 + 256) (s0 + 256))) := by
  simp only [k0_pay138, od137 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od139 (x : In) (s0 p : ℕ) (g : ℕ → ℕ → ℝ) (hs : True) :
    k0_pay139 (mk S256x256 (fun r c => decide (c < r))) (up S256x256 .f32 (zB x (2 * p) (s0 + 256) (s0 + 256))) = (up S256x256 .f32 (l1mB x (2 * p) (s0 + 256) (s0 + 256))) := by
  simp only [k0_pay139, od136 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => l1m_diag x (2 * p) (s0 + 256) r c)

theorem od140 (x : In) (s0 p : ℕ) (g : ℕ → ℕ → ℝ) (hs : True) :
    k0_pay140 (mk S256x256 (fun r c => decide (c < r))) (up S256x256 .f32 (zB x (2 * p + 1) (s0 + 256) (s0 + 256))) = (up S256x256 .f32 (l1mB x (2 * p + 1) (s0 + 256) (s0 + 256))) := by
  simp only [k0_pay140, od138 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => l1m_diag x (2 * p + 1) (s0 + 256) r c)

theorem od141 (x : In) (s0 p : ℕ) (g : ℕ → ℕ → ℝ) (hs : True) :
    k0_pay141 (up S256x1 .f32 (preB x (2 * p + 1) (s0 + 256) s0)) (up S256x256 .f32 (l1B x (2 * p + 1) (s0 + 256) s0)) = (up S256x1 .f32 (preB x (2 * p + 1) (s0 + 256) (s0 + 256))) := by
  simp only [k0_pay141, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => pre_off x (2 * p + 1) (s0 + 256) s0 (by omega) r c)

theorem od142 (x : In) (s0 p : ℕ) (g : ℕ → ℕ → ℝ) (hs : True) :
    k0_pay142 (up S256x256 .bf16 (leB)) (up S256x256 .f32 (l1mB x (2 * p + 1) (s0 + 256) (s0 + 256))) = (up S256x256 .f32 (pfB x (2 * p + 1) (s0 + 256) (s0 + 256))) := by
  simp only [k0_pay142, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => pf_eq x (2 * p + 1) (s0 + 256) (s0 + 256) r c hc)

theorem od143 (x : In) (s0 p : ℕ) (g : ℕ → ℕ → ℝ) (hs : True) :
    k0_pay143 (up S256x256 .bf16 (leB)) (up S256x1 .f32 (totB x (2 * p) (s0 + 256))) (up S256x1 .f32 (preB x (2 * p) (s0 + 256) s0)) (up S256x256 .f32 (lbB x (2 * p) (s0 + 256) s0)) (up S256x256 .f32 (l1B x (2 * p) (s0 + 256) s0)) = (up S256x256 .f32 (wB x (2 * p) (s0 + 256) s0)) := by
  simp only [k0_pay143, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => (congrArg (fun y => Real.exp (lbB x (2 * p) (s0 + 256) s0 r c + (totB x (2 * p) (s0 + 256) r 0 - (y + preB x (2 * p) (s0 + 256) s0 r 0)))) (pf_off x (2 * p) (s0 + 256) s0 (by omega) r c hc)).trans (w_off x (2 * p) (s0 + 256) s0 (by omega) r c hc))

theorem od144 (x : In) (s0 p : ℕ) (g : ℕ → ℕ → ℝ) (hs : True) :
    k0_pay144 (up S256x256 .bf16 (leB)) (up S256x1 .f32 (totB x (2 * p + 1) (s0 + 256))) (up S256x1 .f32 (preB x (2 * p + 1) (s0 + 256) s0)) (up S256x256 .f32 (lbB x (2 * p + 1) (s0 + 256) s0)) (up S256x256 .f32 (l1B x (2 * p + 1) (s0 + 256) s0)) = (up S256x256 .f32 (wB x (2 * p + 1) (s0 + 256) s0)) := by
  simp only [k0_pay144, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => (congrArg (fun y => Real.exp (lbB x (2 * p + 1) (s0 + 256) s0 r c + (totB x (2 * p + 1) (s0 + 256) r 0 - (y + preB x (2 * p + 1) (s0 + 256) s0 r 0)))) (pf_off x (2 * p + 1) (s0 + 256) s0 (by omega) r c hc)).trans (w_off x (2 * p + 1) (s0 + 256) s0 (by omega) r c hc))

theorem od145 (x : In) (s0 p : ℕ) (g : ℕ → ℕ → ℝ) (hs : True) :
    k0_pay145 (up S256x256 .bf16 (leB)) (up S256x1 .f32 (totB x (2 * p) (s0 + 256))) (up S256x1 .f32 (preB x (2 * p) (s0 + 256) s0)) (up S256x256 .f32 (l1B x (2 * p) (s0 + 256) s0)) (up S256x256 .f32 (lbB x (2 * p) (s0 + 256) (s0 + 256))) (up S256x256 .f32 (l1mB x (2 * p) (s0 + 256) (s0 + 256))) = (up S256x256 .f32 (exB x (2 * p) (s0 + 256) (s0 + 256))) := by
  simp only [k0_pay145, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => by have e1 := pf_eq x (2 * p) (s0 + 256) (s0 + 256) r c hc; have e2 := pre_off x (2 * p) (s0 + 256) s0 (by omega) r 0; unfold exB; rw [← e1, ← e2])

theorem od146 (x : In) (s0 p : ℕ) (g : ℕ → ℕ → ℝ) (hs : True) :
    k0_pay146 (mk S256x256 (fun r c => decide (c < r))) (up S256x256 .f32 (exB x (2 * p) (s0 + 256) (s0 + 256))) = (up S256x256 .f32 (wB x (2 * p) (s0 + 256) (s0 + 256))) := by
  simp only [k0_pay146, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => w_diag x (2 * p) (s0 + 256) r c)

theorem od147 (x : In) (s0 p : ℕ) (g : ℕ → ℕ → ℝ) (hs : True) :
    k0_pay147 (up S256x1 .f32 (totB x (2 * p + 1) (s0 + 256))) (mk S256x256 (fun r c => decide (c < r))) (up S256x256 .f32 (lbB x (2 * p + 1) (s0 + 256) (s0 + 256))) (up S256x1 .f32 (preB x (2 * p + 1) (s0 + 256) (s0 + 256))) (up S256x256 .f32 (pfB x (2 * p + 1) (s0 + 256) (s0 + 256))) = (up S256x256 .f32 (wB x (2 * p + 1) (s0 + 256) (s0 + 256))) := by
  simp only [k0_pay147, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => w_diag x (2 * p + 1) (s0 + 256) r c)

theorem od148 (x : In) (s0 p : ℕ) (g : ℕ → ℕ → ℝ) (hs : True) :
    k0_pay148 (up S256x256 .f32 (dwB x (2 * p) (s0 + 256) s0)) (up S256x256 .f32 (wB x (2 * p) (s0 + 256) s0)) = (up S256x256 .f32 (eB x (2 * p) (s0 + 256) s0)) := by
  simp only [k0_pay148, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od149 (x : In) (s0 p : ℕ) (g : ℕ → ℕ → ℝ) (hs : True) :
    k0_pay149 (up S256x256 .f32 (dwB x (2 * p + 1) (s0 + 256) s0)) (up S256x256 .f32 (wB x (2 * p + 1) (s0 + 256) s0)) = (up S256x256 .f32 (eB x (2 * p + 1) (s0 + 256) s0)) := by
  simp only [k0_pay149, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od150 (x : In) (s0 p : ℕ) (g : ℕ → ℕ → ℝ) (hs : True) :
    k0_pay150 (mk S256x256 (fun r c => decide (c < r))) (up S256x256 .f32 (dwB x (2 * p) (s0 + 256) (s0 + 256))) (up S256x256 .f32 (exB x (2 * p) (s0 + 256) (s0 + 256))) = (up S256x256 .f32 (eB x (2 * p) (s0 + 256) (s0 + 256))) := by
  simp only [k0_pay150, od146 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od151 (x : In) (s0 p : ℕ) (g : ℕ → ℕ → ℝ) (hs : True) :
    k0_pay151 (up S256x1 .f32 (totB x (2 * p + 1) (s0 + 256))) (mk S256x256 (fun r c => decide (c < r))) (up S256x256 .f32 (dwB x (2 * p + 1) (s0 + 256) (s0 + 256))) (up S256x256 .f32 (lbB x (2 * p + 1) (s0 + 256) (s0 + 256))) (up S256x1 .f32 (preB x (2 * p + 1) (s0 + 256) (s0 + 256))) (up S256x256 .f32 (pfB x (2 * p + 1) (s0 + 256) (s0 + 256))) = (up S256x256 .f32 (eB x (2 * p + 1) (s0 + 256) (s0 + 256))) := by
  simp only [k0_pay151, od147 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od152 (x : In) (s0 p : ℕ) (g : ℕ → ℕ → ℝ) (hs : True) :
    k0_pay152 (up S256x128 .bf16 (dmB x (s0 + 256) p 0)) (up S256x128 .bf16 (dmB x (s0 + 256) p 1)) (up S256x256 .f32 (wB x (2 * p) (s0 + 256) s0)) (up S256x256 .f32 (wB x (2 * p + 1) (s0 + 256) s0)) = (up S256x128 .f32 (dvB x (s0 + 256) s0 p)) := by
  simp only [k0_pay152, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dv_eq x (s0 + 256) s0 p r c hc)

theorem od153 (x : In) (s0 p : ℕ) (g : ℕ → ℕ → ℝ) (hs : True) :
    k0_pay153 (up S256x128 .bf16 (dmB x (s0 + 256) p 0)) (up S256x128 .bf16 (dmB x (s0 + 256) p 1)) (up S256x1 .f32 (totB x (2 * p + 1) (s0 + 256))) (mk S256x256 (fun r c => decide (c < r))) (up S256x256 .f32 (lbB x (2 * p + 1) (s0 + 256) (s0 + 256))) (up S256x1 .f32 (preB x (2 * p + 1) (s0 + 256) (s0 + 256))) (up S256x256 .f32 (pfB x (2 * p + 1) (s0 + 256) (s0 + 256))) (up S256x256 .f32 (exB x (2 * p) (s0 + 256) (s0 + 256))) = (up S256x128 .f32 (dvB x (s0 + 256) (s0 + 256) p)) := by
  simp only [k0_pay153, od146 x s0 p g hs, od147 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dv_eq x (s0 + 256) (s0 + 256) p r c hc)

theorem od154 (x : In) (s0 p : ℕ) (g : ℕ → ℕ → ℝ) (hs : True) :
    k0_pay154 (up S256x256 .bf16 (ltB)) (up S256x1 .f32 (cdeB x (2 * p) (s0 + 256) s0)) (up S256x256 .f32 (dwB x (2 * p) (s0 + 256) s0)) (up S256x256 .f32 (wB x (2 * p) (s0 + 256) s0)) = (up S256x256 .f32 (dlB x (2 * p) (s0 + 256) s0)) := by
  simp only [k0_pay154, od148 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dl_eq x (2 * p) (s0 + 256) s0 r c hc)

theorem od155 (x : In) (s0 p : ℕ) (g : ℕ → ℕ → ℝ) (hs : True) :
    k0_pay155 (up S256x256 .bf16 (ltB)) (up S256x1 .f32 (cdeB x (2 * p + 1) (s0 + 256) s0)) (up S256x256 .f32 (dwB x (2 * p + 1) (s0 + 256) s0)) (up S256x256 .f32 (wB x (2 * p + 1) (s0 + 256) s0)) = (up S256x256 .f32 (dlB x (2 * p + 1) (s0 + 256) s0)) := by
  simp only [k0_pay155, od149 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dl_eq x (2 * p + 1) (s0 + 256) s0 r c hc)

theorem od156 (x : In) (s0 p : ℕ) (g : ℕ → ℕ → ℝ) (hs : True) :
    k0_pay156 (up S256x256 .bf16 (ltB)) (up S256x1 .f32 (cdeB x (2 * p) (s0 + 256) s0)) (mk S256x256 (fun r c => decide (c < r))) (up S256x256 .f32 (dwB x (2 * p) (s0 + 256) s0)) (up S256x256 .f32 (dwB x (2 * p) (s0 + 256) (s0 + 256))) (up S256x256 .f32 (wB x (2 * p) (s0 + 256) s0)) (up S256x256 .f32 (exB x (2 * p) (s0 + 256) (s0 + 256))) = (up S256x256 .f32 (dlB x (2 * p) (s0 + 256) (s0 + 256))) := by
  simp only [k0_pay156, od148 x s0 p g hs, od150 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => (congrArg ((∑ k ∈ Finset.range 256, eB x (2 * p) (s0 + 256) (s0 + 256) r k * ltB k c) + ·) (cde_add x (2 * p) (s0 + 256) s0 r 0)).trans (dl_eq x (2 * p) (s0 + 256) (s0 + 256) r c hc))

theorem od157 (x : In) (s0 p : ℕ) (g : ℕ → ℕ → ℝ) (hs : True) :
    k0_pay157 (up S256x256 .bf16 (ltB)) (up S256x1 .f32 (totB x (2 * p + 1) (s0 + 256))) (up S256x1 .f32 (cdeB x (2 * p + 1) (s0 + 256) s0)) (mk S256x256 (fun r c => decide (c < r))) (up S256x256 .f32 (dwB x (2 * p + 1) (s0 + 256) s0)) (up S256x256 .f32 (dwB x (2 * p + 1) (s0 + 256) (s0 + 256))) (up S256x256 .f32 (lbB x (2 * p + 1) (s0 + 256) (s0 + 256))) (up S256x1 .f32 (preB x (2 * p + 1) (s0 + 256) (s0 + 256))) (up S256x256 .f32 (pfB x (2 * p + 1) (s0 + 256) (s0 + 256))) (up S256x256 .f32 (wB x (2 * p + 1) (s0 + 256) s0)) = (up S256x256 .f32 (dlB x (2 * p + 1) (s0 + 256) (s0 + 256))) := by
  simp only [k0_pay157, od149 x s0 p g hs, od151 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => (congrArg ((∑ k ∈ Finset.range 256, eB x (2 * p + 1) (s0 + 256) (s0 + 256) r k * ltB k c) + ·) (cde_add x (2 * p + 1) (s0 + 256) s0 r 0)).trans (dl_eq x (2 * p + 1) (s0 + 256) (s0 + 256) r c hc))

theorem od158 (x : In) (s0 p : ℕ) (g : ℕ → ℕ → ℝ) (hs : True) :
    k0_pay158 (up S256x256 .f32 (l1B x (2 * p) (s0 + 256) s0)) = (up S256x256 .f32 (xl1B x (2 * p) (s0 + 256) s0)) := by
  simp only [k0_pay158, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od159 (x : In) (s0 p : ℕ) (g : ℕ → ℕ → ℝ) (hs : True) :
    k0_pay159 (up S256x256 .f32 (lbB x (2 * p) (s0 + 256) s0)) (up S256x256 .f32 (eB x (2 * p) (s0 + 256) s0)) (up S256x256 .f32 (dlB x (2 * p) (s0 + 256) s0)) (up S256x256 .f32 (xl1B x (2 * p) (s0 + 256) s0)) = (up S256x256 .bf16 (dzB x (2 * p) (s0 + 256) s0)) := by
  simp only [k0_pay159, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dz_off x (2 * p) (s0 + 256) s0 (by omega) r c hc)

theorem od160 (x : In) (s0 p : ℕ) (g : ℕ → ℕ → ℝ) (hs : True) :
    k0_pay160 (up S256x256 .f32 (lbB x (2 * p + 1) (s0 + 256) s0)) (up S256x256 .f32 (l1B x (2 * p + 1) (s0 + 256) s0)) (up S256x256 .f32 (eB x (2 * p + 1) (s0 + 256) s0)) (up S256x256 .f32 (dlB x (2 * p + 1) (s0 + 256) s0)) = (up S256x256 .bf16 (dzB x (2 * p + 1) (s0 + 256) s0)) := by
  simp only [k0_pay160, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dz_off x (2 * p + 1) (s0 + 256) s0 (by omega) r c hc)

theorem od161 (x : In) (s0 p : ℕ) (g : ℕ → ℕ → ℝ) (hs : True) :
    k0_pay161 (mk S256x256 (fun r c => decide (c < r))) (up S256x256 .f32 (lbB x (2 * p) (s0 + 256) (s0 + 256))) (up S256x256 .f32 (l1B x (2 * p) (s0 + 256) (s0 + 256))) (up S256x256 .f32 (eB x (2 * p) (s0 + 256) (s0 + 256))) (up S256x256 .f32 (dlB x (2 * p) (s0 + 256) (s0 + 256))) = (up S256x256 .bf16 (dzB x (2 * p) (s0 + 256) (s0 + 256))) := by
  simp only [k0_pay161, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dz_diag x (2 * p) (s0 + 256) r c)

theorem od162 (x : In) (s0 p : ℕ) (g : ℕ → ℕ → ℝ) (hs : True) :
    k0_pay162 (mk S256x256 (fun r c => decide (c < r))) (up S256x256 .f32 (lbB x (2 * p + 1) (s0 + 256) (s0 + 256))) (up S256x256 .f32 (l1B x (2 * p + 1) (s0 + 256) (s0 + 256))) (up S256x256 .f32 (eB x (2 * p + 1) (s0 + 256) (s0 + 256))) (up S256x256 .f32 (dlB x (2 * p + 1) (s0 + 256) (s0 + 256))) = (up S256x256 .bf16 (dzB x (2 * p + 1) (s0 + 256) (s0 + 256))) := by
  simp only [k0_pay162, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => dz_diag x (2 * p + 1) (s0 + 256) r c)

theorem od163 (x : In) (s0 p : ℕ) (g : ℕ → ℕ → ℝ) (hs : True) :
    k0_pay163 (up S256x128 .f32 (dqB x (s0 + 256) s0 p)) (mk S256x256 (fun r c => decide (c < r))) (up S256x128 .bf16 (kmB x s0 p 0)) (up S256x128 .bf16 (kmB x s0 p 1)) (up S256x128 .bf16 (kmB x (s0 + 256) p 0)) (up S256x128 .bf16 (kmB x (s0 + 256) p 1)) (up S256x256 .f32 (lbB x (2 * p) (s0 + 256) s0)) (up S256x256 .f32 (lbB x (2 * p + 1) (s0 + 256) s0)) (up S256x256 .f32 (l1B x (2 * p + 1) (s0 + 256) s0)) (up S256x256 .f32 (lbB x (2 * p) (s0 + 256) (s0 + 256))) (up S256x256 .f32 (l1B x (2 * p) (s0 + 256) (s0 + 256))) (up S256x256 .f32 (lbB x (2 * p + 1) (s0 + 256) (s0 + 256))) (up S256x256 .f32 (l1B x (2 * p + 1) (s0 + 256) (s0 + 256))) (up S256x256 .f32 (eB x (2 * p) (s0 + 256) s0)) (up S256x256 .f32 (eB x (2 * p + 1) (s0 + 256) s0)) (up S256x256 .f32 (eB x (2 * p) (s0 + 256) (s0 + 256))) (up S256x256 .f32 (eB x (2 * p + 1) (s0 + 256) (s0 + 256))) (up S256x256 .f32 (dlB x (2 * p) (s0 + 256) s0)) (up S256x256 .f32 (dlB x (2 * p + 1) (s0 + 256) s0)) (up S256x256 .f32 (dlB x (2 * p) (s0 + 256) (s0 + 256))) (up S256x256 .f32 (dlB x (2 * p + 1) (s0 + 256) (s0 + 256))) (up S256x256 .f32 (xl1B x (2 * p) (s0 + 256) s0)) = (up S256x128 .f32 (dqB x (s0 + 256) ((s0 + 256) + 256) p)) := by
  simp only [k0_pay163, od159 x s0 p g hs, od160 x s0 p g hs, od161 x s0 p g hs, od162 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => (congrArg (fun y => y + (∑ k ∈ Finset.range 256, dzB x (2 * p) (s0 + 256) (s0 + 256) r k * kmB x (s0 + 256) p 0 k c) + (∑ k ∈ Finset.range 256, dzB x (2 * p + 1) (s0 + 256) (s0 + 256) r k * kmB x (s0 + 256) p 1 k c)) (dq_eq x (s0 + 256) s0 p r c hc)).trans (dq_eq x (s0 + 256) (s0 + 256) p r c hc))

theorem od164 (x : In) (s0 p : ℕ) (g : ℕ → ℕ → ℝ) (hs : True) :
    k0_pay164 (up S256x128 .bf16 (qmB x (s0 + 256) p 0)) (up S256x128 .bf16 (qmB x (s0 + 256) p 1)) (up S256x256 .f32 (lbB x (2 * p) (s0 + 256) s0)) (up S256x256 .f32 (lbB x (2 * p + 1) (s0 + 256) s0)) (up S256x256 .f32 (l1B x (2 * p + 1) (s0 + 256) s0)) (up S256x256 .f32 (eB x (2 * p) (s0 + 256) s0)) (up S256x256 .f32 (eB x (2 * p + 1) (s0 + 256) s0)) (up S256x256 .f32 (dlB x (2 * p) (s0 + 256) s0)) (up S256x256 .f32 (dlB x (2 * p + 1) (s0 + 256) s0)) (up S256x256 .f32 (xl1B x (2 * p) (s0 + 256) s0)) (up S256x128 .f32 (g)) = (up S256x128 .f32 (fun r l => g r l + dkB x (s0 + 256) s0 p r l)) := by
  simp only [k0_pay164, od159 x s0 p g hs, od160 x s0 p g hs, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => congrArg (g r c + ·) (dk_eq x (s0 + 256) s0 p r c hc))

theorem od165 (x : In) (s0 p : ℕ) (g : ℕ → ℕ → ℝ) (hs : True) :
    k0_pay165 (up S256x128 .f32 (dvB x (s0 + 256) s0 p)) (up S256x128 .f32 (g)) = (up S256x128 .f32 (fun r l => g r l + dvB x (s0 + 256) s0 p r l)) := by
  simp only [k0_pay165, up_mul, up_add, up_sub, up_min, up_abs, up_exp, up_log1p, up_truncf, up_extf, up_select, up_nn2, up_nnl, up_ntl, up_tn, up_rowsum, up_row, up_cast, bc0, bc1, bc8, const0, pay117_eq]
  all_goals rfl

theorem od1 (x : In) (s0 p : ℕ) (g : ℕ → ℕ → ℝ) (hs : True) :
    k0_pay1 (up S256x128 .bf16 (qmB x (s0 + 256) p 0)) (up S256x128 .bf16 (qmB x (s0 + 256) p 1)) (up S256x256 .bf16 (dzB x (2 * p) (s0 + 256) (s0 + 256))) (up S256x256 .bf16 (dzB x (2 * p + 1) (s0 + 256) (s0 + 256))) (up S256x128 .f32 (g)) = (up S256x128 .f32 (fun r l => g r l + dkB x (s0 + 256) (s0 + 256) p r l)) := by
  simp only [k0_pay1, up_mul, up_add, up_sub, up_min, up_abs, up_exp, up_log1p, up_truncf, up_extf, up_select, up_nn2, up_nnl, up_ntl, up_tn, up_rowsum, up_row, up_cast, bc0, bc1, bc8, const0, pay117_eq]
  all_goals exact up_congr2 _ (fun r c hr hc => congrArg (g r c + ·) (dk_eq x (s0 + 256) (s0 + 256) p r c hc))

theorem od2 (x : In) (s0 p : ℕ) (g : ℕ → ℕ → ℝ) (hs : True) :
    k0_pay2 (up S256x128 .f32 (dvB x (s0 + 256) (s0 + 256) p)) (up S256x128 .f32 (g)) = (up S256x128 .f32 (fun r l => g r l + dvB x (s0 + 256) (s0 + 256) p r l)) := by
  simp only [k0_pay2, up_mul, up_add, up_sub, up_min, up_abs, up_exp, up_log1p, up_truncf, up_extf, up_select, up_nn2, up_nnl, up_ntl, up_tn, up_rowsum, up_row, up_cast, bc0, bc1, bc8, const0, pay117_eq]
  all_goals rfl

end Cert.Proof.Sb
-- ==== Proof.OddVal.lean ====
/-
  What an odd query block leaves in the results, over the real numbers.
-/
module

public import proofs.«01_k».proof.Proof.Reads
public import proofs.«01_k».proof.Proof.OddOps

@[expose] public section

set_option maxRecDepth 16384

noncomputable section

namespace Cert.Proof.Sb

open Cert.KernelIdeal Cert.KernelIdeal.Gen
open Idealize.ShloMosaic Idealize.ShloMosaic.TcCoe Idealize.ShloMosaic.Tactic

variable (c : Dev nD) (i : grid0.Coords)
  (arg2 : Memref sig .tc .vmem S256x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S256x256 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S2048x128 .f32) (harg8 : arg8.IsWhole) (arg9 : Memref sig .tc .vmem S2048x128 .f32) (harg9 : arg9.IsWhole)
  (X3 : Buf (Elt Ideal) (arg3.view.loc (c : Thread nD τ))) (X4 : Buf (Elt Ideal) (arg4.view.loc (c : Thread nD τ)))
  (arg1 : BitVec 32) (x : In) (p : ℕ)

variable (s0 : ℕ) (X2 : Buf (Elt Ideal) (arg2.view.loc (c : Thread nD τ))) (X5 : Buf (Elt Ideal) (arg5.view.loc (c : Thread nD τ)))
  (X6 : Buf (Elt Ideal) (arg6.view.loc (c : Thread nD τ))) (f7 : Buf (Elt Ideal) (arg7.view.loc (c : Thread nD τ)))
  (f8 : Buf (Elt Ideal) (arg8.view.loc (c : Thread nD τ))) (f9 : Buf (Elt Ideal) (arg9.view.loc (c : Thread nD τ)))
  (hq : arg2.view.read (Elt Ideal) X2 = up S256x128 .f32 (qB x (s0 + 256) p))
  (h3 : arg3.view.read (Elt Ideal) X3 = up S2048x128 .f32 (fun s l => x.k s (128 * p + l)))
  (h4 : arg4.view.read (Elt Ideal) X4 = up S2048x128 .f32 (fun s l => x.v s (128 * p + l)))
  (h5 : arg5.view.read (Elt Ideal) X5 = up S256x256 .f32 (totF x (s0 + 256) p))
  (h6 : arg6.view.read (Elt Ideal) X6 = up S256x128 .f32 (dB x (s0 + 256) p))
  (G8 G9 : ℕ → ℕ → ℝ) (h8 : arg8.view.read (Elt Ideal) f8 = up S2048x128 .f32 G8) (h9 : arg9.view.read (Elt Ideal) f9 = up S2048x128 .f32 G9)

theorem foldOdd_dq (h2 : k0_cond2 i = 1#1) : runOdd.sl.v129 c i arg2 harg2 arg3 harg3 arg4 harg4 arg5 harg5 arg6 harg6 arg7 harg7 arg8 harg8 arg9 harg9 X2 X3 X4 X5 X6 h2 f8 f9 = k0_pay8 (runOdd.sl.r_54 c i arg2 harg2 arg3 harg3 arg4 harg4 arg5 harg5 arg6 harg6 arg7 harg7 arg8 harg8 arg9 harg9 X2 X3 X4 X5 X6 h2 f8 f9) := rfl
theorem foldOdd_dk (h2 : k0_cond2 i = 1#1) : runOdd.sl.v372 c i arg2 harg2 arg3 harg3 arg4 harg4 arg5 harg5 arg6 harg6 arg7 harg7 arg8 harg8 arg9 harg9 X2 X3 X4 X5 X6 h2 f8 f9 = k0_pay1 (runOdd.sl.r_2 c arg2 X2) (runOdd.sl.r_3 c arg2 X2) (runOdd.sl.r_52 c i arg2 harg2 arg3 harg3 arg4 harg4 arg5 harg5 arg6 harg6 arg7 harg7 arg8 harg8 arg9 harg9 X2 X3 X4 X5 X6 h2 f8 f9) (runOdd.sl.r_53 c i arg2 harg2 arg3 harg3 arg4 harg4 arg5 harg5 arg6 harg6 arg7 harg7 arg8 harg8 arg9 harg9 X2 X3 X4 X5 X6 h2 f8 f9) (runOdd.sl.v367 c i arg2 harg2 arg3 harg3 arg4 harg4 arg5 harg5 arg6 harg6 arg7 harg7 arg8 harg8 arg9 harg9 X2 X3 X4 X5 X6 h2 f8 f9) := rfl
theorem foldOdd_dv (h2 : k0_cond2 i = 1#1) : runOdd.sl.v378 c i arg2 harg2 arg3 harg3 arg4 harg4 arg5 harg5 arg6 harg6 arg7 harg7 arg8 harg8 arg9 harg9 X2 X3 X4 X5 X6 h2 f8 f9 = k0_pay2 (runOdd.sl.r_46 c i arg2 harg2 arg3 harg3 arg4 harg4 arg5 harg5 arg6 harg6 arg7 harg7 arg8 harg8 arg9 harg9 X2 X3 X4 X5 X6 h2 f8 f9) (runOdd.sl.v376 c i arg2 harg2 arg3 harg3 arg4 harg4 arg5 harg5 arg6 harg6 arg7 harg7 arg8 harg8 arg9 harg9 X2 X3 X4 X5 X6 h2 f8 f9) := rfl

variable (e0 : 256 * (i 1).val = s0 + 256)
include e0 hq h3 h4 h5 h6 h8 h9

theorem odd_dq (h1 : ¬(cond1 i = 1#1)) (h2 : k0_cond2 i = 1#1) : arg7.view.read (Elt Ideal) (runOdd c i arg2 harg2 arg3 harg3 arg4 harg4 arg5 harg5 arg6 harg6 arg7 harg7 arg8 harg8 arg9 harg9 X2 X3 X4 X5 X6 h1 h2 f7 f8 f9).1 = up S256x128 .f32 (fun r l => dqB x (s0 + 256) ((s0 + 256) + 256) p r l * (1 / 8)) := by
  have e1 : 512 * (k0_t1_loop i).trips = s0 := by
    have a := trips1_eq i
    have b := (cond2_iff i).1 h2
    omega
  have E5 : k0_off5 i = ![s0, 0] := by rw [off5_eq i h2, e0, Nat.add_sub_cancel]
  have E6 : k0_off6 i = ![s0 + 256, 0] := by rw [off6_eq i, e0]
  have S := st_at c i arg2 harg2 arg3 harg3 arg4 harg4 arg5 harg5 arg6 harg6 arg7 harg7 arg8 harg8 arg9 harg9 X3 X4 (BitVec.ofNat 32 (i 1).val) x (s0 + 256) p h3 h4 f8 f9 G8 G9 h8 h9 (k0_t1_loop i).trips le_rfl (by omega)
  rw [e1] at S
  obtain ⟨S1, S2, S3⟩ := S
  simp only [Scf.Loop.trips] at S1 S2 S3
  have L3 : runOdd.sl.v3 = lane := rfl
  unfold runOdd
  dsimp only
  rw [foldOdd_dq]
  simp only [L3, runOdd.sl.r_20, runOdd.sl.r_43, runOdd.sl.r_23, runOdd.sl.r_55, runOdd.sl.r_12, runOdd.sl.r_44, runOdd.sl.r_8, runOdd.sl.r_34, runOdd.sl.r_36, runOdd.sl.r_33, runOdd.sl.r_26, runOdd.sl.r_4, runOdd.sl.r_40, runOdd.sl.r_7, runOdd.sl.r_1, runOdd.sl.r_15, runOdd.sl.r_50, runOdd.sl.r_47, runOdd.sl.r_54, runOdd.sl.r_16, runOdd.sl.r_48, runOdd.sl.r_32, runOdd.sl.r_49, runOdd.sl.r_41, runOdd.sl.r_25, runOdd.sl.r_19, runOdd.sl.r_18, runOdd.sl.r_31, runOdd.sl.r_27, runOdd.sl.r_29, runOdd.sl.r_38, runOdd.sl.r_5, runOdd.sl.r_13, runOdd.sl.r_17, runOdd.sl.r_22, runOdd.sl.r_11, runOdd.sl.r_30, runOdd.sl.r_3, runOdd.sl.r_10, runOdd.sl.r_52, runOdd.sl.r_21, runOdd.sl.r_37, runOdd.sl.r_9, runOdd.sl.r_14, runOdd.sl.r_53, runOdd.sl.r_35, runOdd.sl.r_42, runOdd.sl.r, runOdd.sl.r_28, runOdd.sl.r_51, runOdd.sl.r_2, runOdd.sl.r_24, runOdd.sl.r_39, runOdd.sl.r_45, runOdd.sl.r_46, runOdd.sl.r_6, all_read arg2.view X2 _ hq, all_read arg6.view X6 _ h6, col_read arg5.view X5 _ h5 0, col_read arg5.view X5 _ h5 128, totF0 x, totF128 x, rows_k arg3.view X3 x p h3 (k0_off5_inb i h2) E5, rows_v arg4.view X4 x p h4 (k0_off5_inb i h2) E5, rows_k arg3.view X3 x p h3 (k0_off6_inb i h2) E6, rows_v arg4.view X4 x p h4 (k0_off6_inb i h2) E6, pay189_eq, pay190_eq, pay195_eq, pay196_eq, pay191_eq x ((s0 + 256)) p, pay197_eq x ((s0 + 256)) p, pay198_eq x ((s0 + 256)) p, pay199_eq x ((s0 + 256)) p, pay200_eq x ((s0 + 256)) p, pay201_eq, pay202_eq, init_eq x (s0 + 256) p, S1, carry_1, carry_2, carry_3, carry_4, carry_5, pay117_eq, od115 x s0 p (fun _ _ => 0) trivial, od116 x s0 p (fun _ _ => 0) trivial, od118 x s0 p (fun _ _ => 0) trivial, od119 x s0 p (fun _ _ => 0) trivial, od120 x s0 p (fun _ _ => 0) trivial, od121 x s0 p (fun _ _ => 0) trivial, od122 x s0 p (fun _ _ => 0) trivial, od123 x s0 p (fun _ _ => 0) trivial, od124 x s0 p (fun _ _ => 0) trivial, od125 x s0 p (fun _ _ => 0) trivial, od126 x s0 p (fun _ _ => 0) trivial, od127 x s0 p (fun _ _ => 0) trivial, od128 x s0 p (fun _ _ => 0) trivial, od129 x s0 p (fun _ _ => 0) trivial, od130 x s0 p (fun _ _ => 0) trivial, od131 x s0 p (fun _ _ => 0) trivial, od132 x s0 p (fun _ _ => 0) trivial, od133 x s0 p (fun _ _ => 0) trivial, od134 x s0 p (fun _ _ => 0) trivial, od135 x s0 p (fun _ _ => 0) trivial, od136 x s0 p (fun _ _ => 0) trivial, od137 x s0 p (fun _ _ => 0) trivial, od138 x s0 p (fun _ _ => 0) trivial, od139 x s0 p (fun _ _ => 0) trivial, od140 x s0 p (fun _ _ => 0) trivial, od141 x s0 p (fun _ _ => 0) trivial, od142 x s0 p (fun _ _ => 0) trivial, od143 x s0 p (fun _ _ => 0) trivial, od144 x s0 p (fun _ _ => 0) trivial, od145 x s0 p (fun _ _ => 0) trivial, od146 x s0 p (fun _ _ => 0) trivial, od147 x s0 p (fun _ _ => 0) trivial, od148 x s0 p (fun _ _ => 0) trivial, od149 x s0 p (fun _ _ => 0) trivial, od150 x s0 p (fun _ _ => 0) trivial, od151 x s0 p (fun _ _ => 0) trivial, od152 x s0 p (fun _ _ => 0) trivial, od153 x s0 p (fun _ _ => 0) trivial, od154 x s0 p (fun _ _ => 0) trivial, od155 x s0 p (fun _ _ => 0) trivial, od156 x s0 p (fun _ _ => 0) trivial, od157 x s0 p (fun _ _ => 0) trivial, od158 x s0 p (fun _ _ => 0) trivial, od159 x s0 p (fun _ _ => 0) trivial, od160 x s0 p (fun _ _ => 0) trivial, od161 x s0 p (fun _ _ => 0) trivial, od162 x s0 p (fun _ _ => 0) trivial, od163 x s0 p (fun _ _ => 0) trivial, od164 x s0 p (fun _ _ => 0) trivial, od165 x s0 p (fun _ _ => 0) trivial, od1 x s0 p (fun _ _ => 0) trivial, od2 x s0 p (fun _ _ => 0) trivial, pay8_eq]
  exact all_write arg7.view _ _ _ _ rfl

theorem odd_dk (h1 : ¬(cond1 i = 1#1)) (h2 : k0_cond2 i = 1#1) : arg8.view.read (Elt Ideal) (runOdd c i arg2 harg2 arg3 harg3 arg4 harg4 arg5 harg5 arg6 harg6 arg7 harg7 arg8 harg8 arg9 harg9 X2 X3 X4 X5 X6 h1 h2 f7 f8 f9).2.1 = up S2048x128 .f32 (fun s l => G8 s l + if s < (s0 + 256) + 256 then DKt x (s0 + 256) p s l else 0) := by
  have e1 : 512 * (k0_t1_loop i).trips = s0 := by
    have a := trips1_eq i
    have b := (cond2_iff i).1 h2
    omega
  have E5 : k0_off5 i = ![s0, 0] := by rw [off5_eq i h2, e0, Nat.add_sub_cancel]
  have E6 : k0_off6 i = ![s0 + 256, 0] := by rw [off6_eq i, e0]
  have S := st_at c i arg2 harg2 arg3 harg3 arg4 harg4 arg5 harg5 arg6 harg6 arg7 harg7 arg8 harg8 arg9 harg9 X3 X4 (BitVec.ofNat 32 (i 1).val) x (s0 + 256) p h3 h4 f8 f9 G8 G9 h8 h9 (k0_t1_loop i).trips le_rfl (by omega)
  rw [e1] at S
  obtain ⟨S1, S2, S3⟩ := S
  simp only [Scf.Loop.trips] at S1 S2 S3
  have L3 : runOdd.sl.v3 = lane := rfl
  have w1 := rows_write' arg8.view _ _ (fun r l => (fun s l => G8 s l + if s < s0 then DKt x (s0 + 256) p s l else 0) (s0 + r) l + dkB x (s0 + 256) s0 p r l) [] S2 (k0_off5_inb i h2) E5 _ rfl
  unfold runOdd
  dsimp only
  rw [foldOdd_dk]
  simp only [runOdd.sl.H8_1, runOdd.sl.v367, runOdd.sl.v352, rows_read' arg8.view _ _ S2 (k0_off5_inb i h2) E5, rows_read' arg8.view _ _ w1 (k0_off6_inb i h2) E6, L3, runOdd.sl.r_20, runOdd.sl.r_43, runOdd.sl.r_23, runOdd.sl.r_55, runOdd.sl.r_12, runOdd.sl.r_44, runOdd.sl.r_8, runOdd.sl.r_34, runOdd.sl.r_36, runOdd.sl.r_33, runOdd.sl.r_26, runOdd.sl.r_4, runOdd.sl.r_40, runOdd.sl.r_7, runOdd.sl.r_1, runOdd.sl.r_15, runOdd.sl.r_50, runOdd.sl.r_47, runOdd.sl.r_54, runOdd.sl.r_16, runOdd.sl.r_48, runOdd.sl.r_32, runOdd.sl.r_49, runOdd.sl.r_41, runOdd.sl.r_25, runOdd.sl.r_19, runOdd.sl.r_18, runOdd.sl.r_31, runOdd.sl.r_27, runOdd.sl.r_29, runOdd.sl.r_38, runOdd.sl.r_5, runOdd.sl.r_13, runOdd.sl.r_17, runOdd.sl.r_22, runOdd.sl.r_11, runOdd.sl.r_30, runOdd.sl.r_3, runOdd.sl.r_10, runOdd.sl.r_52, runOdd.sl.r_21, runOdd.sl.r_37, runOdd.sl.r_9, runOdd.sl.r_14, runOdd.sl.r_53, runOdd.sl.r_35, runOdd.sl.r_42, runOdd.sl.r, runOdd.sl.r_28, runOdd.sl.r_51, runOdd.sl.r_2, runOdd.sl.r_24, runOdd.sl.r_39, runOdd.sl.r_45, runOdd.sl.r_46, runOdd.sl.r_6, all_read arg2.view X2 _ hq, all_read arg6.view X6 _ h6, col_read arg5.view X5 _ h5 0, col_read arg5.view X5 _ h5 128, totF0 x, totF128 x, rows_k arg3.view X3 x p h3 (k0_off5_inb i h2) E5, rows_v arg4.view X4 x p h4 (k0_off5_inb i h2) E5, rows_k arg3.view X3 x p h3 (k0_off6_inb i h2) E6, rows_v arg4.view X4 x p h4 (k0_off6_inb i h2) E6, pay189_eq, pay190_eq, pay195_eq, pay196_eq, pay191_eq x ((s0 + 256)) p, pay197_eq x ((s0 + 256)) p, pay198_eq x ((s0 + 256)) p, pay199_eq x ((s0 + 256)) p, pay200_eq x ((s0 + 256)) p, pay201_eq, pay202_eq, init_eq x (s0 + 256) p, S1, carry_1, carry_2, carry_3, carry_4, carry_5, pay117_eq, od115 x s0 p (fun r l => (fun s l => G8 s l + if s < s0 then DKt x (s0 + 256) p s l else 0) (s0 + r) l) trivial, od116 x s0 p (fun r l => (fun s l => G8 s l + if s < s0 then DKt x (s0 + 256) p s l else 0) (s0 + r) l) trivial, od118 x s0 p (fun r l => (fun s l => G8 s l + if s < s0 then DKt x (s0 + 256) p s l else 0) (s0 + r) l) trivial, od119 x s0 p (fun r l => (fun s l => G8 s l + if s < s0 then DKt x (s0 + 256) p s l else 0) (s0 + r) l) trivial, od120 x s0 p (fun r l => (fun s l => G8 s l + if s < s0 then DKt x (s0 + 256) p s l else 0) (s0 + r) l) trivial, od121 x s0 p (fun r l => (fun s l => G8 s l + if s < s0 then DKt x (s0 + 256) p s l else 0) (s0 + r) l) trivial, od122 x s0 p (fun r l => (fun s l => G8 s l + if s < s0 then DKt x (s0 + 256) p s l else 0) (s0 + r) l) trivial, od123 x s0 p (fun r l => (fun s l => G8 s l + if s < s0 then DKt x (s0 + 256) p s l else 0) (s0 + r) l) trivial, od124 x s0 p (fun r l => (fun s l => G8 s l + if s < s0 then DKt x (s0 + 256) p s l else 0) (s0 + r) l) trivial, od125 x s0 p (fun r l => (fun s l => G8 s l + if s < s0 then DKt x (s0 + 256) p s l else 0) (s0 + r) l) trivial, od126 x s0 p (fun r l => (fun s l => G8 s l + if s < s0 then DKt x (s0 + 256) p s l else 0) (s0 + r) l) trivial, od127 x s0 p (fun r l => (fun s l => G8 s l + if s < s0 then DKt x (s0 + 256) p s l else 0) (s0 + r) l) trivial, od128 x s0 p (fun r l => (fun s l => G8 s l + if s < s0 then DKt x (s0 + 256) p s l else 0) (s0 + r) l) trivial, od129 x s0 p (fun r l => (fun s l => G8 s l + if s < s0 then DKt x (s0 + 256) p s l else 0) (s0 + r) l) trivial, od130 x s0 p (fun r l => (fun s l => G8 s l + if s < s0 then DKt x (s0 + 256) p s l else 0) (s0 + r) l) trivial, od131 x s0 p (fun r l => (fun s l => G8 s l + if s < s0 then DKt x (s0 + 256) p s l else 0) (s0 + r) l) trivial, od132 x s0 p (fun r l => (fun s l => G8 s l + if s < s0 then DKt x (s0 + 256) p s l else 0) (s0 + r) l) trivial, od133 x s0 p (fun r l => (fun s l => G8 s l + if s < s0 then DKt x (s0 + 256) p s l else 0) (s0 + r) l) trivial, od134 x s0 p (fun r l => (fun s l => G8 s l + if s < s0 then DKt x (s0 + 256) p s l else 0) (s0 + r) l) trivial, od135 x s0 p (fun r l => (fun s l => G8 s l + if s < s0 then DKt x (s0 + 256) p s l else 0) (s0 + r) l) trivial, od136 x s0 p (fun r l => (fun s l => G8 s l + if s < s0 then DKt x (s0 + 256) p s l else 0) (s0 + r) l) trivial, od137 x s0 p (fun r l => (fun s l => G8 s l + if s < s0 then DKt x (s0 + 256) p s l else 0) (s0 + r) l) trivial, od138 x s0 p (fun r l => (fun s l => G8 s l + if s < s0 then DKt x (s0 + 256) p s l else 0) (s0 + r) l) trivial, od139 x s0 p (fun r l => (fun s l => G8 s l + if s < s0 then DKt x (s0 + 256) p s l else 0) (s0 + r) l) trivial, od140 x s0 p (fun r l => (fun s l => G8 s l + if s < s0 then DKt x (s0 + 256) p s l else 0) (s0 + r) l) trivial, od141 x s0 p (fun r l => (fun s l => G8 s l + if s < s0 then DKt x (s0 + 256) p s l else 0) (s0 + r) l) trivial, od142 x s0 p (fun r l => (fun s l => G8 s l + if s < s0 then DKt x (s0 + 256) p s l else 0) (s0 + r) l) trivial, od143 x s0 p (fun r l => (fun s l => G8 s l + if s < s0 then DKt x (s0 + 256) p s l else 0) (s0 + r) l) trivial, od144 x s0 p (fun r l => (fun s l => G8 s l + if s < s0 then DKt x (s0 + 256) p s l else 0) (s0 + r) l) trivial, od145 x s0 p (fun r l => (fun s l => G8 s l + if s < s0 then DKt x (s0 + 256) p s l else 0) (s0 + r) l) trivial, od146 x s0 p (fun r l => (fun s l => G8 s l + if s < s0 then DKt x (s0 + 256) p s l else 0) (s0 + r) l) trivial, od147 x s0 p (fun r l => (fun s l => G8 s l + if s < s0 then DKt x (s0 + 256) p s l else 0) (s0 + r) l) trivial, od148 x s0 p (fun r l => (fun s l => G8 s l + if s < s0 then DKt x (s0 + 256) p s l else 0) (s0 + r) l) trivial, od149 x s0 p (fun r l => (fun s l => G8 s l + if s < s0 then DKt x (s0 + 256) p s l else 0) (s0 + r) l) trivial, od150 x s0 p (fun r l => (fun s l => G8 s l + if s < s0 then DKt x (s0 + 256) p s l else 0) (s0 + r) l) trivial, od151 x s0 p (fun r l => (fun s l => G8 s l + if s < s0 then DKt x (s0 + 256) p s l else 0) (s0 + r) l) trivial, od152 x s0 p (fun r l => (fun s l => G8 s l + if s < s0 then DKt x (s0 + 256) p s l else 0) (s0 + r) l) trivial, od153 x s0 p (fun r l => (fun s l => G8 s l + if s < s0 then DKt x (s0 + 256) p s l else 0) (s0 + r) l) trivial, od154 x s0 p (fun r l => (fun s l => G8 s l + if s < s0 then DKt x (s0 + 256) p s l else 0) (s0 + r) l) trivial, od155 x s0 p (fun r l => (fun s l => G8 s l + if s < s0 then DKt x (s0 + 256) p s l else 0) (s0 + r) l) trivial, od156 x s0 p (fun r l => (fun s l => G8 s l + if s < s0 then DKt x (s0 + 256) p s l else 0) (s0 + r) l) trivial, od157 x s0 p (fun r l => (fun s l => G8 s l + if s < s0 then DKt x (s0 + 256) p s l else 0) (s0 + r) l) trivial, od158 x s0 p (fun r l => (fun s l => G8 s l + if s < s0 then DKt x (s0 + 256) p s l else 0) (s0 + r) l) trivial, od159 x s0 p (fun r l => (fun s l => G8 s l + if s < s0 then DKt x (s0 + 256) p s l else 0) (s0 + r) l) trivial, od160 x s0 p (fun r l => (fun s l => G8 s l + if s < s0 then DKt x (s0 + 256) p s l else 0) (s0 + r) l) trivial, od161 x s0 p (fun r l => (fun s l => G8 s l + if s < s0 then DKt x (s0 + 256) p s l else 0) (s0 + r) l) trivial, od162 x s0 p (fun r l => (fun s l => G8 s l + if s < s0 then DKt x (s0 + 256) p s l else 0) (s0 + r) l) trivial, od163 x s0 p (fun r l => (fun s l => G8 s l + if s < s0 then DKt x (s0 + 256) p s l else 0) (s0 + r) l) trivial, od164 x s0 p (fun r l => (fun s l => G8 s l + if s < s0 then DKt x (s0 + 256) p s l else 0) (s0 + r) l) trivial, od165 x s0 p (fun r l => (fun s l => G8 s l + if s < s0 then DKt x (s0 + 256) p s l else 0) (s0 + r) l) trivial, od1 x s0 p (fun r l => (fun s l => if s0 ≤ s ∧ s < s0 + 256 then (fun s l => G8 s l + if s < s0 then DKt x (s0 + 256) p s l else 0) (s0 + (s - s0)) l + dkB x (s0 + 256) s0 p (s - s0) l else (fun s l => G8 s l + if s < s0 then DKt x (s0 + 256) p s l else 0) s l) ((s0 + 256) + r) l) trivial, od2 x s0 p (fun r l => (fun s l => if s0 ≤ s ∧ s < s0 + 256 then (fun s l => G8 s l + if s < s0 then DKt x (s0 + 256) p s l else 0) (s0 + (s - s0)) l + dkB x (s0 + 256) s0 p (s - s0) l else (fun s l => G8 s l + if s < s0 then DKt x (s0 + 256) p s l else 0) s l) ((s0 + 256) + r) l) trivial]
  refine (rows_write' arg8.view _ (fun s l => if s0 ≤ s ∧ s < s0 + 256 then (fun s l => G8 s l + if s < s0 then DKt x (s0 + 256) p s l else 0) (s0 + (s - s0)) l + dkB x (s0 + 256) s0 p (s - s0) l else (fun s l => G8 s l + if s < s0 then DKt x (s0 + 256) p s l else 0) s l) (fun r l => (fun s l => if s0 ≤ s ∧ s < s0 + 256 then (fun s l => G8 s l + if s < s0 then DKt x (s0 + 256) p s l else 0) (s0 + (s - s0)) l + dkB x (s0 + 256) s0 p (s - s0) l else (fun s l => G8 s l + if s < s0 then DKt x (s0 + 256) p s l else 0) s l) ((s0 + 256) + r) l + dkB x (s0 + 256) (s0 + 256) p r l) _ w1 (k0_off6_inb i h2) E6 _ rfl).trans (up_congr2 _ fun s l _ _ => ?_)
  exact add_rows G8 (DKt x (s0 + 256) p) (fun s l => if s0 ≤ s ∧ s < s0 + 256 then (fun s l => G8 s l + if s < s0 then DKt x (s0 + 256) p s l else 0) (s0 + (s - s0)) l + dkB x (s0 + 256) s0 p (s - s0) l else (fun s l => G8 s l + if s < s0 then DKt x (s0 + 256) p s l else 0) s l) (s0 + 256) (s0 + 256) s l rfl (fun s => add_rows G8 (DKt x (s0 + 256) p) (fun s l => G8 s l + if s < s0 then DKt x (s0 + 256) p s l else 0) s0 s0 s l rfl (fun _ => rfl))

theorem odd_dv (h1 : ¬(cond1 i = 1#1)) (h2 : k0_cond2 i = 1#1) : arg9.view.read (Elt Ideal) (runOdd c i arg2 harg2 arg3 harg3 arg4 harg4 arg5 harg5 arg6 harg6 arg7 harg7 arg8 harg8 arg9 harg9 X2 X3 X4 X5 X6 h1 h2 f7 f8 f9).2.2.1 = up S2048x128 .f32 (fun s l => G9 s l + if s < (s0 + 256) + 256 then DVt x (s0 + 256) p s l else 0) := by
  have e1 : 512 * (k0_t1_loop i).trips = s0 := by
    have a := trips1_eq i
    have b := (cond2_iff i).1 h2
    omega
  have E5 : k0_off5 i = ![s0, 0] := by rw [off5_eq i h2, e0, Nat.add_sub_cancel]
  have E6 : k0_off6 i = ![s0 + 256, 0] := by rw [off6_eq i, e0]
  have S := st_at c i arg2 harg2 arg3 harg3 arg4 harg4 arg5 harg5 arg6 harg6 arg7 harg7 arg8 harg8 arg9 harg9 X3 X4 (BitVec.ofNat 32 (i 1).val) x (s0 + 256) p h3 h4 f8 f9 G8 G9 h8 h9 (k0_t1_loop i).trips le_rfl (by omega)
  rw [e1] at S
  obtain ⟨S1, S2, S3⟩ := S
  simp only [Scf.Loop.trips] at S1 S2 S3
  have L3 : runOdd.sl.v3 = lane := rfl
  have w1 := rows_write' arg9.view _ _ (fun r l => (fun s l => G9 s l + if s < s0 then DVt x (s0 + 256) p s l else 0) (s0 + r) l + dvB x (s0 + 256) s0 p r l) [] S3 (k0_off5_inb i h2) E5 _ rfl
  unfold runOdd
  dsimp only
  rw [foldOdd_dv]
  simp only [runOdd.sl.H9_1, runOdd.sl.v376, runOdd.sl.v361, rows_read' arg9.view _ _ S3 (k0_off5_inb i h2) E5, rows_read' arg9.view _ _ w1 (k0_off6_inb i h2) E6, L3, runOdd.sl.r_20, runOdd.sl.r_43, runOdd.sl.r_23, runOdd.sl.r_55, runOdd.sl.r_12, runOdd.sl.r_44, runOdd.sl.r_8, runOdd.sl.r_34, runOdd.sl.r_36, runOdd.sl.r_33, runOdd.sl.r_26, runOdd.sl.r_4, runOdd.sl.r_40, runOdd.sl.r_7, runOdd.sl.r_1, runOdd.sl.r_15, runOdd.sl.r_50, runOdd.sl.r_47, runOdd.sl.r_54, runOdd.sl.r_16, runOdd.sl.r_48, runOdd.sl.r_32, runOdd.sl.r_49, runOdd.sl.r_41, runOdd.sl.r_25, runOdd.sl.r_19, runOdd.sl.r_18, runOdd.sl.r_31, runOdd.sl.r_27, runOdd.sl.r_29, runOdd.sl.r_38, runOdd.sl.r_5, runOdd.sl.r_13, runOdd.sl.r_17, runOdd.sl.r_22, runOdd.sl.r_11, runOdd.sl.r_30, runOdd.sl.r_3, runOdd.sl.r_10, runOdd.sl.r_52, runOdd.sl.r_21, runOdd.sl.r_37, runOdd.sl.r_9, runOdd.sl.r_14, runOdd.sl.r_53, runOdd.sl.r_35, runOdd.sl.r_42, runOdd.sl.r, runOdd.sl.r_28, runOdd.sl.r_51, runOdd.sl.r_2, runOdd.sl.r_24, runOdd.sl.r_39, runOdd.sl.r_45, runOdd.sl.r_46, runOdd.sl.r_6, all_read arg2.view X2 _ hq, all_read arg6.view X6 _ h6, col_read arg5.view X5 _ h5 0, col_read arg5.view X5 _ h5 128, totF0 x, totF128 x, rows_k arg3.view X3 x p h3 (k0_off5_inb i h2) E5, rows_v arg4.view X4 x p h4 (k0_off5_inb i h2) E5, rows_k arg3.view X3 x p h3 (k0_off6_inb i h2) E6, rows_v arg4.view X4 x p h4 (k0_off6_inb i h2) E6, pay189_eq, pay190_eq, pay195_eq, pay196_eq, pay191_eq x ((s0 + 256)) p, pay197_eq x ((s0 + 256)) p, pay198_eq x ((s0 + 256)) p, pay199_eq x ((s0 + 256)) p, pay200_eq x ((s0 + 256)) p, pay201_eq, pay202_eq, init_eq x (s0 + 256) p, S1, carry_1, carry_2, carry_3, carry_4, carry_5, pay117_eq, od115 x s0 p (fun r l => (fun s l => G9 s l + if s < s0 then DVt x (s0 + 256) p s l else 0) (s0 + r) l) trivial, od116 x s0 p (fun r l => (fun s l => G9 s l + if s < s0 then DVt x (s0 + 256) p s l else 0) (s0 + r) l) trivial, od118 x s0 p (fun r l => (fun s l => G9 s l + if s < s0 then DVt x (s0 + 256) p s l else 0) (s0 + r) l) trivial, od119 x s0 p (fun r l => (fun s l => G9 s l + if s < s0 then DVt x (s0 + 256) p s l else 0) (s0 + r) l) trivial, od120 x s0 p (fun r l => (fun s l => G9 s l + if s < s0 then DVt x (s0 + 256) p s l else 0) (s0 + r) l) trivial, od121 x s0 p (fun r l => (fun s l => G9 s l + if s < s0 then DVt x (s0 + 256) p s l else 0) (s0 + r) l) trivial, od122 x s0 p (fun r l => (fun s l => G9 s l + if s < s0 then DVt x (s0 + 256) p s l else 0) (s0 + r) l) trivial, od123 x s0 p (fun r l => (fun s l => G9 s l + if s < s0 then DVt x (s0 + 256) p s l else 0) (s0 + r) l) trivial, od124 x s0 p (fun r l => (fun s l => G9 s l + if s < s0 then DVt x (s0 + 256) p s l else 0) (s0 + r) l) trivial, od125 x s0 p (fun r l => (fun s l => G9 s l + if s < s0 then DVt x (s0 + 256) p s l else 0) (s0 + r) l) trivial, od126 x s0 p (fun r l => (fun s l => G9 s l + if s < s0 then DVt x (s0 + 256) p s l else 0) (s0 + r) l) trivial, od127 x s0 p (fun r l => (fun s l => G9 s l + if s < s0 then DVt x (s0 + 256) p s l else 0) (s0 + r) l) trivial, od128 x s0 p (fun r l => (fun s l => G9 s l + if s < s0 then DVt x (s0 + 256) p s l else 0) (s0 + r) l) trivial, od129 x s0 p (fun r l => (fun s l => G9 s l + if s < s0 then DVt x (s0 + 256) p s l else 0) (s0 + r) l) trivial, od130 x s0 p (fun r l => (fun s l => G9 s l + if s < s0 then DVt x (s0 + 256) p s l else 0) (s0 + r) l) trivial, od131 x s0 p (fun r l => (fun s l => G9 s l + if s < s0 then DVt x (s0 + 256) p s l else 0) (s0 + r) l) trivial, od132 x s0 p (fun r l => (fun s l => G9 s l + if s < s0 then DVt x (s0 + 256) p s l else 0) (s0 + r) l) trivial, od133 x s0 p (fun r l => (fun s l => G9 s l + if s < s0 then DVt x (s0 + 256) p s l else 0) (s0 + r) l) trivial, od134 x s0 p (fun r l => (fun s l => G9 s l + if s < s0 then DVt x (s0 + 256) p s l else 0) (s0 + r) l) trivial, od135 x s0 p (fun r l => (fun s l => G9 s l + if s < s0 then DVt x (s0 + 256) p s l else 0) (s0 + r) l) trivial, od136 x s0 p (fun r l => (fun s l => G9 s l + if s < s0 then DVt x (s0 + 256) p s l else 0) (s0 + r) l) trivial, od137 x s0 p (fun r l => (fun s l => G9 s l + if s < s0 then DVt x (s0 + 256) p s l else 0) (s0 + r) l) trivial, od138 x s0 p (fun r l => (fun s l => G9 s l + if s < s0 then DVt x (s0 + 256) p s l else 0) (s0 + r) l) trivial, od139 x s0 p (fun r l => (fun s l => G9 s l + if s < s0 then DVt x (s0 + 256) p s l else 0) (s0 + r) l) trivial, od140 x s0 p (fun r l => (fun s l => G9 s l + if s < s0 then DVt x (s0 + 256) p s l else 0) (s0 + r) l) trivial, od141 x s0 p (fun r l => (fun s l => G9 s l + if s < s0 then DVt x (s0 + 256) p s l else 0) (s0 + r) l) trivial, od142 x s0 p (fun r l => (fun s l => G9 s l + if s < s0 then DVt x (s0 + 256) p s l else 0) (s0 + r) l) trivial, od143 x s0 p (fun r l => (fun s l => G9 s l + if s < s0 then DVt x (s0 + 256) p s l else 0) (s0 + r) l) trivial, od144 x s0 p (fun r l => (fun s l => G9 s l + if s < s0 then DVt x (s0 + 256) p s l else 0) (s0 + r) l) trivial, od145 x s0 p (fun r l => (fun s l => G9 s l + if s < s0 then DVt x (s0 + 256) p s l else 0) (s0 + r) l) trivial, od146 x s0 p (fun r l => (fun s l => G9 s l + if s < s0 then DVt x (s0 + 256) p s l else 0) (s0 + r) l) trivial, od147 x s0 p (fun r l => (fun s l => G9 s l + if s < s0 then DVt x (s0 + 256) p s l else 0) (s0 + r) l) trivial, od148 x s0 p (fun r l => (fun s l => G9 s l + if s < s0 then DVt x (s0 + 256) p s l else 0) (s0 + r) l) trivial, od149 x s0 p (fun r l => (fun s l => G9 s l + if s < s0 then DVt x (s0 + 256) p s l else 0) (s0 + r) l) trivial, od150 x s0 p (fun r l => (fun s l => G9 s l + if s < s0 then DVt x (s0 + 256) p s l else 0) (s0 + r) l) trivial, od151 x s0 p (fun r l => (fun s l => G9 s l + if s < s0 then DVt x (s0 + 256) p s l else 0) (s0 + r) l) trivial, od152 x s0 p (fun r l => (fun s l => G9 s l + if s < s0 then DVt x (s0 + 256) p s l else 0) (s0 + r) l) trivial, od153 x s0 p (fun r l => (fun s l => G9 s l + if s < s0 then DVt x (s0 + 256) p s l else 0) (s0 + r) l) trivial, od154 x s0 p (fun r l => (fun s l => G9 s l + if s < s0 then DVt x (s0 + 256) p s l else 0) (s0 + r) l) trivial, od155 x s0 p (fun r l => (fun s l => G9 s l + if s < s0 then DVt x (s0 + 256) p s l else 0) (s0 + r) l) trivial, od156 x s0 p (fun r l => (fun s l => G9 s l + if s < s0 then DVt x (s0 + 256) p s l else 0) (s0 + r) l) trivial, od157 x s0 p (fun r l => (fun s l => G9 s l + if s < s0 then DVt x (s0 + 256) p s l else 0) (s0 + r) l) trivial, od158 x s0 p (fun r l => (fun s l => G9 s l + if s < s0 then DVt x (s0 + 256) p s l else 0) (s0 + r) l) trivial, od159 x s0 p (fun r l => (fun s l => G9 s l + if s < s0 then DVt x (s0 + 256) p s l else 0) (s0 + r) l) trivial, od160 x s0 p (fun r l => (fun s l => G9 s l + if s < s0 then DVt x (s0 + 256) p s l else 0) (s0 + r) l) trivial, od161 x s0 p (fun r l => (fun s l => G9 s l + if s < s0 then DVt x (s0 + 256) p s l else 0) (s0 + r) l) trivial, od162 x s0 p (fun r l => (fun s l => G9 s l + if s < s0 then DVt x (s0 + 256) p s l else 0) (s0 + r) l) trivial, od163 x s0 p (fun r l => (fun s l => G9 s l + if s < s0 then DVt x (s0 + 256) p s l else 0) (s0 + r) l) trivial, od164 x s0 p (fun r l => (fun s l => G9 s l + if s < s0 then DVt x (s0 + 256) p s l else 0) (s0 + r) l) trivial, od165 x s0 p (fun r l => (fun s l => G9 s l + if s < s0 then DVt x (s0 + 256) p s l else 0) (s0 + r) l) trivial, od1 x s0 p (fun r l => (fun s l => if s0 ≤ s ∧ s < s0 + 256 then (fun s l => G9 s l + if s < s0 then DVt x (s0 + 256) p s l else 0) (s0 + (s - s0)) l + dvB x (s0 + 256) s0 p (s - s0) l else (fun s l => G9 s l + if s < s0 then DVt x (s0 + 256) p s l else 0) s l) ((s0 + 256) + r) l) trivial, od2 x s0 p (fun r l => (fun s l => if s0 ≤ s ∧ s < s0 + 256 then (fun s l => G9 s l + if s < s0 then DVt x (s0 + 256) p s l else 0) (s0 + (s - s0)) l + dvB x (s0 + 256) s0 p (s - s0) l else (fun s l => G9 s l + if s < s0 then DVt x (s0 + 256) p s l else 0) s l) ((s0 + 256) + r) l) trivial]
  refine (rows_write' arg9.view _ (fun s l => if s0 ≤ s ∧ s < s0 + 256 then (fun s l => G9 s l + if s < s0 then DVt x (s0 + 256) p s l else 0) (s0 + (s - s0)) l + dvB x (s0 + 256) s0 p (s - s0) l else (fun s l => G9 s l + if s < s0 then DVt x (s0 + 256) p s l else 0) s l) (fun r l => (fun s l => if s0 ≤ s ∧ s < s0 + 256 then (fun s l => G9 s l + if s < s0 then DVt x (s0 + 256) p s l else 0) (s0 + (s - s0)) l + dvB x (s0 + 256) s0 p (s - s0) l else (fun s l => G9 s l + if s < s0 then DVt x (s0 + 256) p s l else 0) s l) ((s0 + 256) + r) l + dvB x (s0 + 256) (s0 + 256) p r l) _ w1 (k0_off6_inb i h2) E6 _ rfl).trans (up_congr2 _ fun s l _ _ => ?_)
  exact add_rows G9 (DVt x (s0 + 256) p) (fun s l => if s0 ≤ s ∧ s < s0 + 256 then (fun s l => G9 s l + if s < s0 then DVt x (s0 + 256) p s l else 0) (s0 + (s - s0)) l + dvB x (s0 + 256) s0 p (s - s0) l else (fun s l => G9 s l + if s < s0 then DVt x (s0 + 256) p s l else 0) s l) (s0 + 256) (s0 + 256) s l rfl (fun s => add_rows G9 (DVt x (s0 + 256) p) (fun s l => G9 s l + if s < s0 then DVt x (s0 + 256) p s l else 0) s0 s0 s l rfl (fun _ => rfl))
end Cert.Proof.Sb
-- ==== Proof.GridVal.lean ====
/-
  What the results' blocks hold after each grid point, over the real numbers.
-/
module

public import proofs.«01_k».proof.Proof.Frame
public import proofs.«01_k».proof.Proof.EvenVal
public import proofs.«01_k».proof.Proof.FirstVal
public import proofs.«01_k».proof.Proof.OddVal

@[expose] public section

set_option maxRecDepth 16384

noncomputable section

namespace Cert.Proof.Sb

open Cert.KernelIdeal Cert.KernelIdeal.Gen
open Idealize.ShloMosaic Idealize.ShloMosaic.TcCoe Idealize.ShloMosaic.Tactic

variable (m : (ℓ : Loc nD τ sig) → Buf (Elt Ideal) ℓ) (x : In)

/-- The key's gradient block from the first `n` query blocks. -/
def DKs (p n s l : ℕ) : ℝ := ∑ j ∈ Finset.range n, if s < 256 * j + 256 then DKt x (256 * j) p s l else 0
/-- The value's gradient block from the first `n` query blocks. -/
def DVs (p n s l : ℕ) : ℝ := ∑ j ∈ Finset.range n, if s < 256 * j + 256 then DVt x (256 * j) p s l else 0

/-- What the operands' blocks hold at every point. -/
structure Blocks (c : Dev nD) : Prop where
  b0 : ∀ t, iblk m c 0 t = up S256x128 .f32 (qB x (256 * (t.val % 8)) (t.val / 8))
  b1 : ∀ t, iblk m c 1 t = up S2048x128 .f32 (fun s l => x.k s (128 * (t.val / 8) + l))
  b2 : ∀ t, iblk m c 2 t = up S2048x128 .f32 (fun s l => x.v s (128 * (t.val / 8) + l))
  b3 : ∀ t, iblk m c 3 t = up S256x256 .f32 (totF x (256 * (t.val % 8)) (t.val / 8))
  b4 : ∀ t, iblk m c 4 t = up S256x128 .f32 (dB x (256 * (t.val % 8)) (t.val / 8))

/-- The results' blocks after point `t`. -/
def after (n : ℕ) : Outs Ideal :=
  (up S256x128 .f32 (fun r l => dqB x (256 * (n % 8)) (256 * (n % 8) + 256) (n / 8) r l * (1 / 8)),
    up S2048x128 .f32 (DKs x (n / 8) (n % 8 + 1)), up S2048x128 .f32 (DVs x (n / 8) (n % 8 + 1)))

variable {m x}

theorem step_first {c : Dev nD} (B : Blocks m x c) (t : Fin cfg0.N) (h : t.val % 8 = 0) (p : Outs Ideal) : outAt m c t p = after x t.val := by
  have h1 := (cond1_at t).2 h
  have q0 : (st0_0 t).view.read (Elt Ideal) ((w0 t).unread (iblk m c 0 t)) = up S256x128 .f32 (qB x 0 (t.val / 8)) :=
    ((w0 t).read_unread _).trans ((B.b0 t).trans (by rw [h, Nat.mul_zero]))
  have q1 := ((w1 t).read_unread (iblk m c 1 t)).trans (B.b1 t)
  have q2 := ((w2 t).read_unread (iblk m c 2 t)).trans (B.b2 t)
  have q3 : (st0_3 t).view.read (Elt Ideal) ((w3 t).unread (iblk m c 3 t)) = up S256x256 .f32 (totF x 0 (t.val / 8)) :=
    ((w3 t).read_unread _).trans ((B.b3 t).trans (by rw [h, Nat.mul_zero]))
  have q4 : (st0_4 t).view.read (Elt Ideal) ((w4 t).unread (iblk m c 4 t)) = up S256x128 .f32 (dB x 0 (t.val / 8)) :=
    ((w4 t).read_unread _).trans ((B.b4 t).trans (by rw [h, Nat.mul_zero]))
  rw [outAt_A m c t p h1]
  refine Prod.ext ?_ (Prod.ext ?_ ?_)
  · refine (first_dq c (grid0.coords t) (st0_0 t) (w0 t) (st0_1 t) (w1 t) (st0_2 t) (w2 t) (st0_3 t) (w3 t) (st0_4 t) (w4 t) (st0_5 t) (w5 t) (st0_6 t) (w6 t) (st0_7 t) (w7 t) ((w1 t).unread (iblk m c 1 t)) ((w2 t).unread (iblk m c 2 t)) x (t.val / 8) ((w0 t).unread (iblk m c 0 t)) ((w3 t).unread (iblk m c 3 t)) ((w4 t).unread (iblk m c 4 t)) _ _ _ q0 q1 q2 q3 q4 h1 (cond2_of_first h1)).trans ?_
    unfold after; rw [h]
  · refine (first_dk c (grid0.coords t) (st0_0 t) (w0 t) (st0_1 t) (w1 t) (st0_2 t) (w2 t) (st0_3 t) (w3 t) (st0_4 t) (w4 t) (st0_5 t) (w5 t) (st0_6 t) (w6 t) (st0_7 t) (w7 t) ((w1 t).unread (iblk m c 1 t)) ((w2 t).unread (iblk m c 2 t)) x (t.val / 8) ((w0 t).unread (iblk m c 0 t)) ((w3 t).unread (iblk m c 3 t)) ((w4 t).unread (iblk m c 4 t)) _ _ _ q0 q1 q2 q3 q4 h1 (cond2_of_first h1)).trans ?_
    unfold after DKs; rw [h]
    simp only [Nat.mul_zero, Finset.sum_range_succ, Finset.sum_range_zero, zero_add]
  · refine (first_dv c (grid0.coords t) (st0_0 t) (w0 t) (st0_1 t) (w1 t) (st0_2 t) (w2 t) (st0_3 t) (w3 t) (st0_4 t) (w4 t) (st0_5 t) (w5 t) (st0_6 t) (w6 t) (st0_7 t) (w7 t) ((w1 t).unread (iblk m c 1 t)) ((w2 t).unread (iblk m c 2 t)) x (t.val / 8) ((w0 t).unread (iblk m c 0 t)) ((w3 t).unread (iblk m c 3 t)) ((w4 t).unread (iblk m c 4 t)) _ _ _ q0 q1 q2 q3 q4 h1 (cond2_of_first h1)).trans ?_
    unfold after DVs; rw [h]
    simp only [Nat.mul_zero, Finset.sum_range_succ, Finset.sum_range_zero, zero_add]

theorem step_even {c : Dev nD} (B : Blocks m x c) (t : Fin cfg0.N) (h : t.val % 8 ≠ 0) (he : t.val % 8 % 2 = 0) (p : Outs Ideal)
    (hp : p.2 = (up S2048x128 .f32 (DKs x (t.val / 8) (t.val % 8)), up S2048x128 .f32 (DVs x (t.val / 8) (t.val % 8)))) : outAt m c t p = after x t.val := by
  have h1 : ¬(cond1 (grid0.coords t) = 1#1) := fun h' => h ((cond1_at t).1 h')
  have h2 : ¬(k0_cond2 (grid0.coords t) = 1#1) := by rw [cond2_iff, coord1]; omega
  have e0 : 256 * (grid0.coords t 1).val = 256 * (t.val % 8) := by rw [coord1]
  have q0 := ((w0 t).read_unread (iblk m c 0 t)).trans (B.b0 t)
  have q1 := ((w1 t).read_unread (iblk m c 1 t)).trans (B.b1 t)
  have q2 := ((w2 t).read_unread (iblk m c 2 t)).trans (B.b2 t)
  have q3 := ((w3 t).read_unread (iblk m c 3 t)).trans (B.b3 t)
  have q4 := ((w4 t).read_unread (iblk m c 4 t)).trans (B.b4 t)
  have q8 := ((w6 t).read_unread p.2.1).trans (congrArg Prod.fst hp)
  have q9 := ((w7 t).read_unread p.2.2).trans (congrArg Prod.snd hp)
  rw [outAt_C m c t p h1 h2]
  refine Prod.ext ?_ (Prod.ext ?_ ?_)
  · exact even_dq c (grid0.coords t) (st0_0 t) (w0 t) (st0_1 t) (w1 t) (st0_2 t) (w2 t) (st0_3 t) (w3 t) (st0_4 t) (w4 t) (st0_5 t) (w5 t) (st0_6 t) (w6 t) (st0_7 t) (w7 t) ((w1 t).unread (iblk m c 1 t)) ((w2 t).unread (iblk m c 2 t)) x (t.val / 8) (256 * (t.val % 8)) ((w0 t).unread (iblk m c 0 t)) ((w3 t).unread (iblk m c 3 t)) ((w4 t).unread (iblk m c 4 t)) _ _ _ q0 q1 q2 q3 q4 _ _ q8 q9 e0 h1 h2
  · refine (even_dk c (grid0.coords t) (st0_0 t) (w0 t) (st0_1 t) (w1 t) (st0_2 t) (w2 t) (st0_3 t) (w3 t) (st0_4 t) (w4 t) (st0_5 t) (w5 t) (st0_6 t) (w6 t) (st0_7 t) (w7 t) ((w1 t).unread (iblk m c 1 t)) ((w2 t).unread (iblk m c 2 t)) x (t.val / 8) (256 * (t.val % 8)) ((w0 t).unread (iblk m c 0 t)) ((w3 t).unread (iblk m c 3 t)) ((w4 t).unread (iblk m c 4 t)) _ _ _ q0 q1 q2 q3 q4 _ _ q8 q9 e0 h1 h2).trans ?_
    unfold after
    dsimp only
    congr 1
    funext s l
    unfold DKs
    rw [Finset.sum_range_succ]
  · refine (even_dv c (grid0.coords t) (st0_0 t) (w0 t) (st0_1 t) (w1 t) (st0_2 t) (w2 t) (st0_3 t) (w3 t) (st0_4 t) (w4 t) (st0_5 t) (w5 t) (st0_6 t) (w6 t) (st0_7 t) (w7 t) ((w1 t).unread (iblk m c 1 t)) ((w2 t).unread (iblk m c 2 t)) x (t.val / 8) (256 * (t.val % 8)) ((w0 t).unread (iblk m c 0 t)) ((w3 t).unread (iblk m c 3 t)) ((w4 t).unread (iblk m c 4 t)) _ _ _ q0 q1 q2 q3 q4 _ _ q8 q9 e0 h1 h2).trans ?_
    unfold after
    dsimp only
    congr 1
    funext s l
    unfold DVs
    rw [Finset.sum_range_succ]

theorem step_odd {c : Dev nD} (B : Blocks m x c) (t : Fin cfg0.N) (he : t.val % 8 % 2 = 1) (p : Outs Ideal)
    (hp : p.2 = (up S2048x128 .f32 (DKs x (t.val / 8) (t.val % 8)), up S2048x128 .f32 (DVs x (t.val / 8) (t.val % 8)))) : outAt m c t p = after x t.val := by
  have h1 : ¬(cond1 (grid0.coords t) = 1#1) := fun h' => by have := (cond1_at t).1 h'; omega
  have h2 : k0_cond2 (grid0.coords t) = 1#1 := by rw [cond2_iff, coord1]; omega
  obtain ⟨s0, hs⟩ : ∃ s0, 256 * (t.val % 8) = s0 + 256 := ⟨256 * (t.val % 8) - 256, by omega⟩
  have e0 : 256 * (grid0.coords t 1).val = s0 + 256 := by rw [coord1, hs]
  have q0 := ((w0 t).read_unread (iblk m c 0 t)).trans (B.b0 t)
  have q1 := ((w1 t).read_unread (iblk m c 1 t)).trans (B.b1 t)
  have q2 := ((w2 t).read_unread (iblk m c 2 t)).trans (B.b2 t)
  have q3 := ((w3 t).read_unread (iblk m c 3 t)).trans (B.b3 t)
  have q4 := ((w4 t).read_unread (iblk m c 4 t)).trans (B.b4 t)
  have q8 := ((w6 t).read_unread p.2.1).trans (congrArg Prod.fst hp)
  have q9 := ((w7 t).read_unread p.2.2).trans (congrArg Prod.snd hp)
  rw [hs] at q0 q3 q4
  rw [outAt_B m c t p h1 h2]
  refine Prod.ext ?_ (Prod.ext ?_ ?_)
  · refine (odd_dq c (grid0.coords t) (st0_0 t) (w0 t) (st0_1 t) (w1 t) (st0_2 t) (w2 t) (st0_3 t) (w3 t) (st0_4 t) (w4 t) (st0_5 t) (w5 t) (st0_6 t) (w6 t) (st0_7 t) (w7 t) ((w1 t).unread (iblk m c 1 t)) ((w2 t).unread (iblk m c 2 t)) x (t.val / 8) s0 ((w0 t).unread (iblk m c 0 t)) ((w3 t).unread (iblk m c 3 t)) ((w4 t).unread (iblk m c 4 t)) _ _ _ q0 q1 q2 q3 q4 _ _ q8 q9 e0 h1 h2).trans ?_
    unfold after; rw [hs]
  · refine (odd_dk c (grid0.coords t) (st0_0 t) (w0 t) (st0_1 t) (w1 t) (st0_2 t) (w2 t) (st0_3 t) (w3 t) (st0_4 t) (w4 t) (st0_5 t) (w5 t) (st0_6 t) (w6 t) (st0_7 t) (w7 t) ((w1 t).unread (iblk m c 1 t)) ((w2 t).unread (iblk m c 2 t)) x (t.val / 8) s0 ((w0 t).unread (iblk m c 0 t)) ((w3 t).unread (iblk m c 3 t)) ((w4 t).unread (iblk m c 4 t)) _ _ _ q0 q1 q2 q3 q4 _ _ q8 q9 e0 h1 h2).trans ?_
    unfold after
    dsimp only
    congr 1
    funext s l
    unfold DKs
    rw [Finset.sum_range_succ, hs]
  · refine (odd_dv c (grid0.coords t) (st0_0 t) (w0 t) (st0_1 t) (w1 t) (st0_2 t) (w2 t) (st0_3 t) (w3 t) (st0_4 t) (w4 t) (st0_5 t) (w5 t) (st0_6 t) (w6 t) (st0_7 t) (w7 t) ((w1 t).unread (iblk m c 1 t)) ((w2 t).unread (iblk m c 2 t)) x (t.val / 8) s0 ((w0 t).unread (iblk m c 0 t)) ((w3 t).unread (iblk m c 3 t)) ((w4 t).unread (iblk m c 4 t)) _ _ _ q0 q1 q2 q3 q4 _ _ q8 q9 e0 h1 h2).trans ?_
    unfold after
    dsimp only
    congr 1
    funext s l
    unfold DVs
    rw [Finset.sum_range_succ, hs]

/-- The results' blocks after each point. -/
theorem outs_after {c : Dev nD} (B : Blocks m x c) : ∀ n (hn : n < cfg0.N), outs m c (n + 1) = after x n
  | 0, hn => by
    rw [show (0 + 1 : ℕ) = (⟨0, hn⟩ : Fin cfg0.N).val + 1 from rfl, outs_succ]
    exact step_first B ⟨0, hn⟩ rfl _
  | n + 1, hn => by
    have ih := outs_after B n (Nat.lt_of_succ_lt hn)
    rw [show (n + 1 + 1 : ℕ) = (⟨n + 1, hn⟩ : Fin cfg0.N).val + 1 from rfl, outs_succ]
    by_cases h : (n + 1) % 8 = 0
    · exact step_first B ⟨n + 1, hn⟩ h _
    · have hp : (outs m c (n + 1)).2 = (up S2048x128 .f32 (DKs x ((n + 1) / 8) ((n + 1) % 8)), up S2048x128 .f32 (DVs x ((n + 1) / 8) ((n + 1) % 8))) := by
        rw [ih, show (n + 1) / 8 = n / 8 by omega, show (n + 1) % 8 = n % 8 + 1 by omega]
        rfl
      by_cases he : (n + 1) % 8 % 2 = 0
      · exact step_even B ⟨n + 1, hn⟩ h he _ hp
      · exact step_odd B ⟨n + 1, hn⟩ (by dsimp only; omega) _ hp

end Cert.Proof.Sb

end
-- ==== Proof.Final.lean ====
/-
  The operands' blocks from the arrays, and the results' arrays from their blocks.
-/
module

public import proofs.«01_k».proof.Proof.GridVal
public import Idealize.ShloMosaic.Lib.Pipeline.ValueKit.Geometry

@[expose] public section

set_option maxRecDepth 16384

noncomputable section

namespace Cert.Proof.Sb

open Cert.KernelIdeal Cert.KernelIdeal.Gen
open Idealize.ShloMosaic Idealize.ShloMosaic.TcCoe Idealize.ShloMosaic.Tactic

variable (m : (ℓ : Loc nD τ sig) → Buf (Elt Ideal) ℓ) (x : In)

/-- The query's gradient. -/
def RQ (t j : ℕ) : ℝ := (∑ s ∈ Finset.range 2048, DZ x (j / 64) t s * x.k s j) * (1 / 8)
/-- The key's gradient. -/
def RK (s j : ℕ) : ℝ := ∑ t ∈ Finset.range 2048, DZ x (j / 64) t s * (x.q t j * (1 / 8))
/-- The value's gradient. -/
def RV (s j : ℕ) : ℝ := ∑ t ∈ Finset.range 2048, W x (j / 64) t s * x.d t j

theorem DZ_zero (h t s : ℕ) (e : t ≤ s) : DZ x h t s = 0 := if_neg (by omega)
theorem W_zero (h t s : ℕ) (e : t ≤ s) : W x h t s = 0 := if_neg (by omega)

theorem sum_blocks (F : ℕ → ℝ) (n : ℕ) : ∑ j ∈ Finset.range n, ∑ r ∈ Finset.range 256, F (256 * j + r) = ∑ t ∈ Finset.range (256 * n), F t := by
  induction n with
  | zero => rfl
  | succ n ih => rw [Finset.sum_range_succ, ih, show 256 * (n + 1) = 256 * n + 256 by ring, Finset.sum_range_add]

theorem head_col (p l : ℕ) : (128 * p + l) / 64 = 2 * p + l / 64 := by omega

theorem dq_total (t0 p r l : ℕ) (ht : t0 + 256 ≤ 2048) (hr : r < 256) :
    dqB x t0 (t0 + 256) p r l * (1 / 8) = RQ x (t0 + r) (128 * p + l) := by
  unfold dqB DQ RQ
  rw [head_col]
  congr 1
  obtain ⟨d, hd⟩ : ∃ d, 2048 = t0 + 256 + d := ⟨2048 - (t0 + 256), by omega⟩
  rw [hd, Finset.sum_range_add _ (t0 + 256) d]
  refine (add_eq_left.2 ?_).symm
  exact Finset.sum_eq_zero fun s _ => by rw [DZ_zero x _ _ _ (by omega), zero_mul]

theorem dk_total (p s l : ℕ) : DKs x p 8 s l = RK x s (128 * p + l) := by
  unfold DKs RK
  rw [head_col, show (2048 : ℕ) = 256 * 8 from rfl, ← sum_blocks]
  refine Finset.sum_congr rfl fun j _ => ?_
  by_cases e : s < 256 * j + 256
  · rw [if_pos e]; rfl
  · rw [if_neg e]
    refine (Finset.sum_eq_zero fun r hr => ?_).symm
    rw [DZ_zero x _ _ _ (by have := Finset.mem_range.1 hr; omega), zero_mul]

theorem dv_total (p s l : ℕ) : DVs x p 8 s l = RV x s (128 * p + l) := by
  unfold DVs RV
  rw [head_col, show (2048 : ℕ) = 256 * 8 from rfl, ← sum_blocks]
  refine Finset.sum_congr rfl fun j _ => ?_
  by_cases e : s < 256 * j + 256
  · rw [if_pos e]; rfl
  · rw [if_neg e]
    refine (Finset.sum_eq_zero fun r hr => ?_).symm
    rw [W_zero x _ _ _ (by have := Finset.mem_range.1 hr; omega), zero_mul]

/-- What the arrays hold when the region is entered. -/
structure Arrays (c : Dev nD) : Prop where
  a0 : V m c main_arg0 = up S2048x512 .f32 x.q
  a1 : V m c main_arg1 = up S2048x512 .f32 x.k
  a2 : V m c main_arg2 = up S2048x512 .f32 x.v
  a3 : V m c main_v19 = up S2048x1024 .f32 (fun t j => TOT x (j / 128) t)
  a4 : V m c main_arg3 = up S2048x512 .f32 x.d

theorem ix0 : ∀ t : Fin cfg0.N, win0_0.index t = ![t.val % 8, t.val / 8] := (by decide +kernel : ∀ t : Fin grid0.N, _)
theorem ix1 : ∀ t : Fin cfg0.N, win0_1.index t = ![0, t.val / 8] := (by decide +kernel : ∀ t : Fin grid0.N, _)
theorem ix2 : ∀ t : Fin cfg0.N, win0_2.index t = ![0, t.val / 8] := (by decide +kernel : ∀ t : Fin grid0.N, _)
theorem ix3 : ∀ t : Fin cfg0.N, win0_3.index t = ![t.val % 8, t.val / 8] := (by decide +kernel : ∀ t : Fin grid0.N, _)
theorem ix4 : ∀ t : Fin cfg0.N, win0_4.index t = ![t.val % 8, t.val / 8] := (by decide +kernel : ∀ t : Fin grid0.N, _)
theorem ix5 : ∀ t : Fin cfg0.N, win0_5.index t = ![t.val % 8, t.val / 8] := (by decide +kernel : ∀ t : Fin grid0.N, _)
theorem ix6 : ∀ t : Fin cfg0.N, win0_6.index t = ![0, t.val / 8] := (by decide +kernel : ∀ t : Fin grid0.N, _)
theorem ix7 : ∀ t : Fin cfg0.N, win0_7.index t = ![0, t.val / 8] := (by decide +kernel : ∀ t : Fin grid0.N, _)

theorem up_at {n0 n1 : ℕ} (φ : FTy) (f : ℕ → ℕ → ℝ) (i : (⟨2, ![n0, n1]⟩ : Shape).Idx) (a b : ℕ) (ha : (i 0).val = a) (hb : (i 1).val = b) :
    up ⟨2, ![n0, n1]⟩ φ f i = ((f a b : ℝ) : EReal) := by
  rw [← ha, ← hb]; rfl

variable {m x}

theorem Arrays.b0 {c : Dev nD} (A : Arrays m x c) (t : Fin cfg0.N) : iblk m c 0 t = up S256x128 .f32 (qB x (256 * (t.val % 8)) (t.val / 8)) := by
  funext y
  blk_simp [iblk]
  refine (congrFun A.a0 _).trans ?_
  refine up_at .f32 x.q _ _ _ ?_ ?_ <;> blk_simp [ix0] <;> ring_nf <;> rfl
theorem Arrays.b1 {c : Dev nD} (A : Arrays m x c) (t : Fin cfg0.N) : iblk m c 1 t = up S2048x128 .f32 (fun s l => x.k s (128 * (t.val / 8) + l)) := by
  funext y
  blk_simp [iblk]
  refine (congrFun A.a1 _).trans ?_
  refine up_at .f32 x.k _ _ _ ?_ ?_ <;> blk_simp [ix1] <;> ring_nf <;> rfl
theorem Arrays.b2 {c : Dev nD} (A : Arrays m x c) (t : Fin cfg0.N) : iblk m c 2 t = up S2048x128 .f32 (fun s l => x.v s (128 * (t.val / 8) + l)) := by
  funext y
  blk_simp [iblk]
  refine (congrFun A.a2 _).trans ?_
  refine up_at .f32 x.v _ _ _ ?_ ?_ <;> blk_simp [ix2] <;> ring_nf <;> rfl
theorem Arrays.b4 {c : Dev nD} (A : Arrays m x c) (t : Fin cfg0.N) : iblk m c 4 t = up S256x128 .f32 (dB x (256 * (t.val % 8)) (t.val / 8)) := by
  funext y
  blk_simp [iblk]
  refine (congrFun A.a4 _).trans ?_
  refine up_at .f32 x.d _ _ _ ?_ ?_ <;> blk_simp [ix4] <;> ring_nf <;> rfl
theorem Arrays.b3 {c : Dev nD} (A : Arrays m x c) (t : Fin cfg0.N) : iblk m c 3 t = up S256x256 .f32 (totF x (256 * (t.val % 8)) (t.val / 8)) := by
  funext y
  blk_simp [iblk]
  refine (congrFun A.a3 _).trans ?_
  refine (up_at .f32 _ _ (256 * (t.val % 8) + (y 0).val) (256 * (t.val / 8) + (y 1).val) ?_ ?_).trans ?_
  · blk_simp [ix3] <;> ring_nf
  · blk_simp [ix3] <;> ring_nf
  · refine (congrArg (fun h => ((TOT x h (256 * (t.val % 8) + (y 0).val) : ℝ) : EReal)) ?_).trans (up_at .f32 (totF x (256 * (t.val % 8)) (t.val / 8)) y _ _ rfl rfl).symm
    omega

theorem Arrays.blocks {c : Dev nD} (A : Arrays m x c) : Blocks m x c := ⟨A.b0, A.b1, A.b2, A.b3, A.b4⟩

/-- The query's gradient, written back at every point. -/
theorem final5 {c : Dev nD} (A : Arrays m x c) : (dats m 0 c).arrAt 5 cfg0.N = up S2048x512 .f32 (RQ x) := by
  refine (dats m 0 c).arrAt_eq_of_covers 5 _ (by decide +kernel) fun t hf y => ?_
  blk_simp
  rw [after5, outs_after A.blocks t.val t.isLt]
  refine Eq.trans ?_ (up_at .f32 (RQ x) _ (256 * (t.val % 8) + (y 0).val) (128 * (t.val / 8) + (y 1).val) ?_ ?_).symm
  · have h0 : (y 0).val < 256 := (y 0).isLt
    rw [← dq_total x (256 * (t.val % 8)) (t.val / 8) (y 0).val (y 1).val (by omega) h0]
    rfl
  · blk_simp [ix5] <;> ring_nf
  · blk_simp [ix5] <;> ring_nf

/-- The key's gradient, written back at the last point of each head pair. -/
theorem final6 {c : Dev nD} (A : Arrays m x c) : (dats m 0 c).arrAt 6 cfg0.N = up S2048x512 .f32 (RK x) := by
  refine (dats m 0 c).arrAt_eq_of_covers 6 _ (by decide +kernel) fun t hf y => ?_
  have h7 : t.val % 8 = 7 := (flush0_6 t).1 hf
  blk_simp
  rw [after6, outs_after A.blocks t.val t.isLt]
  refine Eq.trans ?_ (up_at .f32 (RK x) _ ((y 0).val) (128 * (t.val / 8) + (y 1).val) ?_ ?_).symm
  · rw [← dk_total]
    unfold after
    rw [h7]
    rfl
  · blk_simp [ix6] <;> ring_nf
  · blk_simp [ix6] <;> ring_nf

/-- The value's gradient, written back at the last point of each head pair. -/
theorem final7 {c : Dev nD} (A : Arrays m x c) : (dats m 0 c).arrAt 7 cfg0.N = up S2048x512 .f32 (RV x) := by
  refine (dats m 0 c).arrAt_eq_of_covers 7 _ (by decide +kernel) fun t hf y => ?_
  have h7 : t.val % 8 = 7 := (flush0_7 t).1 hf
  blk_simp
  rw [after7, outs_after A.blocks t.val t.isLt]
  refine Eq.trans ?_ (up_at .f32 (RV x) _ ((y 0).val) (128 * (t.val / 8) + (y 1).val) ?_ ?_).symm
  · rw [← dv_total]
    unfold after
    rw [h7]
    rfl
  · blk_simp [ix7] <;> ring_nf
  · blk_simp [ix7] <;> ring_nf

end Cert.Proof.Sb

end
-- ==== Proof.HostReal.lean ====
/-
  The host's operations on real numbers: the arithmetic of one element, the softplus function, and the
  running sums of the last axis of a cube.
-/
module

public import proofs.«01_k».proof.Proof.Grid

@[expose] public section

set_option maxRecDepth 16384

noncomputable section

namespace Cert.Proof.Sb

open Idealize.ShloMosaic

/-- A real number as an element. -/
def rl (a : ℝ) : Ideal .f32 := (a : EReal)

theorem r_neg (a : ℝ) : FloatOps.hostNegf (rl a) = rl (-a) := rfl
theorem r_add (a b : ℝ) : FloatOps.addf (rl a) (rl b) = rl (a + b) := (EReal.coe_add a b).symm
theorem r_sub (a b : ℝ) : FloatOps.subf (rl a) (rl b) = rl (a - b) := (EReal.coe_sub a b).symm
theorem r_mul (a b : ℝ) : FloatOps.mulf (rl a) (rl b) = rl (a * b) := (EReal.coe_mul a b).symm
theorem r_max (a b : ℝ) : FloatOps.maximumf (rl a) (rl b) = rl (max a b) := (EReal.coe_strictMono.monotone.map_max (a := a) (b := b)).symm
theorem r_abs (a : ℝ) : FloatOps.hostAbsf (rl a) = rl |a| := by
  have h : max (a : EReal) (-(a : EReal)) = ((|a| : ℝ) : EReal) := by
    rw [← EReal.coe_neg, abs_eq_max_neg]; exact (EReal.coe_strictMono.monotone.map_max).symm
  exact h
theorem r_exp (a : ℝ) : FloatOps.hostUnary .exp (rl a) = rl (Real.exp a) := rfl
theorem r_log1p (a : ℝ) : FloatOps.hostUnary .log1p (rl (Real.exp a)) = rl (Real.log (1 + Real.exp a)) := by
  have h : Ideal.log ((1 + Real.exp a : ℝ) : EReal) = ((Real.log (1 + Real.exp a) : ℝ) : EReal) := if_neg (not_le.2 (by positivity))
  have e : ((1 + Real.exp a : ℝ) : EReal) = 1 + ((Real.exp a : ℝ) : EReal) := by rw [EReal.coe_add, EReal.coe_one]
  rw [e] at h
  exact h
theorem r_une (a : ℝ) : FloatOps.cmpf .une (rl a) (rl a) = 0#1 := by
  have h : BitVec.ofBool (decide ((a : EReal) ≠ (a : EReal))) = 0#1 := by simp
  exact h
theorem r_inf : (FloatOps.ofBits .f32 0x7F800000#32 : Ideal .f32) = (⊤ : EReal) := by
  have h : Ideal.ofBits .f32 0x7F800000#32 = (⊤ : EReal) := by simp [Ideal.ofBits, Ideal.ieee]
  exact h
theorem r_oeq (a : ℝ) : FloatOps.cmpf .oeq (rl a) (FloatOps.ofBits .f32 0x7F800000#32) = 0#1 := by
  rw [r_inf]
  have h : BitVec.ofBool (decide ((a : EReal) = (⊤ : EReal))) = 0#1 := by simp
  exact h
theorem r_0 : (FloatOps.ofBits .f32 0x00000000#32 : Ideal .f32) = rl 0 := by
  have h : Ideal.ofBits .f32 0x00000000#32 = ((0 : ℝ) : EReal) := by simp [Ideal.ofBits, Ideal.ieee]
  exact h
theorem r_8 : (FloatOps.ofBits .f32 0x3E000000#32 : Ideal .f32) = rl (1 / 8) := by
  have h : Ideal.ofBits .f32 0x3E000000#32 = ((1 / 8 : ℝ) : EReal) := by
    simp [Ideal.ofBits, Ideal.ieee]
    rw [← EReal.coe_mul]
    norm_num
  exact h
theorem s_0 {α : Type} (a b : α) : Scalar.select 0#1 a b = b := rfl
theorem s_if (c : Bool) (a b : ℝ) : Scalar.select (BitVec.ofBool c) (rl a) (rl b) = rl (if c then a else b) := by
  cases c <;> rfl

theorem rl_sum {ι : Type} (A : Finset ι) (f : ι → ℝ) : ∑ k ∈ A, rl (f k) = rl (∑ k ∈ A, f k) := (coe_sum A f).symm
theorem fin_sum {n : ℕ} (A : Fin n → Ideal .f32) (f : ℕ → ℝ) (hA : ∀ k, A k = rl (f k.val)) :
    ∑ k, A k = rl (∑ k ∈ Finset.range n, f k) := by
  rw [← Fin.sum_univ_eq_sum_range, ← rl_sum]
  exact Finset.sum_congr rfl fun k _ => hA k
theorem dot_sum {n : ℕ} (A B : Fin n → Ideal .f32) (f g : ℕ → ℝ) (hA : ∀ k, A k = rl (f k.val)) (hB : ∀ k, B k = rl (g k.val)) :
    ∑ k, A k * B k = rl (∑ k ∈ Finset.range n, f k * g k) :=
  fin_sum _ (fun k => f k * g k) fun k => by rw [hA, hB]; exact r_mul _ _

/-- The logarithm of one plus the exponential, as it is computed. -/
def sp (a : ℝ) : ℝ := max a 0 + Real.log (1 + Real.exp (-|a - 0|))

theorem slt_big (m n : ℕ) (hm : m < 2048) (hn : n < 2048) :
    IntOp.cmpi .slt (BitVec.ofNat 32 m) (BitVec.ofNat 32 n) = BitVec.ofBool (decide (m < n)) := by
  have h : (BitVec.ofNat 32 m).slt (BitVec.ofNat 32 n) = decide (m < n) := by
    rw [BitVec.slt_eq_decide, BitVec.toInt_eq_toNat_of_lt (by simp; omega), BitVec.toInt_eq_toNat_of_lt (by simp; omega)]
    simp [Nat.mod_eq_of_lt (show m < 4294967296 by omega), Nat.mod_eq_of_lt (show n < 4294967296 by omega)]
  exact congrArg BitVec.ofBool h

/-! ## Running sums -/

/-- The cube of 8 squares. -/
abbrev Cube : Shape := ⟨3, ![8, 2048, 2048]⟩
/-- One row of it, the window of a running sum. -/
abbrev Row : Shape := ⟨3, ![1, 1, 2048]⟩

theorem foldl_sum {ι : Type} (f : ι → EReal) : ∀ (l : List ι) (a : EReal), l.foldl (fun r n => r + f n) a = a + (l.map f).sum
  | [], a => (add_zero a).symm
  | b :: l, a => by rw [List.foldl_cons, foldl_sum f l, List.map_cons, List.sum_cons, add_assoc]

/-- The row's index at place `n`. -/
def rowIx (n : Fin 2048) : Row.Idx := ValueIdx.ix3 (0 : Fin 1) (0 : Fin 1) n

theorem rowIx_bij : Function.Bijective rowIx := by
  refine ⟨fun a b h => congrFun h 2, fun i => ⟨i 2, funext fun a => ?_⟩⟩
  match a with
  | ⟨0, _⟩ => exact Subsingleton.elim (α := Fin 1) _ _
  | ⟨1, _⟩ => exact Subsingleton.elim (α := Fin 1) _ _
  | ⟨2, _⟩ => rfl

theorem row_sum (f : Row.Idx → EReal) : ((List.finRange Row.numel).map fun n => f (Row.rowMajor.symm n)).sum = ∑ n : Fin 2048, f (rowIx n) := by
  rw [← List.ofFn_eq_map, List.sum_ofFn, Equiv.sum_comp Row.rowMajor.symm f]
  exact (Function.Bijective.sum_comp rowIx_bij f).symm

/-- The element at place `p` of the window that ends, or begins, at `i`; `v` off the cube. -/
def winAt (lo : ℕ) (x : FVec Ideal Cube .f32) (v : EReal) (i : Cube.Idx) (p : Row.Idx) : EReal :=
  if hin : ∀ a : Fin 3, (![0, 0, lo] : Fin 3 → ℕ) a ≤ (i a).val * (![1, 1, 1] : Fin 3 → ℕ) a + (p a).val
      ∧ (i a).val * (![1, 1, 1] : Fin 3 → ℕ) a + (p a).val - (![0, 0, lo] : Fin 3 → ℕ) a < Cube.size a then
    x (fun a => ⟨(i a).val * (![1, 1, 1] : Fin 3 → ℕ) a + (p a).val - (![0, 0, lo] : Fin 3 → ℕ) a, (hin a).2⟩) else v

theorem window_sum (lo hi : ℕ) (x : FVec Ideal Cube .f32) (f : ℕ → ℕ → ℕ → ℝ) (hx : ∀ i, x i = rl (f (i 0).val (i 1).val (i 2).val))
    {u : Shape} (init : FVec Ideal u .f32) (h : Cube.ReduceWindows (![1, 1, 2048] : Fin 3 → ℕ) ![1, 1, 1] ![0, 0, lo] ![0, 0, hi] Cube)
    (hu : 0 < u.numel) (hv : ∀ i, init i = rl 0) (i : Cube.Idx) :
    Host.reduceWindowAdd ![1, 1, 2048] ![1, 1, 1] ![0, 0, lo] ![0, 0, hi] x init h hu i
      = rl (∑ n ∈ Finset.range 2048, if lo ≤ (i 2).val + n ∧ (i 2).val + n - lo < 2048 then f (i 0).val (i 1).val ((i 2).val + n - lo) else 0) := by
  have h0 : (i 0).val < 8 := (i 0).isLt
  have h1 : (i 1).val < 2048 := (i 1).isLt
  rw [← fin_sum (n := 2048) (fun n => if hin : lo ≤ (i 2).val + n.val ∧ (i 2).val + n.val - lo < 2048 then
      x (ValueIdx.ix3 (i 0) (i 1) (⟨(i 2).val + n.val - lo, hin.2⟩ : Fin 2048)) else rl 0)]
  · unfold Host.reduceWindowAdd
    rw [Ideal.hostReduceWindowAdd_def]
    unfold Ideal.hostReduceWindowAdd Host.reduceWindow
    dsimp only
    refine (foldl_sum _ _ _).trans ?_
    rw [hv]
    refine (zero_add _).trans ((congrArg List.sum (List.map_congr_left fun n _ =>
      (dite_congr rfl (fun _ => rfl) fun _ => rfl : _ = winAt lo x (rl 0) i (Row.rowMajor.symm n)))).trans ?_)
    refine ((row_sum (winAt lo x (rl 0) i)).trans (Finset.sum_congr rfl fun n _ => ?_))
    unfold winAt
    by_cases hin : lo ≤ (i 2).val + n.val ∧ (i 2).val + n.val - lo < 2048
    · refine Eq.trans ?_ (dif_pos hin).symm
      refine (dif_pos fun a => ?_).trans (congrArg x (funext fun a => Fin.ext ?_))
      · match a with
        | ⟨0, _⟩ => exact ⟨Nat.zero_le _, by show (i 0).val * 1 + 0 - 0 < 8; omega⟩
        | ⟨1, _⟩ => exact ⟨Nat.zero_le _, by show (i 1).val * 1 + 0 - 0 < 2048; omega⟩
        | ⟨2, _⟩ =>
          show lo ≤ (i 2).val * 1 + n.val ∧ (i 2).val * 1 + n.val - lo < 2048
          rw [Nat.mul_one]; exact hin
      · match a with
        | ⟨0, _⟩ => show (i 0).val * 1 + 0 - 0 = (i 0).val; omega
        | ⟨1, _⟩ => show (i 1).val * 1 + 0 - 0 = (i 1).val; omega
        | ⟨2, _⟩ => show (i 2).val * 1 + n.val - lo = (i 2).val + n.val - lo; omega
    · refine Eq.trans ?_ (dif_neg hin).symm
      refine dif_neg fun H => hin ?_
      have h2 : lo ≤ (i 2).val * 1 + n.val ∧ (i 2).val * 1 + n.val - lo < 2048 := H 2
      rw [Nat.mul_one] at h2
      exact h2
  · intro n
    split
    · next hin => exact hx _
    · next hin => rfl

theorem prefix_real (f : ℕ → ℝ) (s : ℕ) (hs : s < 2048) :
    (∑ n ∈ Finset.range 2048, if 2047 ≤ s + n ∧ s + n - 2047 < 2048 then f (s + n - 2047) else 0) = ∑ j ∈ Finset.range (s + 1), f j := by
  rw [show (2048 : ℕ) = (2047 - s) + (s + 1) by omega, Finset.sum_range_add, Finset.sum_eq_zero, zero_add]
  · refine Finset.sum_congr rfl fun n hn => ?_
    have := Finset.mem_range.1 hn
    rw [if_pos (by omega), show s + (2047 - s + n) - 2047 = n by omega]
  · intro n hn
    have := Finset.mem_range.1 hn
    rw [if_neg (by omega)]

theorem suffix_real (f : ℕ → ℝ) (s : ℕ) (hs : s < 2048) :
    (∑ n ∈ Finset.range 2048, if 0 ≤ s + n ∧ s + n - 0 < 2048 then f (s + n - 0) else 0)
      = ∑ j ∈ Finset.range 2048, f j - ∑ j ∈ Finset.range s, f j := by
  have e : ∑ j ∈ Finset.range 2048, f j = ∑ j ∈ Finset.range s, f j + ∑ j ∈ Finset.range (2048 - s), f (s + j) := by
    rw [← Finset.sum_range_add, show s + (2048 - s) = 2048 by omega]
  rw [e, add_sub_cancel_left]
  have e2 : Finset.range 2048 = Finset.range ((2048 - s) + s) := by rw [show 2048 - s + s = 2048 by omega]
  rw [e2, Finset.sum_range_add]
  refine (add_eq_left.2 (Finset.sum_eq_zero fun n hn => ?_)).trans (Finset.sum_congr rfl fun n hn => ?_)
  · rw [if_neg (by omega)]
  · have := Finset.mem_range.1 hn
    rw [if_pos (by omega), Nat.sub_zero]

end Cert.Proof.Sb
-- ==== Proof.RefVal.lean ====
/-
  The reference's values: what each of its arrays holds, as a real number, over arguments that hold real numbers.
-/
module

public import proofs.«01_k».proof.Proof.HostReal
public import proofs.«01_k».proof.Proof.Final
public import proofs.«01_k».proof.Proof.Gen.ReferenceIdeal.Read

@[expose] public section

set_option maxRecDepth 16384

noncomputable section

namespace Cert.Proof.Sb

open Cert.ReferenceIdeal Cert.ReferenceIdeal.Gen Cert.ReferenceIdeal.Read
open Idealize.ShloMosaic

variable (x : In)

/-- An argument. -/
abbrev U (f : ℕ → ℕ → ℝ) : FVec Ideal S2048x512 .f32 := up S2048x512 .f32 f

theorem U_at (f : ℕ → ℕ → ℝ) (i : S2048x512.Idx) (a b : ℕ) (ha : (i 0).val = a) (hb : (i 1).val = b) : U f i = rl (f a b) := by
  subst ha; subst hb; rfl

theorem head_at (f : ℕ → ℕ → ℝ) (i : S2048x8x64.Idx) (j : S2048x512.Idx) (h0 : (j 0).val = (((i 0).val * 8 + (i 1).val) * 64 + (i 2).val) / 512)
    (h1 : (j 1).val = (((i 0).val * 8 + (i 1).val) * 64 + (i 2).val) % 512) :
    U f j = rl (f (i 0).val (64 * (i 1).val + (i 2).val)) := by
  have a1 : (i 1).val < 8 := (i 1).isLt
  have a2 : (i 2).val < 64 := (i 2).isLt
  exact U_at f j _ _ (by omega) (by omega)

theorem v0_at (f : ℕ → ℕ → ℝ) (i : S2048x8x64.Idx) : val_main_v0 (F := Ideal) (U f) i = rl (f (i 0).val (64 * (i 1).val + (i 2).val)) := by
  rw [val_main_v0_apply]; exact head_at f i _ rfl rfl
theorem v1_at (f : ℕ → ℕ → ℝ) (i : S2048x8x64.Idx) : val_main_v1 (F := Ideal) (U f) i = rl (f (i 0).val (64 * (i 1).val + (i 2).val)) := by
  rw [val_main_v1_apply]; exact head_at f i _ rfl rfl
theorem v2_at (f : ℕ → ℕ → ℝ) (i : S2048x8x64.Idx) : val_main_v2 (F := Ideal) (U f) i = rl (f (i 0).val (64 * (i 1).val + (i 2).val)) := by
  rw [val_main_v2_apply]; exact head_at f i _ rfl rfl
theorem v26_at (f : ℕ → ℕ → ℝ) (i : S8x64x2048.Idx) : val_main_v26 (F := Ideal) (U f) i = rl (f (i 2).val (64 * (i 0).val + (i 1).val)) := by
  rw [val_main_v26_apply, val_main_v25_apply]; exact head_at f (idx_main_v26 i) _ rfl rfl

theorem v5_at (i : S8x2048x2048.Idx) : val_main_v5 (F := Ideal) (U x.q) (U x.k) i = rl (Z x (i 0).val (i 1).val (i 2).val) := by
  rw [val_main_v5_apply, val_main_v3_apply, val_main_v4_apply, val_main_cst_apply, r_8,
    dot_sum _ _ (fun j => x.q (i 1).val (64 * (i 0).val + j)) (fun j => x.k (i 2).val (64 * (i 0).val + j)) (fun j => v0_at _ _) (fun j => v1_at _ _), r_mul]
  congr 1
  unfold Z
  rw [Finset.sum_mul]
  exact Finset.sum_congr rfl fun j _ => by ring

theorem mask_at (i : S2048x2048.Idx) : val_main_v12 (F := Ideal) i = BitVec.ofBool (decide ((i 1).val < (i 0).val)) := by
  rw [val_main_v12_apply, val_main_v10_apply, val_main_v11_apply, val_main_v7_apply, val_main_v9_apply, val_main_v6_apply, val_main_v8_apply]
  exact slt_big _ _ (i 1).isLt (i 0).isLt
theorem m16_at (i : S8x2048x2048.Idx) : val_main_v16_1 (F := Ideal) i = BitVec.ofBool (decide ((i 2).val < (i 1).val)) := by
  rw [val_main_v16_1_apply]; exact mask_at _
theorem m21_at (i : S8x2048x2048.Idx) : val_main_v21_1 (F := Ideal) i = BitVec.ofBool (decide ((i 2).val < (i 1).val)) := by
  rw [val_main_v21_1_apply]; exact mask_at _

/-! ## The logarithms of the logistic, and their derivatives -/

theorem soft0 (x0 x1 : FVec Ideal S2048x512 .f32) (i : S8x2048x2048.Idx) (z : ℝ) (h : val_main_v5 (F := Ideal) x0 x1 i = rl z) :
    val_main_call0_v1_0 (F := Ideal) x0 x1 i = rl (sp (-z)) := by
  unfold sp
  simp only [val_main_call0_v0_apply, val_main_call0_call0_cst_apply, val_main_call0_call0_v0_apply, val_main_call0_call0_v1_apply, val_main_call0_call0_v2_apply, val_main_call0_call0_v3_apply, val_main_call0_call0_v4_apply, val_main_call0_call0_v5_apply, val_main_call0_call0_v6_apply, val_main_call0_call0_v7_apply, val_main_call0_call0_v8_apply, val_main_call0_call0_v9_apply, val_main_call0_call0_v10_apply, val_main_call0_call0_v11_apply, val_main_call0_v1_0_apply, val_main_call0_call0_cst_0_apply, val_main_call0_call0_v13_apply, val_main_call0_call0_v14_apply, val_main_call0_call0_cst_1_apply, val_main_call0_call0_v15_apply, val_main_call0_call0_v16_apply, val_main_call0_call0_cst_2_apply, val_main_call0_call0_v17_apply, val_main_call0_call0_v18_apply, val_main_call0_call0_cst_3_apply, val_main_call0_call0_v19_apply, val_main_call0_call0_v20_apply, val_main_call0_call0_v21_apply, val_main_call0_call0_cst_4_apply, val_main_call0_call0_cst_5_apply, val_main_call0_call0_v23_apply, val_main_call0_call0_cst_6_apply, val_main_call0_call0_cst_7_apply, val_main_call0_call0_v24_apply, val_main_call0_call0_cst_8_apply, val_main_call0_call0_v25_apply, val_main_call0_call0_v26_apply, val_main_call0_call0_cst_9_apply, val_main_call0_call0_v27_apply, val_main_call0_call0_v28_apply, val_main_call0_call0_v29_apply, val_main_call0_call0_v30_apply, val_main_call0_call0_v31_apply, val_main_call0_call0_cst_10_apply, val_main_call0_call0_v32_apply, h, r_neg, r_add, r_sub, r_mul, r_max, r_abs, r_exp, r_log1p, r_une, r_oeq, r_0, s_0]
theorem v13_1_at (x0 x1 : FVec Ideal S2048x512 .f32) (i : S8x2048x2048.Idx) (z : ℝ) (h : val_main_v5 (F := Ideal) x0 x1 i = rl z) :
    val_main_v13_1 (F := Ideal) x0 x1 i = rl (Real.exp (-z - sp (-z))) := by
  rw [val_main_v13_1_apply, val_main_call0_call0_v21_apply, val_main_call0_call0_v16_apply, val_main_call0_call0_v20_apply, val_main_call0_call0_v14_apply,
    val_main_call0_call0_v18_apply, soft0 x0 x1 i z h, val_main_call0_v0_apply]
  simp only [val_main_call0_call0_v13_apply, val_main_call0_call0_v17_apply, val_main_call0_call0_cst_0_apply, val_main_call0_call0_cst_2_apply, h, r_neg, r_add, r_sub, r_mul, r_max, r_abs, r_exp, r_log1p, r_une, r_oeq, r_0, s_0]
theorem v13_0_at (x0 x1 : FVec Ideal S2048x512 .f32) (i : S8x2048x2048.Idx) (z : ℝ) (h : val_main_v5 (F := Ideal) x0 x1 i = rl z) :
    val_main_v13_0 (F := Ideal) x0 x1 i = rl (-sp (-z)) := by
  rw [val_main_v13_0_apply, soft0 x0 x1 i z h, r_neg]

theorem soft1 (x0 x1 : FVec Ideal S2048x512 .f32) (i : S8x2048x2048.Idx) (z : ℝ) (h : val_main_v5 (F := Ideal) x0 x1 i = rl z) :
    val_main_call1_v1_0 (F := Ideal) x0 x1 i = rl (sp (- -z)) := by
  unfold sp
  simp only [val_main_v14_apply, val_main_call1_v0_apply, val_main_call1_call0_cst_apply, val_main_call1_call0_v0_apply, val_main_call1_call0_v1_apply, val_main_call1_call0_v2_apply, val_main_call1_call0_v3_apply, val_main_call1_call0_v4_apply, val_main_call1_call0_v5_apply, val_main_call1_call0_v6_apply, val_main_call1_call0_v7_apply, val_main_call1_call0_v8_apply, val_main_call1_call0_v9_apply, val_main_call1_call0_v10_apply, val_main_call1_call0_v11_apply, val_main_call1_v1_0_apply, val_main_call1_call0_cst_0_apply, val_main_call1_call0_v13_apply, val_main_call1_call0_v14_apply, val_main_call1_call0_cst_1_apply, val_main_call1_call0_v15_apply, val_main_call1_call0_v16_apply, val_main_call1_call0_cst_2_apply, val_main_call1_call0_v17_apply, val_main_call1_call0_v18_apply, val_main_call1_call0_cst_3_apply, val_main_call1_call0_v19_apply, val_main_call1_call0_v20_apply, val_main_call1_call0_v21_apply, val_main_call1_call0_cst_4_apply, val_main_call1_call0_cst_5_apply, val_main_call1_call0_v23_apply, val_main_call1_call0_cst_6_apply, val_main_call1_call0_cst_7_apply, val_main_call1_call0_v24_apply, val_main_call1_call0_cst_8_apply, val_main_call1_call0_v25_apply, val_main_call1_call0_v26_apply, val_main_call1_call0_cst_9_apply, val_main_call1_call0_v27_apply, val_main_call1_call0_v28_apply, val_main_call1_call0_v29_apply, val_main_call1_call0_v30_apply, val_main_call1_call0_v31_apply, val_main_call1_call0_cst_10_apply, val_main_call1_call0_v32_apply, h, r_neg, r_add, r_sub, r_mul, r_max, r_abs, r_exp, r_log1p, r_une, r_oeq, r_0, s_0]
theorem v15_1_at (x0 x1 : FVec Ideal S2048x512 .f32) (i : S8x2048x2048.Idx) (z : ℝ) (h : val_main_v5 (F := Ideal) x0 x1 i = rl z) :
    val_main_v15_1 (F := Ideal) x0 x1 i = rl (Real.exp (- -z - sp (- -z))) := by
  rw [val_main_v15_1_apply, val_main_call1_call0_v21_apply, val_main_call1_call0_v16_apply, val_main_call1_call0_v20_apply, val_main_call1_call0_v14_apply,
    val_main_call1_call0_v18_apply, soft1 x0 x1 i z h, val_main_call1_v0_apply]
  simp only [val_main_v14_apply, val_main_call1_call0_v13_apply, val_main_call1_call0_v17_apply, val_main_call1_call0_cst_0_apply, val_main_call1_call0_cst_2_apply, h, r_neg, r_add, r_sub, r_mul, r_max, r_abs, r_exp, r_log1p, r_une, r_oeq, r_0, s_0]
theorem v15_0_at (x0 x1 : FVec Ideal S2048x512 .f32) (i : S8x2048x2048.Idx) (z : ℝ) (h : val_main_v5 (F := Ideal) x0 x1 i = rl z) :
    val_main_v15_0 (F := Ideal) x0 x1 i = rl (-sp (- -z)) := by
  rw [val_main_v15_0_apply, soft1 x0 x1 i z h, r_neg]

theorem sp_neg (z : ℝ) : -sp (-z) = min z 0 - Real.log (1 + Real.exp (0 - |z|)) := by
  unfold sp
  rw [sub_zero, abs_neg, zero_sub, neg_add, ← min_neg_neg, neg_neg, neg_zero, sub_eq_add_neg]
theorem sp_pos (z : ℝ) : -sp (- -z) = min z 0 - Real.log (1 + Real.exp (0 - |z|)) - z := by
  unfold sp
  rw [neg_neg, sub_zero, zero_sub]
  rcases le_total z 0 with h | h
  · rw [max_eq_right h, min_eq_left h]; ring
  · rw [max_eq_left h, min_eq_right h]; ring

section Cubes
variable (i : S8x2048x2048.Idx)

theorem lb_at : val_main_v13_0 (F := Ideal) (U x.q) (U x.k) i = rl (LB x (i 0).val (i 1).val (i 2).val) := by
  rw [v13_0_at _ _ _ _ (v5_at x i), sp_neg]; rfl
theorem l1_at : val_main_v15_0 (F := Ideal) (U x.q) (U x.k) i = rl (L1 x (i 0).val (i 1).val (i 2).val) := by
  rw [v15_0_at _ _ _ _ (v5_at x i), sp_pos]; rfl
theorem eb_at : val_main_v15_1 (F := Ideal) (U x.q) (U x.k) i = rl (Real.exp (LB x (i 0).val (i 1).val (i 2).val)) := by
  rw [v15_1_at _ _ _ _ (v5_at x i), sub_eq_add_neg, sp_pos, neg_neg, add_sub_cancel]; rfl
theorem e1_at : val_main_v13_1 (F := Ideal) (U x.q) (U x.k) i = rl (Real.exp (L1 x (i 0).val (i 1).val (i 2).val)) := by
  rw [v13_1_at _ _ _ _ (v5_at x i), sub_eq_add_neg, sp_neg, neg_add_eq_sub]; rfl

theorem l1m_at : val_main_v16_0 (F := Ideal) (U x.q) (U x.k) i = rl (L1m x (i 0).val (i 1).val (i 2).val) := by
  rw [val_main_v16_0_apply, m16_at, l1_at, val_main_call2_v2_apply, val_main_call2_v0_apply, val_main_cst_0_apply, r_0, s_if]
  simp only [decide_eq_true_eq]
  rfl

theorem after_at : val_main_v17 (F := Ideal) (U x.q) (U x.k) i
    = rl (PRE x (i 0).val (i 1).val 2048 - PRE x (i 0).val (i 1).val (i 2).val) := by
  unfold val_main_v17
  refine (window_sum 0 2047 _ (fun h t s => L1m x h t s) (l1m_at x) _ _ _ (fun j => ?_) i).trans (congrArg rl (suffix_real _ _ (i 2).isLt))
  rw [val_main_call3_v0_apply, val_main_call3_cst_apply, r_0]

theorem PRE_full (h t : ℕ) (ht : t < 2048) : PRE x h t 2048 = TOT x h t := by
  unfold TOT PRE
  obtain ⟨d, hd⟩ : ∃ d, 2048 = t + d := ⟨2048 - t, by omega⟩
  rw [hd, Finset.sum_range_add]
  exact add_eq_left.2 (Finset.sum_eq_zero fun s _ => if_neg (by omega))

theorem PRE_succ (h t s : ℕ) : PRE x h t (s + 1) = PRE x h t s + L1m x h t s := Finset.sum_range_succ _ _

theorem v20_at : val_main_v20 (F := Ideal) (U x.q) (U x.k) i
    = rl (Real.exp (LB x (i 0).val (i 1).val (i 2).val + (TOT x (i 0).val (i 1).val - PRE x (i 0).val (i 1).val ((i 2).val + 1)))) := by
  rw [val_main_v20_apply, val_main_v19_apply, val_main_v18_apply, lb_at, after_at, l1m_at, r_sub, r_add, r_exp, PRE_full x _ _ (i 1).isLt, PRE_succ, sub_sub]

theorem w_at : val_main_v21_0 (F := Ideal) (U x.q) (U x.k) i = rl (W x (i 0).val (i 1).val (i 2).val) := by
  rw [val_main_v21_0_apply, m21_at, v20_at]
  simp only [val_main_cst_1_apply, val_main_call4_v0_apply, val_main_call4_v2_apply, val_main_call4_cst_apply, r_0, s_if, decide_eq_true_eq]
  rfl

theorem dw_at : val_main_v27 (F := Ideal) (U x.v) (U x.d) i = rl (DW x (i 0).val (i 1).val (i 2).val) := by
  rw [val_main_v27_apply,
    dot_sum _ _ (fun j => x.d (i 1).val (64 * (i 0).val + j)) (fun j => x.v (i 2).val (64 * (i 0).val + j)) (fun j => v26_at _ _) (fun j => v2_at _ _)]
  rfl

theorem e_at : val_main_v31 (F := Ideal) (U x.q) (U x.k) (U x.v) (U x.d) i = rl (E x (i 0).val (i 1).val (i 2).val) := by
  rw [val_main_v31_apply, val_main_v30_apply, m21_at, dw_at, v20_at, val_main_call5_v0_apply, val_main_call5_cst_apply, r_0, s_if, r_mul]
  congr 1
  unfold E W
  simp only [decide_eq_true_eq]
  split
  · rw [mul_comm]
  · rw [zero_mul, zero_mul]

theorem cde_at : val_main_v33 (F := Ideal) (U x.q) (U x.k) (U x.v) (U x.d) i = rl (CDE x (i 0).val (i 1).val ((i 2).val + 1)) := by
  unfold val_main_v33
  refine (window_sum 2047 0 _ (fun h t s => E x h t s) (e_at x) _ _ _ (fun j => ?_) i).trans (congrArg rl (prefix_real _ _ (i 2).isLt))
  rw [val_main_call6_v0_apply, val_main_call6_cst_apply, r_0]

theorem dz_at : val_main_v39 (F := Ideal) (U x.q) (U x.k) (U x.v) (U x.d) i = rl (DZ x (i 0).val (i 1).val (i 2).val) := by
  rw [val_main_v39_apply, val_main_v37_apply, val_main_v38_apply, val_main_v36_apply, val_main_call8_v1_apply, val_main_call8_v0_apply, val_main_call9_v1_apply,
    val_main_call9_v0_apply, val_main_v35_apply, val_main_v34_apply, val_main_v32_apply, m16_at, e_at, cde_at, e1_at, eb_at]
  simp only [val_main_call7_cst_apply, val_main_call7_v0_apply, r_0, r_neg, r_add, r_mul, s_if, decide_eq_true_eq]
  congr 1
  have e : CDE x (i 0).val (i 1).val ((i 2).val + 1) = CDE x (i 0).val (i 1).val (i 2).val + E x (i 0).val (i 1).val (i 2).val := Finset.sum_range_succ _ _
  rw [e]
  unfold DZ
  split
  · ring
  · next hn =>
    have e0 : E x (i 0).val (i 1).val (i 2).val = 0 := by unfold E W; rw [if_neg hn, zero_mul]
    rw [e0]; ring

theorem dzs_at : val_main_v41 (F := Ideal) (U x.q) (U x.k) (U x.v) (U x.d) i = rl (DZ x (i 0).val (i 1).val (i 2).val * (1 / 8)) := by
  rw [val_main_v41_apply, dz_at, val_main_v40_apply, val_main_cst_2_apply, r_8, r_mul]

end Cubes

/-! ## The three results -/

theorem v44_at (i : S8x2048x64.Idx) : val_main_v44 (F := Ideal) (U x.q) (U x.k) (U x.v) (U x.d) i
    = rl (∑ s ∈ Finset.range 2048, DZ x (i 0).val (i 1).val s * (1 / 8) * x.k s (64 * (i 0).val + (i 2).val)) := by
  rw [val_main_v44_apply]
  exact dot_sum _ _ (fun s => DZ x (i 0).val (i 1).val s * (1 / 8)) (fun s => x.k s (64 * (i 0).val + (i 2).val)) (fun s => dzs_at x _) (fun s => v1_at _ _)

theorem v42_at (i : S8x2048x64.Idx) : val_main_v42 (F := Ideal) (U x.q) (U x.k) (U x.v) (U x.d) i
    = rl (∑ t ∈ Finset.range 2048, DZ x (i 0).val t (i 1).val * (1 / 8) * x.q t (64 * (i 0).val + (i 2).val)) := by
  rw [val_main_v42_apply]
  exact dot_sum _ _ (fun t => DZ x (i 0).val t (i 1).val * (1 / 8)) (fun t => x.q t (64 * (i 0).val + (i 2).val)) (fun s => dzs_at x _) (fun s => v0_at _ _)

theorem v28_at (i : S8x64x2048.Idx) : val_main_v28 (F := Ideal) (U x.q) (U x.k) (U x.d) i
    = rl (∑ t ∈ Finset.range 2048, x.d t (64 * (i 0).val + (i 1).val) * W x (i 0).val t (i 2).val) := by
  rw [val_main_v28_apply]
  exact dot_sum _ _ (fun t => x.d t (64 * (i 0).val + (i 1).val)) (fun t => W x (i 0).val t (i 2).val) (fun s => v26_at _ _) (fun s => w_at x _)

section Results
variable (i : S2048x512.Idx)

theorem col_facts (i : S2048x512.Idx) : ((i 0).val * 512 + (i 1).val) / 512 = (i 0).val ∧ ((i 0).val * 512 + (i 1).val) / 64 % 8 = (i 1).val / 64
    ∧ 64 * ((i 1).val / 64) + ((i 0).val * 512 + (i 1).val) % 64 = (i 1).val := by
  have h1 : (i 1).val < 512 := (i 1).isLt
  omega

/-- The reference's query gradient. -/
theorem ref_dq : val_main_v48 (F := Ideal) (U x.q) (U x.k) (U x.v) (U x.d) = up S2048x512 .f32 (RQ x) := by
  funext i
  obtain ⟨e0, e1, e2⟩ := col_facts i
  rw [val_main_v48_apply, val_main_v45_apply, v44_at]
  show rl (∑ s ∈ Finset.range 2048, DZ x (((i 0).val * 512 + (i 1).val) / 64 % 8) (((i 0).val * 512 + (i 1).val) / 512) s * (1 / 8)
    * x.k s (64 * (((i 0).val * 512 + (i 1).val) / 64 % 8) + ((i 0).val * 512 + (i 1).val) % 64)) = rl (RQ x (i 0).val (i 1).val)
  rw [e0, e1, e2]
  unfold RQ
  rw [Finset.sum_mul]
  congr 1
  exact Finset.sum_congr rfl fun s _ => by ring

/-- The reference's key gradient. -/
theorem ref_dk : val_main_v47 (F := Ideal) (U x.q) (U x.k) (U x.v) (U x.d) = up S2048x512 .f32 (RK x) := by
  funext i
  obtain ⟨e0, e1, e2⟩ := col_facts i
  rw [val_main_v47_apply, val_main_v43_apply, v42_at]
  show rl (∑ t ∈ Finset.range 2048, DZ x (((i 0).val * 512 + (i 1).val) / 64 % 8) t (((i 0).val * 512 + (i 1).val) / 512) * (1 / 8)
    * x.q t (64 * (((i 0).val * 512 + (i 1).val) / 64 % 8) + ((i 0).val * 512 + (i 1).val) % 64)) = rl (RK x (i 0).val (i 1).val)
  rw [e0, e1, e2]
  unfold RK
  congr 1
  exact Finset.sum_congr rfl fun s _ => by ring

/-- The reference's value gradient. -/
theorem ref_dv : val_main_v46 (F := Ideal) (U x.q) (U x.k) (U x.d) = up S2048x512 .f32 (RV x) := by
  funext i
  obtain ⟨e0, e1, e2⟩ := col_facts i
  rw [val_main_v46_apply, val_main_v29_apply, v28_at]
  show rl (∑ t ∈ Finset.range 2048, x.d t (64 * (((i 0).val * 512 + (i 1).val) / 64 % 8) + ((i 0).val * 512 + (i 1).val) % 64)
    * W x (((i 0).val * 512 + (i 1).val) / 64 % 8) t (((i 0).val * 512 + (i 1).val) / 512)) = rl (RV x (i 0).val (i 1).val)
  rw [e0, e1, e2]
  unfold RV
  congr 1
  exact Finset.sum_congr rfl fun s _ => by ring

end Results

end Cert.Proof.Sb
-- ==== Proof.Totals.lean ====
/-
  The row totals the region is given: what the host computes of the queries and keys before it.
-/
module

public import proofs.«01_k».proof.Proof.RefVal

@[expose] public section

set_option maxRecDepth 16384

noncomputable section

namespace Cert.Proof.Sb

open Cert.KernelIdeal Cert.KernelIdeal.Gen
open Idealize.ShloMosaic Idealize.ShloMosaic.TcCoe Idealize.ShloMosaic.Tactic Idealize.ShloMosaic.StableHlo

/-- The sums over the keys, by head and query. -/
def sums (x0 x1 : FVec Ideal S2048x512 .f32) : FVec Ideal S8x2048 .f32 :=
  Host.reduceAdd (Cert.ReferenceIdeal.Read.val_main_v16_0 (F := Ideal) x0 x1) (constant S_ .f32 0x00000000#32 : FVec Ideal S_ .f32) reducesTo_S8x2048x2048_S8x2048_d2 h_S_

/-- The sums laid out as the region is given them: every head's sum over 128 lanes. -/
def lanes (y : FVec Ideal S8x2048 .f32) : FVec Ideal S2048x1024 .f32 :=
  shapeCast _ (broadcastInDim S2048x8x128 ![0, 1, 2] bcast_S2048x8x1_S2048x8x128_0_1_2
    (broadcastInDim S2048x8x1 ![0, 1] bcast_S2048x8_S2048x8x1_0_1 (transpose S2048x8 [1, 0] y transposes_S8x2048_S2048x8_1_0))) shapeCasts_S2048x8x128_S2048x1024

set_option maxHeartbeats 67600000 in
theorem V_totals (m : (ℓ : Loc nD τ sig) → Buf (Elt Ideal) ℓ) (c : Dev nD) :
    V m c main_v19 = lanes (sums (m ((c : Thread nD τ).loc main_arg0)) (m ((c : Thread nD τ).loc main_arg1))) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  all_goals rfl

theorem sums_at (x : In) (i : S8x2048.Idx) : sums (U x.q) (U x.k) i = rl (TOT x (i 0).val (i 1).val) := by
  unfold sums
  rw [ValueIdx.hostReduceAdd_apply, Ideal.hostReduceAdd_r3_a2,
    fin_sum _ (fun s => L1m x (i 0).val (i 1).val s) (fun k => l1m_at x _), ← PRE_full x _ _ (i 1).isLt]
  have h : (constant S_ .f32 0x00000000#32 : FVec Ideal S_ .f32) (Shape.Idx.first h_S_) = rl 0 := r_0
  rw [h]
  exact (r_add _ _).trans (congrArg rl (zero_add _))

theorem lanes_at (y : FVec Ideal S8x2048 .f32) (j : S2048x1024.Idx) :
    lanes y j = y (ValueIdx.ix2 ⟨(j 1).val / 128, by have : (j 1).val < 1024 := (j 1).isLt; omega⟩ ⟨(j 0).val, (j 0).isLt⟩) := by
  have h0 : (j 0).val < 2048 := (j 0).isLt
  have h1 : (j 1).val < 1024 := (j 1).isLt
  unfold lanes
  rw [shapeCast_apply _ _ _ (ValueIdx.ix3 (n0 := 2048) (n1 := 8) (n2 := 128) ⟨(j 0).val, h0⟩ ⟨(j 1).val / 128, by omega⟩ ⟨(j 1).val % 128, by omega⟩) ?_]
  · rw [broadcastInDim_apply _ _ _ _ (ValueIdx.ix3 (n0 := 2048) (n1 := 8) (n2 := 1) ⟨(j 0).val, h0⟩ ⟨(j 1).val / 128, by omega⟩ 0) ?_]
    · rw [broadcastInDim_apply _ _ _ _ (ValueIdx.ix2 (n0 := 2048) (n1 := 8) ⟨(j 0).val, h0⟩ ⟨(j 1).val / 128, by omega⟩) ?_]
      · rw [transpose_apply _ _ _ _ (ValueIdx.ix2 (n0 := 8) (n1 := 2048) ⟨(j 1).val / 128, by omega⟩ ⟨(j 0).val, h0⟩) ?_]
        intro b; fin_cases b <;> rfl
      · intro a; fin_cases a <;> rfl
    · intro a; fin_cases a <;> rfl
  · rewrite [Shape.rowMajor_val_three, Shape.rowMajor_val_two]
    show ((j 0).val * 8 + (j 1).val / 128) * 128 + (j 1).val % 128 = (j 0).val * 1024 + (j 1).val
    omega

theorem totals_eq (x : In) : lanes (sums (U x.q) (U x.k)) = up S2048x1024 .f32 (fun t j => TOT x (j / 128) t) := by
  funext j
  rw [lanes_at, sums_at]
  rfl

end Cert.Proof.Sb
-- ==== Proof.Value.lean ====
/-
  The results of the kernel are the reference's: on finite arguments both are the three arrays of real numbers.
-/
module

public import proofs.«01_k».proof.Defs
public import proofs.«01_k».proof.Proof.Final
public import proofs.«01_k».proof.Proof.Totals
public import proofs.«01_k».proof.Proof.Gen.ReferenceIdeal.Run
public import proofs.«01_k».proof.Proof.Gen.Pre_finite
public import Idealize.ShloMosaic.Lib.ReduceAll
public import Idealize.ShloMosaic.Lib.Claim

@[expose] public section

set_option maxRecDepth 16384

noncomputable section

namespace Cert.Proof.Sb

open Cert.KernelIdeal Cert.KernelIdeal.Gen
open Idealize.ShloMosaic Idealize.ShloMosaic.TcCoe Idealize.SL.Sem

/-- The real numbers an array holds, by its coordinates. -/
def nums (y : FVec Ideal S2048x512 .f32) (t j : ℕ) : ℝ :=
  if h : t < 2048 ∧ j < 512 then EReal.toReal (y (ValueIdx.ix2 ⟨t, h.1⟩ ⟨j, h.2⟩)) else 0

/-- An element whose absolute value is below infinity is a real number. -/
theorem real_of_lt (a : EReal) (h : max a (-a) < ⊤) : (a.toReal : EReal) = a := by
  induction a using EReal.rec with
  | bot => simp at h
  | coe r => rfl
  | top => simp at h

theorem real_of_cmp (a : Ideal .f32) (h : FloatOps.cmpf .olt (FloatOps.hostAbsf a) (FloatOps.ofBits .f32 0x7F800000#32 : Ideal .f32) = 1#1) :
    ((EReal.toReal a : ℝ) : EReal) = a := by
  rw [r_inf] at h
  have h' : BitVec.ofBool (decide (max (a : EReal) (-(a : EReal)) < (⊤ : EReal))) = 1#1 := h
  refine real_of_lt a ?_
  by_contra hc
  rw [decide_eq_false hc] at h'
  exact absurd h' (by decide)

/-- An array of finite elements is the array of its real numbers. -/
theorem up_nums (y : FVec Ideal S2048x512 .f32)
    (h : ∀ i, FloatOps.cmpf .olt (FloatOps.hostAbsf (y i)) (FloatOps.ofBits .f32 0x7F800000#32 : Ideal .f32) = 1#1) :
    y = up S2048x512 .f32 (nums y) := by
  funext i
  have h0 : (i 0).val < 2048 := (i 0).isLt
  have h1 : (i 1).val < 512 := (i 1).isLt
  have e : nums y (i 0).val (i 1).val = EReal.toReal (y i) := by
    unfold nums
    rw [dif_pos ⟨h0, h1⟩]
    exact congrArg (fun k => EReal.toReal (y k)) (funext fun a => by fin_cases a <;> rfl)
  show y i = ((nums y (i 0).val (i 1).val : ℝ) : EReal)
  rw [e, real_of_cmp _ (h i)]

theorem one_of_and {a b : IVec S_ 1} {j : S_.Idx} (h : andi a b j = 1#1) : a j = 1#1 ∧ b j = 1#1 := IntOp.andi_eq_one.1 h

instance : Subsingleton S_.Idx := ⟨fun a b => funext fun k => k.elim0⟩

/-- What the precondition says of the four arguments. -/
theorem finite_args (a b c d : FVec Ideal S2048x512 .f32)
    (h : @Cert.Pre_finite.fn Cert.Pre_finite.Gen.facts Ideal _ a b c d = fun _ => 1#1) :
    a = up S2048x512 .f32 (nums a) ∧ b = up S2048x512 .f32 (nums b) ∧ c = up S2048x512 .f32 (nums c) ∧ d = up S2048x512 .f32 (nums d) := by
  have h := congrFun h ValueIdx.ix0
  unfold Cert.Pre_finite.fn Cert.Pre_finite.fn_part1 at h
  obtain ⟨h1, h2⟩ := one_of_and h
  obtain ⟨ha, hb⟩ := one_of_and h1
  obtain ⟨hc, hd⟩ := one_of_and h2
  exact ⟨up_nums a fun i => Host.reduce_andi_all _ _ _ _ _ ha i, up_nums b fun i => Host.reduce_andi_all _ _ _ _ _ hb i,
    up_nums c fun i => Host.reduce_andi_all _ _ _ _ _ hc i, up_nums d fun i => Host.reduce_andi_all _ _ _ _ _ hd i⟩

variable (m : (ℓ : Loc nD τ sig) → Buf (Elt Ideal) ℓ) (ρ : Dev nD → PrngReg)

/-- The real numbers of the arguments on a device. -/
def inOf (c : Dev nD) : In where
  q := nums (m ((c : Thread nD τ).loc main_arg0))
  k := nums (m ((c : Thread nD τ).loc main_arg1))
  v := nums (m ((c : Thread nD τ).loc main_arg2))
  d := nums (m ((c : Thread nD τ).loc main_arg3))

variable {m}

/-- The arguments on a device hold the real numbers. -/
structure Args (c : Dev nD) : Prop where
  q : m ((c : Thread nD τ).loc main_arg0) = U (inOf m c).q
  k : m ((c : Thread nD τ).loc main_arg1) = U (inOf m c).k
  v : m ((c : Thread nD τ).loc main_arg2) = U (inOf m c).v
  d : m ((c : Thread nD τ).loc main_arg3) = U (inOf m c).d

theorem Args.arrays {c : Dev nD} (A : Args (m := m) c) : Arrays m (inOf m c) c where
  a0 := (V_main_arg0 m c).trans A.q
  a1 := (V_main_arg1 m c).trans A.k
  a2 := (V_main_arg2 m c).trans A.v
  a3 := by rw [V_totals, A.q, A.k]; exact totals_eq _
  a4 := (V_main_arg3 m c).trans A.d

/-- The kernel's run: the results hold the gradients, the arguments are kept. -/
theorem run_kernel (A : ∀ c : Dev nD, Args (m := m) c) : θ_run (defs (F := Ideal)) (onTc (τ := τ) (main (F := Ideal))) ⟨m, fun _ => 0, ρ⟩ (fun r => ∀ c : Dev nD,
      r.2.mem ((c : Thread nD τ).loc main_v20_0) = U (RQ (inOf m c))
      ∧ r.2.mem ((c : Thread nD τ).loc main_v20_1) = U (RK (inOf m c))
      ∧ r.2.mem ((c : Thread nD τ).loc main_v20_2) = U (RV (inOf m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
    ⟨(h.1.1.out_eq c 5).trans (final5 (A c).arrays), (h.1.1.out_eq c 6).trans (final6 (A c).arrays), (h.1.1.out_eq c 7).trans (final7 (A c).arrays), (h.2.1 c)⟩)
    (Idealize.ShloMosaic.θ_run_and (run_main m ρ) (frame_main m ρ))

end Cert.Proof.Sb

namespace Cert.Proof

open Idealize.ShloMosaic Idealize.SL.Sem

/-- The kernel and the reference leave equal results on finite arguments. -/
theorem algebraic : Cert.algebraic_KernelIdeal_ReferenceIdeal_pre_finite (hPre_finite := Cert.Pre_finite.Gen.facts) := by
  intro m ρ m' ρ' hp hm
  have A : ∀ c, Sb.Args (m := m) c := fun c => by
    obtain ⟨a, b, e, d⟩ := Sb.finite_args _ _ _ _ (hp c)
    exact ⟨a, b, e, d⟩
  refine ⟨_, _, _, Sb.run_kernel ρ A, ?_⟩
  refine (θ_run Cert.ReferenceIdeal.defs _ _).mono (fun r h c => ?_) (Cert.ReferenceIdeal.Value.run (F := Ideal) m' ρ')
  obtain ⟨h0, h1, h2, hr⟩ := h c
  obtain ⟨e0, e1, e2, e3⟩ := hm c
  refine ⟨h0.trans ?_, h1.trans ?_, h2.trans ?_, hr⟩
  · rw [Cert.ReferenceIdeal.Read.val_main_v48_eq, e0, e1, e2, e3, (A c).q, (A c).k, (A c).v, (A c).d]
    exact Sb.ref_dq _
  · rw [Cert.ReferenceIdeal.Read.val_main_v47_eq, e0, e1, e2, e3, (A c).q, (A c).k, (A c).v, (A c).d]
    exact Sb.ref_dk _
  · rw [Cert.ReferenceIdeal.Read.val_main_v46_eq, e0, e1, e3, (A c).q, (A c).k, (A c).d]
    exact Sb.ref_dv _

end Cert.Proof

end
-- ==== Proof.Ffn.lean ====
/-
  Arrays read at natural-number coordinates, and a block's product read at an index: what the proofs of the
  feed-forward layers' calls share.
-/
module

public import Idealize.ShloMosaic.Lib.MatmulPlain
public import Idealize.ShloMosaic.Lib.Pointwise.Contract
public import Idealize.ShloMosaic.Lib.Pointwise.SelectCore
public import Idealize.ShloMosaic.Lib.Pipeline.ValueKit
public import Idealize.ShloMosaic.Lib.IdealHost
public import Idealize.ShloMosaic.Lib.Claim

@[expose] public section

set_option maxRecDepth 16384

noncomputable section

namespace Cert.Proof.Ffn

open Idealize.ShloMosaic Idealize.ShloMosaic.TcCoe

/-- The element of a matrix at two coordinates. -/
def at2 {n0 n1 : ℕ} (X : (⟨2, ![n0, n1]⟩ : Shape).Idx → EReal) (a b : ℕ) : EReal :=
  if h : a < n0 ∧ b < n1 then X (ValueIdx.ix2 ⟨a, h.1⟩ ⟨b, h.2⟩) else 0

/-- The element of a stack of matrices at three coordinates. -/
def at3 {n0 n1 n2 : ℕ} (X : (⟨3, ![n0, n1, n2]⟩ : Shape).Idx → EReal) (a b d : ℕ) : EReal :=
  if h : a < n0 ∧ b < n1 ∧ d < n2 then X (ValueIdx.ix3 ⟨a, h.1⟩ ⟨b, h.2.1⟩ ⟨d, h.2.2⟩) else 0

theorem at2_eq {n0 n1 : ℕ} (X : (⟨2, ![n0, n1]⟩ : Shape).Idx → EReal) (i) (a b : ℕ) (ha : (i 0).val = a) (hb : (i 1).val = b) :
    X i = at2 X a b := by
  subst ha hb
  have h0 : (i 0).val < n0 := (i 0).isLt
  have h1 : (i 1).val < n1 := (i 1).isLt
  unfold at2
  rw [dif_pos ⟨h0, h1⟩]
  exact congrArg X (funext fun a => by fin_cases a <;> rfl)

theorem at3_eq {n0 n1 n2 : ℕ} (X : (⟨3, ![n0, n1, n2]⟩ : Shape).Idx → EReal) (i) (a b d : ℕ)
    (ha : (i 0).val = a) (hb : (i 1).val = b) (hd : (i 2).val = d) : X i = at3 X a b d := by
  subst ha hb hd
  have h0 : (i 0).val < n0 := (i 0).isLt
  have h1 : (i 1).val < n1 := (i 1).isLt
  have h2 : (i 2).val < n2 := (i 2).isLt
  unfold at3
  rw [dif_pos ⟨h0, h1, h2⟩]
  exact congrArg X (funext fun a => by fin_cases a <;> rfl)

/-- A matrix made of its elements. -/
def mat (n0 n1 : ℕ) (f : ℕ → ℕ → EReal) : (⟨2, ![n0, n1]⟩ : Shape).Idx → EReal := fun i => f (i 0).val (i 1).val
/-- A stack of matrices made of its elements. -/
def stack (n0 n1 n2 : ℕ) (f : ℕ → ℕ → ℕ → EReal) : (⟨3, ![n0, n1, n2]⟩ : Shape).Idx → EReal := fun i => f (i 0).val (i 1).val (i 2).val

theorem zero32 : (Scalar.ofBits .f32 0x00000000#32 : Ideal .f32) = (0 : EReal) := by
  show Ideal.ofBits .f32 0x00000000#32 = 0
  simp [Ideal.ofBits, Ideal.ieee]

theorem zero16 : (Scalar.ofBits .bf16 0x0000#16 : Ideal .bf16) = (0 : EReal) := by
  show Ideal.ofBits .bf16 0x0000#16 = 0
  simp [Ideal.ofBits, Ideal.ieee]

theorem one32 : (Scalar.ofBits .f32 0x3F800000#32 : Ideal .f32) = (1 : EReal) := by
  show Ideal.ofBits .f32 0x3F800000#32 = 1
  simp

theorem const_zero (s : Shape) (i : s.Idx) : (constant s .f32 0x00000000#32 : FVec Ideal s .f32) i = (0 : EReal) := zero32

/-- A plain product from a zero accumulator. -/
theorem nn {M K N : ℕ} {φ ψ : FTy} (x : FVec Ideal ⟨2, ![M, K]⟩ φ) (y : FVec Ideal ⟨2, ![K, N]⟩ ψ) (i : (⟨2, ![M, N]⟩ : Shape).Idx) :
    matmul (DotDims.plain M K N) none x y (constant _ .f32 0x00000000#32) i
      = ∑ k : Fin K, (x (ValueIdx.ix2 (n0 := M) (i 0) k) * y (ValueIdx.ix2 (n1 := N) k (i 1)) : EReal) := by
  obtain ⟨r, c, rfl⟩ : ∃ a b, i = ValueIdx.ix2 a b := ⟨i 0, i 1, by funext a; match a with | ⟨0, _⟩ => rfl | ⟨1, _⟩ => rfl⟩
  refine (Ideal.matmul_plain_apply none _ _ _ r c).trans ?_
  rw [const_zero, zero_add]
  rfl

/-- A product contracting the second coordinate of both sides, from a zero accumulator. -/
theorem nt {M K N : ℕ} {φ ψ : FTy} (x : FVec Ideal ⟨2, ![M, K]⟩ φ) (y : FVec Ideal ⟨2, ![N, K]⟩ ψ) (i : (⟨2, ![M, N]⟩ : Shape).Idx) :
    matmul (DotDims.transposedRhs M K N) none x y (constant _ .f32 0x00000000#32) i
      = ∑ k : Fin K, (x (ValueIdx.ix2 (n0 := M) (i 0) k) * y (ValueIdx.ix2 (n0 := N) (i 1) k) : EReal) := by
  obtain ⟨r, c, rfl⟩ : ∃ a b, i = ValueIdx.ix2 a b := ⟨i 0, i 1, by funext a; match a with | ⟨0, _⟩ => rfl | ⟨1, _⟩ => rfl⟩
  refine (Ideal.matmul_transposedRhs_apply none _ _ _ r c).trans ?_
  rw [const_zero, zero_add]
  rfl

/-- The dimension numbers of a product that contracts the first coordinate of both sides. -/
def rows (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : ([1, 0] : List (Fin 2)).Perm (List.finRange 2)),
    (by decide : ([1, 0] : List (Fin 2)).Perm (List.finRange 2)), rfl, Nat.two_pos, fun b => by fin_cases b <;> rfl⟩

/-- A product contracting the first coordinate of both sides, from a zero accumulator. -/
theorem tn {M K N : ℕ} {φ ψ : FTy} (x : FVec Ideal ⟨2, ![K, M]⟩ φ) (y : FVec Ideal ⟨2, ![K, N]⟩ ψ) (i : (⟨2, ![M, N]⟩ : Shape).Idx) :
    matmul (rows K M N) none x y (constant _ .f32 0x00000000#32) i
      = ∑ k : Fin K, (x (ValueIdx.ix2 (n1 := M) k (i 0)) * y (ValueIdx.ix2 (n1 := N) k (i 1)) : EReal) := by
  refine (Ideal.matmul_apply₁ (rows K M N) (a := 0) rfl (K := K) rfl _ _ _ i).trans ?_
  rw [const_zero, zero_add]
  refine Finset.sum_congr rfl fun k _ => congrArg₂ (· * ·) (congrArg x ?_) (congrArg y ?_)
  all_goals
    funext a
    match a with
    | ⟨0, _⟩ => rfl
    | ⟨1, _⟩ => rfl

/-- A stack of one matrix read as the matrix. -/
theorem cast_in {n0 n1 : ℕ} {φ : FTy} (x : FVec Ideal ⟨3, ![1, n0, n1]⟩ φ) (h) (i : (⟨2, ![n0, n1]⟩ : Shape).Idx) :
    shapeCast ⟨2, ![n0, n1]⟩ x h i = x (ValueIdx.ix3 (n1 := n0) (n2 := n1) 0 (i 0) (i 1)) :=
  shapeCast_apply _ _ i _ (by
    rw [Shape.rowMajor_val_three, Shape.rowMajor_val_two]
    show ((0 * n0 + (i 0).val) * n1 + (i 1).val : ℕ) = (i 0).val * n1 + (i 1).val
    rw [zero_mul, zero_add])

/-- A matrix read as a stack of one matrix. -/
theorem cast_out {n0 n1 : ℕ} {φ : FTy} (x : FVec Ideal ⟨2, ![n0, n1]⟩ φ) (h) (i : (⟨3, ![1, n0, n1]⟩ : Shape).Idx) :
    shapeCast ⟨3, ![1, n0, n1]⟩ x h i = x (ValueIdx.ix2 (n0 := n0) (n1 := n1) (i 1) (i 2)) :=
  shapeCast_apply _ _ i _ (by
    have h0 : (i 0).val < 1 := (i 0).isLt
    rw [Shape.rowMajor_val_three, Shape.rowMajor_val_two]
    show ((i 1).val * n1 + (i 2).val : ℕ) = ((i 0).val * n0 + (i 1).val) * n1 + (i 2).val
    rw [show (i 0).val = 0 by omega, zero_mul, zero_add])

/-- Two sums of products agree when their factors do. -/
theorem dot_ext {K : ℕ} {a b x y : Fin K → EReal} (h : ∀ k, a k = x k) (h' : ∀ k, b k = y k) : ∑ k, a k * b k = ∑ k, x k * y k :=
  Finset.sum_congr rfl fun k _ => congrArg₂ (· * ·) (h k) (h' k)

/-- Two sums of products agree when their factors do, taken in the other order. -/
theorem dot_swap {K : ℕ} {a b x y : Fin K → EReal} (h : ∀ k, a k = y k) (h' : ∀ k, b k = x k) : ∑ k, a k * b k = ∑ k, x k * y k :=
  Finset.sum_congr rfl fun k _ => (mul_comm (a k) (b k)).trans (congrArg₂ (· * ·) (h' k) (h k))

/-- A product's element at a row and a column: the row of the left times the column of the right, -/
def gnn (K : ℕ) {a0 a1 b0 b1 : ℕ} (a : (⟨2, ![a0, a1]⟩ : Shape).Idx → EReal) (b : (⟨2, ![b0, b1]⟩ : Shape).Idx → EReal) (r c : ℕ) : EReal :=
  ∑ k : Fin K, at2 a r k.val * at2 b k.val c
/-- with the right transposed, -/
def gnt (K : ℕ) {a0 a1 b0 b1 : ℕ} (a : (⟨2, ![a0, a1]⟩ : Shape).Idx → EReal) (b : (⟨2, ![b0, b1]⟩ : Shape).Idx → EReal) (r c : ℕ) : EReal :=
  ∑ k : Fin K, at2 a r k.val * at2 b c k.val
/-- and with the left transposed. -/
def gtn (K : ℕ) {a0 a1 b0 b1 : ℕ} (a : (⟨2, ![a0, a1]⟩ : Shape).Idx → EReal) (b : (⟨2, ![b0, b1]⟩ : Shape).Idx → EReal) (r c : ℕ) : EReal :=
  ∑ k : Fin K, at2 a k.val r * at2 b k.val c

/-- The logistic function's denominator is not zero. -/
theorem den_ne (x : EReal) : 1 + Ideal.exp x ≠ 0 := by
  have h : 0 ≤ Ideal.exp x := by
    induction x with
    | bot => exact le_refl _
    | top => exact le_top
    | coe r => exact EReal.coe_nonneg.mpr (Real.exp_nonneg r)
  exact ne_of_gt (lt_of_lt_of_le zero_lt_one (le_add_of_nonneg_right h))

/-- A gate over the logistic function's denominator is the gate times the logistic function. -/
theorem div_den (x : EReal) : Ideal.div x (1 + Ideal.exp (0 - x)) = x * Ideal.div 1 (1 + Ideal.exp (-x)) := by
  have e : (0 : EReal) - x = -x := by rw [sub_eq_add_neg, zero_add]
  unfold Ideal.div
  rw [e, if_neg (den_ne _), if_neg (den_ne _), one_mul]

/-- Tiles of 768 columns: a payload that is a function of its row and its column in the whole is that function at the
    index it is stored at. -/
theorem tile768 {R C : ℕ} {e : EltTy} (y : (⟨2, ![R, C]⟩ : Shape).Idx) (p : ℕ) (w : (⟨2, ![R, 768]⟩ : Shape).Idx → Elt Ideal e) (V : ℕ → ℕ → Elt Ideal e)
    (h : ∀ x : (⟨2, ![R, 768]⟩ : Shape).Idx, w x = V (x 0).val (768 * p + (x 1).val)) :
    View.TileAt (Val := Elt Ideal) (S := ⟨2, ![R, C]⟩) (e := e) y ![0, 768 * p] ![R, 768] w (V (y 0).val (y 1).val) := by
  intro x hx
  have h0 : (y 0).val = 0 + (x 0).val := hx 0
  have h1 : (y 1).val = 768 * p + (x 1).val := hx 1
  rw [h x, h0, h1, zero_add]

/-- The same of a tile at any place: a payload that is a function of its row and column in the whole. -/
theorem tile {R C a b : ℕ} {e : EltTy} (y : (⟨2, ![R, C]⟩ : Shape).Idx) (p q : ℕ) (w : (⟨2, ![a, b]⟩ : Shape).Idx → Elt Ideal e) (V : ℕ → ℕ → Elt Ideal e)
    (h : ∀ x : (⟨2, ![a, b]⟩ : Shape).Idx, w x = V (p + (x 0).val) (q + (x 1).val)) :
    View.TileAt (Val := Elt Ideal) (S := ⟨2, ![R, C]⟩) (e := e) y ![p, q] ![a, b] w (V (y 0).val (y 1).val) := by
  intro x hx
  have h0 : (y 0).val = p + (x 0).val := hx 0
  have h1 : (y 1).val = q + (x 1).val := hx 1
  rw [h x, h0, h1]

/-- Columns cut out of a matrix whose elements are a function of their row and column. -/
theorem cut {M N n : ℕ} {φ : FTy} (off : ℕ) (x : FVec Ideal ⟨2, ![M, N]⟩ φ) (h) (y : (⟨2, ![M, n]⟩ : Shape).Idx) (V : ℕ → ℕ → EReal)
    (hx : ∀ i, x i = V (i 0).val (i 1).val) : extractStridedSlice ⟨2, ![M, n]⟩ ![0, off] x h y = V (y 0).val (off + (y 1).val) := by
  refine (hx _).trans (congrArg₂ V ?_ rfl)
  show 0 + (y 0).val = _
  omega

/-- Two sums agree when their terms do. -/
theorem step {a b a' b' : EReal} (h : a = a') (h' : b = b') : a + b = a' + b' := congrArg₂ (· + ·) h h'

/-- Two rows side by side, the first of them `n` long. -/
def beside (n : ℕ) (f g : ℕ → EReal) (k : ℕ) : EReal := if k < n then f k else g (k - n)

/-- A product with two rows side by side is the sum of the two products. -/
theorem sum_beside (n N T : ℕ) (hT : T = n + N) (f g h : ℕ → EReal) :
    ∑ k : Fin T, beside n f g k.val * h k.val = ∑ k : Fin n, f k.val * h k.val + ∑ k : Fin N, g k.val * h (n + k.val) := by
  subst hT
  rw [Fin.sum_univ_add]
  refine step (Finset.sum_congr rfl fun k _ => ?_) (Finset.sum_congr rfl fun k _ => ?_)
  · unfold beside
    rw [Fin.val_castAdd, if_pos k.isLt]
  · unfold beside
    rw [Fin.val_natAdd, if_neg (by omega), Nat.add_sub_cancel_left]

/-- Matrices joined along their columns, read in a row: the first beside the rest. -/
theorem cat_cons {R T n : ℕ} (j : (⟨2, ![R, T]⟩ : Shape).Idx) (x : (⟨2, ![R, n]⟩ : Shape).Idx → EReal) (q : (s : Shape) × (s.Idx → EReal))
    (xs : List ((s : Shape) × (s.Idx → EReal))) (hs) (c : ℕ) (hc) (g : ℕ → EReal)
    (h : ∀ hs' c' hc', concatenateAt ⟨2, ![R, T]⟩ 1 j (q :: xs) hs' c' hc' = g c') :
    concatenateAt ⟨2, ![R, T]⟩ 1 j (⟨⟨2, ![R, n]⟩, x⟩ :: q :: xs) hs c hc = beside n (at2 x (j 0).val) g c := by
  rw [concatenateAt_cons]
  unfold beside
  by_cases hn : c < n
  · rw [if_pos hn]
    exact (dif_pos hn).trans (at2_eq x _ _ _ rfl rfl)
  · rw [if_neg hn]
    exact (dif_neg hn).trans (h _ _ _)

/-- The last of the matrices joined. -/
theorem cat_last {R T n : ℕ} (j : (⟨2, ![R, T]⟩ : Shape).Idx) (x : (⟨2, ![R, n]⟩ : Shape).Idx → EReal) (hs) (c : ℕ) (hc) :
    concatenateAt ⟨2, ![R, T]⟩ 1 j [⟨⟨2, ![R, n]⟩, x⟩] hs c hc = at2 x (j 0).val c := by
  rw [concatenateAt_singleton]
  exact at2_eq x _ _ _ rfl rfl

/-- A sum over four groups of columns. -/
theorem sum_groups (g n N : ℕ) (hN : N = g * n) (f : ℕ → EReal) : ∑ p ∈ Finset.range g, ∑ k : Fin n, f (n * p + k.val) = ∑ j : Fin N, f j.val := by
  subst hN
  rw [Fin.sum_univ_eq_sum_range (fun j => f j)]
  induction g with
  | zero => simp
  | succ g ih =>
    rw [Finset.sum_range_succ, ih, Fin.sum_univ_eq_sum_range (fun k => f (n * g + k)), show (g + 1) * n = g * n + n by ring, Finset.sum_range_add, mul_comm n g]

end Cert.Proof.Ffn

end
-- ==== Proof.FfnMidVal.lean ====
/-
  The gradients of the feed-forward's first products: each block is the result's gradient times one shard of the second
  weight, transposed, put through the derivative of the activation.
-/
module

public import proofs.«01_k».proof.Defs
public import proofs.«01_k».proof.Proof.Ffn
public import proofs.«01_k».proof.Proof.Value
public import proofs.«01_k».proof.Proof.Gen.Pre_finite_mid
public import proofs.«01_k».proof.Proof.Gen.FfnMidIdeal.Value
public import proofs.«01_k».proof.Proof.Gen.FfnMidRefIdeal.Run
public import proofs.«01_k».proof.Proof.Gen.FfnMidRefIdeal.Read

@[expose] public section

set_option maxRecDepth 16384

noncomputable section

namespace Cert.Proof.FfnMid

open Cert.FfnMidIdeal Cert.FfnMidIdeal.Gen Cert.Proof.Ffn
open Idealize.ShloMosaic Idealize.ShloMosaic.TcCoe Idealize.SL.Sem

/-- The gradient of the activation at a row and a column, from the result's gradient and the weight's shards. -/
def D (y : S2048x1024.Idx → EReal) (w : S4x768x1024.Idx → EReal) (r c : ℕ) : EReal :=
  ∑ k : Fin 1024, at2 y r k.val * at3 w (c / 768) (c % 768) k.val

/-- The logistic function. -/
def sg (g : EReal) : EReal := Ideal.div 1 (1 + Ideal.exp (0 - g))

/-- The gate's gradient and the other factor's. -/
def dgate (d g u : EReal) : EReal := d * u * (sg g * (1 + g * (1 - sg g)))
def dup (d g : EReal) : EReal := d * (g * sg g)

def Gg (y : S2048x1024.Idx → EReal) (w : S4x768x1024.Idx → EReal) (g u : S2048x3072.Idx → EReal) : S2048x3072.Idx → EReal :=
  mat 2048 3072 fun r c => dgate (D y w r c) (at2 g r c) (at2 u r c)
def Gu (y : S2048x1024.Idx → EReal) (w : S4x768x1024.Idx → EReal) (g : S2048x3072.Idx → EReal) : S2048x3072.Idx → EReal :=
  mat 2048 3072 fun r c => dup (D y w r c) (at2 g r c)

variable (m : (ℓ : Loc nD τ sig) → Buf (Elt Ideal) ℓ) (ρ : Dev nD → PrngReg)

theorem ix0 : ∀ t : Fin cfg0.N, win0_0.index t = ![t.val % 4, 0] := (by decide +kernel : ∀ t : Fin grid0.N, _)
theorem ix1 : ∀ t : Fin cfg0.N, win0_1.index t = ![t.val / 4, 0, 0] := (by decide +kernel : ∀ t : Fin grid0.N, _)
theorem ix2 : ∀ t : Fin cfg0.N, win0_2.index t = ![t.val % 4, t.val / 4] := (by decide +kernel : ∀ t : Fin grid0.N, _)
theorem ix3 : ∀ t : Fin cfg0.N, win0_3.index t = ![t.val % 4, t.val / 4] := (by decide +kernel : ∀ t : Fin grid0.N, _)
theorem ix4 : ∀ t : Fin cfg0.N, win0_4.index t = ![t.val % 4, t.val / 4] := (by decide +kernel : ∀ t : Fin grid0.N, _)
theorem ix5 : ∀ t : Fin cfg0.N, win0_5.index t = ![t.val % 4, t.val / 4] := (by decide +kernel : ∀ t : Fin grid0.N, _)

theorem b0 (c : Dev nD) (t : Fin cfg0.N) (y : S512x1024.Idx) :
    iblk m c 0 t y = at2 (m ((c : Thread nD τ).loc main_arg0)) (512 * (t.val % 4) + (y 0).val) (y 1).val := by
  blk_simp [iblk]
  refine at2_eq _ _ _ _ ?_ ?_ <;> blk_simp [ix0] <;> ring_nf
theorem b1 (c : Dev nD) (t : Fin cfg0.N) (y : S1x768x1024.Idx) :
    iblk m c 1 t y = at3 (m ((c : Thread nD τ).loc main_arg1)) (t.val / 4) (y 1).val (y 2).val := by
  have hy : (y 0).val < 1 := (y 0).isLt
  blk_simp [iblk]
  refine at3_eq _ _ _ _ _ ?_ ?_ ?_ <;> blk_simp [ix1] <;> omega
theorem b2 (c : Dev nD) (t : Fin cfg0.N) (y : S512x768.Idx) :
    iblk m c 2 t y = at2 (m ((c : Thread nD τ).loc main_arg2)) (512 * (t.val % 4) + (y 0).val) (768 * (t.val / 4) + (y 1).val) := by
  blk_simp [iblk]
  refine at2_eq _ _ _ _ ?_ ?_ <;> blk_simp [ix2] <;> ring_nf
theorem b3 (c : Dev nD) (t : Fin cfg0.N) (y : S512x768.Idx) :
    iblk m c 3 t y = at2 (m ((c : Thread nD τ).loc main_arg3)) (512 * (t.val % 4) + (y 0).val) (768 * (t.val / 4) + (y 1).val) := by
  blk_simp [iblk]
  refine at2_eq _ _ _ _ ?_ ?_ <;> blk_simp [ix3] <;> ring_nf

/-- The block's product: the gradient's rows times the shard of the weight, transposed. -/
theorem one (c : Dev nD) (t : Fin cfg0.N) (y : S512x768.Idx) : k0_pay1 (F := Ideal) (iblk m c 0 t) (iblk m c 1 t) y
    = D (m ((c : Thread nD τ).loc main_arg0)) (m ((c : Thread nD τ).loc main_arg1)) (512 * (t.val % 4) + (y 0).val) (768 * (t.val / 4) + (y 1).val) := by
  have hy : (y 1).val < 768 := (y 1).isLt
  refine (nt (M := 512) (K := 1024) (N := 768) (φ := .bf16) (ψ := .bf16) _ _ y).trans ?_
  unfold D
  refine dot_ext (fun k => b0 m c t _) (fun k => (cast_in (n0 := 768) (n1 := 1024) (φ := .bf16) _ _ _).trans ((b1 m c t _).trans ?_))
  have e1 : t.val / 4 = (768 * (t.val / 4) + (y 1).val) / 768 := by omega
  have e2 : (y 1).val = (768 * (t.val / 4) + (y 1).val) % 768 := by omega
  show at3 _ (t.val / 4) (y 1).val k.val = _
  exact (congrArg (fun z => at3 _ z (y 1).val k.val) e1).trans (congrArg (fun z => at3 _ _ z k.val) e2)

theorem sigma_ext {g : EReal} : FloatOps.divf (φ := .f32) (F := Ideal) (Scalar.ofBits .f32 0x3F800000#32)
    (FloatOps.addf (Scalar.ofBits .f32 0x3F800000#32) (FloatOps.exp (FloatOps.subf (Scalar.ofBits .f32 0x00000000#32) g))) = sg g := by
  rw [one32, zero32]
  rfl

theorem sigma (v : Vec Ideal S512x768 .bf16) (y : S512x768.Idx) : k0_pay3 (F := Ideal) v y = sg (v y) := sigma_ext

theorem gate_at (v0 : Vec Ideal S512x1024 .f32) (v2 : Vec Ideal S1x768x1024 .bf16) (v5 v14 : Vec Ideal S512x768 .bf16) (y : S512x768.Idx) :
    k0_pay4 (F := Ideal) v0 v2 v5 v14 y = dgate (k0_pay1 (F := Ideal) v0 v2 y) (v5 y) (v14 y) := by
  show k0_pay1 (F := Ideal) v0 v2 y * v14 y * (k0_pay3 (F := Ideal) v5 y * ((Scalar.ofBits .f32 0x3F800000#32 : Ideal .f32)
    + v5 y * ((Scalar.ofBits .f32 0x3F800000#32 : Ideal .f32) - k0_pay3 (F := Ideal) v5 y))) = _
  rw [sigma, one32]
  rfl

theorem up_at (v0 : Vec Ideal S512x1024 .f32) (v2 : Vec Ideal S1x768x1024 .bf16) (v5 : Vec Ideal S512x768 .bf16) (y : S512x768.Idx) :
    k0_pay5 (F := Ideal) v0 v2 v5 y = dup (k0_pay1 (F := Ideal) v0 v2 y) (v5 y) := by
  show k0_pay1 (F := Ideal) v0 v2 y * (v5 y * k0_pay3 (F := Ideal) v5 y) = _
  rw [sigma]
  rfl

/-- The gate's gradient as the kernel leaves it. -/
theorem final4 (c : Dev nD) : (dats m 0 c).arrAt 4 cfg0.N
    = Gg (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine (gate_at _ _ _ _ y).trans ?_
  rw [one m c t y, b2 m c t y, b3 m c t y]
  refine congrArg₂ (fun r d => dgate (D _ _ r d) (at2 _ r d) (at2 _ r d)) ?_ ?_ <;> blk_simp [ix4] <;> ring_nf

/-- The other factor's gradient as the kernel leaves it. -/
theorem final5 (c : Dev nD) : (dats m 0 c).arrAt 5 cfg0.N
    = Gu (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine (up_at _ _ _ y).trans ?_
  rw [one m c t y, b2 m c t y]
  refine congrArg₂ (fun r d => dup (D _ _ r d) (at2 _ r d)) ?_ ?_ <;> blk_simp [ix5] <;> ring_nf

/-! ## Real numbers -/

/-- An extended real that is a real number. -/
def IsReal (x : EReal) : Prop := ∃ r : ℝ, x = r

theorem IsReal.at2 {n0 n1 : ℕ} {X : (⟨2, ![n0, n1]⟩ : Shape).Idx → EReal} (h : ∀ i, IsReal (X i)) (a b : ℕ) : IsReal (at2 X a b) := by
  unfold Ffn.at2
  split
  · exact h _
  · exact ⟨0, rfl⟩

theorem IsReal.at3 {n0 n1 n2 : ℕ} {X : (⟨3, ![n0, n1, n2]⟩ : Shape).Idx → EReal} (h : ∀ i, IsReal (X i)) (a b d : ℕ) : IsReal (at3 X a b d) := by
  unfold Ffn.at3
  split
  · exact h _
  · exact ⟨0, rfl⟩

theorem IsReal.dot {K : ℕ} {a b : Fin K → EReal} (h : ∀ k, IsReal (a k)) (h' : ∀ k, IsReal (b k)) : IsReal (∑ k, a k * b k) := by
  refine Finset.sum_induction _ IsReal ?_ ⟨0, rfl⟩ fun k _ => ?_
  · rintro _ _ ⟨r, rfl⟩ ⟨s, rfl⟩
    exact ⟨r + s, (EReal.coe_add r s).symm⟩
  · obtain ⟨r, hr⟩ := h k
    obtain ⟨s, hs⟩ := h' k
    exact ⟨r * s, by rw [hr, hs, EReal.coe_mul]⟩

/-- The two forms of the gate's gradient are one real number. -/
theorem gate_real {d g u : EReal} (hd : IsReal d) (hg : IsReal g) (hu : IsReal u) :
    d * u * sg g + g * (d * u) * (sg g * (1 - sg g)) = dgate d g u := by
  obtain ⟨d, rfl⟩ := hd
  obtain ⟨g, rfl⟩ := hg
  obtain ⟨u, rfl⟩ := hu
  have e : sg (g : EReal) = (((1 + Real.exp (-g))⁻¹ : ℝ) : EReal) := by
    rw [← Ideal.logistic_coe]
    unfold sg Ideal.logistic
    rw [sub_eq_add_neg, zero_add]
  unfold dgate
  rw [e]
  norm_cast
  ring

open Cert.FfnMidRefIdeal.Read in
theorem weight_at (w : (⟨S4x768x1024, .bf16⟩ : BufTy).Contents (Elt Ideal)) (i : Cert.FfnMidRefIdeal.S3072x1024.Idx) :
    val_main_v3 (F := Ideal) w i = at3 w ((i 0).val / 768) ((i 0).val % 768) (i 1).val := by
  have h0 : (i 0).val < 3072 := (i 0).isLt
  have h1 : (i 1).val < 1024 := (i 1).isLt
  refine (val_main_v3_apply w i).trans (at3_eq w _ _ _ _ ?_ ?_ ?_)
  · show ((i 0).val * 1024 + (i 1).val) / 786432 = _
    omega
  · show ((i 0).val * 1024 + (i 1).val) / 1024 % 768 = _
    omega
  · show ((i 0).val * 1024 + (i 1).val) % 1024 = _
    omega

open Cert.FfnMidRefIdeal.Read in
theorem product_at (y : (⟨S2048x1024, .f32⟩ : BufTy).Contents (Elt Ideal)) (w : (⟨S4x768x1024, .bf16⟩ : BufTy).Contents (Elt Ideal)) (i : S2048x3072.Idx) :
    val_main_v7 (F := Ideal) y w i = D y w (i 0).val (i 1).val := by
  unfold D
  exact (val_main_v7_apply y w i).trans (dot_ext (fun k => at2_eq y _ _ _ rfl rfl) fun k => weight_at w _)

open Cert.FfnMidRefIdeal.Read in
theorem sigma_ref (g : (⟨S2048x3072, .bf16⟩ : BufTy).Contents (Elt Ideal)) (i : S2048x3072.Idx) : val_main_v4_2 (F := Ideal) g i = sg (g i) := by
  have o : val_main_call0_v2 (F := Ideal) i = (1 : EReal) := (val_main_call0_v2_apply i).trans one32
  have o' : val_main_call0_v4 (F := Ideal) i = (1 : EReal) := (val_main_call0_v4_apply i).trans one32
  show Ideal.div (val_main_call0_v4 (F := Ideal) i) (val_main_call0_v2 (F := Ideal) i + Ideal.exp (-(g i : EReal))) = _
  unfold sg
  rw [o, o', sub_eq_add_neg, zero_add]

open Cert.FfnMidRefIdeal.Read in
theorem reference_up (y : (⟨S2048x1024, .f32⟩ : BufTy).Contents (Elt Ideal)) (w : (⟨S4x768x1024, .bf16⟩ : BufTy).Contents (Elt Ideal)) (g : (⟨S2048x3072, .bf16⟩ : BufTy).Contents (Elt Ideal)) :
    val_main_v12 (F := Ideal) y w g = Gu y w g := by
  funext i
  show ((g i * val_main_v4_2 (F := Ideal) g i) * val_main_v7 (F := Ideal) y w i : EReal) = dup (D y w (i 0).val (i 1).val) (at2 g (i 0).val (i 1).val)
  rw [product_at, sigma_ref, ← at2_eq g i _ _ rfl rfl, mul_comm]
  rfl

open Cert.FfnMidRefIdeal.Read in
theorem reference_gate (y : (⟨S2048x1024, .f32⟩ : BufTy).Contents (Elt Ideal)) (w : (⟨S4x768x1024, .bf16⟩ : BufTy).Contents (Elt Ideal)) (g u : (⟨S2048x3072, .bf16⟩ : BufTy).Contents (Elt Ideal))
    (hy : ∀ i, IsReal (y i)) (hw : ∀ i, IsReal (w i)) (hg : ∀ i, IsReal (g i)) (hu : ∀ i, IsReal (u i)) :
    val_main_v11 (F := Ideal) y w g u = Gg y w g u := by
  funext i
  have o : val_main_call0_v6 (F := Ideal) i = (1 : EReal) := (val_main_call0_v6_apply i).trans one32
  show (val_main_v7 (F := Ideal) y w i * u i * val_main_v4_2 (F := Ideal) g i
    + g i * (val_main_v7 (F := Ideal) y w i * u i) * (val_main_v4_2 (F := Ideal) g i * (val_main_call0_v6 (F := Ideal) i - val_main_v4_2 (F := Ideal) g i)) : EReal)
    = dgate (D y w (i 0).val (i 1).val) (at2 g (i 0).val (i 1).val) (at2 u (i 0).val (i 1).val)
  rw [product_at, sigma_ref, o, ← at2_eq g i _ _ rfl rfl, ← at2_eq u i _ _ rfl rfl]
  exact gate_real (IsReal.dot (fun k => IsReal.at2 hy _ _) fun k => IsReal.at3 hw _ _ _) (hg i) (hu i)

theorem real_of (a : Ideal .f32) (h : FloatOps.cmpf .olt (FloatOps.hostAbsf a) (FloatOps.ofBits .f32 0x7F800000#32 : Ideal .f32) = 1#1) : IsReal a :=
  ⟨_, (Sb.real_of_cmp a h).symm⟩

/-- What the precondition says of the four arguments. -/
theorem finite_args (y : FVec Ideal S2048x1024 .f32) (w : FVec Ideal S4x768x1024 .bf16) (g u : FVec Ideal S2048x3072 .bf16)
    (h : @Cert.Pre_finite_mid.fn Cert.Pre_finite_mid.Gen.facts Ideal _ y w g u = fun _ => 1#1) :
    (∀ i, IsReal (y i)) ∧ (∀ i, IsReal (w i)) ∧ (∀ i, IsReal (g i)) ∧ ∀ i, IsReal (u i) := by
  have h := congrFun h ValueIdx.ix0
  unfold Cert.Pre_finite_mid.fn Cert.Pre_finite_mid.fn_part1 at h
  obtain ⟨h1, h2⟩ := Sb.one_of_and h
  obtain ⟨hy, hw⟩ := Sb.one_of_and h1
  obtain ⟨hg, hu⟩ := Sb.one_of_and h2
  exact ⟨fun i => real_of _ (Host.reduce_andi_all _ _ _ _ _ hy i), fun i => real_of _ (Host.reduce_andi_all _ _ _ _ _ hw i),
    fun i => real_of _ (Host.reduce_andi_all _ _ _ _ _ hg i), fun i => real_of _ (Host.reduce_andi_all _ _ _ _ _ hu i)⟩

end Cert.Proof.FfnMid

namespace Cert.Proof

open Idealize.ShloMosaic Idealize.ShloMosaic.TcCoe Idealize.SL.Sem

theorem algebraic_mid : Cert.algebraic_FfnMidIdeal_FfnMidRefIdeal_pre_finite_mid (hPre_finite_mid := Cert.Pre_finite_mid.Gen.facts) := by
  intro m ρ m' ρ' hp hm
  refine ⟨_, _, (θ_run Cert.FfnMidIdeal.defs _ _).mono (fun r h c => ⟨(h c).1.trans (FfnMid.final4 m c), (h c).2.1.trans (FfnMid.final5 m c), (h c).2.2⟩)
    (Cert.FfnMidIdeal.Value.run_blocks m ρ), ?_⟩
  refine (θ_run Cert.FfnMidRefIdeal.defs _ _).mono (fun r h c => ⟨(h c).1.trans ?_, (h c).2.1.trans ?_, (h c).2.2⟩) (Cert.FfnMidRefIdeal.Value.run m' ρ')
  all_goals obtain ⟨e0, e1, e2, e3⟩ := hm c
  · obtain ⟨hy, hw, hg, hu⟩ := FfnMid.finite_args _ _ _ _ (hp c)
    rw [Cert.FfnMidRefIdeal.Read.val_main_v11_eq, e0, e1, e2, e3]
    exact FfnMid.reference_gate _ _ _ _ hy hw hg hu
  · rw [Cert.FfnMidRefIdeal.Read.val_main_v12_eq, e0, e1, e2]
    exact FfnMid.reference_up _ _ _

end Cert.Proof

end
-- ==== Proof.FfnDhVal.lean ====
/-
  The feed-forward's input gradient: each block of rows is the sum, over the four shards, of the two gradients' columns
  times the shard's two weights.
-/
module

public import proofs.«01_k».proof.Defs
public import proofs.«01_k».proof.Proof.Ffn
public import proofs.«01_k».proof.Proof.Gen.FfnDhIdeal.Value
public import proofs.«01_k».proof.Proof.Gen.FfnDhRefIdeal.Run
public import proofs.«01_k».proof.Proof.Gen.FfnDhRefIdeal.Read

@[expose] public section

set_option maxRecDepth 16384

noncomputable section

namespace Cert.Proof.FfnDh

open Cert.FfnDhIdeal Cert.FfnDhIdeal.Gen Cert.Proof.Ffn
open Idealize.ShloMosaic Idealize.ShloMosaic.TcCoe Idealize.SL.Sem

/-- A gradient times a weight whose shards stand one under another, at a row and a column. -/
def P (g : S2048x3072.Idx → EReal) (w : S4x768x1024.Idx → EReal) (r c : ℕ) : EReal :=
  ∑ k : Fin 3072, at2 g r k.val * at3 w (k.val / 768) (k.val % 768) c

/-- The part of it one shard gives. -/
def part (g : S2048x3072.Idx → EReal) (w : S4x768x1024.Idx → EReal) (r c p : ℕ) : EReal :=
  ∑ k : Fin 768, at2 g r (768 * p + k.val) * at3 w p k.val c

/-- The result at a row and a column, from the two gradients and the two weights' shards. -/
def G (dg du : S2048x3072.Idx → EReal) (wg wu : S4x768x1024.Idx → EReal) : S2048x1024.Idx → EReal :=
  mat 2048 1024 fun r c => P du wu r c + P dg wg r c

theorem parts (g : S2048x3072.Idx → EReal) (w : S4x768x1024.Idx → EReal) (r c : ℕ) :
    part g w r c 0 + part g w r c 1 + part g w r c 2 + part g w r c 3 = P g w r c := by
  unfold P
  rw [← sum_groups 4 768 3072 rfl (fun k => at2 g r k * at3 w (k / 768) (k % 768) c)]
  have e : ∀ p, part g w r c p = ∑ k : Fin 768, at2 g r (768 * p + k.val) * at3 w ((768 * p + k.val) / 768) ((768 * p + k.val) % 768) c := fun p =>
    dot_ext (fun _ => rfl) fun k => by
      have hk := k.isLt
      rw [show (768 * p + k.val) / 768 = p by omega, show (768 * p + k.val) % 768 = k.val by omega]
  simp only [e, Finset.sum_range_succ, Finset.sum_range_zero, zero_add]

variable (m : (ℓ : Loc nD τ sig) → Buf (Elt Ideal) ℓ) (ρ : Dev nD → PrngReg)

theorem ix0 : ∀ t : Fin cfg0.N, win0_0.index t = ![t.val, 0] := (by decide +kernel : ∀ t : Fin grid0.N, _)
theorem ix1 : ∀ t : Fin cfg0.N, win0_1.index t = ![t.val, 0] := (by decide +kernel : ∀ t : Fin grid0.N, _)
theorem ix2 : ∀ t : Fin cfg0.N, win0_2.index t = ![0, 0, 0] := (by decide +kernel : ∀ t : Fin grid0.N, _)
theorem ix3 : ∀ t : Fin cfg0.N, win0_3.index t = ![0, 0, 0] := (by decide +kernel : ∀ t : Fin grid0.N, _)
theorem ix4 : ∀ t : Fin cfg0.N, win0_4.index t = ![t.val, 0] := (by decide +kernel : ∀ t : Fin grid0.N, _)

theorem b0 (c : Dev nD) (t : Fin cfg0.N) (y : S512x3072.Idx) :
    iblk m c 0 t y = at2 (m ((c : Thread nD τ).loc main_arg0)) (512 * t.val + (y 0).val) (y 1).val := by
  blk_simp [iblk]
  refine at2_eq _ _ _ _ ?_ ?_ <;> blk_simp [ix0] <;> ring_nf
theorem b1 (c : Dev nD) (t : Fin cfg0.N) (y : S512x3072.Idx) :
    iblk m c 1 t y = at2 (m ((c : Thread nD τ).loc main_arg1)) (512 * t.val + (y 0).val) (y 1).val := by
  blk_simp [iblk]
  refine at2_eq _ _ _ _ ?_ ?_ <;> blk_simp [ix1] <;> ring_nf
theorem b2 (c : Dev nD) (t : Fin cfg0.N) (y : S4x768x1024.Idx) :
    iblk m c 2 t y = at3 (m ((c : Thread nD τ).loc main_arg2)) (y 0).val (y 1).val (y 2).val := by
  blk_simp [iblk]
  refine at3_eq _ _ _ _ _ ?_ ?_ ?_ <;> blk_simp [ix2] <;> ring_nf
theorem b3 (c : Dev nD) (t : Fin cfg0.N) (y : S4x768x1024.Idx) :
    iblk m c 3 t y = at3 (m ((c : Thread nD τ).loc main_arg3)) (y 0).val (y 1).val (y 2).val := by
  blk_simp [iblk]
  refine at3_eq _ _ _ _ _ ?_ ?_ ?_ <;> blk_simp [ix3] <;> ring_nf

/-- One shard's product: the columns of the gradient's block times the shard of the weight. -/
theorem one (g : S2048x3072.Idx → EReal) (w : S4x768x1024.Idx → EReal) (t p : ℕ) (X : Vec Ideal S512x3072 .bf16) (W : Vec Ideal S4x768x1024 .bf16)
    (hX : ∀ y, X y = at2 g (512 * t + (y 0).val) (y 1).val) (hW : ∀ y, W y = at3 w (y 0).val (y 1).val (y 2).val) (h h' h'') (y : S512x1024.Idx) :
    (matmul (F := Ideal) (φ₁ := .bf16) (φ₂ := .bf16) dot_S512x768_S768x1024_S512x1024_1_0_0_1_n_n none (View.ld (Val := Elt Ideal) (e' := .bf16) X (Rect.unit (s := S512x3072) ![0, 768 * p] S512x768.size h) : FVec Ideal S512x768 .bf16)
      (shapeCast (α := Ideal .bf16) S768x1024 (View.ld (Val := Elt Ideal) (e' := .bf16) W (Rect.unit (s := S4x768x1024) ![p, 0, 0] S1x768x1024.size h') : FVec Ideal S1x768x1024 .bf16) h'') (constant S512x1024 .f32 0x00000000#32) : FVec Ideal S512x1024 .f32) y
      = part g w (512 * t + (y 0).val) (y 1).val p := by
  refine (nn (M := 512) (K := 768) (N := 1024) (φ := .bf16) (ψ := .bf16) _ _ y).trans ?_
  unfold part
  refine dot_ext (fun k => (hX _).trans ?_) (fun k => (cast_in (n0 := 768) (n1 := 1024) (φ := .bf16) _ _ _).trans ((hW _).trans ?_))
  · refine congrArg₂ (at2 g) ?_ ?_
    · show 512 * t + (0 + 1 * (y 0).val) = _
      omega
    · show 768 * p + 1 * k.val = _
      omega
  · have e1 : (p + 1 * 0 : ℕ) = p := by omega
    have e2 : (0 + 1 * k.val : ℕ) = k.val := by omega
    have e3 : (0 + 1 * (y 1).val : ℕ) = (y 1).val := by omega
    show at3 w (p + 1 * 0) (0 + 1 * k.val) (0 + 1 * (y 1).val) = _
    rw [e1, e2, e3]

/-- The array the kernel leaves. -/
theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  have u := fun p h h' h'' => one _ _ t.val p _ _ (b0 m c t) (b2 m c t) h h' h'' y
  have v := fun p h h' h'' => one _ _ t.val p _ _ (b1 m c t) (b3 m c t) h h' h'' y
  refine (step (step (step (step (step (step (step (step zero32 (u 0 _ _ _)) (v 0 _ _ _)) (u 1 _ _ _)) (v 1 _ _ _)) (u 2 _ _ _)) (v 2 _ _ _)) (u 3 _ _ _)) (v 3 _ _ _)).trans ?_
  have e0 : (((View.whole main_v0).slice (win0_4.rect t)).emb y 0).val = 512 * t.val + (y 0).val := by blk_simp [ix4] <;> ring_nf
  have e1 : (((View.whole main_v0).slice (win0_4.rect t)).emb y 1).val = (y 1).val := by blk_simp [ix4] <;> ring_nf
  unfold G mat
  show _ = P _ _ _ _ + P _ _ _ _
  rw [← parts, ← parts]
  rw [e0, e1]
  abel

open Cert.FfnDhRefIdeal.Read in
theorem weight_at (w : (⟨S4x768x1024, .bf16⟩ : BufTy).Contents (Elt Ideal)) (i : Cert.FfnDhRefIdeal.S1024x3072.Idx) :
    val_main_v3 (F := Ideal) w i = at3 w ((i 1).val / 768) ((i 1).val % 768) (i 0).val := by
  have h0 : (i 0).val < 1024 := (i 0).isLt
  have h1 : (i 1).val < 3072 := (i 1).isLt
  refine (val_main_v3_apply w i).trans ((val_main_v2_apply w _).trans (at3_eq w _ _ _ _ ?_ ?_ ?_))
  · show ((i 1).val * 1024 + (i 0).val) / 786432 = _
    omega
  · show ((i 1).val * 1024 + (i 0).val) / 1024 % 768 = _
    omega
  · show ((i 1).val * 1024 + (i 0).val) % 1024 = _
    omega

open Cert.FfnDhRefIdeal.Read in
theorem reference (dg du : (⟨S2048x3072, .bf16⟩ : BufTy).Contents (Elt Ideal)) (wg wu : (⟨S4x768x1024, .bf16⟩ : BufTy).Contents (Elt Ideal)) :
    val_main_v13 (F := Ideal) dg du wg wu = G dg du wg wu := by
  funext i
  unfold G mat P
  exact step ((val_main_v11_apply du wu i).trans (dot_ext (fun k => at2_eq du _ _ _ rfl rfl) fun k => weight_at wu _))
    ((val_main_v12_apply dg wg i).trans (dot_ext (fun k => at2_eq dg _ _ _ rfl rfl) fun k => weight_at wg _))

end Cert.Proof.FfnDh

namespace Cert.Proof

open Idealize.ShloMosaic Idealize.ShloMosaic.TcCoe Idealize.SL.Sem

theorem algebraic_dh : Cert.algebraic_FfnDhIdeal_FfnDhRefIdeal := by
  intro m ρ m' ρ' hp hm
  refine ⟨_, (θ_run Cert.FfnDhIdeal.defs _ _).mono (fun r h c => ⟨(h c).1.trans (FfnDh.final m c), (h c).2⟩)
    (Cert.FfnDhIdeal.Value.run_blocks m ρ), ?_⟩
  refine (θ_run Cert.FfnDhRefIdeal.defs _ _).mono (fun r h c => ⟨(h c).1.trans ?_, (h c).2⟩) (Cert.FfnDhRefIdeal.Value.run m' ρ')
  obtain ⟨e0, e1, e2, e3⟩ := hm c
  rw [Cert.FfnDhRefIdeal.Read.val_main_v13_eq, e0, e1, e2, e3]
  exact FfnDh.reference _ _ _ _

end Cert.Proof

end
-- ==== Proof.FfnDwVal.lean ====
/-
  The weight gradients of the feed-forward's first products: each block is the product of one shard's columns of the
  gradient, transposed, with a block of columns of the layer's input.
-/
module

public import proofs.«01_k».proof.Defs
public import proofs.«01_k».proof.Proof.Ffn
public import proofs.«01_k».proof.Proof.Gen.FfnDwIdeal.Value
public import proofs.«01_k».proof.Proof.Gen.FfnDwRefIdeal.Run
public import proofs.«01_k».proof.Proof.Gen.FfnDwRefIdeal.Read

@[expose] public section

set_option maxRecDepth 16384

noncomputable section

namespace Cert.Proof.FfnDw

open Cert.FfnDwIdeal Cert.FfnDwIdeal.Gen Cert.Proof.Ffn
open Idealize.ShloMosaic Idealize.ShloMosaic.TcCoe Idealize.SL.Sem

/-- The gradient at a shard, a row and a column, from the layer's input and the gradient of the product. -/
def G (h : S2048x1024.Idx → EReal) (g : S2048x3072.Idx → EReal) : S4x768x1024.Idx → EReal :=
  stack 4 768 1024 fun p r c => ∑ k : Fin 2048, at2 g k.val (768 * p + r) * at2 h k.val c

variable (m : (ℓ : Loc nD τ sig) → Buf (Elt Ideal) ℓ) (ρ : Dev nD → PrngReg)

theorem ix0 : ∀ t : Fin cfg0.N, win0_0.index t = ![0, t.val / 4] := (by decide +kernel : ∀ t : Fin grid0.N, _)
theorem ix1 : ∀ t : Fin cfg0.N, win0_1.index t = ![0, t.val % 4] := (by decide +kernel : ∀ t : Fin grid0.N, _)
theorem ix2 : ∀ t : Fin cfg0.N, win0_2.index t = ![0, t.val % 4] := (by decide +kernel : ∀ t : Fin grid0.N, _)
theorem ix3 : ∀ t : Fin cfg0.N, win0_3.index t = ![t.val % 4, 0, t.val / 4] := (by decide +kernel : ∀ t : Fin grid0.N, _)
theorem ix4 : ∀ t : Fin cfg0.N, win0_4.index t = ![t.val % 4, 0, t.val / 4] := (by decide +kernel : ∀ t : Fin grid0.N, _)

theorem b0 (c : Dev nD) (t : Fin cfg0.N) (y : S2048x512.Idx) :
    iblk m c 0 t y = at2 (m ((c : Thread nD τ).loc main_arg0)) (y 0).val (512 * (t.val / 4) + (y 1).val) := by
  blk_simp [iblk]
  refine at2_eq _ _ _ _ ?_ ?_ <;> blk_simp [ix0] <;> ring_nf
theorem b0_at (c : Dev nD) (t : Fin cfg0.N) (k : Fin 2048) (j : Fin 512) :
    iblk m c 0 t (ValueIdx.ix2 k j) = at2 (m ((c : Thread nD τ).loc main_arg0)) k.val (512 * (t.val / 4) + j.val) := b0 m c t _
theorem b1 (c : Dev nD) (t : Fin cfg0.N) (y : S2048x768.Idx) :
    iblk m c 1 t y = at2 (m ((c : Thread nD τ).loc main_arg1)) (y 0).val (768 * (t.val % 4) + (y 1).val) := by
  blk_simp [iblk]
  refine at2_eq _ _ _ _ ?_ ?_ <;> blk_simp [ix1] <;> ring_nf
theorem b2 (c : Dev nD) (t : Fin cfg0.N) (y : S2048x768.Idx) :
    iblk m c 2 t y = at2 (m ((c : Thread nD τ).loc main_arg2)) (y 0).val (768 * (t.val % 4) + (y 1).val) := by
  blk_simp [iblk]
  refine at2_eq _ _ _ _ ?_ ?_ <;> blk_simp [ix2] <;> ring_nf

/-- The array the kernel leaves for the first product's weight. -/
theorem final3 (c : Dev nD) : (dats m 0 c).arrAt 3 cfg0.N = G (m ((c : Thread nD τ).loc main_arg0)) (m ((c : Thread nD τ).loc main_arg1)) := by
  refine (dats m 0 c).arrAt_eq_of_covers 3 _ (by decide +kernel) fun t hf y => ?_
  have hy : (y 0).val < 1 := (y 0).isLt
  blk_simp
  rw [after0_3]
  frame_out
  refine (cast_out (n0 := 768) (n1 := 512) (φ := .bf16) _ _ y).trans ((tn (K := 2048) (M := 768) (N := 512) (φ := .bf16) (ψ := .bf16) _ _ _).trans ?_)
  unfold G stack
  refine dot_ext (fun k => (b1 m c t _).trans ?_) (fun k => (b0_at m c t k (y 2)).trans ?_) <;> congr 1 <;> blk_simp [ix3] <;> omega

/-- The array the kernel leaves for the second product's weight. -/
theorem final4 (c : Dev nD) : (dats m 0 c).arrAt 4 cfg0.N = G (m ((c : Thread nD τ).loc main_arg0)) (m ((c : Thread nD τ).loc main_arg2)) := by
  refine (dats m 0 c).arrAt_eq_of_covers 4 _ (by decide +kernel) fun t hf y => ?_
  have hy : (y 0).val < 1 := (y 0).isLt
  blk_simp
  rw [after0_4]
  frame_out
  refine (cast_out (n0 := 768) (n1 := 512) (φ := .bf16) _ _ y).trans ((tn (K := 2048) (M := 768) (N := 512) (φ := .bf16) (ψ := .bf16) _ _ _).trans ?_)
  unfold G stack
  refine dot_ext (fun k => (b2 m c t _).trans ?_) (fun k => (b0_at m c t k (y 2)).trans ?_) <;> congr 1 <;> blk_simp [ix4] <;> omega

open Cert.FfnDwRefIdeal.Read in
theorem reference3 (h : (⟨S2048x1024, .bf16⟩ : BufTy).Contents (Elt Ideal)) (g : (⟨S2048x3072, .bf16⟩ : BufTy).Contents (Elt Ideal)) :
    val_main_v12 (F := Ideal) h g = G h g := by
  funext i
  have h1 : (i 1).val < 768 := (i 1).isLt
  have h2 : (i 2).val < 1024 := (i 2).isLt
  refine (val_main_v11_apply h g i).trans ((val_main_v10_apply h g _).trans ((val_main_v9_apply h g _).trans ((val_main_v8_apply h g _).trans ?_)))
  unfold G stack
  refine dot_ext (fun k => at2_eq g _ _ _ rfl ?_) (fun k => at2_eq h _ _ _ rfl ?_)
  · show (((i 0).val * 768 + (i 1).val) * 1024 + (i 2).val) / 1024 = 768 * (i 0).val + (i 1).val
    omega
  · show (((i 0).val * 768 + (i 1).val) * 1024 + (i 2).val) % 1024 = (i 2).val
    omega

/-- Both weight gradients of the reference are one function of the layer's input and a gradient. -/
theorem reference4 (h : (⟨S2048x1024, .bf16⟩ : BufTy).Contents (Elt Ideal)) (g : (⟨S2048x3072, .bf16⟩ : BufTy).Contents (Elt Ideal)) :
    Cert.FfnDwRefIdeal.Read.val_main_v15 (F := Ideal) h g = G h g := reference3 h g

end Cert.Proof.FfnDw

namespace Cert.Proof

open Idealize.ShloMosaic Idealize.ShloMosaic.TcCoe Idealize.SL.Sem

theorem algebraic_dw : Cert.algebraic_FfnDwIdeal_FfnDwRefIdeal := by
  intro m ρ m' ρ' hp hm
  refine ⟨_, _, (θ_run Cert.FfnDwIdeal.defs _ _).mono (fun r h c => ⟨(h c).1.trans (FfnDw.final3 m c), (h c).2.1.trans (FfnDw.final4 m c), (h c).2.2⟩)
    (Cert.FfnDwIdeal.Value.run_blocks m ρ), ?_⟩
  refine (θ_run Cert.FfnDwRefIdeal.defs _ _).mono (fun r h c => ⟨(h c).1.trans ?_, (h c).2.1.trans ?_, (h c).2.2⟩) (Cert.FfnDwRefIdeal.Value.run m' ρ')
  all_goals obtain ⟨e0, e1, e2⟩ := hm c
  · rw [Cert.FfnDwRefIdeal.Read.val_main_v12_eq, e0, e1]
    exact FfnDw.reference3 _ _
  · rw [Cert.FfnDwRefIdeal.Read.val_main_v15_eq, e0, e2]
    exact FfnDw.reference4 _ _

end Cert.Proof

end
-- ==== Proof.FfnDownDwVal.lean ====
/-
  The weight gradient of the feed-forward's second product: each block of rows is the product of the activation's
  columns, transposed, with the result's gradient.
-/
module

public import proofs.«01_k».proof.Defs
public import proofs.«01_k».proof.Proof.Ffn
public import proofs.«01_k».proof.Proof.Gen.FfnDownDwIdeal.Value
public import proofs.«01_k».proof.Proof.Gen.FfnDownDwRefIdeal.Run
public import proofs.«01_k».proof.Proof.Gen.FfnDownDwRefIdeal.Read

@[expose] public section

set_option maxRecDepth 16384

noncomputable section

namespace Cert.Proof.FfnDownDw

open Cert.FfnDownDwIdeal Cert.FfnDownDwIdeal.Gen Cert.Proof.Ffn
open Idealize.ShloMosaic Idealize.ShloMosaic.TcCoe Idealize.SL.Sem

/-- The gradient at a row and a column, from the activation and the result's gradient. -/
def G (a : S2048x3072.Idx → EReal) (y : S2048x1024.Idx → EReal) : S3072x1024.Idx → EReal :=
  mat 3072 1024 fun r c => ∑ k : Fin 2048, at2 a k.val r * at2 y k.val c

variable (m : (ℓ : Loc nD τ sig) → Buf (Elt Ideal) ℓ) (ρ : Dev nD → PrngReg)

theorem ix0 : ∀ t : Fin cfg0.N, win0_0.index t = ![0, t.val] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

theorem b0 (c : Dev nD) (t : Fin cfg0.N) (y : S2048x256.Idx) :
    iblk m c 0 t y = at2 (m ((c : Thread nD τ).loc main_arg0)) (y 0).val (256 * t.val + (y 1).val) := by
  blk_simp [iblk]
  refine at2_eq _ _ _ _ ?_ ?_ <;> blk_simp [ix0] <;> ring_nf
theorem b1 (c : Dev nD) (t : Fin cfg0.N) (y : S2048x1024.Idx) :
    iblk m c 1 t y = at2 (m ((c : Thread nD τ).loc main_arg1)) (y 0).val (y 1).val := by
  blk_simp [iblk]
  refine at2_eq _ _ _ _ ?_ ?_ <;> blk_simp [ix1] <;> ring_nf

/-- The array the kernel leaves. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (tn (K := 2048) (M := 256) (N := 1024) (φ := .bf16) (ψ := .bf16) _ _ y).trans ?_
  unfold G mat
  refine dot_ext (fun k => (b0 m c t _).trans ?_) (fun k => (b1 m c t _).trans ?_) <;> congr 1 <;> blk_simp [ix2] <;> ring_nf

theorem reference (a : (⟨S2048x3072, .bf16⟩ : BufTy).Contents (Elt Ideal)) (y : (⟨S2048x1024, .f32⟩ : BufTy).Contents (Elt Ideal)) :
    Cert.FfnDownDwRefIdeal.Read.val_main_v5 (F := Ideal) a y = G a y := by
  funext i
  refine (Cert.FfnDownDwRefIdeal.Read.val_main_v4_apply a y i).trans ((Cert.FfnDownDwRefIdeal.Read.val_main_v3_apply a y _).trans ?_)
  unfold G mat
  exact dot_swap (fun k => at2_eq y _ _ _ rfl rfl) (fun k => at2_eq a _ _ _ rfl rfl)

end Cert.Proof.FfnDownDw

namespace Cert.Proof

open Idealize.ShloMosaic Idealize.ShloMosaic.TcCoe Idealize.SL.Sem

theorem algebraic_down_dw : Cert.algebraic_FfnDownDwIdeal_FfnDownDwRefIdeal := by
  intro m ρ m' ρ' hp hm
  refine ⟨_, (θ_run Cert.FfnDownDwIdeal.defs _ _).mono (fun r h c => ⟨(h c).1.trans (FfnDownDw.final m c), (h c).2⟩)
    (Cert.FfnDownDwIdeal.Value.run_blocks m ρ), ?_⟩
  refine (θ_run Cert.FfnDownDwRefIdeal.defs _ _).mono (fun r h c => ⟨(h c).1.trans ?_, (h c).2⟩) (Cert.FfnDownDwRefIdeal.Value.run m' ρ')
  obtain ⟨e0, e1⟩ := hm c
  rw [Cert.FfnDownDwRefIdeal.Read.val_main_v5_eq, e0, e1]
  exact FfnDownDw.reference _ _

end Cert.Proof

end
-- ==== Proof.FfnInVal.lean ====
/-
  The feed-forward's first products and its activation: each block of rows is the layer's input times the four shards of
  the two weights, transposed, shard by shard, and the activation is computed from the two.
-/
module

public import proofs.«01_k».proof.Defs
public import proofs.«01_k».proof.Proof.Ffn
public import proofs.«01_k».proof.Proof.Gen.FfnInIdeal.Value
public import proofs.«01_k».proof.Proof.Gen.FfnInRefIdeal.Run
public import proofs.«01_k».proof.Proof.Gen.FfnInRefIdeal.Read

@[expose] public section

set_option maxRecDepth 16384

noncomputable section

namespace Cert.Proof.FfnIn

open Cert.FfnInIdeal Cert.FfnInIdeal.Gen Cert.Proof.Ffn
open Idealize.ShloMosaic Idealize.ShloMosaic.TcCoe Idealize.SL.Sem

/-- A product at a row and a column, from the layer's input and a weight's shards. -/
def P (h : S2048x1024.Idx → EReal) (w : S4x768x1024.Idx → EReal) (r c : ℕ) : EReal :=
  ∑ k : Fin 1024, at2 h r k.val * at3 w (c / 768) (c % 768) k.val

/-- The activation of a gate and an input. -/
def act (a b : EReal) : EReal := Ideal.div a (1 + Ideal.exp (0 - a)) * b

def G (h : S2048x1024.Idx → EReal) (w : S4x768x1024.Idx → EReal) : S2048x3072.Idx → EReal := mat 2048 3072 (P h w)
def A (h : S2048x1024.Idx → EReal) (wg wu : S4x768x1024.Idx → EReal) : S2048x3072.Idx → EReal :=
  mat 2048 3072 fun r c => act (P h wg r c) (P h wu r c)

variable (m : (ℓ : Loc nD τ sig) → Buf (Elt Ideal) ℓ) (ρ : Dev nD → PrngReg)

theorem ix0 : ∀ t : Fin cfg0.N, win0_0.index t = ![t.val, 0] := (by decide +kernel : ∀ t : Fin grid0.N, _)
theorem ix1 : ∀ t : Fin cfg0.N, win0_1.index t = ![0, 0, 0] := (by decide +kernel : ∀ t : Fin grid0.N, _)
theorem ix2 : ∀ t : Fin cfg0.N, win0_2.index t = ![0, 0, 0] := (by decide +kernel : ∀ t : Fin grid0.N, _)
theorem ix3 : ∀ t : Fin cfg0.N, win0_3.index t = ![t.val, 0] := (by decide +kernel : ∀ t : Fin grid0.N, _)
theorem ix4 : ∀ t : Fin cfg0.N, win0_4.index t = ![t.val, 0] := (by decide +kernel : ∀ t : Fin grid0.N, _)
theorem ix5 : ∀ t : Fin cfg0.N, win0_5.index t = ![t.val, 0] := (by decide +kernel : ∀ t : Fin grid0.N, _)

theorem b0 (c : Dev nD) (t : Fin cfg0.N) (y : S512x1024.Idx) :
    iblk m c 0 t y = at2 (m ((c : Thread nD τ).loc main_arg0)) (512 * t.val + (y 0).val) (y 1).val := by
  blk_simp [iblk]
  refine at2_eq _ _ _ _ ?_ ?_ <;> blk_simp [ix0] <;> ring_nf
theorem b1 (c : Dev nD) (t : Fin cfg0.N) (y : S4x768x1024.Idx) :
    iblk m c 1 t y = at3 (m ((c : Thread nD τ).loc main_arg1)) (y 0).val (y 1).val (y 2).val := by
  blk_simp [iblk]
  refine at3_eq _ _ _ _ _ ?_ ?_ ?_ <;> blk_simp [ix1] <;> ring_nf
theorem b2 (c : Dev nD) (t : Fin cfg0.N) (y : S4x768x1024.Idx) :
    iblk m c 2 t y = at3 (m ((c : Thread nD τ).loc main_arg2)) (y 0).val (y 1).val (y 2).val := by
  blk_simp [iblk]
  refine at3_eq _ _ _ _ _ ?_ ?_ ?_ <;> blk_simp [ix2] <;> ring_nf

/-- One shard's product: the block of the layer's input times the shard of a weight, transposed. -/
theorem one (h : S2048x1024.Idx → EReal) (w : S4x768x1024.Idx → EReal) (t p : ℕ) (X : Vec Ideal S512x1024 .bf16) (W : Vec Ideal S4x768x1024 .bf16)
    (hX : ∀ y, X y = at2 h (512 * t + (y 0).val) (y 1).val) (hW : ∀ y, W y = at3 w (y 0).val (y 1).val (y 2).val) (h' h'') (y : S512x768.Idx) :
    (matmul (F := Ideal) (φ₁ := .bf16) (φ₂ := .bf16) dot_S512x1024_S768x1024_S512x768_1_1_0_0_n_n none (View.ld (Val := Elt Ideal) (e' := .bf16) X r0_0 : FVec Ideal S512x1024 .bf16)
      (shapeCast (α := Ideal .bf16) S768x1024 (View.ld (Val := Elt Ideal) (e' := .bf16) W (Rect.unit (s := S4x768x1024) ![p, 0, 0] S1x768x1024.size h') : FVec Ideal S1x768x1024 .bf16) h'')
      (constant S512x768 .f32 0x00000000#32) : FVec Ideal S512x768 .f32) y
      = P h w (512 * t + (y 0).val) (768 * p + (y 1).val) := by
  have hy : (y 1).val < 768 := (y 1).isLt
  refine (nt (M := 512) (K := 1024) (N := 768) (φ := .bf16) (ψ := .bf16) _ _ y).trans ?_
  unfold P
  refine dot_ext (fun k => (hX _).trans ?_) (fun k => (cast_in (n0 := 768) (n1 := 1024) (φ := .bf16) _ _ _).trans ((hW _).trans ?_))
  · refine congrArg₂ (at2 h) ?_ ?_
    · show 512 * t + (0 + 1 * (y 0).val) = _
      omega
    · show 0 + 1 * k.val = _
      omega
  · have e1 : (p + 1 * 0 : ℕ) = (768 * p + (y 1).val) / 768 := by omega
    have e2 : (0 + 1 * (y 1).val : ℕ) = (768 * p + (y 1).val) % 768 := by omega
    have e3 : (0 + 1 * k.val : ℕ) = k.val := by omega
    show at3 w (p + 1 * 0) (0 + 1 * (y 1).val) (0 + 1 * k.val) = _
    rw [e1, e2, e3]

/-- What a window's block holds at an index, when every shard's columns hold one function of their row and column. -/
theorem out3 (c : Dev nD) (t : Fin cfg0.N) (y : S512x3072.Idx) : out0_3 (iblk m c 0 t) (iblk m c 1 t) (iblk m c 2 t) y
    = P (m ((c : Thread nD τ).loc main_arg0)) (m ((c : Thread nD τ).loc main_arg1)) (512 * t.val + (y 0).val) (y 1).val := by
  have u := fun p h' h'' => one _ _ t.val p _ _ (b0 m c t) (b1 m c t) h' h''
  unfold_out out0_3
  refine View.canon_eq_of_allAt _ y _ (cover0_3 _ _ _ _ y) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · exact tile768 (e := .bf16) y 3 _ (fun r d => P _ _ (512 * t.val + r) d) fun x => u 3 _ _ x
  · exact tile768 (e := .bf16) y 2 _ (fun r d => P _ _ (512 * t.val + r) d) fun x => u 2 _ _ x
  · exact tile768 (e := .bf16) y 1 _ (fun r d => P _ _ (512 * t.val + r) d) fun x => u 1 _ _ x
  · exact tile768 (e := .bf16) y 0 _ (fun r d => P _ _ (512 * t.val + r) d) fun x => u 0 _ _ x

theorem out4 (c : Dev nD) (t : Fin cfg0.N) (y : S512x3072.Idx) : out0_4 (iblk m c 0 t) (iblk m c 1 t) (iblk m c 2 t) y
    = P (m ((c : Thread nD τ).loc main_arg0)) (m ((c : Thread nD τ).loc main_arg2)) (512 * t.val + (y 0).val) (y 1).val := by
  have u := fun p h' h'' => one _ _ t.val p _ _ (b0 m c t) (b2 m c t) h' h''
  unfold_out out0_4
  refine View.canon_eq_of_allAt _ y _ (cover0_4 _ _ _ _ y) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · exact tile768 (e := .bf16) y 3 _ (fun r d => P _ _ (512 * t.val + r) d) fun x => u 3 _ _ x
  · exact tile768 (e := .bf16) y 2 _ (fun r d => P _ _ (512 * t.val + r) d) fun x => u 2 _ _ x
  · exact tile768 (e := .bf16) y 1 _ (fun r d => P _ _ (512 * t.val + r) d) fun x => u 1 _ _ x
  · exact tile768 (e := .bf16) y 0 _ (fun r d => P _ _ (512 * t.val + r) d) fun x => u 0 _ _ x

/-- The activation the kernel computes at an index is the activation of the two products there. -/
theorem act_ext {a b a' b' : EReal} (h : a = a') (h' : b = b') :
    FloatOps.mulf (φ := .f32) (F := Ideal) (FloatOps.divf a (FloatOps.addf (Scalar.ofBits .f32 0x3F800000#32) (FloatOps.exp (FloatOps.subf (Scalar.ofBits .f32 0x00000000#32) a)))) b = act a' b' := by
  subst h h'
  unfold act
  rw [one32, zero32]
  rfl

theorem out5 (c : Dev nD) (t : Fin cfg0.N) (y : S512x3072.Idx) : out0_5 (iblk m c 0 t) (iblk m c 1 t) (iblk m c 2 t) y
    = act (P (m ((c : Thread nD τ).loc main_arg0)) (m ((c : Thread nD τ).loc main_arg1)) (512 * t.val + (y 0).val) (y 1).val)
        (P (m ((c : Thread nD τ).loc main_arg0)) (m ((c : Thread nD τ).loc main_arg2)) (512 * t.val + (y 0).val) (y 1).val) := by
  have u := fun p h' h'' => one _ _ t.val p _ _ (b0 m c t) (b1 m c t) h' h''
  have v := fun p h' h'' => one _ _ t.val p _ _ (b0 m c t) (b2 m c t) h' h''
  unfold_out out0_5
  refine View.canon_eq_of_allAt _ y _ (cover0_5 _ _ _ _ y) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · exact tile768 (e := .bf16) y 3 _ (fun r d => act (P _ _ (512 * t.val + r) d) (P _ _ (512 * t.val + r) d)) fun x => act_ext (u 3 _ _ x) (v 3 _ _ x)
  · exact tile768 (e := .bf16) y 2 _ (fun r d => act (P _ _ (512 * t.val + r) d) (P _ _ (512 * t.val + r) d)) fun x => act_ext (u 2 _ _ x) (v 2 _ _ x)
  · exact tile768 (e := .bf16) y 1 _ (fun r d => act (P _ _ (512 * t.val + r) d) (P _ _ (512 * t.val + r) d)) fun x => act_ext (u 1 _ _ x) (v 1 _ _ x)
  · exact tile768 (e := .bf16) y 0 _ (fun r d => act (P _ _ (512 * t.val + r) d) (P _ _ (512 * t.val + r) d)) fun x => act_ext (u 0 _ _ x) (v 0 _ _ x)

/-- The first product's array. -/
theorem final3 (c : Dev nD) : (dats m 0 c).arrAt 3 cfg0.N = G (m ((c : Thread nD τ).loc main_arg0)) (m ((c : Thread nD τ).loc main_arg1)) := by
  refine (dats m 0 c).arrAt_eq_of_covers 3 _ (by decide +kernel) fun t hf y => ?_
  blk_simp
  rw [after0_3]
  refine (out3 m c t _).trans (congrArg₂ (P _ _) ?_ ?_) <;> blk_simp [ix3] <;> ring_nf

/-- The second product's array. -/
theorem final4 (c : Dev nD) : (dats m 0 c).arrAt 4 cfg0.N = G (m ((c : Thread nD τ).loc main_arg0)) (m ((c : Thread nD τ).loc main_arg2)) := by
  refine (dats m 0 c).arrAt_eq_of_covers 4 _ (by decide +kernel) fun t hf y => ?_
  blk_simp
  rw [after0_4]
  refine (out4 m c t _).trans (congrArg₂ (P _ _) ?_ ?_) <;> blk_simp [ix4] <;> ring_nf

/-- The activation's array. -/
theorem final5 (c : Dev nD) : (dats m 0 c).arrAt 5 cfg0.N
    = A (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  refine (out5 m c t _).trans (congrArg₂ (fun r d => act (P _ _ r d) (P _ _ r d)) ?_ ?_) <;> blk_simp [ix5] <;> ring_nf

open Cert.FfnInRefIdeal.Read in
theorem weight_at (w : (⟨S4x768x1024, .bf16⟩ : BufTy).Contents (Elt Ideal)) (i : Cert.FfnInRefIdeal.S1024x3072.Idx) :
    val_main_v3 (F := Ideal) w i = at3 w ((i 1).val / 768) ((i 1).val % 768) (i 0).val := by
  have h0 : (i 0).val < 1024 := (i 0).isLt
  have h1 : (i 1).val < 3072 := (i 1).isLt
  refine (val_main_v3_apply w i).trans ((val_main_v2_apply w _).trans (at3_eq w _ _ _ _ ?_ ?_ ?_))
  · show ((i 1).val * 1024 + (i 0).val) / 786432 = _
    omega
  · show ((i 1).val * 1024 + (i 0).val) / 1024 % 768 = _
    omega
  · show ((i 1).val * 1024 + (i 0).val) % 1024 = _
    omega

open Cert.FfnInRefIdeal.Read in
theorem reference3 (h : (⟨S2048x1024, .bf16⟩ : BufTy).Contents (Elt Ideal)) (w : (⟨S4x768x1024, .bf16⟩ : BufTy).Contents (Elt Ideal)) :
    val_main_v7 (F := Ideal) h w = G h w := by
  funext i
  unfold G mat P
  exact (val_main_v7_apply h w i).trans (dot_ext (fun k => at2_eq h _ _ _ rfl rfl) fun k => weight_at w _)

open Cert.FfnInRefIdeal.Read in
theorem reference4 (h : (⟨S2048x1024, .bf16⟩ : BufTy).Contents (Elt Ideal)) (w : (⟨S4x768x1024, .bf16⟩ : BufTy).Contents (Elt Ideal)) :
    val_main_v8 (F := Ideal) h w = G h w := reference3 h w

open Cert.FfnInRefIdeal.Read in
theorem reference5 (h : (⟨S2048x1024, .bf16⟩ : BufTy).Contents (Elt Ideal)) (wg wu : (⟨S4x768x1024, .bf16⟩ : BufTy).Contents (Elt Ideal)) :
    val_main_v13 (F := Ideal) h wg wu = A h wg wu := by
  funext i
  have e3 := congrFun (reference3 h wg) i
  have e4 := congrFun (reference4 h wu) i
  have o : val_main_call0_v2 (F := Ideal) i = (1 : EReal) := (val_main_call0_v2_apply i).trans one32
  have o' : val_main_call0_v4 (F := Ideal) i = (1 : EReal) := (val_main_call0_v4_apply i).trans one32
  have s : val_main_call0_v5 (F := Ideal) h wg i = Ideal.div 1 (1 + Ideal.exp (-(G h wg i))) := by
    show Ideal.div (val_main_call0_v4 (F := Ideal) i) (val_main_call0_v2 (F := Ideal) i + Ideal.exp (-(val_main_v7 (F := Ideal) h wg i))) = _
    rw [o, o', e3]
  show (val_main_v7 (F := Ideal) h wg i * val_main_call0_v5 (F := Ideal) h wg i) * val_main_v8 (F := Ideal) h wu i = act (G h wg i) (G h wu i)
  rw [e3, e4, s]
  unfold act
  rw [div_den]

end Cert.Proof.FfnIn

namespace Cert.Proof

open Idealize.ShloMosaic Idealize.ShloMosaic.TcCoe Idealize.SL.Sem

theorem algebraic_in : Cert.algebraic_FfnInIdeal_FfnInRefIdeal := by
  intro m ρ m' ρ' hp hm
  refine ⟨_, _, _, (θ_run Cert.FfnInIdeal.defs _ _).mono (fun r h c => ⟨(h c).1.trans (FfnIn.final3 m c), (h c).2.1.trans (FfnIn.final4 m c), (h c).2.2.1.trans (FfnIn.final5 m c), (h c).2.2.2⟩)
    (Cert.FfnInIdeal.Value.run_blocks m ρ), ?_⟩
  refine (θ_run Cert.FfnInRefIdeal.defs _ _).mono (fun r h c => ⟨(h c).1.trans ?_, (h c).2.1.trans ?_, (h c).2.2.1.trans ?_, (h c).2.2.2⟩) (Cert.FfnInRefIdeal.Value.run m' ρ')
  all_goals obtain ⟨e0, e1, e2⟩ := hm c
  · rw [Cert.FfnInRefIdeal.Read.val_main_v9_eq, e0, e1]
    exact FfnIn.reference3 _ _
  · rw [Cert.FfnInRefIdeal.Read.val_main_v10_eq, e0, e2]
    exact FfnIn.reference4 _ _
  · rw [Cert.FfnInRefIdeal.Read.val_main_v13_eq, e0, e1, e2]
    exact FfnIn.reference5 _ _ _

end Cert.Proof

end
-- ==== Proof.FfnDownVal.lean ====
/-
  The feed-forward's second product: each block of rows is the activation's rows times the whole weight, whose shards
  stand one under another.
-/
module

public import proofs.«01_k».proof.Defs
public import proofs.«01_k».proof.Proof.Ffn
public import proofs.«01_k».proof.Proof.Gen.FfnDownIdeal.Value
public import proofs.«01_k».proof.Proof.Gen.FfnDownRefIdeal.Run
public import proofs.«01_k».proof.Proof.Gen.FfnDownRefIdeal.Read

@[expose] public section

set_option maxRecDepth 16384

noncomputable section

namespace Cert.Proof.FfnDown

open Cert.FfnDownIdeal Cert.FfnDownIdeal.Gen Cert.Proof.Ffn
open Idealize.ShloMosaic Idealize.ShloMosaic.TcCoe Idealize.SL.Sem

/-- The result at a row and a column, from the activation and the weight's shards. -/
def G (a : S2048x3072.Idx → EReal) (w : S4x768x1024.Idx → EReal) : S2048x1024.Idx → EReal :=
  mat 2048 1024 fun r c => ∑ k : Fin 3072, at2 a r k.val * at3 w (k.val / 768) (k.val % 768) c

variable (m : (ℓ : Loc nD τ sig) → Buf (Elt Ideal) ℓ) (ρ : Dev nD → PrngReg)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

/-- The weight as the region finds it: the shards one under another. -/
theorem V_weight (c : Dev nD) : V m c main_v0 = shapeCast S3072x1024 (m ((c : Thread nD τ).loc main_arg1)) shapeCasts_S4x768x1024_S3072x1024 := by
  unfold V
  simp only [hostOps0, List.flatten_cons, List.flatten_nil, List.append_nil, List.cons_append, List.nil_append]
  after_results_simp
  all_goals rfl

theorem weight_at (w : FVec Ideal S4x768x1024 .bf16) (h) (i : S3072x1024.Idx) :
    shapeCast S3072x1024 w h i = at3 w ((i 0).val / 768) ((i 0).val % 768) (i 1).val := by
  have h0 : (i 0).val < 3072 := (i 0).isLt
  have h1 : (i 1).val < 1024 := (i 1).isLt
  refine (shapeCast_apply _ _ i (ValueIdx.ix3 (n0 := 4) (n1 := 768) (n2 := 1024) ⟨(i 0).val / 768, by omega⟩ ⟨(i 0).val % 768, by omega⟩ ⟨(i 1).val, h1⟩) ?_).trans
    (at3_eq w _ _ _ _ rfl rfl rfl)
  rw [Shape.rowMajor_val_three, Shape.rowMajor_val_two]
  show (((i 0).val / 768 * 768 + (i 0).val % 768) * 1024 + (i 1).val : ℕ) = (i 0).val * 1024 + (i 1).val
  omega

theorem b0 (c : Dev nD) (t : Fin cfg0.N) (y : S512x3072.Idx) :
    iblk m c 0 t y = at2 (m ((c : Thread nD τ).loc main_arg0)) (512 * t.val + (y 0).val) (y 1).val := by
  blk_simp [iblk, V_main_arg0]
  refine at2_eq _ _ _ _ ?_ ?_ <;> blk_simp [ix0] <;> ring_nf
theorem b1 (c : Dev nD) (t : Fin cfg0.N) (y : S3072x1024.Idx) :
    iblk m c 1 t y = at3 (m ((c : Thread nD τ).loc main_arg1)) ((y 0).val / 768) ((y 0).val % 768) (y 1).val := by
  blk_simp [iblk, V_weight]
  refine (weight_at _ _ _).trans ?_
  congr 1 <;> blk_simp [ix1] <;> ring_nf

/-- The array the kernel leaves. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (nn (M := 512) (K := 3072) (N := 1024) (φ := .bf16) (ψ := .bf16) _ _ y).trans ?_
  unfold G mat
  refine dot_ext (fun k => (b0 m c t _).trans ?_) (fun k => (shapeCast_apply _ _ _ _ rfl).trans ((b1 m c t (ValueIdx.ix2 (n1 := 1024) k (y 1))).trans ?_)) <;>
    congr 1 <;> blk_simp [ix2] <;> ring_nf

open Cert.FfnDownRefIdeal.Read in
theorem reference (a : (⟨S2048x3072, .bf16⟩ : BufTy).Contents (Elt Ideal)) (w : (⟨S4x768x1024, .bf16⟩ : BufTy).Contents (Elt Ideal)) :
    val_main_v3 (F := Ideal) a w = G a w := by
  funext i
  refine (val_main_v3_apply a w i).trans ?_
  unfold G mat
  exact dot_ext (fun k => at2_eq a _ _ _ rfl rfl) (fun k => weight_at w _ _)

end Cert.Proof.FfnDown

namespace Cert.Proof

open Idealize.ShloMosaic Idealize.ShloMosaic.TcCoe Idealize.SL.Sem

theorem algebraic_down : Cert.algebraic_FfnDownIdeal_FfnDownRefIdeal := by
  intro m ρ m' ρ' hp hm
  refine ⟨_, (θ_run Cert.FfnDownIdeal.defs _ _).mono (fun r h c => ⟨(h c).1.trans (FfnDown.final m c), (h c).2⟩)
    (Cert.FfnDownIdeal.Value.run_blocks m ρ), ?_⟩
  refine (θ_run Cert.FfnDownRefIdeal.defs _ _).mono (fun r h c => ⟨(h c).1.trans ?_, (h c).2⟩) (Cert.FfnDownRefIdeal.Value.run m' ρ')
  obtain ⟨e0, e1⟩ := hm c
  rw [Cert.FfnDownRefIdeal.Read.val_main_v3_eq, e0, e1]
  exact FfnDown.reference _ _

end Cert.Proof

end
-- ==== Proof.InProjVal.lean ====
/-
  The input projections: one product of the rows with the joined weight, cut into seven results.
-/
module

public import proofs.«01_k».proof.Defs
public import proofs.«01_k».proof.Proof.Ffn
public import proofs.«01_k».proof.Proof.Gen.InProjIdeal.Value
public import proofs.«01_k».proof.Proof.Gen.InProjRefIdeal.Run
public import proofs.«01_k».proof.Proof.Gen.InProjRefIdeal.Read

@[expose] public section

set_option maxRecDepth 16384

noncomputable section

namespace Cert.Proof.InProj

open Cert.InProjIdeal Cert.InProjIdeal.Gen Cert.Proof.Ffn
open Idealize.ShloMosaic Idealize.ShloMosaic.TcCoe Idealize.SL.Sem

/-- The columns from `off` on of the rows times the weight, which is held transposed. -/
def G (off n : ℕ) (a : S2048x1024.Idx → EReal) (b : S2560x1024.Idx → EReal) : (⟨2, ![2048, n]⟩ : Shape).Idx → EReal := mat 2048 n fun r c => gnt 1024 a b r (off + c)

variable (m : (ℓ : Loc nD τ sig) → Buf (Elt Ideal) ℓ) (ρ : Dev nD → PrngReg)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)
theorem ix3 : ∀ t : Fin cfg0.N, win0_3.index t = ![t.val, 0] := (by decide +kernel : ∀ t : Fin grid0.N, _)
theorem ix4 : ∀ t : Fin cfg0.N, win0_4.index t = ![t.val, 0] := (by decide +kernel : ∀ t : Fin grid0.N, _)
theorem ix5 : ∀ t : Fin cfg0.N, win0_5.index t = ![t.val, 0] := (by decide +kernel : ∀ t : Fin grid0.N, _)
theorem ix6 : ∀ t : Fin cfg0.N, win0_6.index t = ![t.val, 0] := (by decide +kernel : ∀ t : Fin grid0.N, _)
theorem ix7 : ∀ t : Fin cfg0.N, win0_7.index t = ![t.val, 0] := (by decide +kernel : ∀ t : Fin grid0.N, _)
theorem ix8 : ∀ t : Fin cfg0.N, win0_8.index t = ![t.val, 0] := (by decide +kernel : ∀ t : Fin grid0.N, _)

theorem b0 (c : Dev nD) (t : Fin cfg0.N) (y : S512x1024.Idx) :
    iblk m c 0 t y = at2 (m ((c : Thread nD τ).loc main_arg0)) (512 * t.val + (y 0).val) (y 1).val := by
  blk_simp [iblk]
  refine at2_eq _ _ _ _ ?_ ?_ <;> blk_simp [ix0] <;> ring_nf
theorem b1 (c : Dev nD) (t : Fin cfg0.N) (y : S2560x1024.Idx) :
    iblk m c 1 t y = at2 (m ((c : Thread nD τ).loc main_arg1)) (y 0).val (y 1).val := by
  blk_simp [iblk]
  refine at2_eq _ _ _ _ ?_ ?_ <;> blk_simp [ix1] <;> ring_nf

/-- A block of rows of the whole product. -/
theorem prod (c : Dev nD) (t : Fin cfg0.N) (y : S512x2560.Idx) : k0_pay1 (iblk m c 0 t) (iblk m c 1 t) y
    = gnt 1024 (m ((c : Thread nD τ).loc main_arg0)) (m ((c : Thread nD τ).loc main_arg1)) (512 * t.val + (y 0).val) (y 1).val := by
  refine (nt (M := 512) (K := 1024) (N := 2560) (φ := .bf16) (ψ := .bf16) _ _ y).trans ?_
  unfold gnt
  exact dot_ext (fun k => b0 m c t _) (fun k => b1 m c t _)

theorem final2 (c : Dev nD) : (dats m 0 c).arrAt 2 cfg0.N = G 0 512 (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (cut (M := 512) (N := 2560) (n := 512) (φ := .f32) 0 _ slices_S512x2560_o0_0_S512x512 y (fun r d => gnt 1024 (m ((c : Thread nD τ).loc main_arg0)) (m ((c : Thread nD τ).loc main_arg1)) (512 * t.val + r) d) (prod m c t)).trans ?_
  unfold G mat
  refine congrArg₂ (gnt 1024 _ _) ?_ ?_ <;> blk_simp [ix2] <;> ring_nf

theorem final3 (c : Dev nD) : (dats m 0 c).arrAt 3 cfg0.N = G 512 512 (m ((c : Thread nD τ).loc main_arg0)) (m ((c : Thread nD τ).loc main_arg1)) := by
  refine (dats m 0 c).arrAt_eq_of_covers 3 _ (by decide +kernel) fun t hf y => ?_
  blk_simp
  rw [after0_3]
  frame_out
  refine (cut (M := 512) (N := 2560) (n := 512) (φ := .f32) 512 _ slices_S512x2560_o0_512_S512x512 y (fun r d => gnt 1024 (m ((c : Thread nD τ).loc main_arg0)) (m ((c : Thread nD τ).loc main_arg1)) (512 * t.val + r) d) (prod m c t)).trans ?_
  unfold G mat
  refine congrArg₂ (gnt 1024 _ _) ?_ ?_ <;> blk_simp [ix3] <;> ring_nf

theorem final4 (c : Dev nD) : (dats m 0 c).arrAt 4 cfg0.N = G 1024 512 (m ((c : Thread nD τ).loc main_arg0)) (m ((c : Thread nD τ).loc main_arg1)) := by
  refine (dats m 0 c).arrAt_eq_of_covers 4 _ (by decide +kernel) fun t hf y => ?_
  blk_simp
  rw [after0_4]
  frame_out
  refine (cut (M := 512) (N := 2560) (n := 512) (φ := .f32) 1024 _ slices_S512x2560_o0_1024_S512x512 y (fun r d => gnt 1024 (m ((c : Thread nD τ).loc main_arg0)) (m ((c : Thread nD τ).loc main_arg1)) (512 * t.val + r) d) (prod m c t)).trans ?_
  unfold G mat
  refine congrArg₂ (gnt 1024 _ _) ?_ ?_ <;> blk_simp [ix4] <;> ring_nf

theorem final5 (c : Dev nD) : (dats m 0 c).arrAt 5 cfg0.N = G 1536 384 (m ((c : Thread nD τ).loc main_arg0)) (m ((c : Thread nD τ).loc main_arg1)) := by
  refine (dats m 0 c).arrAt_eq_of_covers 5 _ (by decide +kernel) fun t hf y => ?_
  blk_simp
  rw [after0_5]
  frame_out
  refine (cut (M := 512) (N := 2560) (n := 384) (φ := .f32) 1536 _ slices_S512x2560_o0_1536_S512x384 y (fun r d => gnt 1024 (m ((c : Thread nD τ).loc main_arg0)) (m ((c : Thread nD τ).loc main_arg1)) (512 * t.val + r) d) (prod m c t)).trans ?_
  unfold G mat
  refine congrArg₂ (gnt 1024 _ _) ?_ ?_ <;> blk_simp [ix5] <;> ring_nf

theorem final6 (c : Dev nD) : (dats m 0 c).arrAt 6 cfg0.N = G 1920 256 (m ((c : Thread nD τ).loc main_arg0)) (m ((c : Thread nD τ).loc main_arg1)) := by
  refine (dats m 0 c).arrAt_eq_of_covers 6 _ (by decide +kernel) fun t hf y => ?_
  blk_simp
  rw [after0_6]
  frame_out
  refine (cut (M := 512) (N := 2560) (n := 256) (φ := .f32) 1920 _ slices_S512x2560_o0_1920_S512x256 y (fun r d => gnt 1024 (m ((c : Thread nD τ).loc main_arg0)) (m ((c : Thread nD τ).loc main_arg1)) (512 * t.val + r) d) (prod m c t)).trans ?_
  unfold G mat
  refine congrArg₂ (gnt 1024 _ _) ?_ ?_ <;> blk_simp [ix6] <;> ring_nf

theorem final7 (c : Dev nD) : (dats m 0 c).arrAt 7 cfg0.N = G 2176 128 (m ((c : Thread nD τ).loc main_arg0)) (m ((c : Thread nD τ).loc main_arg1)) := by
  refine (dats m 0 c).arrAt_eq_of_covers 7 _ (by decide +kernel) fun t hf y => ?_
  blk_simp
  rw [after0_7]
  frame_out
  refine (cut (M := 512) (N := 2560) (n := 128) (φ := .f32) 2176 _ slices_S512x2560_o0_2176_S512x128 y (fun r d => gnt 1024 (m ((c : Thread nD τ).loc main_arg0)) (m ((c : Thread nD τ).loc main_arg1)) (512 * t.val + r) d) (prod m c t)).trans ?_
  unfold G mat
  refine congrArg₂ (gnt 1024 _ _) ?_ ?_ <;> blk_simp [ix7] <;> ring_nf

theorem final8 (c : Dev nD) : (dats m 0 c).arrAt 8 cfg0.N = G 2304 128 (m ((c : Thread nD τ).loc main_arg0)) (m ((c : Thread nD τ).loc main_arg1)) := by
  refine (dats m 0 c).arrAt_eq_of_covers 8 _ (by decide +kernel) fun t hf y => ?_
  blk_simp
  rw [after0_8]
  frame_out
  refine (cut (M := 512) (N := 2560) (n := 128) (φ := .f32) 2304 _ slices_S512x2560_o0_2304_S512x128 y (fun r d => gnt 1024 (m ((c : Thread nD τ).loc main_arg0)) (m ((c : Thread nD τ).loc main_arg1)) (512 * t.val + r) d) (prod m c t)).trans ?_
  unfold G mat
  refine congrArg₂ (gnt 1024 _ _) ?_ ?_ <;> blk_simp [ix8] <;> ring_nf

section
variable (a : (⟨S2048x1024, .bf16⟩ : BufTy).Contents (Elt Ideal)) (b : (⟨S2560x1024, .bf16⟩ : BufTy).Contents (Elt Ideal))
open Cert.InProjRefIdeal.Read

/-- The reference's whole product. -/
theorem whole (i : Cert.InProjRefIdeal.S2048x2560.Idx) : val_main_v3 (F := Ideal) a b i = gnt 1024 a b (i 0).val (i 1).val :=
  (val_main_v3_apply a b i).trans (dot_ext (fun k => at2_eq a _ _ _ rfl rfl) (fun k => at2_eq b _ _ _ rfl rfl))

theorem reference2 : val_main_v4 (F := Ideal) a b = G 0 512 a b :=
  funext fun i => cut (M := 2048) (N := 2560) (n := 512) (φ := .f32) 0 _ _ i _ (whole a b)
theorem reference3 : val_main_v5 (F := Ideal) a b = G 512 512 a b :=
  funext fun i => cut (M := 2048) (N := 2560) (n := 512) (φ := .f32) 512 _ _ i _ (whole a b)
theorem reference4 : val_main_v6 (F := Ideal) a b = G 1024 512 a b :=
  funext fun i => cut (M := 2048) (N := 2560) (n := 512) (φ := .f32) 1024 _ _ i _ (whole a b)
theorem reference5 : val_main_v7 (F := Ideal) a b = G 1536 384 a b :=
  funext fun i => cut (M := 2048) (N := 2560) (n := 384) (φ := .f32) 1536 _ _ i _ (whole a b)
theorem reference6 : val_main_v8 (F := Ideal) a b = G 1920 256 a b :=
  funext fun i => cut (M := 2048) (N := 2560) (n := 256) (φ := .f32) 1920 _ _ i _ (whole a b)
theorem reference7 : val_main_v9 (F := Ideal) a b = G 2176 128 a b :=
  funext fun i => cut (M := 2048) (N := 2560) (n := 128) (φ := .f32) 2176 _ _ i _ (whole a b)
theorem reference8 : val_main_v10 (F := Ideal) a b = G 2304 128 a b :=
  funext fun i => cut (M := 2048) (N := 2560) (n := 128) (φ := .f32) 2304 _ _ i _ (whole a b)
end

end Cert.Proof.InProj

namespace Cert.Proof

open Idealize.ShloMosaic Idealize.ShloMosaic.TcCoe Idealize.SL.Sem

theorem algebraic_in_proj : Cert.algebraic_InProjIdeal_InProjRefIdeal := by
  intro m ρ m' ρ' hp hm
  refine ⟨_, _, _, _, _, _, _, (θ_run Cert.InProjIdeal.defs _ _).mono (fun r h c => ⟨(h c).1.trans (InProj.final2 m c), (h c).2.1.trans (InProj.final3 m c), (h c).2.2.1.trans (InProj.final4 m c), (h c).2.2.2.1.trans (InProj.final5 m c), (h c).2.2.2.2.1.trans (InProj.final6 m c), (h c).2.2.2.2.2.1.trans (InProj.final7 m c), (h c).2.2.2.2.2.2.1.trans (InProj.final8 m c), (h c).2.2.2.2.2.2.2⟩)
    (Cert.InProjIdeal.Value.run_blocks m ρ), ?_⟩
  refine (θ_run Cert.InProjRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.InProjRefIdeal.Value.run m' ρ')
  all_goals obtain ⟨e0, e1⟩ := hm c
  · rw [Cert.InProjRefIdeal.Read.val_main_v4_eq, e0, e1]
    exact InProj.reference2 _ _
  · rw [Cert.InProjRefIdeal.Read.val_main_v5_eq, e0, e1]
    exact InProj.reference3 _ _
  · rw [Cert.InProjRefIdeal.Read.val_main_v6_eq, e0, e1]
    exact InProj.reference4 _ _
  · rw [Cert.InProjRefIdeal.Read.val_main_v7_eq, e0, e1]
    exact InProj.reference5 _ _
  · rw [Cert.InProjRefIdeal.Read.val_main_v8_eq, e0, e1]
    exact InProj.reference6 _ _
  · rw [Cert.InProjRefIdeal.Read.val_main_v9_eq, e0, e1]
    exact InProj.reference7 _ _
  · rw [Cert.InProjRefIdeal.Read.val_main_v10_eq, e0, e1]
    exact InProj.reference8 _ _

end Cert.Proof

end
-- ==== Proof.InProjDxVal.lean ====
/-
  The input projections' input gradient: the seven gradients, side by side, times the joined weight.
-/
module

public import proofs.«01_k».proof.Defs
public import proofs.«01_k».proof.Proof.Ffn
public import proofs.«01_k».proof.Proof.Gen.InProjDxIdeal.Value
public import proofs.«01_k».proof.Proof.Gen.InProjDxRefIdeal.Run
public import proofs.«01_k».proof.Proof.Gen.InProjDxRefIdeal.Read

@[expose] public section

set_option maxRecDepth 16384

noncomputable section

namespace Cert.Proof.InProjDx

open Cert.InProjDxIdeal Cert.InProjDxIdeal.Gen Cert.Proof.Ffn
open Idealize.ShloMosaic Idealize.ShloMosaic.TcCoe Idealize.SL.Sem

/-- The seven gradients of a row side by side, and zeros for the columns the weight is padded with. -/
def side (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (r : ℕ) : ℕ → EReal :=
  beside 512 (at2 d0 r) (beside 512 (at2 d1 r) (beside 512 (at2 d2 r) (beside 384 (at2 d3 r) (beside 256 (at2 d4 r) (beside 128 (at2 d5 r) (beside 128 (at2 d6 r) (fun _ => 0)))))))

/-- The input's gradient: the joined gradients times the weight. -/
def G (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (w : S2560x1024.Idx → EReal) : S2048x1024.Idx → EReal :=
  mat 2048 1024 fun r c => ∑ k : Fin 2560, side d0 d1 d2 d3 d4 d5 d6 r k.val * at2 w k.val c

/-- The part of it one gradient gives, at the weight's rows from `s` on. -/
def part (n s : ℕ) (g : (⟨2, ![2048, n]⟩ : Shape).Idx → EReal) (w : S2560x1024.Idx → EReal) (r c : ℕ) : EReal :=
  ∑ k : Fin n, at2 g r k.val * at2 w (s + k.val) c

/-- The parts make up the whole. -/
theorem parts (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (w : S2560x1024.Idx → EReal) (r c : ℕ) :
    0 + part 512 0 d0 w r c + part 512 512 d1 w r c + part 512 1024 d2 w r c + part 384 1536 d3 w r c + part 256 1920 d4 w r c + part 128 2176 d5 w r c + part 128 2304 d6 w r c
      = ∑ k : Fin 2560, side d0 d1 d2 d3 d4 d5 d6 r k.val * at2 w k.val c := by
  unfold side part
  rw [sum_beside 512 2048 2560 rfl _ _ (fun k => at2 w k c)]
  have s0 : ∀ k, 512 + k = 512 + k := fun _ => rfl
  rw [sum_beside 512 1536 2048 rfl _ _ (fun k => at2 w (512 + k) c)]
  have s1 : ∀ k, 512 + (512 + k) = 1024 + k := fun k => by omega
  simp only [s1]
  rw [sum_beside 512 1024 1536 rfl _ _ (fun k => at2 w (1024 + k) c)]
  have s2 : ∀ k, 1024 + (512 + k) = 1536 + k := fun k => by omega
  simp only [s2]
  rw [sum_beside 384 640 1024 rfl _ _ (fun k => at2 w (1536 + k) c)]
  have s3 : ∀ k, 1536 + (384 + k) = 1920 + k := fun k => by omega
  simp only [s3]
  rw [sum_beside 256 384 640 rfl _ _ (fun k => at2 w (1920 + k) c)]
  have s4 : ∀ k, 1920 + (256 + k) = 2176 + k := fun k => by omega
  simp only [s4]
  rw [sum_beside 128 256 384 rfl _ _ (fun k => at2 w (2176 + k) c)]
  have s5 : ∀ k, 2176 + (128 + k) = 2304 + k := fun k => by omega
  simp only [s5]
  rw [sum_beside 128 128 256 rfl _ _ (fun k => at2 w (2304 + k) c)]
  simp only [zero_mul, Finset.sum_const_zero, add_zero, zero_add]
  abel

variable (m : (ℓ : Loc nD τ sig) → Buf (Elt Ideal) ℓ) (ρ : Dev nD → PrngReg)

theorem ix0 : ∀ t : Fin cfg0.N, win0_0.index t = ![t.val, 0] := (by decide +kernel : ∀ t : Fin grid0.N, _)
theorem ix1 : ∀ t : Fin cfg0.N, win0_1.index t = ![t.val, 0] := (by decide +kernel : ∀ t : Fin grid0.N, _)
theorem ix2 : ∀ t : Fin cfg0.N, win0_2.index t = ![t.val, 0] := (by decide +kernel : ∀ t : Fin grid0.N, _)
theorem ix3 : ∀ t : Fin cfg0.N, win0_3.index t = ![t.val, 0] := (by decide +kernel : ∀ t : Fin grid0.N, _)
theorem ix4 : ∀ t : Fin cfg0.N, win0_4.index t = ![t.val, 0] := (by decide +kernel : ∀ t : Fin grid0.N, _)
theorem ix5 : ∀ t : Fin cfg0.N, win0_5.index t = ![t.val, 0] := (by decide +kernel : ∀ t : Fin grid0.N, _)
theorem ix6 : ∀ t : Fin cfg0.N, win0_6.index t = ![t.val, 0] := (by decide +kernel : ∀ t : Fin grid0.N, _)
theorem ix7 : ∀ t : Fin cfg0.N, win0_7.index t = ![0, 0] := (by decide +kernel : ∀ t : Fin grid0.N, _)
theorem ix8 : ∀ t : Fin cfg0.N, win0_8.index t = ![t.val, 0] := (by decide +kernel : ∀ t : Fin grid0.N, _)

theorem b0 (c : Dev nD) (t : Fin cfg0.N) (y : S512x512.Idx) :
    iblk m c 0 t y = at2 (m ((c : Thread nD τ).loc main_arg0)) (512 * t.val + (y 0).val) (y 1).val := by
  blk_simp [iblk]
  refine at2_eq _ _ _ _ ?_ ?_ <;> blk_simp [ix0] <;> ring_nf
theorem b1 (c : Dev nD) (t : Fin cfg0.N) (y : S512x512.Idx) :
    iblk m c 1 t y = at2 (m ((c : Thread nD τ).loc main_arg1)) (512 * t.val + (y 0).val) (y 1).val := by
  blk_simp [iblk]
  refine at2_eq _ _ _ _ ?_ ?_ <;> blk_simp [ix1] <;> ring_nf
theorem b2 (c : Dev nD) (t : Fin cfg0.N) (y : S512x512.Idx) :
    iblk m c 2 t y = at2 (m ((c : Thread nD τ).loc main_arg2)) (512 * t.val + (y 0).val) (y 1).val := by
  blk_simp [iblk]
  refine at2_eq _ _ _ _ ?_ ?_ <;> blk_simp [ix2] <;> ring_nf
theorem b3 (c : Dev nD) (t : Fin cfg0.N) (y : S512x384.Idx) :
    iblk m c 3 t y = at2 (m ((c : Thread nD τ).loc main_arg3)) (512 * t.val + (y 0).val) (y 1).val := by
  blk_simp [iblk]
  refine at2_eq _ _ _ _ ?_ ?_ <;> blk_simp [ix3] <;> ring_nf
theorem b4 (c : Dev nD) (t : Fin cfg0.N) (y : S512x256.Idx) :
    iblk m c 4 t y = at2 (m ((c : Thread nD τ).loc main_arg4)) (512 * t.val + (y 0).val) (y 1).val := by
  blk_simp [iblk]
  refine at2_eq _ _ _ _ ?_ ?_ <;> blk_simp [ix4] <;> ring_nf
theorem b5 (c : Dev nD) (t : Fin cfg0.N) (y : S512x128.Idx) :
    iblk m c 5 t y = at2 (m ((c : Thread nD τ).loc main_arg5)) (512 * t.val + (y 0).val) (y 1).val := by
  blk_simp [iblk]
  refine at2_eq _ _ _ _ ?_ ?_ <;> blk_simp [ix5] <;> ring_nf
theorem b6 (c : Dev nD) (t : Fin cfg0.N) (y : S512x128.Idx) :
    iblk m c 6 t y = at2 (m ((c : Thread nD τ).loc main_arg6)) (512 * t.val + (y 0).val) (y 1).val := by
  blk_simp [iblk]
  refine at2_eq _ _ _ _ ?_ ?_ <;> blk_simp [ix6] <;> ring_nf
theorem b7 (c : Dev nD) (t : Fin cfg0.N) (y : S2560x1024.Idx) :
    iblk m c 7 t y = at2 (m ((c : Thread nD τ).loc main_arg7)) (y 0).val (y 1).val := by
  blk_simp [iblk]
  refine at2_eq _ _ _ _ ?_ ?_ <;> blk_simp [ix7] <;> ring_nf

/-- One gradient's product: a block of its rows times its rows of the weight. -/
theorem one {n : ℕ} (g : (⟨2, ![2048, n]⟩ : Shape).Idx → EReal) (w : S2560x1024.Idx → EReal) (t s : ℕ) (X : FVec Ideal ⟨2, ![512, n]⟩ .bf16) (W : Vec Ideal S2560x1024 .bf16)
    (hX : ∀ y : (⟨2, ![512, n]⟩ : Shape).Idx, X y = at2 g (512 * t + (y 0).val) (y 1).val) (hW : ∀ y, W y = at2 w (y 0).val (y 1).val) (h) (y : S512x1024.Idx) :
    (matmul (F := Ideal) (φ₁ := .bf16) (φ₂ := .bf16) (DotDims.plain 512 n 1024) none X
      (View.ld (Val := Elt Ideal) (e' := .bf16) W (Rect.unit (s := S2560x1024) ![s, 0] ![n, 1024] h) : FVec Ideal ⟨2, ![n, 1024]⟩ .bf16) (constant S512x1024 .f32 0x00000000#32) : FVec Ideal S512x1024 .f32) y
      = part n s g w (512 * t + (y 0).val) (y 1).val := by
  refine (nn (M := 512) (K := n) (N := 1024) (φ := .bf16) (ψ := .bf16) _ _ y).trans ?_
  refine dot_ext (fun k => hX _) (fun k => (hW _).trans (congrArg₂ (at2 w) ?_ ?_))
  · show s + 1 * k.val = _
    omega
  · show 0 + 1 * (y 1).val = _
    omega

/-- The array the kernel leaves. -/
theorem final (c : Dev nD) : (dats m 0 c).arrAt 8 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  frame_out
  have u0 := fun h => one (n := 512) _ _ t.val 0 _ _ (b0 m c t) (b7 m c t) h y
  have u1 := fun h => one (n := 512) _ _ t.val 512 _ _ (b1 m c t) (b7 m c t) h y
  have u2 := fun h => one (n := 512) _ _ t.val 1024 _ _ (b2 m c t) (b7 m c t) h y
  have u3 := fun h => one (n := 384) _ _ t.val 1536 _ _ (b3 m c t) (b7 m c t) h y
  have u4 := fun h => one (n := 256) _ _ t.val 1920 _ _ (b4 m c t) (b7 m c t) h y
  have u5 := fun h => one (n := 128) _ _ t.val 2176 _ _ (b5 m c t) (b7 m c t) h y
  have u6 := fun h => one (n := 128) _ _ t.val 2304 _ _ (b6 m c t) (b7 m c t) h y
  refine (step (step (step (step (step (step (step zero32 (u0 _)) (u1 _)) (u2 _)) (u3 _)) (u4 _)) (u5 _)) (u6 _)).trans ?_
  have e0 : (((View.whole main_v0).slice (win0_8.rect t)).emb y 0).val = 512 * t.val + (y 0).val := by blk_simp [ix8] <;> ring_nf
  have e1 : (((View.whole main_v0).slice (win0_8.rect t)).emb y 1).val = (y 1).val := by blk_simp [ix8] <;> ring_nf
  unfold G mat
  rw [← e0, ← e1]
  exact parts _ _ _ _ _ _ _ _ _ _

section
variable (d0 : (⟨S2048x512, .f32⟩ : BufTy).Contents (Elt Ideal)) (d1 : (⟨S2048x512, .f32⟩ : BufTy).Contents (Elt Ideal)) (d2 : (⟨S2048x512, .f32⟩ : BufTy).Contents (Elt Ideal)) (d3 : (⟨S2048x384, .bf16⟩ : BufTy).Contents (Elt Ideal)) (d4 : (⟨S2048x256, .bf16⟩ : BufTy).Contents (Elt Ideal)) (d5 : (⟨S2048x128, .bf16⟩ : BufTy).Contents (Elt Ideal)) (d6 : (⟨S2048x128, .bf16⟩ : BufTy).Contents (Elt Ideal))
open Cert.InProjDxRefIdeal.Read

/-- The zeros the reference joins to the gradients. -/
theorem zeros (a b : ℕ) : at2 (val_main_v16 (F := Ideal)) a b = 0 := by
  unfold at2
  by_cases h : a < 2048 ∧ b < 128
  · rw [dif_pos h]
    exact (val_main_v16_apply _).trans zero32
  · rw [dif_neg h]

theorem joined (i : Cert.InProjDxRefIdeal.S2048x2560.Idx) : val_main_v17 (F := Ideal) d0 d1 d2 d3 d4 d5 d6 i = side d0 d1 d2 d3 d4 d5 d6 (i 0).val (i 1).val :=
  (concatenate_cons_apply _ _ _ _ _ _ i).trans (cat_cons (n := 512) i _ _ _ _ _ _ _ (fun _ _ _ => cat_cons (n := 512) i _ _ _ _ _ _ _ (fun _ _ _ => cat_cons (n := 512) i _ _ _ _ _ _ _ (fun _ _ _ => cat_cons (n := 384) i _ _ _ _ _ _ _ (fun _ _ _ => cat_cons (n := 256) i _ _ _ _ _ _ _ (fun _ _ _ => cat_cons (n := 128) i _ _ _ _ _ _ _ (fun _ _ _ => cat_cons (n := 128) i _ _ _ _ _ _ _ (fun _ _ _ => (cat_last (n := 128) i _ _ _ _).trans (zeros _ _)))))))))

theorem reference (w : (⟨S2560x1024, .bf16⟩ : BufTy).Contents (Elt Ideal)) : val_main_v18 (F := Ideal) d0 d1 d2 d3 d4 d5 d6 w = G d0 d1 d2 d3 d4 d5 d6 w := by
  funext i
  refine (val_main_v18_apply d0 d1 d2 d3 d4 d5 d6 w i).trans ?_
  unfold G mat
  exact dot_ext (fun k => joined d0 d1 d2 d3 d4 d5 d6 _) (fun k => at2_eq w _ _ _ rfl rfl)
end

end Cert.Proof.InProjDx

namespace Cert.Proof

open Idealize.ShloMosaic Idealize.ShloMosaic.TcCoe Idealize.SL.Sem

theorem algebraic_in_proj_dx : Cert.algebraic_InProjDxIdeal_InProjDxRefIdeal := by
  intro m ρ m' ρ' hp hm
  refine ⟨_, (θ_run Cert.InProjDxIdeal.defs _ _).mono (fun r h c => ⟨(h c).1.trans (InProjDx.final m c), (h c).2⟩)
    (Cert.InProjDxIdeal.Value.run_blocks m ρ), ?_⟩
  refine (θ_run Cert.InProjDxRefIdeal.defs _ _).mono (fun r h c => ⟨(h c).1.trans ?_, (h c).2⟩) (Cert.InProjDxRefIdeal.Value.run m' ρ')
  obtain ⟨e0, e1, e2, e3, e4, e5, e6, e7⟩ := hm c
  rw [Cert.InProjDxRefIdeal.Read.val_main_v18_eq, e0, e1, e2, e3, e4, e5, e6, e7]
  exact InProjDx.reference _ _ _ _ _ _ _ _

end Cert.Proof

end
-- ==== Proof.InProjDwVal.lean ====
/-
  The input projections' weight gradient: the seven gradients, side by side and transposed, times the input.
-/
module

public import proofs.«01_k».proof.Defs
public import proofs.«01_k».proof.Proof.Ffn
public import proofs.«01_k».proof.Proof.Gen.InProjDwIdeal.Value
public import proofs.«01_k».proof.Proof.Gen.InProjDwRefIdeal.Run
public import proofs.«01_k».proof.Proof.Gen.InProjDwRefIdeal.Read
public import Idealize.ShloMosaic.Lib.WholeRead

@[expose] public section

set_option maxRecDepth 16384

noncomputable section

namespace Cert.Proof.InProjDw

open Cert.InProjDwIdeal Cert.InProjDwIdeal.Gen Cert.Proof.Ffn
open Idealize.ShloMosaic Idealize.ShloMosaic.TcCoe Idealize.SL.Sem

/-- The seven gradients of a row side by side, and zeros for the columns the weight is padded with. -/
def side (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (r : ℕ) : ℕ → EReal :=
  beside 512 (at2 d0 r) (beside 512 (at2 d1 r) (beside 512 (at2 d2 r) (beside 384 (at2 d3 r) (beside 256 (at2 d4 r) (beside 128 (at2 d5 r) (beside 128 (at2 d6 r) (fun _ => 0)))))))

/-- The weight's gradient, held transposed: the joined gradients, transposed, times the input. -/
def G (h : S2048x1024.Idx → EReal) (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) : S2560x1024.Idx → EReal :=
  mat 2560 1024 fun r c => ∑ k : Fin 2048, side d0 d1 d2 d3 d4 d5 d6 k.val r * at2 h k.val c

theorem side0 (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (r k : ℕ) (h : k < 512) : side d0 d1 d2 d3 d4 d5 d6 r (0 + k) = at2 d0 r k := by
  unfold side beside
  rw [if_pos (by omega)]
  exact congrArg (at2 d0 r) (by omega)
theorem side1 (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (r k : ℕ) (h : k < 512) : side d0 d1 d2 d3 d4 d5 d6 r (512 + k) = at2 d1 r k := by
  unfold side beside
  rw [if_neg (by omega)]
  rw [if_pos (by omega)]
  exact congrArg (at2 d1 r) (by omega)
theorem side2 (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (r k : ℕ) (h : k < 512) : side d0 d1 d2 d3 d4 d5 d6 r (1024 + k) = at2 d2 r k := by
  unfold side beside
  rw [if_neg (by omega)]
  rw [if_neg (by omega)]
  rw [if_pos (by omega)]
  exact congrArg (at2 d2 r) (by omega)
theorem side3 (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (r k : ℕ) (h : k < 384) : side d0 d1 d2 d3 d4 d5 d6 r (1536 + k) = at2 d3 r k := by
  unfold side beside
  rw [if_neg (by omega)]
  rw [if_neg (by omega)]
  rw [if_neg (by omega)]
  rw [if_pos (by omega)]
  exact congrArg (at2 d3 r) (by omega)
theorem side4 (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (r k : ℕ) (h : k < 256) : side d0 d1 d2 d3 d4 d5 d6 r (1920 + k) = at2 d4 r k := by
  unfold side beside
  rw [if_neg (by omega)]
  rw [if_neg (by omega)]
  rw [if_neg (by omega)]
  rw [if_neg (by omega)]
  rw [if_pos (by omega)]
  exact congrArg (at2 d4 r) (by omega)
theorem side5 (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (r k : ℕ) (h : k < 128) : side d0 d1 d2 d3 d4 d5 d6 r (2176 + k) = at2 d5 r k := by
  unfold side beside
  rw [if_neg (by omega)]
  rw [if_neg (by omega)]
  rw [if_neg (by omega)]
  rw [if_neg (by omega)]
  rw [if_neg (by omega)]
  rw [if_pos (by omega)]
  exact congrArg (at2 d5 r) (by omega)
theorem side6 (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (r k : ℕ) (h : k < 128) : side d0 d1 d2 d3 d4 d5 d6 r (2304 + k) = at2 d6 r k := by
  unfold side beside
  rw [if_neg (by omega)]
  rw [if_neg (by omega)]
  rw [if_neg (by omega)]
  rw [if_neg (by omega)]
  rw [if_neg (by omega)]
  rw [if_neg (by omega)]
  rw [if_pos (by omega)]
  exact congrArg (at2 d6 r) (by omega)
theorem side7 (d0 : S2048x512.Idx → EReal) (d1 : S2048x512.Idx → EReal) (d2 : S2048x512.Idx → EReal) (d3 : S2048x384.Idx → EReal) (d4 : S2048x256.Idx → EReal) (d5 : S2048x128.Idx → EReal) (d6 : S2048x128.Idx → EReal) (r k : ℕ) : side d0 d1 d2 d3 d4 d5 d6 r (2432 + k) = 0 := by
  unfold side beside
  rw [if_neg (by omega)]
  rw [if_neg (by omega)]
  rw [if_neg (by omega)]
  rw [if_neg (by omega)]
  rw [if_neg (by omega)]
  rw [if_neg (by omega)]
  rw [if_neg (by omega)]

variable (m : (ℓ : Loc nD τ sig) → Buf (Elt Ideal) ℓ) (ρ : Dev nD → PrngReg)

theorem ix0 : ∀ t : Fin cfg0.N, win0_0.index t = ![0, t.val] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![0, 0] := (by decide +kernel : ∀ t : Fin grid0.N, _)
theorem ix3 : ∀ t : Fin cfg0.N, win0_3.index t = ![0, 0] := (by decide +kernel : ∀ t : Fin grid0.N, _)
theorem ix4 : ∀ t : Fin cfg0.N, win0_4.index t = ![0, 0] := (by decide +kernel : ∀ t : Fin grid0.N, _)
theorem ix5 : ∀ t : Fin cfg0.N, win0_5.index t = ![0, 0] := (by decide +kernel : ∀ t : Fin grid0.N, _)
theorem ix6 : ∀ t : Fin cfg0.N, win0_6.index t = ![0, 0] := (by decide +kernel : ∀ t : Fin grid0.N, _)
theorem ix7 : ∀ t : Fin cfg0.N, win0_7.index t = ![0, 0] := (by decide +kernel : ∀ t : Fin grid0.N, _)
theorem ix8 : ∀ t : Fin cfg0.N, win0_8.index t = ![0, t.val] := (by decide +kernel : ∀ t : Fin grid0.N, _)

theorem b0 (c : Dev nD) (t : Fin cfg0.N) (y : S2048x512.Idx) :
    iblk m c 0 t y = at2 (m ((c : Thread nD τ).loc main_arg0)) (y 0).val (512 * t.val + (y 1).val) := by
  blk_simp [iblk]
  refine at2_eq _ _ _ _ ?_ ?_ <;> blk_simp [ix0] <;> ring_nf
theorem b1 (c : Dev nD) (t : Fin cfg0.N) (y : S2048x512.Idx) :
    iblk m c 1 t y = at2 (m ((c : Thread nD τ).loc main_arg1)) (y 0).val (y 1).val := by
  blk_simp [iblk]
  refine at2_eq _ _ _ _ ?_ ?_ <;> blk_simp [ix1] <;> ring_nf
theorem b2 (c : Dev nD) (t : Fin cfg0.N) (y : S2048x512.Idx) :
    iblk m c 2 t y = at2 (m ((c : Thread nD τ).loc main_arg2)) (y 0).val (y 1).val := by
  blk_simp [iblk]
  refine at2_eq _ _ _ _ ?_ ?_ <;> blk_simp [ix2] <;> ring_nf
theorem b3 (c : Dev nD) (t : Fin cfg0.N) (y : S2048x512.Idx) :
    iblk m c 3 t y = at2 (m ((c : Thread nD τ).loc main_arg3)) (y 0).val (y 1).val := by
  blk_simp [iblk]
  refine at2_eq _ _ _ _ ?_ ?_ <;> blk_simp [ix3] <;> ring_nf
theorem b4 (c : Dev nD) (t : Fin cfg0.N) (y : S2048x384.Idx) :
    iblk m c 4 t y = at2 (m ((c : Thread nD τ).loc main_arg4)) (y 0).val (y 1).val := by
  blk_simp [iblk]
  refine at2_eq _ _ _ _ ?_ ?_ <;> blk_simp [ix4] <;> ring_nf
theorem b5 (c : Dev nD) (t : Fin cfg0.N) (y : S2048x256.Idx) :
    iblk m c 5 t y = at2 (m ((c : Thread nD τ).loc main_arg5)) (y 0).val (y 1).val := by
  blk_simp [iblk]
  refine at2_eq _ _ _ _ ?_ ?_ <;> blk_simp [ix5] <;> ring_nf
theorem b6 (c : Dev nD) (t : Fin cfg0.N) (y : S2048x128.Idx) :
    iblk m c 6 t y = at2 (m ((c : Thread nD τ).loc main_arg6)) (y 0).val (y 1).val := by
  blk_simp [iblk]
  refine at2_eq _ _ _ _ ?_ ?_ <;> blk_simp [ix6] <;> ring_nf
theorem b7 (c : Dev nD) (t : Fin cfg0.N) (y : S2048x128.Idx) :
    iblk m c 7 t y = at2 (m ((c : Thread nD τ).loc main_arg7)) (y 0).val (y 1).val := by
  blk_simp [iblk]
  refine at2_eq _ _ _ _ ?_ ?_ <;> blk_simp [ix7] <;> ring_nf

/-- One gradient's product: the gradient transposed times a block of the input's columns. -/
theorem one {n : ℕ} (h : S2048x1024.Idx → EReal) (g : (⟨2, ![2048, n]⟩ : Shape).Idx → EReal) (t : ℕ) (X : FVec Ideal S2048x512 .bf16) (Y : FVec Ideal ⟨2, ![2048, n]⟩ .bf16)
    (hX : ∀ y, X y = at2 h (y 0).val (512 * t + (y 1).val)) (hY : ∀ y : (⟨2, ![2048, n]⟩ : Shape).Idx, Y y = at2 g (y 0).val (y 1).val) (y : (⟨2, ![n, 512]⟩ : Shape).Idx) :
    (matmul (F := Ideal) (φ₁ := .bf16) (φ₂ := .bf16) (rows 2048 n 512) none Y X (constant ⟨2, ![n, 512]⟩ .f32 0x00000000#32) : FVec Ideal ⟨2, ![n, 512]⟩ .f32) y
      = ∑ k : Fin 2048, at2 g k.val (y 0).val * at2 h k.val (512 * t + (0 + (y 1).val)) := by
  refine (tn (K := 2048) (M := n) (N := 512) (φ := .bf16) (ψ := .bf16) _ _ y).trans ?_
  exact dot_ext (fun k => hY _) (fun k => (hX _).trans (congrArg (at2 h _) (congrArg (512 * t + ·) (zero_add _).symm)))

/-- A whole buffer read back is what was put in it. -/
theorem rd {a b : ℕ} {e : EltTy} (M : Memref sig .tc .vmem ⟨2, ![a, b]⟩ e) (h : M.IsWhole) (X : (⟨2, ![a, b]⟩ : Shape).Idx → Elt Ideal e) (inb) (y) :
    View.readAt (Elt Ideal) M.view (Rect.unit (s := ⟨2, ![a, b]⟩) ![0, 0] ![a, b] inb).toLoadRect (h.unread X) y = X y :=
  (Memref.IsWhole.readAt_unread h X _ y).trans (congrArg X (funext fun d => match d with
    | ⟨0, _⟩ => Fin.ext (show 0 + 1 * (y 0).val = (y 0).val by omega)
    | ⟨1, _⟩ => Fin.ext (show 0 + 1 * (y 1).val = (y 1).val by omega)))

/-- The value a window's block holds at a row and a column. -/
def V (c : Dev nD) (t r d : ℕ) : EReal := ∑ k : Fin 2048, side (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) k.val r * at2 (m ((c : Thread nD τ).loc main_arg0)) k.val (512 * t + d)

/-- What the window's block holds at an index. -/
theorem out (c : Dev nD) (t : Fin cfg0.N) (y : S2560x512.Idx) : outsAt0 m c t y = V m c t.val (y 0).val (y 1).val := by
  unfold outsAt0 out0_A_8
  rw [View.read_writes_eq_canon _ _ _ (cover0_A_8 _ _ _ _ _ _ _ _ _ _ _ _ _ _ _ _ _ _ _ _ _ _ _ _ _ _ _ _)]
  refine View.canon_eq_of_allAt _ y _ (cover0_A_8 _ _ _ _ _ _ _ _ _ _ _ _ _ _ _ _ _ _ _ _ _ _ _ _ _ _ _ _ y) ?_
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  · refine tile (e := .bf16) (a := 128) (b := 512) y 2432 0 _ (V m c t.val) fun x => ?_
    have e : V m c t.val (2432 + (x 0).val) (0 + (x 1).val) = 0 := Finset.sum_eq_zero fun k _ => by rw [side7, zero_mul]
    rw [e]
    exact zero16
  · exact tile (e := .bf16) (a := 128) (b := 512) y 2304 0 _ (V m c t.val) fun x => (one (n := 128) _ _ t.val _ _ (fun z => (rd (ms0_0 t) (hs0_0 t) (iblk m c 0 t) _ z).trans (b0 m c t z)) (fun z => (rd (ms0_7 t) (hs0_7 t) (iblk m c 7 t) _ z).trans (b7 m c t z)) x).trans
      (dot_ext (fun k => (side6 _ _ _ _ _ _ _ _ _ (x 0).isLt).symm) fun k => rfl)
  · exact tile (e := .bf16) (a := 128) (b := 512) y 2176 0 _ (V m c t.val) fun x => (one (n := 128) _ _ t.val _ _ (fun z => (rd (ms0_0 t) (hs0_0 t) (iblk m c 0 t) _ z).trans (b0 m c t z)) (fun z => (rd (ms0_6 t) (hs0_6 t) (iblk m c 6 t) _ z).trans (b6 m c t z)) x).trans
      (dot_ext (fun k => (side5 _ _ _ _ _ _ _ _ _ (x 0).isLt).symm) fun k => rfl)
  · exact tile (e := .bf16) (a := 256) (b := 512) y 1920 0 _ (V m c t.val) fun x => (one (n := 256) _ _ t.val _ _ (fun z => (rd (ms0_0 t) (hs0_0 t) (iblk m c 0 t) _ z).trans (b0 m c t z)) (fun z => (rd (ms0_5 t) (hs0_5 t) (iblk m c 5 t) _ z).trans (b5 m c t z)) x).trans
      (dot_ext (fun k => (side4 _ _ _ _ _ _ _ _ _ (x 0).isLt).symm) fun k => rfl)
  · exact tile (e := .bf16) (a := 384) (b := 512) y 1536 0 _ (V m c t.val) fun x => (one (n := 384) _ _ t.val _ _ (fun z => (rd (ms0_0 t) (hs0_0 t) (iblk m c 0 t) _ z).trans (b0 m c t z)) (fun z => (rd (ms0_4 t) (hs0_4 t) (iblk m c 4 t) _ z).trans (b4 m c t z)) x).trans
      (dot_ext (fun k => (side3 _ _ _ _ _ _ _ _ _ (x 0).isLt).symm) fun k => rfl)
  · exact tile (e := .bf16) (a := 512) (b := 512) y 1024 0 _ (V m c t.val) fun x => (one (n := 512) _ _ t.val _ _ (fun z => (rd (ms0_0 t) (hs0_0 t) (iblk m c 0 t) _ z).trans (b0 m c t z)) (fun z => (rd (ms0_3 t) (hs0_3 t) (iblk m c 3 t) _ z).trans (b3 m c t z)) x).trans
      (dot_ext (fun k => (side2 _ _ _ _ _ _ _ _ _ (x 0).isLt).symm) fun k => rfl)
  · exact tile (e := .bf16) (a := 512) (b := 512) y 512 0 _ (V m c t.val) fun x => (one (n := 512) _ _ t.val _ _ (fun z => (rd (ms0_0 t) (hs0_0 t) (iblk m c 0 t) _ z).trans (b0 m c t z)) (fun z => (rd (ms0_2 t) (hs0_2 t) (iblk m c 2 t) _ z).trans (b2 m c t z)) x).trans
      (dot_ext (fun k => (side1 _ _ _ _ _ _ _ _ _ (x 0).isLt).symm) fun k => rfl)
  · exact tile (e := .bf16) (a := 512) (b := 512) y 0 0 _ (V m c t.val) fun x => (one (n := 512) _ _ t.val _ _ (fun z => (rd (ms0_0 t) (hs0_0 t) (iblk m c 0 t) _ z).trans (b0 m c t z)) (fun z => (rd (ms0_1 t) (hs0_1 t) (iblk m c 1 t) _ z).trans (b1 m c t z)) x).trans
      (dot_ext (fun k => (side0 _ _ _ _ _ _ _ _ _ (x 0).isLt).symm) fun k => rfl)

/-- The array the kernel leaves. -/
theorem final (c : Dev nD) : (dats m 0 c).arrAt 8 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  refine (out m c t _).trans ?_
  unfold V G mat
  refine dot_ext (fun k => ?_) (fun k => ?_) <;> congr 1 <;> blk_simp [ix8] <;> ring_nf

section
variable (d0 : (⟨S2048x512, .f32⟩ : BufTy).Contents (Elt Ideal)) (d1 : (⟨S2048x512, .f32⟩ : BufTy).Contents (Elt Ideal)) (d2 : (⟨S2048x512, .f32⟩ : BufTy).Contents (Elt Ideal)) (d3 : (⟨S2048x384, .bf16⟩ : BufTy).Contents (Elt Ideal)) (d4 : (⟨S2048x256, .bf16⟩ : BufTy).Contents (Elt Ideal)) (d5 : (⟨S2048x128, .bf16⟩ : BufTy).Contents (Elt Ideal)) (d6 : (⟨S2048x128, .bf16⟩ : BufTy).Contents (Elt Ideal))
open Cert.InProjDwRefIdeal.Read

/-- The zeros the reference joins to the gradients. -/
theorem zeros (a b : ℕ) : at2 (val_main_v16 (F := Ideal)) a b = 0 := by
  unfold at2
  by_cases h : a < 2048 ∧ b < 128
  · rw [dif_pos h]
    exact (val_main_v16_apply _).trans zero32
  · rw [dif_neg h]

theorem joined (i : Cert.InProjDxRefIdeal.S2048x2560.Idx) : val_main_v17 (F := Ideal) d0 d1 d2 d3 d4 d5 d6 i = side d0 d1 d2 d3 d4 d5 d6 (i 0).val (i 1).val :=
  (concatenate_cons_apply _ _ _ _ _ _ i).trans (cat_cons (n := 512) i _ _ _ _ _ _ _ (fun _ _ _ => cat_cons (n := 512) i _ _ _ _ _ _ _ (fun _ _ _ => cat_cons (n := 512) i _ _ _ _ _ _ _ (fun _ _ _ => cat_cons (n := 384) i _ _ _ _ _ _ _ (fun _ _ _ => cat_cons (n := 256) i _ _ _ _ _ _ _ (fun _ _ _ => cat_cons (n := 128) i _ _ _ _ _ _ _ (fun _ _ _ => cat_cons (n := 128) i _ _ _ _ _ _ _ (fun _ _ _ => (cat_last (n := 128) i _ _ _ _).trans (zeros _ _)))))))))

theorem reference (h : (⟨S2048x1024, .bf16⟩ : BufTy).Contents (Elt Ideal)) : val_main_v21 (F := Ideal) h d0 d1 d2 d3 d4 d5 d6 = G h d0 d1 d2 d3 d4 d5 d6 := by
  funext i
  refine (val_main_v20_apply h d0 d1 d2 d3 d4 d5 d6 i).trans ((val_main_v19_apply h d0 d1 d2 d3 d4 d5 d6 _).trans ((val_main_v18_apply h d0 d1 d2 d3 d4 d5 d6 _).trans ?_))
  unfold G mat
  exact dot_ext (fun k => joined d0 d1 d2 d3 d4 d5 d6 _) (fun k => at2_eq h _ _ _ rfl rfl)
end

end Cert.Proof.InProjDw

namespace Cert.Proof

open Idealize.ShloMosaic Idealize.ShloMosaic.TcCoe Idealize.SL.Sem

theorem algebraic_in_proj_dw : Cert.algebraic_InProjDwIdeal_InProjDwRefIdeal := by
  intro m ρ m' ρ' hp hm
  refine ⟨_, (θ_run Cert.InProjDwIdeal.defs _ _).mono (fun r h c => ⟨(h c).1.trans (InProjDw.final m c), (h c).2⟩)
    (Cert.InProjDwIdeal.Value.run_blocks m ρ), ?_⟩
  refine (θ_run Cert.InProjDwRefIdeal.defs _ _).mono (fun r h c => ⟨(h c).1.trans ?_, (h c).2⟩) (Cert.InProjDwRefIdeal.Value.run m' ρ')
  obtain ⟨e0, e1, e2, e3, e4, e5, e6, e7⟩ := hm c
  rw [Cert.InProjDwRefIdeal.Read.val_main_v21_eq, e0, e1, e2, e3, e4, e5, e6, e7]
  exact InProjDw.reference _ _ _ _ _ _ _ _

end Cert.Proof

end
-- ==== Proof.OutProjVal.lean ====
/-
  The output projection: the rows times the weight, the input's gradient and the weight's.
-/
module

public import proofs.«01_k».proof.Defs
public import proofs.«01_k».proof.Proof.Ffn
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.OutProjDxIdeal.Value
public import proofs.«01_k».proof.Proof.Gen.OutProjDxRefIdeal.Run
public import proofs.«01_k».proof.Proof.Gen.OutProjDxRefIdeal.Read
public import proofs.«01_k».proof.Proof.Gen.OutProjDwIdeal.Value
public import proofs.«01_k».proof.Proof.Gen.OutProjDwRefIdeal.Run
public import proofs.«01_k».proof.Proof.Gen.OutProjDwRefIdeal.Read

@[expose] public section

set_option maxRecDepth 16384

noncomputable section

namespace Cert.Proof.OutProj

open Cert.OutProjIdeal Cert.OutProjIdeal.Gen Cert.Proof.Ffn
open Idealize.ShloMosaic Idealize.ShloMosaic.TcCoe Idealize.SL.Sem

/-- The rows times the weight. -/
def G (a : S2048x1024.Idx → EReal) (b : S1024x1024.Idx → EReal) : S2048x1024.Idx → EReal := mat 2048 1024 (gnn 1024 a b)

variable (m : (ℓ : Loc nD τ sig) → Buf (Elt Ideal) ℓ) (ρ : Dev nD → PrngReg)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

theorem b0 (c : Dev nD) (t : Fin cfg0.N) (y : S512x1024.Idx) :
    iblk m c 0 t y = at2 (m ((c : Thread nD τ).loc main_arg0)) (512 * t.val + (y 0).val) (y 1).val := by
  blk_simp [iblk]
  refine at2_eq _ _ _ _ ?_ ?_ <;> blk_simp [ix0] <;> ring_nf
theorem b1 (c : Dev nD) (t : Fin cfg0.N) (y : S1024x1024.Idx) :
    iblk m c 1 t y = at2 (m ((c : Thread nD τ).loc main_arg1)) (y 0).val (y 1).val := by
  blk_simp [iblk]
  refine at2_eq _ _ _ _ ?_ ?_ <;> blk_simp [ix1] <;> ring_nf

/-- The array the kernel leaves. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (nn (M := 512) (K := 1024) (N := 1024) (φ := .bf16) (ψ := .bf16) _ _ y).trans ?_
  unfold G mat gnn
  refine dot_ext (fun k => (b0 m c t _).trans ?_) (fun k => (b1 m c t _).trans ?_) <;> congr 1 <;> blk_simp [ix2] <;> ring_nf

open Cert.OutProjRefIdeal.Read in
theorem reference (a : (⟨S2048x1024, .f32⟩ : BufTy).Contents (Elt Ideal)) (b : (⟨S1024x1024, .bf16⟩ : BufTy).Contents (Elt Ideal)) :
    val_main_v1 (F := Ideal) a b = G a b := by
  funext i
  refine (val_main_v1_apply a b i).trans ?_
  unfold G mat gnn
  exact dot_ext (fun k => at2_eq a _ _ _ rfl rfl) (fun k => at2_eq b _ _ _ rfl rfl)

end Cert.Proof.OutProj

namespace Cert.Proof.OutProjDx

open Cert.OutProjDxIdeal Cert.OutProjDxIdeal.Gen Cert.Proof.Ffn
open Idealize.ShloMosaic Idealize.ShloMosaic.TcCoe Idealize.SL.Sem

/-- The result's gradient times the weight transposed. -/
def G (a : S2048x1024.Idx → EReal) (b : S1024x1024.Idx → EReal) : S2048x1024.Idx → EReal := mat 2048 1024 (gnt 1024 a b)

variable (m : (ℓ : Loc nD τ sig) → Buf (Elt Ideal) ℓ) (ρ : Dev nD → PrngReg)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

theorem b0 (c : Dev nD) (t : Fin cfg0.N) (y : S512x1024.Idx) :
    iblk m c 0 t y = at2 (m ((c : Thread nD τ).loc main_arg0)) (512 * t.val + (y 0).val) (y 1).val := by
  blk_simp [iblk]
  refine at2_eq _ _ _ _ ?_ ?_ <;> blk_simp [ix0] <;> ring_nf
theorem b1 (c : Dev nD) (t : Fin cfg0.N) (y : S1024x1024.Idx) :
    iblk m c 1 t y = at2 (m ((c : Thread nD τ).loc main_arg1)) (y 0).val (y 1).val := by
  blk_simp [iblk]
  refine at2_eq _ _ _ _ ?_ ?_ <;> blk_simp [ix1] <;> ring_nf

/-- The array the kernel leaves. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (nt (M := 512) (K := 1024) (N := 1024) (φ := .bf16) (ψ := .bf16) _ _ y).trans ?_
  unfold G mat gnt
  refine dot_ext (fun k => (b0 m c t _).trans ?_) (fun k => (b1 m c t _).trans ?_) <;> congr 1 <;> blk_simp [ix2] <;> ring_nf

open Cert.OutProjDxRefIdeal.Read in
theorem reference (a : (⟨S2048x1024, .bf16⟩ : BufTy).Contents (Elt Ideal)) (b : (⟨S1024x1024, .bf16⟩ : BufTy).Contents (Elt Ideal)) :
    val_main_v4 (F := Ideal) a b = G a b := by
  funext i
  refine (val_main_v4_apply a b i).trans ?_
  unfold G mat gnt
  exact dot_ext (fun k => at2_eq a _ _ _ rfl rfl) (fun k => at2_eq b _ _ _ rfl rfl)

end Cert.Proof.OutProjDx

namespace Cert.Proof.OutProjDw

open Cert.OutProjDwIdeal Cert.OutProjDwIdeal.Gen Cert.Proof.Ffn
open Idealize.ShloMosaic Idealize.ShloMosaic.TcCoe Idealize.SL.Sem

/-- The input transposed times the result's gradient. -/
def G (a : S2048x1024.Idx → EReal) (b : S2048x1024.Idx → EReal) : S1024x1024.Idx → EReal := mat 1024 1024 (gtn 2048 a b)

variable (m : (ℓ : Loc nD τ sig) → Buf (Elt Ideal) ℓ) (ρ : Dev nD → PrngReg)

theorem ix0 : ∀ t : Fin cfg0.N, win0_0.index t = ![0, t.val % 2] := (by decide +kernel : ∀ t : Fin grid0.N, _)
theorem ix1 : ∀ t : Fin cfg0.N, win0_1.index t = ![0, t.val / 2] := (by decide +kernel : ∀ t : Fin grid0.N, _)
theorem ix2 : ∀ t : Fin cfg0.N, win0_2.index t = ![t.val % 2, t.val / 2] := (by decide +kernel : ∀ t : Fin grid0.N, _)

theorem b0 (c : Dev nD) (t : Fin cfg0.N) (y : S2048x512.Idx) :
    iblk m c 0 t y = at2 (m ((c : Thread nD τ).loc main_arg0)) (y 0).val (512 * (t.val % 2) + (y 1).val) := by
  blk_simp [iblk]
  refine at2_eq _ _ _ _ ?_ ?_ <;> blk_simp [ix0] <;> ring_nf
theorem b1 (c : Dev nD) (t : Fin cfg0.N) (y : S2048x512.Idx) :
    iblk m c 1 t y = at2 (m ((c : Thread nD τ).loc main_arg1)) (y 0).val (512 * (t.val / 2) + (y 1).val) := by
  blk_simp [iblk]
  refine at2_eq _ _ _ _ ?_ ?_ <;> blk_simp [ix1] <;> ring_nf

/-- The array the kernel leaves. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (tn (M := 512) (K := 2048) (N := 512) (φ := .bf16) (ψ := .bf16) _ _ y).trans ?_
  unfold G mat gtn
  refine dot_ext (fun k => (b0 m c t _).trans ?_) (fun k => (b1 m c t _).trans ?_) <;> congr 1 <;> blk_simp [ix2] <;> ring_nf

open Cert.OutProjDwRefIdeal.Read in
theorem reference (a : (⟨S2048x1024, .f32⟩ : BufTy).Contents (Elt Ideal)) (b : (⟨S2048x1024, .bf16⟩ : BufTy).Contents (Elt Ideal)) :
    val_main_v5 (F := Ideal) a b = G a b := by
  funext i
  refine (val_main_v4_apply a b i).trans ((val_main_v3_apply a b _).trans ?_)
  unfold G mat gtn
  exact dot_swap (fun k => at2_eq b _ _ _ rfl rfl) (fun k => at2_eq a _ _ _ rfl rfl)

end Cert.Proof.OutProjDw

namespace Cert.Proof

open Idealize.ShloMosaic Idealize.ShloMosaic.TcCoe Idealize.SL.Sem

theorem algebraic_out : Cert.algebraic_OutProjIdeal_OutProjRefIdeal := by
  intro m ρ m' ρ' hp hm
  refine ⟨_, (θ_run Cert.OutProjIdeal.defs _ _).mono (fun r h c => ⟨(h c).1.trans (OutProj.final m c), (h c).2⟩)
    (Cert.OutProjIdeal.Value.run_blocks m ρ), ?_⟩
  refine (θ_run Cert.OutProjRefIdeal.defs _ _).mono (fun r h c => ⟨(h c).1.trans ?_, (h c).2⟩) (Cert.OutProjRefIdeal.Value.run m' ρ')
  obtain ⟨e0, e1⟩ := hm c
  rw [Cert.OutProjRefIdeal.Read.val_main_v1_eq, e0, e1]
  exact OutProj.reference _ _

theorem algebraic_out_dx : Cert.algebraic_OutProjDxIdeal_OutProjDxRefIdeal := by
  intro m ρ m' ρ' hp hm
  refine ⟨_, (θ_run Cert.OutProjDxIdeal.defs _ _).mono (fun r h c => ⟨(h c).1.trans (OutProjDx.final m c), (h c).2⟩)
    (Cert.OutProjDxIdeal.Value.run_blocks m ρ), ?_⟩
  refine (θ_run Cert.OutProjDxRefIdeal.defs _ _).mono (fun r h c => ⟨(h c).1.trans ?_, (h c).2⟩) (Cert.OutProjDxRefIdeal.Value.run m' ρ')
  obtain ⟨e0, e1⟩ := hm c
  rw [Cert.OutProjDxRefIdeal.Read.val_main_v4_eq, e0, e1]
  exact OutProjDx.reference _ _

theorem algebraic_out_dw : Cert.algebraic_OutProjDwIdeal_OutProjDwRefIdeal := by
  intro m ρ m' ρ' hp hm
  refine ⟨_, (θ_run Cert.OutProjDwIdeal.defs _ _).mono (fun r h c => ⟨(h c).1.trans (OutProjDw.final m c), (h c).2⟩)
    (Cert.OutProjDwIdeal.Value.run_blocks m ρ), ?_⟩
  refine (θ_run Cert.OutProjDwRefIdeal.defs _ _).mono (fun r h c => ⟨(h c).1.trans ?_, (h c).2⟩) (Cert.OutProjDwRefIdeal.Value.run m' ρ')
  obtain ⟨e0, e1⟩ := hm c
  rw [Cert.OutProjDwRefIdeal.Read.val_main_v5_eq, e0, e1]
  exact OutProjDw.reference _ _

end Cert.Proof

end
-- ==== Proof.QUpVal.lean ====
/-
  The query's second projection: the rows times the weight, the input's gradient and the weight's.
-/
module

public import proofs.«01_k».proof.Defs
public import proofs.«01_k».proof.Proof.Ffn
public import proofs.«01_k».proof.Proof.Gen.QUpIdeal.Value
public import proofs.«01_k».proof.Proof.Gen.QUpRefIdeal.Run
public import proofs.«01_k».proof.Proof.Gen.QUpRefIdeal.Read
public import proofs.«01_k».proof.Proof.Gen.QUpDxIdeal.Value
public import proofs.«01_k».proof.Proof.Gen.QUpDxRefIdeal.Run
public import proofs.«01_k».proof.Proof.Gen.QUpDxRefIdeal.Read
public import proofs.«01_k».proof.Proof.Gen.QUpDwIdeal.Value
public import proofs.«01_k».proof.Proof.Gen.QUpDwRefIdeal.Run
public import proofs.«01_k».proof.Proof.Gen.QUpDwRefIdeal.Read

@[expose] public section

set_option maxRecDepth 16384

noncomputable section

namespace Cert.Proof.QUp

open Cert.QUpIdeal Cert.QUpIdeal.Gen Cert.Proof.Ffn
open Idealize.ShloMosaic Idealize.ShloMosaic.TcCoe Idealize.SL.Sem

/-- The rows times the weight. -/
def G (a : S2048x384.Idx → EReal) (b : S384x1536.Idx → EReal) : S2048x1536.Idx → EReal := mat 2048 1536 (gnn 384 a b)

variable (m : (ℓ : Loc nD τ sig) → Buf (Elt Ideal) ℓ) (ρ : Dev nD → PrngReg)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

theorem b0 (c : Dev nD) (t : Fin cfg0.N) (y : S512x384.Idx) :
    iblk m c 0 t y = at2 (m ((c : Thread nD τ).loc main_arg0)) (512 * t.val + (y 0).val) (y 1).val := by
  blk_simp [iblk]
  refine at2_eq _ _ _ _ ?_ ?_ <;> blk_simp [ix0] <;> ring_nf
theorem b1 (c : Dev nD) (t : Fin cfg0.N) (y : S384x1536.Idx) :
    iblk m c 1 t y = at2 (m ((c : Thread nD τ).loc main_arg1)) (y 0).val (y 1).val := by
  blk_simp [iblk]
  refine at2_eq _ _ _ _ ?_ ?_ <;> blk_simp [ix1] <;> ring_nf

/-- The array the kernel leaves. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (nn (M := 512) (K := 384) (N := 1536) (φ := .bf16) (ψ := .bf16) _ _ y).trans ?_
  unfold G mat gnn
  refine dot_ext (fun k => (b0 m c t _).trans ?_) (fun k => (b1 m c t _).trans ?_) <;> congr 1 <;> blk_simp [ix2] <;> ring_nf

open Cert.QUpRefIdeal.Read in
theorem reference (a : (⟨S2048x384, .bf16⟩ : BufTy).Contents (Elt Ideal)) (b : (⟨S384x1536, .bf16⟩ : BufTy).Contents (Elt Ideal)) :
    val_main_v2 (F := Ideal) a b = G a b := by
  funext i
  refine (val_main_v2_apply a b i).trans ?_
  unfold G mat gnn
  exact dot_ext (fun k => at2_eq a _ _ _ rfl rfl) (fun k => at2_eq b _ _ _ rfl rfl)

end Cert.Proof.QUp

namespace Cert.Proof.QUpDx

open Cert.QUpDxIdeal Cert.QUpDxIdeal.Gen Cert.Proof.Ffn
open Idealize.ShloMosaic Idealize.ShloMosaic.TcCoe Idealize.SL.Sem

/-- The result's gradient times the weight transposed. -/
def G (a : S2048x1536.Idx → EReal) (b : S384x1536.Idx → EReal) : S2048x384.Idx → EReal := mat 2048 384 (gnt 1536 a b)

variable (m : (ℓ : Loc nD τ sig) → Buf (Elt Ideal) ℓ) (ρ : Dev nD → PrngReg)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

theorem b0 (c : Dev nD) (t : Fin cfg0.N) (y : S512x1536.Idx) :
    iblk m c 0 t y = at2 (m ((c : Thread nD τ).loc main_arg0)) (512 * t.val + (y 0).val) (y 1).val := by
  blk_simp [iblk]
  refine at2_eq _ _ _ _ ?_ ?_ <;> blk_simp [ix0] <;> ring_nf
theorem b1 (c : Dev nD) (t : Fin cfg0.N) (y : S384x1536.Idx) :
    iblk m c 1 t y = at2 (m ((c : Thread nD τ).loc main_arg1)) (y 0).val (y 1).val := by
  blk_simp [iblk]
  refine at2_eq _ _ _ _ ?_ ?_ <;> blk_simp [ix1] <;> ring_nf

/-- The array the kernel leaves. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (nt (M := 512) (K := 1536) (N := 384) (φ := .bf16) (ψ := .bf16) _ _ y).trans ?_
  unfold G mat gnt
  refine dot_ext (fun k => (b0 m c t _).trans ?_) (fun k => (b1 m c t _).trans ?_) <;> congr 1 <;> blk_simp [ix2] <;> ring_nf

open Cert.QUpDxRefIdeal.Read in
theorem reference (a : (⟨S2048x1536, .bf16⟩ : BufTy).Contents (Elt Ideal)) (b : (⟨S384x1536, .bf16⟩ : BufTy).Contents (Elt Ideal)) :
    val_main_v4 (F := Ideal) a b = G a b := by
  funext i
  refine (val_main_v4_apply a b i).trans ?_
  unfold G mat gnt
  exact dot_ext (fun k => at2_eq a _ _ _ rfl rfl) (fun k => at2_eq b _ _ _ rfl rfl)

end Cert.Proof.QUpDx

namespace Cert.Proof.QUpDw

open Cert.QUpDwIdeal Cert.QUpDwIdeal.Gen Cert.Proof.Ffn
open Idealize.ShloMosaic Idealize.ShloMosaic.TcCoe Idealize.SL.Sem

/-- The input transposed times the result's gradient. -/
def G (a : S2048x384.Idx → EReal) (b : S2048x1536.Idx → EReal) : S384x1536.Idx → EReal := mat 384 1536 (gtn 2048 a b)

variable (m : (ℓ : Loc nD τ sig) → Buf (Elt Ideal) ℓ) (ρ : Dev nD → PrngReg)

theorem ix0 : ∀ t : Fin cfg0.N, win0_0.index t = ![0, 0] := (by decide +kernel : ∀ t : Fin grid0.N, _)
theorem ix1 : ∀ t : Fin cfg0.N, win0_1.index t = ![0, t.val] := (by decide +kernel : ∀ t : Fin grid0.N, _)
theorem ix2 : ∀ t : Fin cfg0.N, win0_2.index t = ![0, t.val] := (by decide +kernel : ∀ t : Fin grid0.N, _)

theorem b0 (c : Dev nD) (t : Fin cfg0.N) (y : S2048x384.Idx) :
    iblk m c 0 t y = at2 (m ((c : Thread nD τ).loc main_arg0)) (y 0).val (y 1).val := by
  blk_simp [iblk]
  refine at2_eq _ _ _ _ ?_ ?_ <;> blk_simp [ix0] <;> ring_nf
theorem b1 (c : Dev nD) (t : Fin cfg0.N) (y : S2048x768.Idx) :
    iblk m c 1 t y = at2 (m ((c : Thread nD τ).loc main_arg1)) (y 0).val (768 * (t.val) + (y 1).val) := by
  blk_simp [iblk]
  refine at2_eq _ _ _ _ ?_ ?_ <;> blk_simp [ix1] <;> ring_nf

/-- The array the kernel leaves. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (tn (M := 384) (K := 2048) (N := 768) (φ := .bf16) (ψ := .bf16) _ _ y).trans ?_
  unfold G mat gtn
  refine dot_ext (fun k => (b0 m c t _).trans ?_) (fun k => (b1 m c t _).trans ?_) <;> congr 1 <;> blk_simp [ix2] <;> ring_nf

open Cert.QUpDwRefIdeal.Read in
theorem reference (a : (⟨S2048x384, .bf16⟩ : BufTy).Contents (Elt Ideal)) (b : (⟨S2048x1536, .bf16⟩ : BufTy).Contents (Elt Ideal)) :
    val_main_v6 (F := Ideal) a b = G a b := by
  funext i
  refine (val_main_v5_apply a b i).trans ((val_main_v4_apply a b _).trans ?_)
  unfold G mat gtn
  exact dot_swap (fun k => at2_eq b _ _ _ rfl rfl) (fun k => at2_eq a _ _ _ rfl rfl)

end Cert.Proof.QUpDw

namespace Cert.Proof

open Idealize.ShloMosaic Idealize.ShloMosaic.TcCoe Idealize.SL.Sem

theorem algebraic_q_up : Cert.algebraic_QUpIdeal_QUpRefIdeal := by
  intro m ρ m' ρ' hp hm
  refine ⟨_, (θ_run Cert.QUpIdeal.defs _ _).mono (fun r h c => ⟨(h c).1.trans (QUp.final m c), (h c).2⟩)
    (Cert.QUpIdeal.Value.run_blocks m ρ), ?_⟩
  refine (θ_run Cert.QUpRefIdeal.defs _ _).mono (fun r h c => ⟨(h c).1.trans ?_, (h c).2⟩) (Cert.QUpRefIdeal.Value.run m' ρ')
  obtain ⟨e0, e1⟩ := hm c
  rw [Cert.QUpRefIdeal.Read.val_main_v2_eq, e0, e1]
  exact QUp.reference _ _

theorem algebraic_q_up_dx : Cert.algebraic_QUpDxIdeal_QUpDxRefIdeal := by
  intro m ρ m' ρ' hp hm
  refine ⟨_, (θ_run Cert.QUpDxIdeal.defs _ _).mono (fun r h c => ⟨(h c).1.trans (QUpDx.final m c), (h c).2⟩)
    (Cert.QUpDxIdeal.Value.run_blocks m ρ), ?_⟩
  refine (θ_run Cert.QUpDxRefIdeal.defs _ _).mono (fun r h c => ⟨(h c).1.trans ?_, (h c).2⟩) (Cert.QUpDxRefIdeal.Value.run m' ρ')
  obtain ⟨e0, e1⟩ := hm c
  rw [Cert.QUpDxRefIdeal.Read.val_main_v4_eq, e0, e1]
  exact QUpDx.reference _ _

theorem algebraic_q_up_dw : Cert.algebraic_QUpDwIdeal_QUpDwRefIdeal := by
  intro m ρ m' ρ' hp hm
  refine ⟨_, (θ_run Cert.QUpDwIdeal.defs _ _).mono (fun r h c => ⟨(h c).1.trans (QUpDw.final m c), (h c).2⟩)
    (Cert.QUpDwIdeal.Value.run_blocks m ρ), ?_⟩
  refine (θ_run Cert.QUpDwRefIdeal.defs _ _).mono (fun r h c => ⟨(h c).1.trans ?_, (h c).2⟩) (Cert.QUpDwRefIdeal.Value.run m' ρ')
  obtain ⟨e0, e1⟩ := hm c
  rw [Cert.QUpDwRefIdeal.Read.val_main_v6_eq, e0, e1]
  exact QUpDw.reference _ _

end Cert.Proof

end
-- ==== Proof.KvUpVal.lean ====
/-
  The keys' and values' second projection: the rows times the weight, in two parts, the input's gradient and the weight's.
-/
module

public import proofs.«01_k».proof.Defs
public import proofs.«01_k».proof.Proof.Ffn
public import proofs.«01_k».proof.Proof.Gen.KvUpIdeal.Value
public import proofs.«01_k».proof.Proof.Gen.KvUpRefIdeal.Run
public import proofs.«01_k».proof.Proof.Gen.KvUpRefIdeal.Read
public import proofs.«01_k».proof.Proof.Gen.KvUpDxIdeal.Value
public import proofs.«01_k».proof.Proof.Gen.KvUpDxRefIdeal.Run
public import proofs.«01_k».proof.Proof.Gen.KvUpDxRefIdeal.Read
public import proofs.«01_k».proof.Proof.Gen.KvUpDwIdeal.Value
public import proofs.«01_k».proof.Proof.Gen.KvUpDwRefIdeal.Run
public import proofs.«01_k».proof.Proof.Gen.KvUpDwRefIdeal.Read

@[expose] public section

set_option maxRecDepth 16384

noncomputable section

namespace Cert.Proof.KvUp

open Cert.KvUpIdeal Cert.KvUpIdeal.Gen Cert.Proof.Ffn
open Idealize.ShloMosaic Idealize.ShloMosaic.TcCoe Idealize.SL.Sem

/-- The columns from `off` on of the rows times the weight. -/
def G (off n : ℕ) (a : S2048x256.Idx → EReal) (b : S256x1024.Idx → EReal) : (⟨2, ![2048, n]⟩ : Shape).Idx → EReal := mat 2048 n fun r c => gnn 256 a b r (off + c)

variable (m : (ℓ : Loc nD τ sig) → Buf (Elt Ideal) ℓ) (ρ : Dev nD → PrngReg)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)
theorem ix3 : ∀ t : Fin cfg0.N, win0_3.index t = ![t.val, 0] := (by decide +kernel : ∀ t : Fin grid0.N, _)

theorem b0 (c : Dev nD) (t : Fin cfg0.N) (y : S512x256.Idx) :
    iblk m c 0 t y = at2 (m ((c : Thread nD τ).loc main_arg0)) (512 * t.val + (y 0).val) (y 1).val := by
  blk_simp [iblk]
  refine at2_eq _ _ _ _ ?_ ?_ <;> blk_simp [ix0] <;> ring_nf
theorem b1 (c : Dev nD) (t : Fin cfg0.N) (y : S256x1024.Idx) :
    iblk m c 1 t y = at2 (m ((c : Thread nD τ).loc main_arg1)) (y 0).val (y 1).val := by
  blk_simp [iblk]
  refine at2_eq _ _ _ _ ?_ ?_ <;> blk_simp [ix1] <;> ring_nf

/-- A block of rows of the whole product. -/
theorem prod (c : Dev nD) (t : Fin cfg0.N) (y : S512x1024.Idx) : k0_pay1 (iblk m c 0 t) (iblk m c 1 t) y
    = gnn 256 (m ((c : Thread nD τ).loc main_arg0)) (m ((c : Thread nD τ).loc main_arg1)) (512 * t.val + (y 0).val) (y 1).val := by
  refine (nn (M := 512) (K := 256) (N := 1024) (φ := .bf16) (ψ := .bf16) _ _ y).trans ?_
  unfold gnn
  exact dot_ext (fun k => b0 m c t _) (fun k => b1 m c t _)

theorem final2 (c : Dev nD) : (dats m 0 c).arrAt 2 cfg0.N = G 0 512 (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (cut (M := 512) (N := 1024) (n := 512) (φ := .f32) 0 _ slices_S512x1024_o0_0_S512x512 y (fun r d => gnn 256 (m ((c : Thread nD τ).loc main_arg0)) (m ((c : Thread nD τ).loc main_arg1)) (512 * t.val + r) d) (prod m c t)).trans ?_
  unfold G mat
  refine congrArg₂ (gnn 256 _ _) ?_ ?_ <;> blk_simp [ix2] <;> ring_nf

theorem final3 (c : Dev nD) : (dats m 0 c).arrAt 3 cfg0.N = G 512 512 (m ((c : Thread nD τ).loc main_arg0)) (m ((c : Thread nD τ).loc main_arg1)) := by
  refine (dats m 0 c).arrAt_eq_of_covers 3 _ (by decide +kernel) fun t hf y => ?_
  blk_simp
  rw [after0_3]
  frame_out
  refine (cut (M := 512) (N := 1024) (n := 512) (φ := .f32) 512 _ slices_S512x1024_o0_512_S512x512 y (fun r d => gnn 256 (m ((c : Thread nD τ).loc main_arg0)) (m ((c : Thread nD τ).loc main_arg1)) (512 * t.val + r) d) (prod m c t)).trans ?_
  unfold G mat
  refine congrArg₂ (gnn 256 _ _) ?_ ?_ <;> blk_simp [ix3] <;> ring_nf

section
variable (a : (⟨S2048x256, .bf16⟩ : BufTy).Contents (Elt Ideal)) (b : (⟨S256x1024, .bf16⟩ : BufTy).Contents (Elt Ideal))
open Cert.KvUpRefIdeal.Read

/-- The reference's whole product. -/
theorem whole (i : Cert.KvUpRefIdeal.S2048x1024.Idx) : val_main_v2 (F := Ideal) a b i = gnn 256 a b (i 0).val (i 1).val :=
  (val_main_v2_apply a b i).trans (dot_ext (fun k => at2_eq a _ _ _ rfl rfl) (fun k => at2_eq b _ _ _ rfl rfl))

theorem reference2 : val_main_v3 (F := Ideal) a b = G 0 512 a b :=
  funext fun i => cut (M := 2048) (N := 1024) (n := 512) (φ := .f32) 0 _ _ i _ (whole a b)
theorem reference3 : val_main_v4 (F := Ideal) a b = G 512 512 a b :=
  funext fun i => cut (M := 2048) (N := 1024) (n := 512) (φ := .f32) 512 _ _ i _ (whole a b)
end

end Cert.Proof.KvUp

namespace Cert.Proof.KvUpDx

open Cert.KvUpDxIdeal Cert.KvUpDxIdeal.Gen Cert.Proof.Ffn
open Idealize.ShloMosaic Idealize.ShloMosaic.TcCoe Idealize.SL.Sem

/-- The two gradients of a row, side by side. -/
def side (dk dv : S2048x512.Idx → EReal) (r : ℕ) : ℕ → EReal := beside 512 (at2 dk r) (at2 dv r)

/-- The input's gradient: the row of both gradients times the weight transposed. -/
def G (dk dv : S2048x512.Idx → EReal) (w : S256x1024.Idx → EReal) : S2048x256.Idx → EReal :=
  mat 2048 256 fun r c => ∑ k : Fin 1024, side dk dv r k.val * at2 w c k.val

variable (m : (ℓ : Loc nD τ sig) → Buf (Elt Ideal) ℓ) (ρ : Dev nD → PrngReg)

theorem ix0 : ∀ t : Fin cfg0.N, win0_0.index t = ![t.val, 0] := (by decide +kernel : ∀ t : Fin grid0.N, _)
theorem ix1 : ∀ t : Fin cfg0.N, win0_1.index t = ![t.val, 0] := (by decide +kernel : ∀ t : Fin grid0.N, _)
theorem ix2 : ∀ t : Fin cfg0.N, win0_2.index t = ![0, 0] := (by decide +kernel : ∀ t : Fin grid0.N, _)
theorem ix3 : ∀ t : Fin cfg0.N, win0_3.index t = ![t.val, 0] := (by decide +kernel : ∀ t : Fin grid0.N, _)

theorem b0 (c : Dev nD) (t : Fin cfg0.N) (y : S512x512.Idx) :
    iblk m c 0 t y = at2 (m ((c : Thread nD τ).loc main_arg0)) (512 * t.val + (y 0).val) (y 1).val := by
  blk_simp [iblk]
  refine at2_eq _ _ _ _ ?_ ?_ <;> blk_simp [ix0] <;> ring_nf
theorem b1 (c : Dev nD) (t : Fin cfg0.N) (y : S512x512.Idx) :
    iblk m c 1 t y = at2 (m ((c : Thread nD τ).loc main_arg1)) (512 * t.val + (y 0).val) (y 1).val := by
  blk_simp [iblk]
  refine at2_eq _ _ _ _ ?_ ?_ <;> blk_simp [ix1] <;> ring_nf
theorem b2 (c : Dev nD) (t : Fin cfg0.N) (y : S256x1024.Idx) :
    iblk m c 2 t y = at2 (m ((c : Thread nD τ).loc main_arg2)) (y 0).val (y 1).val := by
  blk_simp [iblk]
  refine at2_eq _ _ _ _ ?_ ?_ <;> blk_simp [ix2] <;> ring_nf

/-- One gradient's product: a block of its rows times its columns of the weight, transposed. -/
theorem one (g : S2048x512.Idx → EReal) (w : S256x1024.Idx → EReal) (t s : ℕ) (X : FVec Ideal S512x512 .bf16) (W : Vec Ideal S256x1024 .bf16)
    (hX : ∀ y, X y = at2 g (512 * t + (y 0).val) (y 1).val) (hW : ∀ y, W y = at2 w (y 0).val (y 1).val) (h) (y : S512x256.Idx) :
    (matmul (F := Ideal) (φ₁ := .bf16) (φ₂ := .bf16) dot_S512x512_S256x512_S512x256_1_1_0_0_n_n none X
      (View.ld (Val := Elt Ideal) (e' := .bf16) W (Rect.unit (s := S256x1024) ![0, s] S256x512.size h) : FVec Ideal S256x512 .bf16) (constant S512x256 .f32 0x00000000#32) : FVec Ideal S512x256 .f32) y
      = ∑ k : Fin 512, at2 g (512 * t + (y 0).val) k.val * at2 w (y 1).val (s + k.val) := by
  refine (nt (M := 512) (K := 512) (N := 256) (φ := .bf16) (ψ := .bf16) _ _ y).trans ?_
  refine dot_ext (fun k => hX _) (fun k => (hW _).trans (congrArg₂ (at2 w) ?_ ?_))
  · show 0 + 1 * (y 1).val = _
    omega
  · show s + 1 * k.val = _
    omega

/-- The array the kernel leaves. -/
theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have u := fun h => one _ _ t.val 0 _ _ (b0 m c t) (b2 m c t) h y
  have v := fun h => one _ _ t.val 512 _ _ (b1 m c t) (b2 m c t) h y
  refine (step (step zero32 (u _)) (v _)).trans ?_
  have e0 : (((View.whole main_v0).slice (win0_3.rect t)).emb y 0).val = 512 * t.val + (y 0).val := by blk_simp [ix3] <;> ring_nf
  have e1 : (((View.whole main_v0).slice (win0_3.rect t)).emb y 1).val = (y 1).val := by blk_simp [ix3] <;> ring_nf
  unfold G mat side
  refine Eq.trans ?_ (sum_beside 512 512 1024 rfl _ _ (fun k => at2 (m ((c : Thread nD τ).loc main_arg2)) _ k)).symm
  rw [e0, e1, zero_add]
  simp only [zero_add]

section
variable (dk : (⟨S2048x512, .bf16⟩ : BufTy).Contents (Elt Ideal)) (dv : (⟨S2048x512, .f32⟩ : BufTy).Contents (Elt Ideal)) (w : (⟨S256x1024, .bf16⟩ : BufTy).Contents (Elt Ideal))
open Cert.KvUpDxRefIdeal.Read

theorem joined (i : Cert.KvUpDwRefIdeal.S2048x1024.Idx) : val_main_v6 (F := Ideal) dk dv i = side dk dv (i 0).val (i 1).val :=
  (concatenate_cons_apply _ _ _ _ _ _ i).trans (cat_cons (n := 512) i _ _ _ _ _ _ _ fun _ _ _ => cat_last (n := 512) i _ _ _ _)

theorem reference : val_main_v7 (F := Ideal) dk dv w = G dk dv w := by
  funext i
  refine (val_main_v7_apply dk dv w i).trans ?_
  unfold G mat
  exact dot_ext (fun k => joined dk dv _) (fun k => at2_eq w _ _ _ rfl rfl)
end

end Cert.Proof.KvUpDx

namespace Cert.Proof.KvUpDw

open Cert.KvUpDwIdeal Cert.KvUpDwIdeal.Gen Cert.Proof.Ffn
open Idealize.ShloMosaic Idealize.ShloMosaic.TcCoe Idealize.SL.Sem

/-- The two gradients of a row, side by side. -/
def side (dk dv : S2048x512.Idx → EReal) (r : ℕ) : ℕ → EReal := beside 512 (at2 dk r) (at2 dv r)

/-- The weight's gradient: the input transposed times both gradients side by side. -/
def G (a : S2048x256.Idx → EReal) (dk dv : S2048x512.Idx → EReal) : S256x1024.Idx → EReal :=
  mat 256 1024 fun r c => ∑ k : Fin 2048, at2 a k.val r * side dk dv k.val c

variable (m : (ℓ : Loc nD τ sig) → Buf (Elt Ideal) ℓ) (ρ : Dev nD → PrngReg)

theorem ix0 : ∀ t : Fin cfg0.N, win0_0.index t = ![0, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![0, 0] := (by decide +kernel : ∀ t : Fin grid0.N, _)
theorem ix3 : ∀ t : Fin cfg0.N, win0_3.index t = ![0, 0] := (by decide +kernel : ∀ t : Fin grid0.N, _)

theorem b0 (c : Dev nD) (t : Fin cfg0.N) (y : S2048x256.Idx) :
    iblk m c 0 t y = at2 (m ((c : Thread nD τ).loc main_arg0)) (y 0).val (y 1).val := by
  blk_simp [iblk]
  refine at2_eq _ _ _ _ ?_ ?_ <;> blk_simp [ix0] <;> ring_nf
theorem b1 (c : Dev nD) (t : Fin cfg0.N) (y : S2048x512.Idx) :
    iblk m c 1 t y = at2 (m ((c : Thread nD τ).loc main_arg1)) (y 0).val (y 1).val := by
  blk_simp [iblk]
  refine at2_eq _ _ _ _ ?_ ?_ <;> blk_simp [ix1] <;> ring_nf
theorem b2 (c : Dev nD) (t : Fin cfg0.N) (y : S2048x512.Idx) :
    iblk m c 2 t y = at2 (m ((c : Thread nD τ).loc main_arg2)) (y 0).val (y 1).val := by
  blk_simp [iblk]
  refine at2_eq _ _ _ _ ?_ ?_ <;> blk_simp [ix2] <;> ring_nf

/-- One gradient's product: the input transposed times the gradient. -/
theorem one (a : S2048x256.Idx → EReal) (g : S2048x512.Idx → EReal) (X : FVec Ideal S2048x256 .bf16) (Y : FVec Ideal S2048x512 .bf16)
    (hX : ∀ y, X y = at2 a (y 0).val (y 1).val) (hY : ∀ y, Y y = at2 g (y 0).val (y 1).val) (y : S256x512.Idx) :
    (matmul (F := Ideal) (φ₁ := .bf16) (φ₂ := .bf16) dot_S2048x256_S2048x512_S256x512_0_0_1_1_n_n none (View.ld (Val := Elt Ideal) (e' := .bf16) X r0_0 : FVec Ideal S2048x256 .bf16)
      (View.ld (Val := Elt Ideal) (e' := .bf16) Y r0_1 : FVec Ideal S2048x512 .bf16) (constant S256x512 .f32 0x00000000#32) : FVec Ideal S256x512 .f32) y
      = ∑ k : Fin 2048, at2 a k.val (y 0).val * at2 g k.val (y 1).val := by
  refine (tn (K := 2048) (M := 256) (N := 512) (φ := .bf16) (ψ := .bf16) _ _ y).trans ?_
  refine dot_ext (fun k => (hX _).trans (congrArg₂ (at2 a) ?_ ?_)) (fun k => (hY _).trans (congrArg₂ (at2 g) ?_ ?_))
  · show 0 + 1 * k.val = _
    omega
  · show 0 + 1 * (y 0).val = _
    omega
  · show 0 + 1 * k.val = _
    omega
  · show 0 + 1 * (y 1).val = _
    omega

/-- What the window's block holds at an index. -/
theorem out (c : Dev nD) (t : Fin cfg0.N) (y : S256x1024.Idx) : out0_3 (iblk m c 0 t) (iblk m c 1 t) (iblk m c 2 t) y
    = ∑ k : Fin 2048, at2 (m ((c : Thread nD τ).loc main_arg0)) k.val (y 0).val * side (m ((c : Thread nD τ).loc main_arg1)) (m ((c : Thread nD τ).loc main_arg2)) k.val (y 1).val := by
  unfold out0_3
  refine View.canon_eq_of_allAt _ y _ (cover0_3 _ _ y) ?_
  refine View.allAt_cons_unit _ _ _ _ _ ?_ (View.allAt_cons_unit _ _ _ _ _ ?_ (View.allAt_nil _ _))
  · refine tile (e := .bf16) y 0 512 _ (fun r d => ∑ k : Fin 2048, at2 (m ((c : Thread nD τ).loc main_arg0)) k.val r * side (m ((c : Thread nD τ).loc main_arg1)) (m ((c : Thread nD τ).loc main_arg2)) k.val d) fun x => (one _ _ _ _ (b0 m c t) (b2 m c t) x).trans ?_
    refine dot_ext (fun k => by rw [zero_add]) fun k => ?_
    unfold side beside
    rw [if_neg (by omega), Nat.add_sub_cancel_left]
  · refine tile (e := .bf16) y 0 0 _ (fun r d => ∑ k : Fin 2048, at2 (m ((c : Thread nD τ).loc main_arg0)) k.val r * side (m ((c : Thread nD τ).loc main_arg1)) (m ((c : Thread nD τ).loc main_arg2)) k.val d) fun x => (one _ _ _ _ (b0 m c t) (b1 m c t) x).trans ?_
    have hx : (x 1).val < 512 := (x 1).isLt
    refine dot_ext (fun k => by rw [zero_add]) fun k => ?_
    unfold side beside
    rw [zero_add, if_pos hx]

/-- The array the kernel leaves. -/
theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (out m c t _).trans ?_
  unfold G mat
  refine dot_ext (fun k => ?_) (fun k => ?_) <;> congr 1 <;> blk_simp [ix3] <;> ring_nf

section
variable (a : (⟨S2048x256, .bf16⟩ : BufTy).Contents (Elt Ideal)) (dk : (⟨S2048x512, .bf16⟩ : BufTy).Contents (Elt Ideal)) (dv : (⟨S2048x512, .f32⟩ : BufTy).Contents (Elt Ideal))
open Cert.KvUpDwRefIdeal.Read

theorem joined (i : Cert.KvUpDwRefIdeal.S2048x1024.Idx) : val_main_v6 (F := Ideal) dk dv i = side dk dv (i 0).val (i 1).val :=
  (concatenate_cons_apply _ _ _ _ _ _ i).trans (cat_cons (n := 512) i _ _ _ _ _ _ _ fun _ _ _ => cat_last (n := 512) i _ _ _ _)

theorem reference : val_main_v9 (F := Ideal) a dk dv = G a dk dv := by
  funext i
  refine (val_main_v8_apply a dk dv i).trans ((val_main_v7_apply a dk dv _).trans ?_)
  unfold G mat
  exact dot_swap (fun k => joined dk dv _) (fun k => at2_eq a _ _ _ rfl rfl)
end

end Cert.Proof.KvUpDw

namespace Cert.Proof

open Idealize.ShloMosaic Idealize.ShloMosaic.TcCoe Idealize.SL.Sem

theorem algebraic_kv_up : Cert.algebraic_KvUpIdeal_KvUpRefIdeal := by
  intro m ρ m' ρ' hp hm
  refine ⟨_, _, (θ_run Cert.KvUpIdeal.defs _ _).mono (fun r h c => ⟨(h c).1.trans (KvUp.final2 m c), (h c).2.1.trans (KvUp.final3 m c), (h c).2.2⟩)
    (Cert.KvUpIdeal.Value.run_blocks m ρ), ?_⟩
  refine (θ_run Cert.KvUpRefIdeal.defs _ _).mono (fun r h c => ⟨(h c).1.trans ?_, (h c).2.1.trans ?_, (h c).2.2⟩) (Cert.KvUpRefIdeal.Value.run m' ρ')
  all_goals obtain ⟨e0, e1⟩ := hm c
  · rw [Cert.KvUpRefIdeal.Read.val_main_v3_eq, e0, e1]
    exact KvUp.reference2 _ _
  · rw [Cert.KvUpRefIdeal.Read.val_main_v4_eq, e0, e1]
    exact KvUp.reference3 _ _

theorem algebraic_kv_up_dx : Cert.algebraic_KvUpDxIdeal_KvUpDxRefIdeal := by
  intro m ρ m' ρ' hp hm
  refine ⟨_, (θ_run Cert.KvUpDxIdeal.defs _ _).mono (fun r h c => ⟨(h c).1.trans (KvUpDx.final m c), (h c).2⟩)
    (Cert.KvUpDxIdeal.Value.run_blocks m ρ), ?_⟩
  refine (θ_run Cert.KvUpDxRefIdeal.defs _ _).mono (fun r h c => ⟨(h c).1.trans ?_, (h c).2⟩) (Cert.KvUpDxRefIdeal.Value.run m' ρ')
  obtain ⟨e0, e1, e2⟩ := hm c
  rw [Cert.KvUpDxRefIdeal.Read.val_main_v7_eq, e0, e1, e2]
  exact KvUpDx.reference _ _ _

theorem algebraic_kv_up_dw : Cert.algebraic_KvUpDwIdeal_KvUpDwRefIdeal := by
  intro m ρ m' ρ' hp hm
  refine ⟨_, (θ_run Cert.KvUpDwIdeal.defs _ _).mono (fun r h c => ⟨(h c).1.trans (KvUpDw.final m c), (h c).2⟩)
    (Cert.KvUpDwIdeal.Value.run_blocks m ρ), ?_⟩
  refine (θ_run Cert.KvUpDwRefIdeal.defs _ _).mono (fun r h c => ⟨(h c).1.trans ?_, (h c).2⟩) (Cert.KvUpDwRefIdeal.Value.run m' ρ')
  obtain ⟨e0, e1, e2⟩ := hm c
  rw [Cert.KvUpDwRefIdeal.Read.val_main_v9_eq, e0, e1, e2]
  exact KvUpDw.reference _ _ _

end Cert.Proof

end
-- ==== Proof.lean ====
/- The gradient of the stick-breaking attention and the calls of the feed-forward network and of the projections, forward and backward: for each the
   frames of the kernel, of its idealization and of the reference, and the equality of the kernel's results and the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite_mid
public import proofs.«01_k».proof.Proof.Gen.FfnMid.Frame
public import proofs.«01_k».proof.Proof.Gen.FfnMidIdeal.Value
public import proofs.«01_k».proof.Proof.Gen.FfnMidRefIdeal.Run
public import proofs.«01_k».proof.Proof.Gen.FfnMidRefIdeal.Read
public import proofs.«01_k».proof.Proof.Gen.FfnDh.Frame
public import proofs.«01_k».proof.Proof.Gen.FfnDhIdeal.Value
public import proofs.«01_k».proof.Proof.Gen.FfnDhRefIdeal.Run
public import proofs.«01_k».proof.Proof.Gen.FfnDhRefIdeal.Read
public import proofs.«01_k».proof.Proof.Gen.FfnDw.Frame
public import proofs.«01_k».proof.Proof.Gen.FfnDwIdeal.Value
public import proofs.«01_k».proof.Proof.Gen.FfnDwRefIdeal.Run
public import proofs.«01_k».proof.Proof.Gen.FfnDwRefIdeal.Read
public import proofs.«01_k».proof.Proof.Gen.FfnDownDw.Frame
public import proofs.«01_k».proof.Proof.Gen.FfnDownDwIdeal.Value
public import proofs.«01_k».proof.Proof.Gen.FfnDownDwRefIdeal.Run
public import proofs.«01_k».proof.Proof.Gen.FfnDownDwRefIdeal.Read
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.InProjDx.Frame
public import proofs.«01_k».proof.Proof.Gen.InProjDxIdeal.Value
public import proofs.«01_k».proof.Proof.Gen.InProjDxRefIdeal.Run
public import proofs.«01_k».proof.Proof.Gen.InProjDxRefIdeal.Read
public import proofs.«01_k».proof.Proof.Gen.InProjDw.Frame
public import proofs.«01_k».proof.Proof.Gen.InProjDwIdeal.Value
public import proofs.«01_k».proof.Proof.Gen.InProjDwRefIdeal.Run
public import proofs.«01_k».proof.Proof.Gen.InProjDwRefIdeal.Read
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.OutProjDx.Frame
public import proofs.«01_k».proof.Proof.Gen.OutProjDxIdeal.Value
public import proofs.«01_k».proof.Proof.Gen.OutProjDxRefIdeal.Run
public import proofs.«01_k».proof.Proof.Gen.OutProjDxRefIdeal.Read
public import proofs.«01_k».proof.Proof.Gen.OutProjDw.Frame
public import proofs.«01_k».proof.Proof.Gen.OutProjDwIdeal.Value
public import proofs.«01_k».proof.Proof.Gen.OutProjDwRefIdeal.Run
public import proofs.«01_k».proof.Proof.Gen.OutProjDwRefIdeal.Read
public import proofs.«01_k».proof.Proof.Gen.QUp.Frame
public import proofs.«01_k».proof.Proof.Gen.QUpIdeal.Value
public import proofs.«01_k».proof.Proof.Gen.QUpRefIdeal.Run
public import proofs.«01_k».proof.Proof.Gen.QUpRefIdeal.Read
public import proofs.«01_k».proof.Proof.Gen.QUpDx.Frame
public import proofs.«01_k».proof.Proof.Gen.QUpDxIdeal.Value
public import proofs.«01_k».proof.Proof.Gen.QUpDxRefIdeal.Run
public import proofs.«01_k».proof.Proof.Gen.QUpDxRefIdeal.Read
public import proofs.«01_k».proof.Proof.Gen.QUpDw.Frame
public import proofs.«01_k».proof.Proof.Gen.QUpDwIdeal.Value
public import proofs.«01_k».proof.Proof.Gen.QUpDwRefIdeal.Run
public import proofs.«01_k».proof.Proof.Gen.QUpDwRefIdeal.Read
public import proofs.«01_k».proof.Proof.Gen.KvUp.Frame
public import proofs.«01_k».proof.Proof.Gen.KvUpIdeal.Value
public import proofs.«01_k».proof.Proof.Gen.KvUpRefIdeal.Run
public import proofs.«01_k».proof.Proof.Gen.KvUpRefIdeal.Read
public import proofs.«01_k».proof.Proof.Gen.KvUpDx.Frame
public import proofs.«01_k».proof.Proof.Gen.KvUpDxIdeal.Value
public import proofs.«01_k».proof.Proof.Gen.KvUpDxRefIdeal.Run
public import proofs.«01_k».proof.Proof.Gen.KvUpDxRefIdeal.Read
public import proofs.«01_k».proof.Proof.Gen.KvUpDw.Frame
public import proofs.«01_k».proof.Proof.Gen.KvUpDwIdeal.Value
public import proofs.«01_k».proof.Proof.Gen.KvUpDwRefIdeal.Run
public import proofs.«01_k».proof.Proof.Gen.KvUpDwRefIdeal.Read
public import proofs.«01_k».proof.Proof.Frame
public import proofs.«01_k».proof.Proof.Value
public import proofs.«01_k».proof.Proof.FfnMidVal
public import proofs.«01_k».proof.Proof.FfnDhVal
public import proofs.«01_k».proof.Proof.FfnDwVal
public import proofs.«01_k».proof.Proof.FfnDownDwVal
public import proofs.«01_k».proof.Proof.FfnInVal
public import proofs.«01_k».proof.Proof.FfnDownVal
public import proofs.«01_k».proof.Proof.InProjVal
public import proofs.«01_k».proof.Proof.InProjDxVal
public import proofs.«01_k».proof.Proof.InProjDwVal
public import proofs.«01_k».proof.Proof.OutProjVal
public import proofs.«01_k».proof.Proof.QUpVal
public import proofs.«01_k».proof.Proof.KvUpVal
public import Idealize.ShloMosaic.Adequacy
public import Idealize.ShloMosaic.Init

@[expose] public section

noncomputable section

namespace Cert.Proof

open Idealize.ShloMosaic Idealize.SL.Sem

/-- The two programs are one text: the bodies of their calls agree. -/
theorem defs₀_eq : @Cert.Kernel.defs₀ Bits _ _ = @Cert.KernelIdeal.defs₀ Bits _ _ := by
  refine congrArg Defs.onTc (funext fun l => funext fun a => ?_)
  rcases l with ⟨_ | n, h⟩
  · rfl
  · exact absurd h (Nat.not_lt.2 (Nat.le_add_left _ _))

theorem defs_eq : @Cert.Kernel.defs Bits _ _ = @Cert.KernelIdeal.defs Bits _ _ := by
  unfold Cert.Kernel.defs
  rw [defs₀_eq]
  rfl

theorem main_eq : @Cert.Kernel.main Bits _ _ = @Cert.KernelIdeal.main Bits _ _ := by rfl

/-- The kernel at the words the machine holds. -/
theorem frame_kernel : Cert.quiescent_Kernel := by
  unfold Cert.quiescent_Kernel
  rw [defs_eq, main_eq]
  intro m ρ _
  exact Sb.frame_main (F := Bits) m ρ

/-- The kernel over the extended reals. -/
theorem frame_ideal : Cert.quiescent_KernelIdeal := fun m ρ _ => Sb.frame_main (F := Ideal) m ρ

/-- The reference over the extended reals. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-! ## The references of the feed-forward calls -/

theorem frame_mid_ref : Cert.quiescent_FfnMidRefIdeal := fun m ρ _ =>
  (θ_run Cert.FfnMidRefIdeal.defs _ _).mono (fun r h => ⟨fun c => (h c).2.2, sem_eq_zero_of_no_sems (by decide) r.2⟩)
    (Cert.FfnMidRefIdeal.Value.run (F := Ideal) m ρ)

theorem frame_dh_ref : Cert.quiescent_FfnDhRefIdeal := fun m ρ _ =>
  (θ_run Cert.FfnDhRefIdeal.defs _ _).mono (fun r h => ⟨fun c => (h c).2, sem_eq_zero_of_no_sems (by decide) r.2⟩)
    (Cert.FfnDhRefIdeal.Value.run (F := Ideal) m ρ)

theorem frame_dw_ref : Cert.quiescent_FfnDwRefIdeal := fun m ρ _ =>
  (θ_run Cert.FfnDwRefIdeal.defs _ _).mono (fun r h => ⟨fun c => (h c).2.2, sem_eq_zero_of_no_sems (by decide) r.2⟩)
    (Cert.FfnDwRefIdeal.Value.run (F := Ideal) m ρ)

theorem frame_down_dw_ref : Cert.quiescent_FfnDownDwRefIdeal := fun m ρ _ =>
  (θ_run Cert.FfnDownDwRefIdeal.defs _ _).mono (fun r h => ⟨fun c => (h c).2, sem_eq_zero_of_no_sems (by decide) r.2⟩)
    (Cert.FfnDownDwRefIdeal.Value.run (F := Ideal) m ρ)

theorem frame_in_ref : Cert.quiescent_FfnInRefIdeal := fun m ρ _ =>
  (θ_run Cert.FfnInRefIdeal.defs _ _).mono (fun r h => ⟨fun c => (h c).2.2.2, sem_eq_zero_of_no_sems (by decide) r.2⟩)
    (Cert.FfnInRefIdeal.Value.run (F := Ideal) m ρ)

theorem frame_down_ref : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

/-! ## The references of the projections -/

theorem frame_in_proj_ref : Cert.quiescent_InProjRefIdeal := fun m ρ _ =>
  (θ_run Cert.InProjRefIdeal.defs _ _).mono (fun r h => ⟨fun c => (h c).2.2.2.2.2.2.2, sem_eq_zero_of_no_sems (by decide) r.2⟩)
    (Cert.InProjRefIdeal.Value.run (F := Ideal) m ρ)

theorem frame_in_proj_dx_ref : Cert.quiescent_InProjDxRefIdeal := fun m ρ _ =>
  (θ_run Cert.InProjDxRefIdeal.defs _ _).mono (fun r h => ⟨fun c => (h c).2, sem_eq_zero_of_no_sems (by decide) r.2⟩)
    (Cert.InProjDxRefIdeal.Value.run (F := Ideal) m ρ)

theorem frame_in_proj_dw_ref : Cert.quiescent_InProjDwRefIdeal := fun m ρ _ =>
  (θ_run Cert.InProjDwRefIdeal.defs _ _).mono (fun r h => ⟨fun c => (h c).2, sem_eq_zero_of_no_sems (by decide) r.2⟩)
    (Cert.InProjDwRefIdeal.Value.run (F := Ideal) m ρ)

theorem frame_out_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem frame_out_dx_ref : Cert.quiescent_OutProjDxRefIdeal := fun m ρ _ =>
  (θ_run Cert.OutProjDxRefIdeal.defs _ _).mono (fun r h => ⟨fun c => (h c).2, sem_eq_zero_of_no_sems (by decide) r.2⟩)
    (Cert.OutProjDxRefIdeal.Value.run (F := Ideal) m ρ)

theorem frame_out_dw_ref : Cert.quiescent_OutProjDwRefIdeal := fun m ρ _ =>
  (θ_run Cert.OutProjDwRefIdeal.defs _ _).mono (fun r h => ⟨fun c => (h c).2, sem_eq_zero_of_no_sems (by decide) r.2⟩)
    (Cert.OutProjDwRefIdeal.Value.run (F := Ideal) m ρ)

theorem frame_q_up_ref : Cert.quiescent_QUpRefIdeal := fun m ρ _ =>
  (θ_run Cert.QUpRefIdeal.defs _ _).mono (fun r h => ⟨fun c => (h c).2, sem_eq_zero_of_no_sems (by decide) r.2⟩)
    (Cert.QUpRefIdeal.Value.run (F := Ideal) m ρ)

theorem frame_q_up_dx_ref : Cert.quiescent_QUpDxRefIdeal := fun m ρ _ =>
  (θ_run Cert.QUpDxRefIdeal.defs _ _).mono (fun r h => ⟨fun c => (h c).2, sem_eq_zero_of_no_sems (by decide) r.2⟩)
    (Cert.QUpDxRefIdeal.Value.run (F := Ideal) m ρ)

theorem frame_q_up_dw_ref : Cert.quiescent_QUpDwRefIdeal := fun m ρ _ =>
  (θ_run Cert.QUpDwRefIdeal.defs _ _).mono (fun r h => ⟨fun c => (h c).2, sem_eq_zero_of_no_sems (by decide) r.2⟩)
    (Cert.QUpDwRefIdeal.Value.run (F := Ideal) m ρ)

theorem frame_kv_up_ref : Cert.quiescent_KvUpRefIdeal := fun m ρ _ =>
  (θ_run Cert.KvUpRefIdeal.defs _ _).mono (fun r h => ⟨fun c => (h c).2.2, sem_eq_zero_of_no_sems (by decide) r.2⟩)
    (Cert.KvUpRefIdeal.Value.run (F := Ideal) m ρ)

theorem frame_kv_up_dx_ref : Cert.quiescent_KvUpDxRefIdeal := fun m ρ _ =>
  (θ_run Cert.KvUpDxRefIdeal.defs _ _).mono (fun r h => ⟨fun c => (h c).2, sem_eq_zero_of_no_sems (by decide) r.2⟩)
    (Cert.KvUpDxRefIdeal.Value.run (F := Ideal) m ρ)

theorem frame_kv_up_dw_ref : Cert.quiescent_KvUpDwRefIdeal := fun m ρ _ =>
  (θ_run Cert.KvUpDwRefIdeal.defs _ _).mono (fun r h => ⟨fun c => (h c).2, sem_eq_zero_of_no_sems (by decide) r.2⟩)
    (Cert.KvUpDwRefIdeal.Value.run (F := Ideal) m ρ)

theorem claim : Cert.Claim := ⟨Cert.Kernel.Gen.facts, Cert.KernelIdeal.Gen.facts, Cert.ReferenceIdeal.Gen.facts,
  Cert.FfnMid.Gen.facts, Cert.FfnMidIdeal.Gen.facts, Cert.FfnMidRefIdeal.Gen.facts,
  Cert.FfnDh.Gen.facts, Cert.FfnDhIdeal.Gen.facts, Cert.FfnDhRefIdeal.Gen.facts,
  Cert.FfnDw.Gen.facts, Cert.FfnDwIdeal.Gen.facts, Cert.FfnDwRefIdeal.Gen.facts,
  Cert.FfnDownDw.Gen.facts, Cert.FfnDownDwIdeal.Gen.facts, Cert.FfnDownDwRefIdeal.Gen.facts,
  Cert.FfnIn.Gen.facts, Cert.FfnInIdeal.Gen.facts, Cert.FfnInRefIdeal.Gen.facts,
  Cert.FfnDown.Gen.facts, Cert.FfnDownIdeal.Gen.facts, Cert.FfnDownRefIdeal.Gen.facts,
  Cert.InProj.Gen.facts, Cert.InProjIdeal.Gen.facts, Cert.InProjRefIdeal.Gen.facts,
  Cert.InProjDx.Gen.facts, Cert.InProjDxIdeal.Gen.facts, Cert.InProjDxRefIdeal.Gen.facts,
  Cert.InProjDw.Gen.facts, Cert.InProjDwIdeal.Gen.facts, Cert.InProjDwRefIdeal.Gen.facts,
  Cert.OutProj.Gen.facts, Cert.OutProjIdeal.Gen.facts, Cert.OutProjRefIdeal.Gen.facts,
  Cert.OutProjDx.Gen.facts, Cert.OutProjDxIdeal.Gen.facts, Cert.OutProjDxRefIdeal.Gen.facts,
  Cert.OutProjDw.Gen.facts, Cert.OutProjDwIdeal.Gen.facts, Cert.OutProjDwRefIdeal.Gen.facts,
  Cert.QUp.Gen.facts, Cert.QUpIdeal.Gen.facts, Cert.QUpRefIdeal.Gen.facts,
  Cert.QUpDx.Gen.facts, Cert.QUpDxIdeal.Gen.facts, Cert.QUpDxRefIdeal.Gen.facts,
  Cert.QUpDw.Gen.facts, Cert.QUpDwIdeal.Gen.facts, Cert.QUpDwRefIdeal.Gen.facts,
  Cert.KvUp.Gen.facts, Cert.KvUpIdeal.Gen.facts, Cert.KvUpRefIdeal.Gen.facts,
  Cert.KvUpDx.Gen.facts, Cert.KvUpDxIdeal.Gen.facts, Cert.KvUpDxRefIdeal.Gen.facts,
  Cert.KvUpDw.Gen.facts, Cert.KvUpDwIdeal.Gen.facts, Cert.KvUpDwRefIdeal.Gen.facts,
  Cert.Pre_finite.Gen.facts, Cert.Pre_finite_mid.Gen.facts,
  frame_kernel, frame_ideal, fun m ρ _ => frame_ideal m ρ trivial, frame_reference, fun m ρ _ => frame_reference m ρ trivial,
  fun m ρ _ => Cert.FfnMid.Gen.frame m ρ, fun m ρ _ => Cert.FfnMidIdeal.Gen.frame m ρ, fun m ρ _ => Cert.FfnMidIdeal.Gen.frame m ρ,
  frame_mid_ref, fun m ρ _ => frame_mid_ref m ρ trivial,
  fun m ρ _ => Cert.FfnDh.Gen.frame m ρ, fun m ρ _ => Cert.FfnDhIdeal.Gen.frame m ρ, frame_dh_ref,
  fun m ρ _ => Cert.FfnDw.Gen.frame m ρ, fun m ρ _ => Cert.FfnDwIdeal.Gen.frame m ρ, frame_dw_ref,
  fun m ρ _ => Cert.FfnDownDw.Gen.frame m ρ, fun m ρ _ => Cert.FfnDownDwIdeal.Gen.frame m ρ, frame_down_dw_ref,
  fun m ρ _ => Cert.FfnIn.Gen.frame m ρ, fun m ρ _ => Cert.FfnInIdeal.Gen.frame m ρ, frame_in_ref,
  fun m ρ _ => Cert.FfnDown.Gen.frame m ρ, fun m ρ _ => Cert.FfnDownIdeal.Gen.frame m ρ, frame_down_ref,
  fun m ρ _ => Cert.InProj.Gen.frame m ρ, fun m ρ _ => Cert.InProjIdeal.Gen.frame m ρ, frame_in_proj_ref,
  fun m ρ _ => Cert.InProjDx.Gen.frame m ρ, fun m ρ _ => Cert.InProjDxIdeal.Gen.frame m ρ, frame_in_proj_dx_ref,
  fun m ρ _ => Cert.InProjDw.Gen.frame m ρ, fun m ρ _ => Cert.InProjDwIdeal.Gen.frame m ρ, frame_in_proj_dw_ref,
  fun m ρ _ => Cert.OutProj.Gen.frame m ρ, fun m ρ _ => Cert.OutProjIdeal.Gen.frame m ρ, frame_out_ref,
  fun m ρ _ => Cert.OutProjDx.Gen.frame m ρ, fun m ρ _ => Cert.OutProjDxIdeal.Gen.frame m ρ, frame_out_dx_ref,
  fun m ρ _ => Cert.OutProjDw.Gen.frame m ρ, fun m ρ _ => Cert.OutProjDwIdeal.Gen.frame m ρ, frame_out_dw_ref,
  fun m ρ _ => Cert.QUp.Gen.frame m ρ, fun m ρ _ => Cert.QUpIdeal.Gen.frame m ρ, frame_q_up_ref,
  fun m ρ _ => Cert.QUpDx.Gen.frame m ρ, fun m ρ _ => Cert.QUpDxIdeal.Gen.frame m ρ, frame_q_up_dx_ref,
  fun m ρ _ => Cert.QUpDw.Gen.frame m ρ, fun m ρ _ => Cert.QUpDwIdeal.Gen.frame m ρ, frame_q_up_dw_ref,
  fun m ρ _ => Cert.KvUp.Gen.frame m ρ, fun m ρ _ => Cert.KvUpIdeal.Gen.frame m ρ, frame_kv_up_ref,
  fun m ρ _ => Cert.KvUpDx.Gen.frame m ρ, fun m ρ _ => Cert.KvUpDxIdeal.Gen.frame m ρ, frame_kv_up_dx_ref,
  fun m ρ _ => Cert.KvUpDw.Gen.frame m ρ, fun m ρ _ => Cert.KvUpDwIdeal.Gen.frame m ρ, frame_kv_up_dw_ref,
  trivial, algebraic, trivial, algebraic_mid, trivial, algebraic_dh, trivial, algebraic_dw, trivial, algebraic_down_dw, trivial, algebraic_in, trivial, algebraic_down,
  trivial, algebraic_in_proj, trivial, algebraic_in_proj_dx, trivial, algebraic_in_proj_dw,
  trivial, algebraic_out, trivial, algebraic_out_dx, trivial, algebraic_out_dw,
  trivial, algebraic_q_up, trivial, algebraic_q_up_dx, trivial, algebraic_q_up_dw,
  trivial, algebraic_kv_up, trivial, algebraic_kv_up_dx, trivial, algebraic_kv_up_dw⟩

end Cert.Proof

end
